-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_in_order [hPre_segments_in_order : Cert.Pre_segments_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_in_order [hPre_segments_in_order : Cert.Pre_segments_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_segments_in_order [hKernelIdeal : Cert.KernelIdeal.Facts] [hPre_segments_in_order : Cert.Pre_segments_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_segments_in_order [hReferenceIdeal : Cert.ReferenceIdeal.Facts] [hPre_segments_in_order : Cert.Pre_segments_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_segments_in_order [hKernelIdeal : Cert.KernelIdeal.Facts] [hReferenceIdeal : Cert.ReferenceIdeal.Facts] [hPre_segments_in_order : Cert.Pre_segments_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_segments_in_order : Cert.Pre_segments_in_order.Facts),
    quiescent_Kernel (hKernel := hKernel)
    ∧ quiescent_KernelIdeal (hKernelIdeal := hKernelIdeal)
    ∧ quiescent_KernelIdeal_pre_segments_in_order (hKernelIdeal := hKernelIdeal) (hPre_segments_in_order := hPre_segments_in_order)
    ∧ quiescent_ReferenceIdeal (hReferenceIdeal := hReferenceIdeal)
    ∧ quiescent_ReferenceIdeal_pre_segments_in_order (hReferenceIdeal := hReferenceIdeal) (hPre_segments_in_order := hPre_segments_in_order)
    ∧ preserves_Kernel_KernelIdeal
    ∧ algebraic_KernelIdeal_ReferenceIdeal_pre_segments_in_order (hKernelIdeal := hKernelIdeal) (hReferenceIdeal := hReferenceIdeal) (hPre_segments_in_order := hPre_segments_in_order)
-- ==== Pre_segments_in_order.lean ====
abbrev S1x65536x8x256 : Shape := ⟨4, ![1, 65536, 8, 256]⟩
abbrev S8 : Shape := ⟨1, ![8]⟩
abbrev S1x65536x4x256 : Shape := ⟨4, ![1, 65536, 4, 256]⟩
abbrev S4 : Shape := ⟨1, ![4]⟩
abbrev S1x8x65536 : Shape := ⟨3, ![1, 8, 65536]⟩
abbrev S1x65536 : Shape := ⟨2, ![1, 65536]⟩
abbrev S1x65535 : Shape := ⟨2, ![1, 65535]⟩

class Facts : Prop where
  slices_S1x65536_S1x65535_0_0 : S1x65536.Slices ![0, 0] S1x65535
  slices_S1x65536_S1x65535_0_1 : S1x65536.Slices ![0, 1] S1x65535

variable [Facts]

def fn {F : FTy → Type} [FloatOps F] (main_arg0 : FVec F S1x65536x8x256 .fp8e4m3) (main_arg1 : FVec F S8 .f32) (main_arg2 : FVec F S1x65536x4x256 .fp8e4m3) (main_arg3 : FVec F S4 .f32) (main_arg4 : FVec F S1x65536x4x256 .fp8e4m3) (main_arg5 : FVec F S4 .f32) (main_arg6 : FVec F S1x65536x8x256 .fp8e5m2) (main_arg7 : FVec F S8 .f32) (main_arg8 : FVec F S1x65536x8x256 .bf16) (main_arg9 : FVec F S1x8x65536 .f32) (main_arg10 : IVec S1x65536 32) : IVec S1x65535 1 :=
  let main_v0 : IVec S1x65535 32 := (extractStridedSlice S1x65535 ![0, 0] · slices_S1x65536_S1x65535_0_0) main_arg10
  let main_v1 : IVec S1x65535 32 := (extractStridedSlice S1x65535 ![0, 1] · slices_S1x65536_S1x65535_0_1) main_arg10
  let main_v2 : IVec S1x65535 1 := cmpi .sle main_v0 main_v1
  main_v2
-- ==== Kernel.lean ====
abbrev S1x65536x8x256 : Shape := ⟨4, ![1, 65536, 8, 256]⟩
abbrev S8 : Shape := ⟨1, ![8]⟩
abbrev S1x65536x4x256 : Shape := ⟨4, ![1, 65536, 4, 256]⟩
abbrev S4 : Shape := ⟨1, ![4]⟩
abbrev S1x8x65536 : Shape := ⟨3, ![1, 8, 65536]⟩
abbrev S1x65536 : Shape := ⟨2, ![1, 65536]⟩
abbrev S65536x8x256 : Shape := ⟨3, ![65536, 8, 256]⟩
abbrev S65536x4x2x256 : Shape := ⟨4, ![65536, 4, 2, 256]⟩
abbrev S4x2x65536x256 : Shape := ⟨4, ![4, 2, 65536, 256]⟩
abbrev S65536x4x256 : Shape := ⟨3, ![65536, 4, 256]⟩
abbrev S4x65536x256 : Shape := ⟨3, ![4, 65536, 256]⟩
abbrev S4x2x1x65536 : Shape := ⟨4, ![4, 2, 1, 65536]⟩
abbrev S4x2 : Shape := ⟨2, ![4, 2]⟩
abbrev S4x1 : Shape := ⟨2, ![4, 1]⟩
abbrev S_ : Shape := ⟨0, ![]⟩
abbrev S256x256 : Shape := ⟨2, ![256, 256]⟩
abbrev S256x1 : Shape := ⟨2, ![256, 1]⟩
abbrev S256 : Shape := ⟨1, ![256]⟩
abbrev S17 : Shape := ⟨1, ![17]⟩
abbrev S1x17 : Shape := ⟨2, ![1, 17]⟩
abbrev S256x17 : Shape := ⟨2, ![256, 17]⟩
abbrev S256x17x1 : Shape := ⟨3, ![256, 17, 1]⟩
abbrev S1x2x256x256 : Shape := ⟨4, ![1, 2, 256, 256]⟩
abbrev S1x2x1x256 : Shape := ⟨4, ![1, 2, 1, 256]⟩
abbrev S1x256 : Shape := ⟨2, ![1, 256]⟩
abbrev S1x256x256 : Shape := ⟨3, ![1, 256, 256]⟩
abbrev S17x2x256x256 : Shape := ⟨4, ![17, 2, 256, 256]⟩
abbrev S17x2x1x256 : Shape := ⟨4, ![17, 2, 1, 256]⟩
abbrev S17x1x256 : Shape := ⟨3, ![17, 1, 256]⟩
abbrev S2x256x256 : Shape := ⟨3, ![2, 256, 256]⟩
abbrev S1x1x256 : Shape := ⟨3, ![1, 1, 256]⟩
abbrev S1x1x256x256 : Shape := ⟨4, ![1, 1, 256, 256]⟩
abbrev S1x1x1x256 : Shape := ⟨4, ![1, 1, 1, 256]⟩
abbrev S1x1 : Shape := ⟨2, ![1, 1]⟩
abbrev S256x128 : Shape := ⟨2, ![256, 128]⟩
abbrev S128x256 : Shape := ⟨2, ![128, 256]⟩
abbrev S1 : Shape := ⟨1, ![1]⟩

abbrev nBuf : Space → Nat
  | .hbm => 90
  | .vmem => 32
  | .smem => 8
  | _ => 0

abbrev bufTy : (tb : Table) → Fin (tcTables nBuf tb) → BufTy
  | .hbm, ⟨0, _⟩ => ⟨S1x65536x8x256, .fp8e4m3⟩
  | .hbm, ⟨1, _⟩ => ⟨S8, .f32⟩
  | .hbm, ⟨2, _⟩ => ⟨S1x65536x4x256, .fp8e4m3⟩
  | .hbm, ⟨3, _⟩ => ⟨S4, .f32⟩
  | .hbm, ⟨4, _⟩ => ⟨S1x65536x4x256, .fp8e4m3⟩
  | .hbm, ⟨5, _⟩ => ⟨S4, .f32⟩
  | .hbm, ⟨6, _⟩ => ⟨S1x65536x8x256, .fp8e5m2⟩
  | .hbm, ⟨7, _⟩ => ⟨S8, .f32⟩
  | .hbm, ⟨8, _⟩ => ⟨S1x65536x8x256, .bf16⟩
  | .hbm, ⟨9, _⟩ => ⟨S1x8x65536, .f32⟩
  | .hbm, ⟨10, _⟩ => ⟨S1x65536, .i32⟩
  | .hbm, ⟨11, _⟩ => ⟨S65536x8x256, .fp8e4m3⟩
  | .hbm, ⟨12, _⟩ => ⟨S65536x4x2x256, .fp8e4m3⟩
  | .hbm, ⟨13, _⟩ => ⟨S4x2x65536x256, .fp8e4m3⟩
  | .hbm, ⟨14, _⟩ => ⟨S65536x8x256, .fp8e5m2⟩
  | .hbm, ⟨15, _⟩ => ⟨S65536x4x2x256, .fp8e5m2⟩
  | .hbm, ⟨16, _⟩ => ⟨S4x2x65536x256, .fp8e5m2⟩
  | .hbm, ⟨17, _⟩ => ⟨S65536x8x256, .bf16⟩
  | .hbm, ⟨18, _⟩ => ⟨S65536x4x2x256, .bf16⟩
  | .hbm, ⟨19, _⟩ => ⟨S4x2x65536x256, .bf16⟩
  | .hbm, ⟨20, _⟩ => ⟨S65536x4x256, .fp8e4m3⟩
  | .hbm, ⟨21, _⟩ => ⟨S4x65536x256, .fp8e4m3⟩
  | .hbm, ⟨22, _⟩ => ⟨S65536x4x256, .fp8e4m3⟩
  | .hbm, ⟨23, _⟩ => ⟨S4x65536x256, .fp8e4m3⟩
  | .hbm, ⟨24, _⟩ => ⟨S4x2x1x65536, .f32⟩
  | .hbm, ⟨25, _⟩ => ⟨S4x2, .f32⟩
  | .hbm, ⟨26, _⟩ => ⟨S4x1, .f32⟩
  | .hbm, ⟨27, _⟩ => ⟨S4x2, .f32⟩
  | .hbm, ⟨28, _⟩ => ⟨S4x2, .f32⟩
  | .hbm, ⟨29, _⟩ => ⟨S_, .f32⟩
  | .hbm, ⟨30, _⟩ => ⟨S4x2, .f32⟩
  | .hbm, ⟨31, _⟩ => ⟨S4x2, .f32⟩
  | .hbm, ⟨32, _⟩ => ⟨S4x2, .f32⟩
  | .hbm, ⟨33, _⟩ => ⟨S4x1, .f32⟩
  | .hbm, ⟨34, _⟩ => ⟨S4x2, .f32⟩
  | .hbm, ⟨35, _⟩ => ⟨S4x2, .f32⟩
  | .hbm, ⟨36, _⟩ => ⟨S256x256, .i32⟩
  | .hbm, ⟨37, _⟩ => ⟨S256x1, .i32⟩
  | .hbm, ⟨38, _⟩ => ⟨S256x1, .i32⟩
  | .hbm, ⟨39, _⟩ => ⟨S256, .i32⟩
  | .hbm, ⟨40, _⟩ => ⟨S256x1, .i32⟩
  | .hbm, ⟨41, _⟩ => ⟨S17, .i32⟩
  | .hbm, ⟨42, _⟩ => ⟨S1x17, .i32⟩
  | .hbm, ⟨43, _⟩ => ⟨S256x17, .i32⟩
  | .hbm, ⟨44, _⟩ => ⟨S256x17, .i32⟩
  | .hbm, ⟨45, _⟩ => ⟨S256x17, .i32⟩
  | .hbm, ⟨46, _⟩ => ⟨S_, .i32⟩
  | .hbm, ⟨47, _⟩ => ⟨S256x17, .i32⟩
  | .hbm, ⟨48, _⟩ => ⟨S256x17, .i1⟩
  | .hbm, ⟨49, _⟩ => ⟨S_, .i32⟩
  | .hbm, ⟨50, _⟩ => ⟨S256x17, .i32⟩
  | .hbm, ⟨51, _⟩ => ⟨S256x17, .i32⟩
  | .hbm, ⟨52, _⟩ => ⟨S_, .i32⟩
  | .hbm, ⟨53, _⟩ => ⟨S256x17, .i32⟩
  | .hbm, ⟨54, _⟩ => ⟨S256x17, .i1⟩
  | .hbm, ⟨55, _⟩ => ⟨S_, .i32⟩
  | .hbm, ⟨56, _⟩ => ⟨S256x17, .i32⟩
  | .hbm, ⟨57, _⟩ => ⟨S256x17, .i32⟩
  | .hbm, ⟨58, _⟩ => ⟨S256x17, .i32⟩
  | .hbm, ⟨59, _⟩ => ⟨S256x17x1, .i32⟩
  | .hbm, ⟨60, _⟩ => ⟨S256x17, .i32⟩
  | .hbm, ⟨61, _⟩ => ⟨S256x1, .i32⟩
  | .hbm, ⟨62, _⟩ => ⟨S256x17, .i32⟩
  | .hbm, ⟨63, _⟩ => ⟨S256x17, .i1⟩
  | .hbm, ⟨64, _⟩ => ⟨S256x17, .i1⟩
  | .hbm, ⟨65, _⟩ => ⟨S17, .i32⟩
  | .hbm, ⟨66, _⟩ => ⟨S1x17, .i32⟩
  | .hbm, ⟨67, _⟩ => ⟨S_, .i32⟩
  | .hbm, ⟨68, _⟩ => ⟨S1x17, .i32⟩
  | .hbm, ⟨69, _⟩ => ⟨S1x17, .i1⟩
  | .hbm, ⟨70, _⟩ => ⟨S256x17, .i1⟩
  | .hbm, ⟨71, _⟩ => ⟨S256x17, .i1⟩
  | .hbm, ⟨72, _⟩ => ⟨S256x17, .i32⟩
  | .hbm, ⟨73, _⟩ => ⟨S_, .i32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S_, .f32⟩
  | .hbm, ⟨78, _⟩ => ⟨S4x2, .f32⟩
  | .hbm, ⟨79, _⟩ => ⟨S4x2, .f32⟩
  | .hbm, ⟨80, _⟩ => ⟨S4x2, .f32⟩
  | .hbm, ⟨81, _⟩ => ⟨S4x2x65536x256, .bf16⟩
  | .hbm, ⟨82, _⟩ => ⟨S4x65536x256, .bf16⟩
  | .hbm, ⟨83, _⟩ => ⟨S4x65536x256, .bf16⟩
  | .hbm, ⟨84, _⟩ => ⟨S65536x4x2x256, .bf16⟩
  | .hbm, ⟨85, _⟩ => ⟨S1x65536x8x256, .bf16⟩
  | .hbm, ⟨86, _⟩ => ⟨S65536x4x256, .bf16⟩
  | .hbm, ⟨87, _⟩ => ⟨S1x65536x4x256, .bf16⟩
  | .hbm, ⟨88, _⟩ => ⟨S65536x4x256, .bf16⟩
  | .hbm, ⟨89, _⟩ => ⟨S1x65536x4x256, .bf16⟩
  | .local _ .vmem, ⟨0, _⟩ => ⟨S1x2x256x256, .fp8e4m3⟩
  | .local _ .vmem, ⟨1, _⟩ => ⟨S1x2x256x256, .fp8e4m3⟩
  | .local _ .vmem, ⟨2, _⟩ => ⟨S1x2x256x256, .fp8e5m2⟩
  | .local _ .vmem, ⟨3, _⟩ => ⟨S1x2x256x256, .fp8e5m2⟩
  | .local _ .vmem, ⟨4, _⟩ => ⟨S1x2x256x256, .bf16⟩
  | .local _ .vmem, ⟨5, _⟩ => ⟨S1x2x256x256, .bf16⟩
  | .local _ .vmem, ⟨6, _⟩ => ⟨S1x2x1x256, .f32⟩
  | .local _ .vmem, ⟨7, _⟩ => ⟨S1x2x1x256, .f32⟩
  | .local _ .vmem, ⟨8, _⟩ => ⟨S1x256, .i32⟩
  | .local _ .vmem, ⟨9, _⟩ => ⟨S1x256, .i32⟩
  | .local _ .vmem, ⟨10, _⟩ => ⟨S1x256x256, .fp8e4m3⟩
  | .local _ .vmem, ⟨11, _⟩ => ⟨S1x256x256, .fp8e4m3⟩
  | .local _ .vmem, ⟨12, _⟩ => ⟨S1x256x256, .fp8e4m3⟩
  | .local _ .vmem, ⟨13, _⟩ => ⟨S1x256x256, .fp8e4m3⟩
  | .local _ .vmem, ⟨14, _⟩ => ⟨S1x256, .i32⟩
  | .local _ .vmem, ⟨15, _⟩ => ⟨S1x256, .i32⟩
  | .local _ .vmem, ⟨16, _⟩ => ⟨S1x2x256x256, .bf16⟩
  | .local _ .vmem, ⟨17, _⟩ => ⟨S1x2x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S17x2x256x256, .fp8e4m3⟩
  | .local _ .vmem, ⟨23, _⟩ => ⟨S17x2x256x256, .fp8e5m2⟩
  | .local _ .vmem, ⟨24, _⟩ => ⟨S17x2x1x256, .f32⟩
  | .local _ .vmem, ⟨25, _⟩ => ⟨S17x2x1x256, .f32⟩
  | .local _ .vmem, ⟨26, _⟩ => ⟨S17x1x256, .i32⟩
  | .local _ .vmem, ⟨27, _⟩ => ⟨S17x2x256x256, .f32⟩
  | .local _ .vmem, ⟨28, _⟩ => ⟨S256x256, .bf16⟩
  | .local _ .vmem, ⟨29, _⟩ => ⟨S256x256, .i32⟩
  | .local _ .vmem, ⟨30, _⟩ => ⟨S2x256x256, .f32⟩
  | .local _ .vmem, ⟨31, _⟩ => ⟨S2x256x256, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S4x2, .f32⟩
  | .local _ .smem, ⟨4, _⟩ => ⟨S4x2, .f32⟩
  | .local _ .smem, ⟨5, _⟩ => ⟨S4, .f32⟩
  | .local _ .smem, ⟨6, _⟩ => ⟨S4x2, .f32⟩
  | .local _ .smem, ⟨7, _⟩ => ⟨S4x2, .f32⟩
  | _, _ => ⟨S1x65536x8x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v27 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_v36 : Ref sig .tc := ⟨.hbm, 47, rfl⟩
abbrev main_v37 : Ref sig .tc := ⟨.hbm, 48, rfl⟩
abbrev main_c_0 : Ref sig .tc := ⟨.hbm, 49, rfl⟩
abbrev main_v38 : Ref sig .tc := ⟨.hbm, 50, rfl⟩
abbrev main_v39 : Ref sig .tc := ⟨.hbm, 51, rfl⟩
abbrev main_c_1 : Ref sig .tc := ⟨.hbm, 52, rfl⟩
abbrev main_v40 : Ref sig .tc := ⟨.hbm, 53, rfl⟩
abbrev main_v41 : Ref sig .tc := ⟨.hbm, 54, rfl⟩
abbrev main_c_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_3 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_4 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64_0 : Ref sig .tc := ⟨.hbm, 81, rfl⟩
abbrev main_v64_1 : Ref sig .tc := ⟨.hbm, 82, rfl⟩
abbrev main_v64_2 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v58 : Ref sig .tc := ⟨.smem, 0, rfl⟩
abbrev main_v26 : Ref sig .tc := ⟨.smem, 1, rfl⟩
abbrev main_v28 : Ref sig .tc := ⟨.smem, 2, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_stg0_0 : Ref sig .tc := ⟨.smem, 3, rfl⟩
abbrev cc0_stg1_0 : Ref sig .tc := ⟨.smem, 4, rfl⟩
abbrev cc0_stg2_0 : Ref sig .tc := ⟨.smem, 5, rfl⟩
abbrev cc0_stg3_0 : Ref sig .tc := ⟨.smem, 6, rfl⟩
abbrev cc0_stg4_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 272], ![false, false]⟩

abbrev pre0 : Pipeline.Prefetch sig := ⟨3, ![main_v58.idx, main_v26.idx, main_v28.idx], fun | 0 => main_v58.names | 1 => main_v26.names | 2 => main_v28.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg1 : BitVec 32 := BitVec.ofNat 32 (i 1).val
  let c256_i32 : BitVec 32 := 256#32
  let v0 : BitVec 1 := Scalar.cmpi .slt arg1 c256_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let c17_i32 : BitVec 32 := 17#32
  let v6 : BitVec 32 := Scalar.remsi arg1 c17_i32
  let v8 : Index := Scalar.indexCast v6
  let c0_2 : Index := 0#32
  let c0_3 : Index := 0#32
  ![v8.toNat, 0, 0]
def k0_off2 (i : grid0.Coords) : Fin 4 → Nat :=
  let arg1 : BitVec 32 := BitVec.ofNat 32 (i 1).val
  let c17_i32 : BitVec 32 := 17#32
  let v6 : BitVec 32 := Scalar.remsi arg1 c17_i32
  let v14 : Index := Scalar.indexCast v6
  let c0_8 : Index := 0#32
  let c0_9 : Index := 0#32
  let c0_10 : Index := 0#32
  ![v14.toNat, 0, 0, 0]
def k0_off3 (i : grid0.Coords) : Fin 4 → Nat :=
  let arg1 : BitVec 32 := BitVec.ofNat 32 (i 1).val
  let c17_i32 : BitVec 32 := 17#32
  let v6 : BitVec 32 := Scalar.remsi arg1 c17_i32
  let v28 : Index := Scalar.indexCast v6
  let c0_22 : Index := 0#32
  let c0_23 : Index := 0#32
  let c0_24 : Index := 0#32
  ![v28.toNat, 0, 0, 0]
def k0_off4 (i : grid0.Coords) : Fin 2 → Nat :=
  let arg0 : BitVec 32 := BitVec.ofNat 32 (i 0).val
  let v35 : Index := Scalar.indexCast arg0
  let c0_29 : Index := 0#32
  ![v35.toNat, 0]
def k0_off5 (i : grid0.Coords) : Fin 4 → Nat :=
  let arg1 : BitVec 32 := BitVec.ofNat 32 (i 1).val
  let c17_i32 : BitVec 32 := 17#32
  let v6 : BitVec 32 := Scalar.remsi arg1 c17_i32
  let v60 : Index := Scalar.indexCast v6
  let c1_45 : Index := 1#32
  let c0_46 : Index := 0#32
  let c0_47 : Index := 0#32
  ![v60.toNat, 1, 0, 0]
def k0_off6 (i : grid0.Coords) : Fin 4 → Nat :=
  let arg1 : BitVec 32 := BitVec.ofNat 32 (i 1).val
  let c17_i32 : BitVec 32 := 17#32
  let v6 : BitVec 32 := Scalar.remsi arg1 c17_i32
  let v74 : Index := Scalar.indexCast v6
  let c1_60 : Index := 1#32
  let c0_61 : Index := 0#32
  let c0_62 : Index := 0#32
  ![v74.toNat, 1, 0, 0]
def k0_off7 (i : grid0.Coords) : Fin 2 → Nat :=
  let arg0 : BitVec 32 := BitVec.ofNat 32 (i 0).val
  let v81 : Index := Scalar.indexCast arg0
  let c1_67 : Index := 1#32
  ![v81.toNat, 1]
def k0_cond2 (i : grid0.Coords) : BitVec 1 :=
  let arg1 : BitVec 32 := BitVec.ofNat 32 (i 1).val
  let c16_i32 : BitVec 32 := 16#32
  let v3 : BitVec 1 := Scalar.cmpi .sge arg1 c16_i32
  let v4 : BitVec 32 := Scalar.extui v3
  let c0_i32_0 : BitVec 32 := 0#32
  let v5 : BitVec 1 := Scalar.cmpi .ne v4 c0_i32_0
  v5

def k0_off8 (i : grid0.Coords) : Fin 1 → Nat :=
  let arg1 : BitVec 32 := BitVec.ofNat 32 (i 1).val
  let c16_i32_1 : BitVec 32 := 16#32
  let v6 : BitVec 32 := Scalar.subi arg1 c16_i32_1
  let v29 : Index := Scalar.indexCast v6
  ![v29.toNat]
@[reducible] def k0_t1_loop (v30 : BitVec 32) : Scf.Loop 32 :=
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_19 : BitVec 32 := 1#32
  ⟨c0_i32_18, v35, c1_i32_19⟩

def k0_off9 (i : grid0.Coords) : Fin 1 → Nat :=
  let arg1 : BitVec 32 := BitVec.ofNat 32 (i 1).val
  let c16_i32_1 : BitVec 32 := 16#32
  let v6 : BitVec 32 := Scalar.subi arg1 c16_i32_1
  let v99 : Index := Scalar.indexCast v6
  ![v99.toNat]
def k0_off10 (i : grid0.Coords) (v30 : BitVec 32) (k0_t1 : Fin (k0_t1_loop v30).trips) : Fin 1 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let v101 : Index := Scalar.indexCast v95
  ![v101.toNat]
def k0_off11 (i : grid0.Coords) (v30 : BitVec 32) (k0_t1 : Fin (k0_t1_loop v30).trips) : Fin 3 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v125 : Index := Scalar.indexCast v110
  let c0_65 : Index := 0#32
  let c0_66 : Index := 0#32
  ![v125.toNat, 0, 0]
def k0_cond3 (v30 : BitVec 32) (k0_t1 : Fin (k0_t1_loop v30).trips) (v100 : BitVec 32) (v102 : BitVec 32) : BitVec 1 :=
  let c0_i32_18 : BitVec 32 := 0#32
  let c1_i32_19 : BitVec 32 := 1#32
  let arg31 : BitVec 32 := Scf.iv c0_i32_18 c1_i32_19 k0_t1
  let c0_i32_56 : BitVec 32 := 0#32
  let v96 : BitVec 1 := Scalar.cmpi .eq arg31 c0_i32_56
  let c16_i32_57 : BitVec 32 := 16#32
  let v97 : BitVec 1 := Scalar.cmpi .eq arg31 c16_i32_57
  let v98 : BitVec 1 := Scalar.ori v96 v97
  let v103 : BitVec 1 := Scalar.cmpi .ne v100 v102
  let v104 : BitVec 1 := Scalar.ori v98 v103
  let v105 : BitVec 32 := Scalar.extui v104
  let c0_i32_58 : BitVec 32 := 0#32
  let v106 : BitVec 1 := Scalar.cmpi .ne v105 c0_i32_58
  v106

def k0_off12 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v133 : Index := Scalar.indexCast v110
  let c0_70 : Index := 0#32
  let c0_71 : Index := 0#32
  let c0_72 : Index := 0#32
  ![v133.toNat, 0, 0, 0]
def k0_off13 (i : grid0.Coords) : Fin 2 → Nat :=
  let arg0 : BitVec 32 := BitVec.ofNat 32 (i 0).val
  let v137 : Index := Scalar.indexCast arg0
  let c0_74 : Index := 0#32
  ![v137.toNat, 0]
def k0_off14 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v142 : Index := Scalar.indexCast v110
  let c0_76 : Index := 0#32
  let c0_77 : Index := 0#32
  let c0_78 : Index := 0#32
  ![v142.toNat, 0, 0, 0]
def k0_off15 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v202 : Index := Scalar.indexCast v110
  let c1_123 : Index := 1#32
  let c0_124 : Index := 0#32
  let c0_125 : Index := 0#32
  ![v202.toNat, 1, 0, 0]
def k0_off16 (i : grid0.Coords) : Fin 2 → Nat :=
  let arg0 : BitVec 32 := BitVec.ofNat 32 (i 0).val
  let v206 : Index := Scalar.indexCast arg0
  let c1_127 : Index := 1#32
  ![v206.toNat, 1]
def k0_off17 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v211 : Index := Scalar.indexCast v110
  let c1_129 : Index := 1#32
  let c0_130 : Index := 0#32
  let c0_131 : Index := 0#32
  ![v211.toNat, 1, 0, 0]
def k0_off18 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v113 : Index := Scalar.indexCast v110
  let c0_64 : Index := 0#32
  let c0_65 : Index := 0#32
  let c0_66 : Index := 0#32
  ![v113.toNat, 0, 0, 0]
def k0_cond4 (v30 : BitVec 32) (k0_t1 : Fin (k0_t1_loop v30).trips) (v100 : BitVec 32) (v102 : BitVec 32) : BitVec 1 :=
  let c0_i32_18 : BitVec 32 := 0#32
  let c1_i32_19 : BitVec 32 := 1#32
  let arg31 : BitVec 32 := Scf.iv c0_i32_18 c1_i32_19 k0_t1
  let c0_i32_56 : BitVec 32 := 0#32
  let v96 : BitVec 1 := Scalar.cmpi .eq arg31 c0_i32_56
  let c16_i32_57 : BitVec 32 := 16#32
  let v97 : BitVec 1 := Scalar.cmpi .eq arg31 c16_i32_57
  let v98 : BitVec 1 := Scalar.ori v96 v97
  let v103 : BitVec 1 := Scalar.cmpi .ne v100 v102
  let v104 : BitVec 1 := Scalar.ori v98 v103
  let v_true : BitVec 1 := 1#1
  let v107 : BitVec 1 := Scalar.xori v104 v_true
  let v108 : BitVec 32 := Scalar.extui v107
  let c0_i32_59 : BitVec 32 := 0#32
  let v109 : BitVec 1 := Scalar.cmpi .ne v108 c0_i32_59
  v109

def k0_off19 (i : grid0.Coords) : Fin 2 → Nat :=
  let arg0 : BitVec 32 := BitVec.ofNat 32 (i 0).val
  let v117 : Index := Scalar.indexCast arg0
  let c0_68 : Index := 0#32
  ![v117.toNat, 0]
def k0_off20 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v122 : Index := Scalar.indexCast v110
  let c0_70 : Index := 0#32
  let c0_71 : Index := 0#32
  let c0_72 : Index := 0#32
  ![v122.toNat, 0, 0, 0]
def k0_off21 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v180 : Index := Scalar.indexCast v110
  let c1_116 : Index := 1#32
  let c0_117 : Index := 0#32
  let c0_118 : Index := 0#32
  ![v180.toNat, 1, 0, 0]
def k0_off22 (i : grid0.Coords) : Fin 2 → Nat :=
  let arg0 : BitVec 32 := BitVec.ofNat 32 (i 0).val
  let v184 : Index := Scalar.indexCast arg0
  let c1_120 : Index := 1#32
  ![v184.toNat, 1]
def k0_off23 (i : grid0.Coords) (v30 : BitVec 32) (k0_t1 : Fin (k0_t1_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let c1_i32_19 : BitVec 32 := 1#32
  let arg31 : BitVec 32 := Scf.iv c0_i32_18 c1_i32_19 k0_t1
  let v95 : BitVec 32 := Scalar.addi v6 arg31
  let c17_i32_60 : BitVec 32 := 17#32
  let v110 : BitVec 32 := Scalar.remsi v95 c17_i32_60
  let v189 : Index := Scalar.indexCast v110
  let c1_122 : Index := 1#32
  let c0_123 : Index := 0#32
  let c0_124 : Index := 0#32
  ![v189.toNat, 1, 0, 0]

def k0_chk2 (i : grid0.Coords) (v30 : BitVec 32) (k0_t1 : Fin (k0_t1_loop v30).trips) (v100 : BitVec 32) (v102 : BitVec 32) : Prop :=
  (∀ (k0_h2 : k0_cond2 i = 1#1), ∀ (k0_h3 : k0_cond3 v30 k0_t1 v100 v102 = 1#1), ∀ a, (k0_off11 i v30 k0_t1) a + S1x1x256.size a ≤ S17x1x256.size a) ∧
  (∀ (k0_h2 : k0_cond2 i = 1#1), ∀ (k0_h3 : k0_cond3 v30 k0_t1 v100 v102 = 1#1), ∀ a, (k0_off12 i v30 k0_t1) a + S1x1x256x256.size a ≤ S17x2x256x256.size a) ∧
  (∀ (k0_h2 : k0_cond2 i = 1#1), ∀ (k0_h3 : k0_cond3 v30 k0_t1 v100 v102 = 1#1), ∀ a, (k0_off14 i v30 k0_t1) a + S1x1x1x256.size a ≤ S17x2x1x256.size a) ∧
  (∀ (k0_h2 : k0_cond2 i = 1#1), ∀ (k0_h3 : k0_cond3 v30 k0_t1 v100 v102 = 1#1), ∀ a, (k0_off15 i v30 k0_t1) a + S1x1x256x256.size a ≤ S17x2x256x256.size a) ∧
  (∀ (k0_h2 : k0_cond2 i = 1#1), ∀ (k0_h3 : k0_cond3 v30 k0_t1 v100 v102 = 1#1), ∀ a, (k0_off17 i v30 k0_t1) a + S1x1x1x256.size a ≤ S17x2x1x256.size a) ∧
  (∀ (k0_h2 : k0_cond2 i = 1#1), ∀ (k0_h4 : k0_cond4 v30 k0_t1 v100 v102 = 1#1), ∀ a, (k0_off18 i v30 k0_t1) a + S1x1x256x256.size a ≤ S17x2x256x256.size a) ∧
  (∀ (k0_h2 : k0_cond2 i = 1#1), ∀ (k0_h4 : k0_cond4 v30 k0_t1 v100 v102 = 1#1), ∀ a, (k0_off20 i v30 k0_t1) a + S1x1x1x256.size a ≤ S17x2x1x256.size a) ∧
  (∀ (k0_h2 : k0_cond2 i = 1#1), ∀ (k0_h4 : k0_cond4 v30 k0_t1 v100 v102 = 1#1), ∀ a, (k0_off21 i v30 k0_t1) a + S1x1x256x256.size a ≤ S17x2x256x256.size a) ∧
  (∀ (k0_h2 : k0_cond2 i = 1#1), ∀ (k0_h4 : k0_cond4 v30 k0_t1 v100 v102 = 1#1), ∀ a, (k0_off23 i v30 k0_t1) a + S1x1x1x256.size a ≤ S17x2x1x256.size a)
theorem k0_off11_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h3 : k0_cond3 v30 k0_t1 v100 v102 = 1#1), ∀ a, (k0_off11 i v30 k0_t1) a + S1x1x256.size a ≤ S17x1x256.size a := fun i v30 k0_t1 v100 v102 k0_hw2 k0_h2 k0_h3 => k0_hw2.1 k0_h2 k0_h3
theorem k0_off12_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h3 : k0_cond3 v30 k0_t1 v100 v102 = 1#1), ∀ a, (k0_off12 i v30 k0_t1) a + S1x1x256x256.size a ≤ S17x2x256x256.size a := fun i v30 k0_t1 v100 v102 k0_hw2 k0_h2 k0_h3 => k0_hw2.2.1 k0_h2 k0_h3
theorem k0_off14_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h3 : k0_cond3 v30 k0_t1 v100 v102 = 1#1), ∀ a, (k0_off14 i v30 k0_t1) a + S1x1x1x256.size a ≤ S17x2x1x256.size a := fun i v30 k0_t1 v100 v102 k0_hw2 k0_h2 k0_h3 => k0_hw2.2.2.1 k0_h2 k0_h3
theorem k0_off15_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h3 : k0_cond3 v30 k0_t1 v100 v102 = 1#1), ∀ a, (k0_off15 i v30 k0_t1) a + S1x1x256x256.size a ≤ S17x2x256x256.size a := fun i v30 k0_t1 v100 v102 k0_hw2 k0_h2 k0_h3 => k0_hw2.2.2.2.1 k0_h2 k0_h3
theorem k0_off17_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h3 : k0_cond3 v30 k0_t1 v100 v102 = 1#1), ∀ a, (k0_off17 i v30 k0_t1) a + S1x1x1x256.size a ≤ S17x2x1x256.size a := fun i v30 k0_t1 v100 v102 k0_hw2 k0_h2 k0_h3 => k0_hw2.2.2.2.2.1 k0_h2 k0_h3
theorem k0_off18_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h4 : k0_cond4 v30 k0_t1 v100 v102 = 1#1), ∀ a, (k0_off18 i v30 k0_t1) a + S1x1x256x256.size a ≤ S17x2x256x256.size a := fun i v30 k0_t1 v100 v102 k0_hw2 k0_h2 k0_h4 => k0_hw2.2.2.2.2.2.1 k0_h2 k0_h4
theorem k0_off20_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h4 : k0_cond4 v30 k0_t1 v100 v102 = 1#1), ∀ a, (k0_off20 i v30 k0_t1) a + S1x1x1x256.size a ≤ S17x2x1x256.size a := fun i v30 k0_t1 v100 v102 k0_hw2 k0_h2 k0_h4 => k0_hw2.2.2.2.2.2.2.1 k0_h2 k0_h4
theorem k0_off21_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h4 : k0_cond4 v30 k0_t1 v100 v102 = 1#1), ∀ a, (k0_off21 i v30 k0_t1) a + S1x1x256x256.size a ≤ S17x2x256x256.size a := fun i v30 k0_t1 v100 v102 k0_hw2 k0_h2 k0_h4 => k0_hw2.2.2.2.2.2.2.2.1 k0_h2 k0_h4
theorem k0_off23_inb : ∀ (i : grid0.Coords) (v30 : BitVec 32) (k0_t1 : Fin (k0_t1_loop v30).trips) (v100 : BitVec 32) (v102 : BitVec 32) (k0_hw2 : k0_chk2 i v30 k0_t1 v100 v102), ∀ (k0_h2 : k0_cond2 i = 1#1), ∀ (k0_h4 : k0_cond4 v30 k0_t1 v100 v102 = 1#1), ∀ a, (k0_off23 i v30 k0_t1) a + S1x1x1x256.size a ≤ S17x2x1x256.size a := fun i v30 k0_t1 v100 v102 k0_hw2 k0_h2 k0_h4 => k0_hw2.2.2.2.2.2.2.2.2 k0_h2 k0_h4

@[reducible] def k0_t2_loop (v30 : BitVec 32) : Scf.Loop 32 :=
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let v32 : BitVec 32 := Scalar.addi c0_i32_18 v31
  let c1_i32_20 : BitVec 32 := 1#32
  ⟨v35, v32, c1_i32_20⟩
def k0_off24 (i : grid0.Coords) : Fin 1 → Nat :=
  let arg1 : BitVec 32 := BitVec.ofNat 32 (i 1).val
  let c16_i32_1 : BitVec 32 := 16#32
  let v6 : BitVec 32 := Scalar.subi arg1 c16_i32_1
  let v99 : Index := Scalar.indexCast v6
  ![v99.toNat]
def k0_off25 (i : grid0.Coords) (v30 : BitVec 32) (k0_t2 : Fin (k0_t2_loop v30).trips) : Fin 1 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let v101 : Index := Scalar.indexCast v95
  ![v101.toNat]

def k0_chk1 (i : grid0.Coords) (v30 : BitVec 32) : Prop :=
  (∀ (k0_h2 : k0_cond2 i = 1#1), (k0_t1_loop v30).OK) ∧
  (∀ k0_t1 : Fin (k0_t1_loop v30).trips, ∀ (k0_h2 : k0_cond2 i = 1#1), ∀ a, (k0_off10 i v30 k0_t1) a + S1.size a ≤ S256.size a) ∧
  (∀ (k0_h2 : k0_cond2 i = 1#1), (k0_t2_loop v30).OK) ∧
  (∀ k0_t2 : Fin (k0_t2_loop v30).trips, ∀ (k0_h2 : k0_cond2 i = 1#1), ∀ a, (k0_off25 i v30 k0_t2) a + S1.size a ≤ S256.size a)
theorem k0_t1_ok : ∀ (i : grid0.Coords) (v30 : BitVec 32) (k0_hw1 : k0_chk1 i v30), ∀ (k0_h2 : k0_cond2 i = 1#1), (k0_t1_loop v30).OK := fun i v30 k0_hw1 k0_h2 => k0_hw1.1 k0_h2
theorem k0_off10_inb : ∀ (i : grid0.Coords) (v30 : BitVec 32) (k0_hw1 : k0_chk1 i v30) (k0_t1 : Fin (k0_t1_loop v30).trips), ∀ (k0_h2 : k0_cond2 i = 1#1), ∀ a, (k0_off10 i v30 k0_t1) a + S1.size a ≤ S256.size a := fun i v30 k0_hw1 k0_t1 k0_h2 => k0_hw1.2.1 k0_t1 k0_h2
theorem k0_t2_ok : ∀ (i : grid0.Coords) (v30 : BitVec 32) (k0_hw1 : k0_chk1 i v30), ∀ (k0_h2 : k0_cond2 i = 1#1), (k0_t2_loop v30).OK := fun i v30 k0_hw1 k0_h2 => k0_hw1.2.2.1 k0_h2
theorem k0_off25_inb : ∀ (i : grid0.Coords) (v30 : BitVec 32) (k0_hw1 : k0_chk1 i v30) (k0_t2 : Fin (k0_t2_loop v30).trips), ∀ (k0_h2 : k0_cond2 i = 1#1), ∀ a, (k0_off25 i v30 k0_t2) a + S1.size a ≤ S256.size a := fun i v30 k0_hw1 k0_t2 k0_h2 => k0_hw1.2.2.2 k0_t2 k0_h2

def k0_off26 (i : grid0.Coords) (v30 : BitVec 32) (k0_t2 : Fin (k0_t2_loop v30).trips) : Fin 3 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v125 : Index := Scalar.indexCast v110
  let c0_65 : Index := 0#32
  let c0_66 : Index := 0#32
  ![v125.toNat, 0, 0]
def k0_cond5 (v30 : BitVec 32) (k0_t2 : Fin (k0_t2_loop v30).trips) (v100 : BitVec 32) (v102 : BitVec 32) : BitVec 1 :=
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let c0_i32_56 : BitVec 32 := 0#32
  let v96 : BitVec 1 := Scalar.cmpi .eq arg31 c0_i32_56
  let c16_i32_57 : BitVec 32 := 16#32
  let v97 : BitVec 1 := Scalar.cmpi .eq arg31 c16_i32_57
  let v98 : BitVec 1 := Scalar.ori v96 v97
  let v103 : BitVec 1 := Scalar.cmpi .ne v100 v102
  let v104 : BitVec 1 := Scalar.ori v98 v103
  let v105 : BitVec 32 := Scalar.extui v104
  let c0_i32_58 : BitVec 32 := 0#32
  let v106 : BitVec 1 := Scalar.cmpi .ne v105 c0_i32_58
  v106

def k0_off27 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v133 : Index := Scalar.indexCast v110
  let c0_70 : Index := 0#32
  let c0_71 : Index := 0#32
  let c0_72 : Index := 0#32
  ![v133.toNat, 0, 0, 0]
def k0_off28 (i : grid0.Coords) : Fin 2 → Nat :=
  let arg0 : BitVec 32 := BitVec.ofNat 32 (i 0).val
  let v137 : Index := Scalar.indexCast arg0
  let c0_74 : Index := 0#32
  ![v137.toNat, 0]
def k0_off29 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v142 : Index := Scalar.indexCast v110
  let c0_76 : Index := 0#32
  let c0_77 : Index := 0#32
  let c0_78 : Index := 0#32
  ![v142.toNat, 0, 0, 0]
def k0_off30 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v202 : Index := Scalar.indexCast v110
  let c1_123 : Index := 1#32
  let c0_124 : Index := 0#32
  let c0_125 : Index := 0#32
  ![v202.toNat, 1, 0, 0]
def k0_off31 (i : grid0.Coords) : Fin 2 → Nat :=
  let arg0 : BitVec 32 := BitVec.ofNat 32 (i 0).val
  let v206 : Index := Scalar.indexCast arg0
  let c1_127 : Index := 1#32
  ![v206.toNat, 1]
def k0_off32 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v211 : Index := Scalar.indexCast v110
  let c1_129 : Index := 1#32
  let c0_130 : Index := 0#32
  let c0_131 : Index := 0#32
  ![v211.toNat, 1, 0, 0]
def k0_off33 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v113 : Index := Scalar.indexCast v110
  let c0_64 : Index := 0#32
  let c0_65 : Index := 0#32
  let c0_66 : Index := 0#32
  ![v113.toNat, 0, 0, 0]
def k0_cond6 (v30 : BitVec 32) (k0_t2 : Fin (k0_t2_loop v30).trips) (v100 : BitVec 32) (v102 : BitVec 32) : BitVec 1 :=
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let c0_i32_56 : BitVec 32 := 0#32
  let v96 : BitVec 1 := Scalar.cmpi .eq arg31 c0_i32_56
  let c16_i32_57 : BitVec 32 := 16#32
  let v97 : BitVec 1 := Scalar.cmpi .eq arg31 c16_i32_57
  let v98 : BitVec 1 := Scalar.ori v96 v97
  let v103 : BitVec 1 := Scalar.cmpi .ne v100 v102
  let v104 : BitVec 1 := Scalar.ori v98 v103
  let v_true : BitVec 1 := 1#1
  let v107 : BitVec 1 := Scalar.xori v104 v_true
  let v108 : BitVec 32 := Scalar.extui v107
  let c0_i32_59 : BitVec 32 := 0#32
  let v109 : BitVec 1 := Scalar.cmpi .ne v108 c0_i32_59
  v109

def k0_off34 (i : grid0.Coords) : Fin 2 → Nat :=
  let arg0 : BitVec 32 := BitVec.ofNat 32 (i 0).val
  let v117 : Index := Scalar.indexCast arg0
  let c0_68 : Index := 0#32
  ![v117.toNat, 0]
def k0_off35 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v122 : Index := Scalar.indexCast v110
  let c0_70 : Index := 0#32
  let c0_71 : Index := 0#32
  let c0_72 : Index := 0#32
  ![v122.toNat, 0, 0, 0]
def k0_off36 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v180 : Index := Scalar.indexCast v110
  let c1_116 : Index := 1#32
  let c0_117 : Index := 0#32
  let c0_118 : Index := 0#32
  ![v180.toNat, 1, 0, 0]
def k0_off37 (i : grid0.Coords) : Fin 2 → Nat :=
  let arg0 : BitVec 32 := BitVec.ofNat 32 (i 0).val
  let v184 : Index := Scalar.indexCast arg0
  let c1_120 : Index := 1#32
  ![v184.toNat, 1]
def k0_off38 (i : grid0.Coords) (v30 : BitVec 32) (k0_t2 : Fin (k0_t2_loop v30).trips) : Fin 4 → Nat :=
  let arg1 : BitVec 32 := BitVec.ofNat 32 (i 1).val
  let c16_i32_1 : BitVec 32 := 16#32
  let v6 : BitVec 32 := Scalar.subi arg1 c16_i32_1
  let c0_i32_18 : BitVec 32 := 0#32
  let v31 : BitVec 32 := Scalar.subi v30 c0_i32_18
  let c1_i32 : BitVec 32 := 1#32
  let v33 : BitVec 32 := Scalar.divsi v31 c1_i32
  let v34 : BitVec 32 := Scalar.muli v33 c1_i32
  let v35 : BitVec 32 := Scalar.addi c0_i32_18 v34
  let c1_i32_20 : BitVec 32 := 1#32
  let arg31 : BitVec 32 := Scf.iv v35 c1_i32_20 k0_t2
  let v95 : BitVec 32 := Scalar.addi v6 arg31
  let c17_i32_60 : BitVec 32 := 17#32
  let v110 : BitVec 32 := Scalar.remsi v95 c17_i32_60
  let v189 : Index := Scalar.indexCast v110
  let c1_122 : Index := 1#32
  let c0_123 : Index := 0#32
  let c0_124 : Index := 0#32
  ![v189.toNat, 1, 0, 0]

def k0_chk3 (i : grid0.Coords) (v30 : BitVec 32) (k0_t2 : Fin (k0_t2_loop v30).trips) (v100 : BitVec 32) (v102 : BitVec 32) : Prop :=
  (∀ (k0_h2 : k0_cond2 i = 1#1), ∀ (k0_h5 : k0_cond5 v30 k0_t2 v100 v102 = 1#1), ∀ a, (k0_off26 i v30 k0_t2) a + S1x1x256.size a ≤ S17x1x256.size a) ∧
  (∀ (k0_h2 : k0_cond2 i = 1#1), ∀ (k0_h5 : k0_cond5 v30 k0_t2 v100 v102 = 1#1), ∀ a, (k0_off27 i v30 k0_t2) a + S1x1x256x256.size a ≤ S17x2x256x256.size a) ∧
  (∀ (k0_h2 : k0_cond2 i = 1#1), ∀ (k0_h5 : k0_cond5 v30 k0_t2 v100 v102 = 1#1), ∀ a, (k0_off29 i v30 k0_t2) a + S1x1x1x256.size a ≤ S17x2x1x256.size a) ∧
  (∀ (k0_h2 : k0_cond2 i = 1#1), ∀ (k0_h5 : k0_cond5 v30 k0_t2 v100 v102 = 1#1), ∀ a, (k0_off30 i v30 k0_t2) a + S1x1x256x256.size a ≤ S17x2x256x256.size a) ∧
  (∀ (k0_h2 : k0_cond2 i = 1#1), ∀ (k0_h5 : k0_cond5 v30 k0_t2 v100 v102 = 1#1), ∀ a, (k0_off32 i v30 k0_t2) a + S1x1x1x256.size a ≤ S17x2x1x256.size a) ∧
  (∀ (k0_h2 : k0_cond2 i = 1#1), ∀ (k0_h6 : k0_cond6 v30 k0_t2 v100 v102 = 1#1), ∀ a, (k0_off33 i v30 k0_t2) a + S1x1x256x256.size a ≤ S17x2x256x256.size a) ∧
  (∀ (k0_h2 : k0_cond2 i = 1#1), ∀ (k0_h6 : k0_cond6 v30 k0_t2 v100 v102 = 1#1), ∀ a, (k0_off35 i v30 k0_t2) a + S1x1x1x256.size a ≤ S17x2x1x256.size a) ∧
  (∀ (k0_h2 : k0_cond2 i = 1#1), ∀ (k0_h6 : k0_cond6 v30 k0_t2 v100 v102 = 1#1), ∀ a, (k0_off36 i v30 k0_t2) a + S1x1x256x256.size a ≤ S17x2x256x256.size a) ∧
  (∀ (k0_h2 : k0_cond2 i = 1#1), ∀ (k0_h6 : k0_cond6 v30 k0_t2 v100 v102 = 1#1), ∀ a, (k0_off38 i v30 k0_t2) a + S1x1x1x256.size a ≤ S17x2x1x256.size a)
theorem k0_off26_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h5 : k0_cond5 v30 k0_t2 v100 v102 = 1#1), ∀ a, (k0_off26 i v30 k0_t2) a + S1x1x256.size a ≤ S17x1x256.size a := fun i v30 k0_t2 v100 v102 k0_hw3 k0_h2 k0_h5 => k0_hw3.1 k0_h2 k0_h5
theorem k0_off27_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h5 : k0_cond5 v30 k0_t2 v100 v102 = 1#1), ∀ a, (k0_off27 i v30 k0_t2) a + S1x1x256x256.size a ≤ S17x2x256x256.size a := fun i v30 k0_t2 v100 v102 k0_hw3 k0_h2 k0_h5 => k0_hw3.2.1 k0_h2 k0_h5
theorem k0_off29_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h5 : k0_cond5 v30 k0_t2 v100 v102 = 1#1), ∀ a, (k0_off29 i v30 k0_t2) a + S1x1x1x256.size a ≤ S17x2x1x256.size a := fun i v30 k0_t2 v100 v102 k0_hw3 k0_h2 k0_h5 => k0_hw3.2.2.1 k0_h2 k0_h5
theorem k0_off30_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h5 : k0_cond5 v30 k0_t2 v100 v102 = 1#1), ∀ a, (k0_off30 i v30 k0_t2) a + S1x1x256x256.size a ≤ S17x2x256x256.size a := fun i v30 k0_t2 v100 v102 k0_hw3 k0_h2 k0_h5 => k0_hw3.2.2.2.1 k0_h2 k0_h5
theorem k0_off32_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h5 : k0_cond5 v30 k0_t2 v100 v102 = 1#1), ∀ a, (k0_off32 i v30 k0_t2) a + S1x1x1x256.size a ≤ S17x2x1x256.size a := fun i v30 k0_t2 v100 v102 k0_hw3 k0_h2 k0_h5 => k0_hw3.2.2.2.2.1 k0_h2 k0_h5
theorem k0_off33_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h6 : k0_cond6 v30 k0_t2 v100 v102 = 1#1), ∀ a, (k0_off33 i v30 k0_t2) a + S1x1x256x256.size a ≤ S17x2x256x256.size a := fun i v30 k0_t2 v100 v102 k0_hw3 k0_h2 k0_h6 => k0_hw3.2.2.2.2.2.1 k0_h2 k0_h6
theorem k0_off35_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h6 : k0_cond6 v30 k0_t2 v100 v102 = 1#1), ∀ a, (k0_off35 i v30 k0_t2) a + S1x1x1x256.size a ≤ S17x2x1x256.size a := fun i v30 k0_t2 v100 v102 k0_hw3 k0_h2 k0_h6 => k0_hw3.2.2.2.2.2.2.1 k0_h2 k0_h6
theorem k0_off36_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h6 : k0_cond6 v30 k0_t2 v100 v102 = 1#1), ∀ a, (k0_off36 i v30 k0_t2) a + S1x1x256x256.size a ≤ S17x2x256x256.size a := fun i v30 k0_t2 v100 v102 k0_hw3 k0_h2 k0_h6 => k0_hw3.2.2.2.2.2.2.2.1 k0_h2 k0_h6
theorem k0_off38_inb : ∀ (i : grid0.Coords) (v30 : BitVec 32) (k0_t2 : Fin (k0_t2_loop v30).trips) (v100 : BitVec 32) (v102 : BitVec 32) (k0_hw3 : k0_chk3 i v30 k0_t2 v100 v102), ∀ (k0_h2 : k0_cond2 i = 1#1), ∀ (k0_h6 : k0_cond6 v30 k0_t2 v100 v102 = 1#1), ∀ a, (k0_off38 i v30 k0_t2) a + S1x1x1x256.size a ≤ S17x2x1x256.size a := fun i v30 k0_t2 v100 v102 k0_hw3 k0_h2 k0_h6 => k0_hw3.2.2.2.2.2.2.2.2 k0_h2 k0_h6

def k0_off39 (i : grid0.Coords) : Fin 2 → Nat :=
  let arg0 : BitVec 32 := BitVec.ofNat 32 (i 0).val
  let v38 : Index := Scalar.indexCast arg0
  let c0_24 : Index := 0#32
  ![v38.toNat, 0]
def k0_off40 (i : grid0.Coords) : Fin 2 → Nat :=
  let arg0 : BitVec 32 := BitVec.ofNat 32 (i 0).val
  let v50 : Index := Scalar.indexCast arg0
  let c1_31 : Index := 1#32
  ![v50.toNat, 1]
def k0_off41 (i : grid0.Coords) : Fin 4 → Nat :=
  let arg1 : BitVec 32 := BitVec.ofNat 32 (i 1).val
  let c16_i32_1 : BitVec 32 := 16#32
  let v6 : BitVec 32 := Scalar.subi arg1 c16_i32_1
  let c17_i32 : BitVec 32 := 17#32
  let v70 : BitVec 32 := Scalar.remsi v6 c17_i32
  let v71 : Index := Scalar.indexCast v70
  let c0_42 : Index := 0#32
  let c0_43 : Index := 0#32
  let c0_44 : Index := 0#32
  ![v71.toNat, 0, 0, 0]
def k0_off42 (i : grid0.Coords) : Fin 1 → Nat :=
  let arg0 : BitVec 32 := BitVec.ofNat 32 (i 0).val
  let v74 : Index := Scalar.indexCast arg0
  ![v74.toNat]
def k0_off43 (i : grid0.Coords) : Fin 4 → Nat :=
  let arg1 : BitVec 32 := BitVec.ofNat 32 (i 1).val
  let c16_i32_1 : BitVec 32 := 16#32
  let v6 : BitVec 32 := Scalar.subi arg1 c16_i32_1
  let c17_i32 : BitVec 32 := 17#32
  let v70 : BitVec 32 := Scalar.remsi v6 c17_i32
  let v83 : Index := Scalar.indexCast v70
  let c1_49 : Index := 1#32
  let c0_50 : Index := 0#32
  let c0_51 : Index := 0#32
  ![v83.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c0_i32 : BitVec 32 := 0#32
  let c0_i32_0 : BitVec 32 := 0#32
  let c0_i32_1 : BitVec 32 := 0#32
  ![arg0.toNat, c0_i32.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c0_i32 : BitVec 32 := 0#32
  let c0_i32_0 : BitVec 32 := 0#32
  let c0_i32_1 : BitVec 32 := 0#32
  ![arg0.toNat, c0_i32.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c0_i32 : BitVec 32 := 0#32
  let c0_i32_0 : BitVec 32 := 0#32
  let c0_i32_1 : BitVec 32 := 0#32
  ![arg0.toNat, c0_i32.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c0_i32 : BitVec 32 := 0#32
  let c0_i32_0 : BitVec 32 := 0#32
  let c0_i32_1 : BitVec 32 := 0#32
  ![arg0.toNat, c0_i32.toNat, c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c255_i32 : BitVec 32 := 255#32
  let v0 : BitVec 32 := Scalar.minsi arg1 c255_i32
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 1 → Memref sig .tc .smem S4x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S4x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S4x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x256x256 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x2x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S1x65536x8x256 : Shape := ⟨4, ![1, 65536, 8, 256]⟩
abbrev S8 : Shape := ⟨1, ![8]⟩
abbrev S1x65536x4x256 : Shape := ⟨4, ![1, 65536, 4, 256]⟩
abbrev S4 : Shape := ⟨1, ![4]⟩
abbrev S1x8x65536 : Shape := ⟨3, ![1, 8, 65536]⟩
abbrev S1x65536 : Shape := ⟨2, ![1, 65536]⟩
abbrev S1x1x8x1 : Shape := ⟨4, ![1, 1, 8, 1]⟩
abbrev S_ : Shape := ⟨0, ![]⟩
abbrev S1x65536x8 : Shape := ⟨3, ![1, 65536, 8]⟩
abbrev S65536x4x2x256 : Shape := ⟨4, ![65536, 4, 2, 256]⟩
abbrev S65536x4x256 : Shape := ⟨3, ![65536, 4, 256]⟩
abbrev S4x2 : Shape := ⟨2, ![4, 2]⟩
abbrev S4x1 : Shape := ⟨2, ![4, 1]⟩
abbrev S65536 : Shape := ⟨1, ![65536]⟩
abbrev S65536x1 : Shape := ⟨2, ![65536, 1]⟩
abbrev S65536x65536 : Shape := ⟨2, ![65536, 65536]⟩
abbrev S4x65536x65536x2 : Shape := ⟨4, ![4, 65536, 65536, 2]⟩
abbrev S4x2x65536x65536 : Shape := ⟨4, ![4, 2, 65536, 65536]⟩
abbrev S4x2x1x1 : Shape := ⟨4, ![4, 2, 1, 1]⟩
abbrev S4x2x65536 : Shape := ⟨3, ![4, 2, 65536]⟩
abbrev S65536x4x2 : Shape := ⟨3, ![65536, 4, 2]⟩
abbrev S4x2x65536x1 : Shape := ⟨4, ![4, 2, 65536, 1]⟩
abbrev S4x256x2x65536 : Shape := ⟨4, ![4, 256, 2, 65536]⟩
abbrev S1x4x1x1 : Shape := ⟨4, ![1, 4, 1, 1]⟩
abbrev S4x2x256x65536 : Shape := ⟨4, ![4, 2, 256, 65536]⟩
abbrev S1x4x2x1 : Shape := ⟨4, ![1, 4, 2, 1]⟩

abbrev nBuf : Space → Nat
  | .hbm => 118
  | .vmem => 8
  | .smem => 0
  | _ => 0

abbrev bufTy : (tb : Table) → Fin (tcTables nBuf tb) → BufTy
  | .hbm, ⟨0, _⟩ => ⟨S1x65536x8x256, .fp8e4m3⟩
  | .hbm, ⟨1, _⟩ => ⟨S8, .f32⟩
  | .hbm, ⟨2, _⟩ => ⟨S1x65536x4x256, .fp8e4m3⟩
  | .hbm, ⟨3, _⟩ => ⟨S4, .f32⟩
  | .hbm, ⟨4, _⟩ => ⟨S1x65536x4x256, .fp8e4m3⟩
  | .hbm, ⟨5, _⟩ => ⟨S4, .f32⟩
  | .hbm, ⟨6, _⟩ => ⟨S1x65536x8x256, .fp8e5m2⟩
  | .hbm, ⟨7, _⟩ => ⟨S8, .f32⟩
  | .hbm, ⟨8, _⟩ => ⟨S1x65536x8x256, .bf16⟩
  | .hbm, ⟨9, _⟩ => ⟨S1x8x65536, .f32⟩
  | .hbm, ⟨10, _⟩ => ⟨S1x65536, .i32⟩
  | .hbm, ⟨11, _⟩ => ⟨S1x65536x8x256, .bf16⟩
  | .hbm, ⟨12, _⟩ => ⟨S1x65536x4x256, .bf16⟩
  | .hbm, ⟨13, _⟩ => ⟨S1x65536x4x256, .bf16⟩
  | .hbm, ⟨14, _⟩ => ⟨S1x65536x8x256, .bf16⟩
  | .hbm, ⟨15, _⟩ => ⟨S1x65536x8x256, .f32⟩
  | .hbm, ⟨16, _⟩ => ⟨S1x1x8x1, .f32⟩
  | .hbm, ⟨17, _⟩ => ⟨S1x65536x8x256, .f32⟩
  | .hbm, ⟨18, _⟩ => ⟨S1x65536x8x256, .f32⟩
  | .hbm, ⟨19, _⟩ => ⟨S1x65536x8x256, .f32⟩
  | .hbm, ⟨20, _⟩ => ⟨S1x65536x8x256, .f32⟩
  | .hbm, ⟨21, _⟩ => ⟨S_, .f32⟩
  | .hbm, ⟨22, _⟩ => ⟨S1x65536x8, .f32⟩
  | .hbm, ⟨23, _⟩ => ⟨S65536x4x2x256, .bf16⟩
  | .hbm, ⟨24, _⟩ => ⟨S65536x4x2x256, .bf16⟩
  | .hbm, ⟨25, _⟩ => ⟨S65536x4x256, .bf16⟩
  | .hbm, ⟨26, _⟩ => ⟨S65536x4x256, .bf16⟩
  | .hbm, ⟨27, _⟩ => ⟨S4x2, .f32⟩
  | .hbm, ⟨28, _⟩ => ⟨S4x2, .f32⟩
  | .hbm, ⟨29, _⟩ => ⟨S4x1, .f32⟩
  | .hbm, ⟨30, _⟩ => ⟨S4x2, .f32⟩
  | .hbm, ⟨31, _⟩ => ⟨S4x2, .f32⟩
  | .hbm, ⟨32, _⟩ => ⟨S_, .f32⟩
  | .hbm, ⟨33, _⟩ => ⟨S4x2, .f32⟩
  | .hbm, ⟨34, _⟩ => ⟨S4x2, .f32⟩
  | .hbm, ⟨35, _⟩ => ⟨S4x1, .f32⟩
  | .hbm, ⟨36, _⟩ => ⟨S4x2, .f32⟩
  | .hbm, ⟨37, _⟩ => ⟨S4x2, .f32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536, .i32⟩
  | .hbm, ⟨42, _⟩ => ⟨S1x65536, .i32⟩
  | .hbm, ⟨43, _⟩ => ⟨S65536x65536, .i32⟩
  | .hbm, ⟨44, _⟩ => ⟨S65536x65536, .i32⟩
  | .hbm, ⟨45, _⟩ => ⟨S65536x65536, .i1⟩
  | .hbm, ⟨46, _⟩ => ⟨S_, .i32⟩
  | .hbm, ⟨47, _⟩ => ⟨S65536x1, .i32⟩
  | .hbm, ⟨48, _⟩ => ⟨S65536x1, .i32⟩
  | .hbm, ⟨49, _⟩ => ⟨S65536x65536, .i32⟩
  | .hbm, ⟨50, _⟩ => ⟨S65536x65536, .i32⟩
  | .hbm, ⟨51, _⟩ => ⟨S65536x65536, .i1⟩
  | .hbm, ⟨52, _⟩ => ⟨S65536x65536, .i1⟩
  | .hbm, ⟨53, _⟩ => ⟨S65536x1, .i32⟩
  | .hbm, ⟨54, _⟩ => ⟨S1x65536, .i32⟩
  | .hbm, ⟨55, _⟩ => ⟨S65536x65536, .i32⟩
  | .hbm, ⟨56, _⟩ => ⟨S65536x65536, .i32⟩
  | .hbm, ⟨57, _⟩ => ⟨S65536x65536, .i1⟩
  | .hbm, ⟨58, _⟩ => ⟨S65536x65536, .i1⟩
  | .hbm, ⟨59, _⟩ => ⟨S4x65536x65536x2, .f32⟩
  | .hbm, ⟨60, _⟩ => ⟨S4x2x65536x65536, .f32⟩
  | .hbm, ⟨61, _⟩ => ⟨S4x2x1x1, .f32⟩
  | .hbm, ⟨62, _⟩ => ⟨S4x2x65536x65536, .f32⟩
  | .hbm, ⟨63, _⟩ => ⟨S4x2x65536x65536, .f32⟩
  | .hbm, ⟨64, _⟩ => ⟨S4x2x65536, .f32⟩
  | .hbm, ⟨65, _⟩ => ⟨S65536x4x2, .f32⟩
  | .hbm, ⟨66, _⟩ => ⟨S4x2x65536, .f32⟩
  | .hbm, ⟨67, _⟩ => ⟨S4x2x65536x1, .f32⟩
  | .hbm, ⟨68, _⟩ => ⟨S4x2x65536x65536, .f32⟩
  | .hbm, ⟨69, _⟩ => ⟨S4x2x65536x65536, .f32⟩
  | .hbm, ⟨70, _⟩ => ⟨S_, .f32⟩
  | .hbm, ⟨71, _⟩ => ⟨S_, .f32⟩
  | .hbm, ⟨72, _⟩ => ⟨S4x2x65536x65536, .i1⟩
  | .hbm, ⟨73, _⟩ => ⟨S4x2x65536x65536, .f32⟩
  | .hbm, ⟨74, _⟩ => ⟨S4x2x65536x65536, .f32⟩
  | .hbm, ⟨75, _⟩ => ⟨S4x2x65536x65536, .f32⟩
  | .hbm, ⟨76, _⟩ => ⟨S4x65536x65536x2, .f32⟩
  | .hbm, ⟨77, _⟩ => ⟨S4x2x65536x65536, .f32⟩
  | .hbm, ⟨78, _⟩ => ⟨S4x2x1x1, .f32⟩
  | .hbm, ⟨79, _⟩ => ⟨S4x2x65536x65536, .f32⟩
  | .hbm, ⟨80, _⟩ => ⟨S4x2x65536x65536, .f32⟩
  | .hbm, ⟨81, _⟩ => ⟨S4x2x65536x1, .f32⟩
  | .hbm, ⟨82, _⟩ => ⟨S4x2x65536x65536, .f32⟩
  | .hbm, ⟨83, _⟩ => ⟨S4x2x65536x65536, .f32⟩
  | .hbm, ⟨84, _⟩ => ⟨S4x2x65536x65536, .f32⟩
  | .hbm, ⟨85, _⟩ => ⟨S4x2x65536x65536, .bf16⟩
  | .hbm, ⟨86, _⟩ => ⟨S4x2x65536x65536, .bf16⟩
  | .hbm, ⟨87, _⟩ => ⟨S4x256x2x65536, .f32⟩
  | .hbm, ⟨88, _⟩ => ⟨S65536x4x2x256, .f32⟩
  | .hbm, ⟨89, _⟩ => ⟨S_, .f32⟩
  | .hbm, ⟨90, _⟩ => ⟨S4, .f32⟩
  | .hbm, ⟨91, _⟩ => ⟨S4, .f32⟩
  | .hbm, ⟨92, _⟩ => ⟨S1x4x1x1, .f32⟩
  | .hbm, ⟨93, _⟩ => ⟨S65536x4x2x256, .f32⟩
  | .hbm, ⟨94, _⟩ => ⟨S65536x4x2x256, .f32⟩
  | .hbm, ⟨95, _⟩ => ⟨S4x2x256x65536, .f32⟩
  | .hbm, ⟨96, _⟩ => ⟨S65536x4x2x256, .f32⟩
  | .hbm, ⟨97, _⟩ => ⟨S_, .f32⟩
  | .hbm, ⟨98, _⟩ => ⟨S4x2, .f32⟩
  | .hbm, ⟨99, _⟩ => ⟨S4x2, .f32⟩
  | .hbm, ⟨100, _⟩ => ⟨S1x4x2x1, .f32⟩
  | .hbm, ⟨101, _⟩ => ⟨S65536x4x2x256, .f32⟩
  | .hbm, ⟨102, _⟩ => ⟨S65536x4x2x256, .f32⟩
  | .hbm, ⟨103, _⟩ => ⟨S_, .f32⟩
  | .hbm, ⟨104, _⟩ => ⟨S65536x4x256, .f32⟩
  | .hbm, ⟨105, _⟩ => ⟨S4x2x256x65536, .f32⟩
  | .hbm, ⟨106, _⟩ => ⟨S65536x4x2x256, .f32⟩
  | .hbm, ⟨107, _⟩ => ⟨S1x4x2x1, .f32⟩
  | .hbm, ⟨108, _⟩ => ⟨S65536x4x2x256, .f32⟩
  | .hbm, ⟨109, _⟩ => ⟨S65536x4x2x256, .f32⟩
  | .hbm, ⟨110, _⟩ => ⟨S_, .f32⟩
  | .hbm, ⟨111, _⟩ => ⟨S65536x4x256, .f32⟩
  | .hbm, ⟨112, _⟩ => ⟨S1x65536x8x256, .f32⟩
  | .hbm, ⟨113, _⟩ => ⟨S1x65536x8x256, .bf16⟩
  | .hbm, ⟨114, _⟩ => ⟨S1x65536x4x256, .f32⟩
  | .hbm, ⟨115, _⟩ => ⟨S1x65536x4x256, .bf16⟩
  | .hbm, ⟨116, _⟩ => ⟨S1x65536x4x256, .f32⟩
  | .hbm, ⟨117, _⟩ => ⟨S1x65536x4x256, .bf16⟩
  | .local _ .vmem, ⟨0, _⟩ => ⟨S1x65536x8x256, .fp8e4m3⟩
  | .local _ .vmem, ⟨1, _⟩ => ⟨S1x65536x4x256, .fp8e4m3⟩
  | .local _ .vmem, ⟨2, _⟩ => ⟨S1x65536x4x256, .fp8e4m3⟩
  | .local _ .vmem, ⟨3, _⟩ => ⟨S1x65536x8x256, .fp8e5m2⟩
  | .local _ .vmem, ⟨4, _⟩ => ⟨S1x65536x8x256, .bf16⟩
  | .local _ .vmem, ⟨5, _⟩ => ⟨S1x65536x4x256, .bf16⟩
  | .local _ .vmem, ⟨6, _⟩ => ⟨S1x65536x4x256, .bf16⟩
  | .local _ .vmem, ⟨7, _⟩ => ⟨S1x65536x8x256, .bf16⟩
  | _, _ => ⟨S1x65536x8x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_1 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_2 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_3 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_4 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_5 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x65536x8x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x65536x4x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x65536x4x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x65536x8x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x65536x8x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x65536x4x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x65536x4x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x65536x8x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Chain.lean ====
/-
  The words the kernel computes with, in closed form: the two conditions of a grid point, the offsets of its ring
  slots, the trip count of the loop over query tiles, and the side conditions the loop assumes.
-/
module

public import proofs.«01_k».proof.Proof.Gen.Kernel
public import Idealize.ShloMosaic.Lib.Affine
public import Idealize.ShloMosaic.Lib.WordArith

@[expose] public section

set_option maxRecDepth 16384

noncomputable section

namespace Cert.Kernel.Swa

open Cert.Kernel Cert.Kernel.Gen
open Idealize.ShloMosaic Idealize.ShloMosaic.TcCoe

/-- The step's number along the sequence, of a grid point. -/
abbrev tt (i : grid0.Coords) : Nat := (i 1).val
/-- The key head of a grid point. -/
abbrev gg (i : grid0.Coords) : Nat := (i 0).val

theorem tt_lt (i : grid0.Coords) : tt i < 272 := (i 1).isLt
theorem gg_lt (i : grid0.Coords) : gg i < 4 := (i 0).isLt

theorem cond1_iff (i : grid0.Coords) : k0_cond1 i = 1#1 ↔ tt i < 256 := by
  have key : ∀ x : Fin 272, Scalar.cmpi .ne (Scalar.extui (Scalar.cmpi .slt (BitVec.ofNat 32 x.val) 256#32) : BitVec 32) 0#32 = 1#1
      ↔ x.val < 256 := by decide +kernel
  exact key (i 1)

theorem cond2_iff (i : grid0.Coords) : k0_cond2 i = 1#1 ↔ 16 ≤ tt i := by
  have key : ∀ x : Fin 272, Scalar.cmpi .ne (Scalar.extui (Scalar.cmpi .sge (BitVec.ofNat 32 x.val) 16#32) : BitVec 32) 0#32 = 1#1
      ↔ 16 ≤ x.val := by decide +kernel
  exact key (i 1)

/-! ## The offsets of a grid point -/

theorem rem_tt (i : grid0.Coords) : (Scalar.indexCast (Scalar.remsi (BitVec.ofNat 32 (i 1).val) 17#32) : Index).toNat = tt i % 17 := by
  have key : ∀ x : Fin 272, (Scalar.indexCast (Scalar.remsi (BitVec.ofNat 32 x.val) 17#32) : Index).toNat = x.val % 17 := by
    decide +kernel
  exact key (i 1)

theorem gg_word (i : grid0.Coords) : (Scalar.indexCast (BitVec.ofNat 32 (i 0).val) : Index).toNat = gg i := by
  have key : ∀ x : Fin 4, (Scalar.indexCast (BitVec.ofNat 32 x.val) : Index).toNat = x.val := by decide +kernel
  exact key (i 0)

theorem sub_tt (i : grid0.Coords) (h : 16 ≤ tt i) :
    Scalar.subi (BitVec.ofNat 32 (i 1).val) 16#32 = BitVec.ofNat 32 (tt i - 16) := by
  have key : ∀ x : Fin 272, 16 ≤ x.val → Scalar.subi (BitVec.ofNat 32 x.val) 16#32 = BitVec.ofNat 32 (x.val - 16) := by
    decide +kernel
  exact key (i 1) h

theorem word_small (n : Nat) (h : n < 2 ^ 32) : (BitVec.ofNat 32 n).toNat = n := by
  rw [BitVec.toNat_ofNat]; omega

theorem rem_word (n : Nat) (h : n < 256) : (Scalar.indexCast (Scalar.remsi (BitVec.ofNat 32 n) 17#32) : Index).toNat = n % 17 := by
  have key : ∀ x : Fin 256, (Scalar.indexCast (Scalar.remsi (BitVec.ofNat 32 x.val) 17#32) : Index).toNat = x.val % 17 := by
    decide +kernel
  exact key ⟨n, h⟩

theorem off1_eq (i : grid0.Coords) : k0_off1 i = ![tt i % 17, 0, 0] := by
  show (![_, 0, 0] : Fin 3 → Nat) = _; rw [rem_tt]
theorem off2_eq (i : grid0.Coords) : k0_off2 i = ![tt i % 17, 0, 0, 0] := by
  show (![_, 0, 0, 0] : Fin 4 → Nat) = _; rw [rem_tt]
theorem off3_eq (i : grid0.Coords) : k0_off3 i = ![tt i % 17, 0, 0, 0] := by
  show (![_, 0, 0, 0] : Fin 4 → Nat) = _; rw [rem_tt]
theorem off4_eq (i : grid0.Coords) : k0_off4 i = ![gg i, 0] := by
  show (![_, 0] : Fin 2 → Nat) = _; rw [gg_word]
theorem off5_eq (i : grid0.Coords) : k0_off5 i = ![tt i % 17, 1, 0, 0] := by
  show (![_, 1, 0, 0] : Fin 4 → Nat) = _; rw [rem_tt]
theorem off6_eq (i : grid0.Coords) : k0_off6 i = ![tt i % 17, 1, 0, 0] := by
  show (![_, 1, 0, 0] : Fin 4 → Nat) = _; rw [rem_tt]
theorem off7_eq (i : grid0.Coords) : k0_off7 i = ![gg i, 1] := by
  show (![_, 1] : Fin 2 → Nat) = _; rw [gg_word]
theorem off39_eq (i : grid0.Coords) : k0_off39 i = ![gg i, 0] := by
  show (![_, 0] : Fin 2 → Nat) = _; rw [gg_word]
theorem off40_eq (i : grid0.Coords) : k0_off40 i = ![gg i, 1] := by
  show (![_, 1] : Fin 2 → Nat) = _; rw [gg_word]
theorem off8_eq (i : grid0.Coords) (h : 16 ≤ tt i) : k0_off8 i = ![tt i - 16] := by
  show (![(Scalar.subi _ _).toNat] : Fin 1 → Nat) = _; rw [sub_tt i h, word_small _ (by have := tt_lt i; omega)]
theorem off9_eq (i : grid0.Coords) (h : 16 ≤ tt i) : k0_off9 i = ![tt i - 16] := by
  show (![(Scalar.subi _ _).toNat] : Fin 1 → Nat) = _; rw [sub_tt i h, word_small _ (by have := tt_lt i; omega)]
theorem off13_eq (i : grid0.Coords) : k0_off13 i = ![gg i, 0] := by
  show (![_, 0] : Fin 2 → Nat) = _; rw [gg_word]
theorem off16_eq (i : grid0.Coords) : k0_off16 i = ![gg i, 1] := by
  show (![_, 1] : Fin 2 → Nat) = _; rw [gg_word]
theorem off19_eq (i : grid0.Coords) : k0_off19 i = ![gg i, 0] := by
  show (![_, 0] : Fin 2 → Nat) = _; rw [gg_word]
theorem off22_eq (i : grid0.Coords) : k0_off22 i = ![gg i, 1] := by
  show (![_, 1] : Fin 2 → Nat) = _; rw [gg_word]
theorem off42_eq (i : grid0.Coords) : k0_off42 i = ![gg i] := by
  show (![_] : Fin 1 → Nat) = _; rw [gg_word]
theorem off41_eq (i : grid0.Coords) (h : 16 ≤ tt i) : k0_off41 i = ![(tt i - 16) % 17, 0, 0, 0] := by
  show (![(Scalar.indexCast (Scalar.remsi (Scalar.subi _ _) _) : Index).toNat, 0, 0, 0] : Fin 4 → Nat) = _
  rw [sub_tt i h, rem_word _ (by have := tt_lt i; omega)]
theorem off43_eq (i : grid0.Coords) (h : 16 ≤ tt i) : k0_off43 i = ![(tt i - 16) % 17, 1, 0, 0] := by
  show (![(Scalar.indexCast (Scalar.remsi (Scalar.subi _ _) _) : Index).toNat, 1, 0, 0] : Fin 4 → Nat) = _
  rw [sub_tt i h, rem_word _ (by have := tt_lt i; omega)]

/-! ## The loop over the query tiles -/

section Loop
open Affine
variable (v : BitVec 32)

theorem isInt_sub0 : IsInt (Scalar.subi v 0#32) v.toInt := by
  have hr := word_range v
  exact subi (e := v.toInt) (word v) (ofNat (e := 0) 0 ⟨rfl, by decide⟩) ⟨by omega, by omega, by omega⟩
theorem isInt_ub : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_sub0 v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_add0 : IsInt (Scalar.addi 0#32 (Scalar.subi v 0#32)) v.toInt := by
  have hr := word_range v
  exact addi (e := v.toInt) (ofNat (e := 0) 0 ⟨rfl, by decide⟩) (isInt_sub0 v) ⟨by omega, by omega, by omega⟩

theorem toInt_of_isInt {x : BitVec 32} {e : Int} (h : IsInt x e) : x.toInt = e := by
  delta Affine.IsInt at h; exact h

/-- The loop runs as often as the table's word says; -/
theorem trips1_eq : (k0_t1_loop v).trips = v.toInt.toNat := by
  show Scf.trips 0#32 (Scalar.addi 0#32 (Scalar.muli (Scalar.divsi (Scalar.subi v 0#32) 1#32) 1#32)) 1#32 = _
  unfold Scf.trips; rw [toInt_of_isInt (isInt_ub v)]; simp
/-- its remainder loop never runs. -/
theorem trips2_eq : (k0_t2_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_ub v), toInt_of_isInt (isInt_add0 v)]; simp

theorem trip_word (k : Fin (k0_t1_loop v).trips) : Scf.iv 0#32 1#32 k.val = BitVec.ofNat 32 k.val := by
  simp [Scf.iv]

end Loop

/-- What the table's word satisfies at a step that processes a key tile: the loop visits at least the key tile's own
    query tile, at most the seventeen tiles of the window, and none past the end of the sequence. -/
def Fits (i : grid0.Coords) (v : BitVec 32) : Prop := ∃ n : Nat, v = BitVec.ofNat 32 n ∧ 1 ≤ n ∧ n ≤ 17 ∧ (tt i - 16) + n ≤ 256

theorem Fits.trips {i : grid0.Coords} {n : Nat} (h : n ≤ 17) :
    (k0_t1_loop (BitVec.ofNat 32 n)).trips = n := by
  rw [trips1_eq]
  have key : ∀ x : Fin 18, (BitVec.ofNat 32 x.val).toInt.toNat = x.val := by decide +kernel
  exact key ⟨n, by omega⟩

theorem Fits.sum_lt {i : grid0.Coords} {v : BitVec 32} (h : Fits i v) (k : Fin (k0_t1_loop v).trips) :
    (tt i - 16) + k.val < 256 := by
  obtain ⟨n, rfl, h1, h2, h3⟩ := h
  have := Nat.lt_of_lt_of_eq k.isLt (Fits.trips (i := i) h2); omega

theorem sum_word (i : grid0.Coords) (h2 : 16 ≤ tt i) {v : BitVec 32} (k : Fin (k0_t1_loop v).trips) :
    Scalar.addi (Scalar.subi (BitVec.ofNat 32 (i 1).val) 16#32) (Scf.iv 0#32 1#32 k.val) = BitVec.ofNat 32 (tt i - 16 + k.val) := by
  rw [sub_tt i h2, trip_word]; simp [Scalar.addi, IntOp.addi, BitVec.ofNat_add]

section Trip
variable {i : grid0.Coords} (h2 : 16 ≤ tt i) {v : BitVec 32} (k : Fin (k0_t1_loop v).trips) (hk : tt i - 16 + k.val < 256)
include h2 hk

theorem off10_eq : k0_off10 i v k = ![tt i - 16 + k.val] := by
  show (![(Scalar.addi (Scalar.subi _ _) _).toNat] : Fin 1 → Nat) = _; rw [sum_word i h2 k, word_small _ (by omega)]
theorem off11_eq : k0_off11 i v k = ![(tt i - 16 + k.val) % 17, 0, 0] := by
  show (![(Scalar.indexCast (Scalar.remsi (Scalar.addi (Scalar.subi _ _) _) _) : Index).toNat, 0, 0] : Fin 3 → Nat) = _
  rw [sum_word i h2 k, rem_word _ hk]
theorem off12_eq : k0_off12 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off14_eq : k0_off14 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off15_eq : k0_off15 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]
theorem off17_eq : k0_off17 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]
theorem off18_eq : k0_off18 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off20_eq : k0_off20 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off21_eq : k0_off21 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]
theorem off23_eq : k0_off23 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]

theorem chk2 (v100 v102 : BitVec 32) : k0_chk2 i v k v100 v102 := by
  have hm := Nat.mod_lt (tt i - 16 + k.val) (show 17 > 0 by decide)
  have key4 : ∀ s : Nat, s < 17 → ∀ r : Fin 2, ∀ a, (![s, r.val, 0, 0] : Fin 4 → Nat) a + S1x1x256x256.size a ≤ S17x2x256x256.size a := by
    intro s hs r a; have := r.isLt
    fin_cases a
    · show s + 1 ≤ 17; omega
    · show r.val + 1 ≤ 2; omega
    · show 0 + 256 ≤ 256; omega
    · show 0 + 256 ≤ 256; omega
  have key1 : ∀ s : Nat, s < 17 → ∀ r : Fin 2, ∀ a, (![s, r.val, 0, 0] : Fin 4 → Nat) a + S1x1x1x256.size a ≤ S17x2x1x256.size a := by
    intro s hs r a; have := r.isLt
    fin_cases a
    · show s + 1 ≤ 17; omega
    · show r.val + 1 ≤ 2; omega
    · show 0 + 1 ≤ 1; omega
    · show 0 + 256 ≤ 256; omega
  refine ⟨fun _ _ => ?_, fun _ _ => ?_, fun _ _ => ?_, fun _ _ => ?_, fun _ _ => ?_, fun _ _ => ?_, fun _ _ => ?_, fun _ _ => ?_, fun _ _ => ?_⟩
  · rw [off11_eq h2 k hk]; intro a
    fin_cases a
    · show (tt i - 16 + k.val) % 17 + 1 ≤ 17; omega
    · show 0 + 1 ≤ 1; omega
    · show 0 + 256 ≤ 256; omega
  · rw [off12_eq h2 k hk]; exact key4 _ hm 0
  · rw [off14_eq h2 k hk]; exact key1 _ hm 0
  · rw [off15_eq h2 k hk]; exact key4 _ hm 1
  · rw [off17_eq h2 k hk]; exact key1 _ hm 1
  · rw [off18_eq h2 k hk]; exact key4 _ hm 0
  · rw [off20_eq h2 k hk]; exact key1 _ hm 0
  · rw [off21_eq h2 k hk]; exact key4 _ hm 1
  · rw [off23_eq h2 k hk]; exact key1 _ hm 1

end Trip

theorem chk1 {i : grid0.Coords} {v : BitVec 32} (h : Fits i v) : k0_chk1 i v := by
  have hf := h
  obtain ⟨n, rfl, h1, h2, h3⟩ := h
  have hn : (BitVec.ofNat 32 n).toInt = n := by
    have key : ∀ x : Fin 18, (BitVec.ofNat 32 x.val).toInt = x.val := by decide +kernel
    exact key ⟨n, by omega⟩
  refine ⟨fun hc => ?_, fun k hc => ?_, fun hc => ?_, fun k => ?_⟩
  · exact Affine.ok (Affine.ofNat (e := 0) 0 ⟨rfl, by decide⟩) (isInt_ub _) (Affine.ofNat (e := 1) 1 ⟨rfl, by decide⟩) (by omega)
  · rw [off10_eq ((cond2_iff i).1 hc) k (hf.sum_lt k)]; intro a
    have := hf.sum_lt k
    fin_cases a; show tt i - 16 + k.val + 1 ≤ 256; omega
  · exact Affine.ok (isInt_ub _) (isInt_add0 _) (Affine.ofNat (e := 1) 1 ⟨rfl, by decide⟩) (by omega)
  · exact (Nat.not_lt_zero _ (Nat.lt_of_lt_of_eq k.isLt (trips2_eq _))).elim

/-! ## The two branches of a trip -/

/-- Whether a trip masks its pairs: the first and last tiles of the window, and those a segment boundary crosses. -/
def Masked (k : Nat) (v100 v102 : BitVec 32) : Prop := k = 0 ∨ k = 16 ∨ v100 ≠ v102

instance (k : Nat) (v100 v102 : BitVec 32) : Decidable (Masked k v100 v102) := by unfold Masked; infer_instance

theorem cond3_iff {v : BitVec 32} (k : Fin (k0_t1_loop v).trips) (hk : k.val < 256) (v100 v102 : BitVec 32) :
    k0_cond3 v k v100 v102 = 1#1 ↔ Masked k.val v100 v102 := by
  have key : ∀ x : Fin 256, ∀ b : BitVec 1, Scalar.cmpi .ne (Scalar.extui (Scalar.ori (Scalar.ori (Scalar.cmpi .eq (BitVec.ofNat 32 x.val) 0#32) (Scalar.cmpi .eq (BitVec.ofNat 32 x.val) 16#32)) b) : BitVec 32) 0#32 = 1#1
      ↔ (x.val = 0 ∨ x.val = 16 ∨ b = 1#1) := by decide +kernel
  have hb : Scalar.cmpi .ne v100 v102 = 1#1 ↔ v100 ≠ v102 := by
    by_cases h : v100 = v102
    · simp [Scalar.cmpi, IntOp.cmpi, h]
    · simp [Scalar.cmpi, IntOp.cmpi, h, bne_iff_ne.mpr h]
  unfold Masked; rw [← hb, ← key ⟨k.val, hk⟩]
  show Scalar.cmpi .ne (Scalar.extui (Scalar.ori (Scalar.ori (Scalar.cmpi .eq (Scf.iv 0#32 1#32 k.val) 0#32) (Scalar.cmpi .eq (Scf.iv 0#32 1#32 k.val) 16#32)) _) : BitVec 32) 0#32 = 1#1 ↔ _
  rw [trip_word]

theorem cond4_iff {v : BitVec 32} (k : Fin (k0_t1_loop v).trips) (hk : k.val < 256) (v100 v102 : BitVec 32) :
    k0_cond4 v k v100 v102 = 1#1 ↔ ¬ Masked k.val v100 v102 := by
  have key : ∀ x : Fin 256, ∀ b : BitVec 1, Scalar.cmpi .ne (Scalar.extui (Scalar.xori (Scalar.ori (Scalar.ori (Scalar.cmpi .eq (BitVec.ofNat 32 x.val) 0#32) (Scalar.cmpi .eq (BitVec.ofNat 32 x.val) 16#32)) b) 1#1) : BitVec 32) 0#32 = 1#1
      ↔ ¬ (x.val = 0 ∨ x.val = 16 ∨ b = 1#1) := by decide +kernel
  have hb : Scalar.cmpi .ne v100 v102 = 1#1 ↔ v100 ≠ v102 := by
    by_cases h : v100 = v102
    · simp [Scalar.cmpi, IntOp.cmpi, h]
    · simp [Scalar.cmpi, IntOp.cmpi, h, bne_iff_ne.mpr h]
  unfold Masked; rw [← hb, ← key ⟨k.val, hk⟩]
  show Scalar.cmpi .ne (Scalar.extui (Scalar.xori (Scalar.ori (Scalar.ori (Scalar.cmpi .eq (Scf.iv 0#32 1#32 k.val) 0#32) (Scalar.cmpi .eq (Scf.iv 0#32 1#32 k.val) 16#32)) _) _) : BitVec 32) 0#32 = 1#1 ↔ _
  rw [trip_word]

end Cert.Kernel.Swa

end
-- ==== Proof.Kernel.Steps.lean ====
module

public import proofs.«01_k».proof.Proof.Kernel.Chain
public import proofs.«01_k».proof.Proof.Gen.Kernel.Skeleton
public import Idealize.ShloMosaic.Lib.Pointwise
public import Idealize.ShloMosaic.Lib.WritesUnit

/-!
What one grid point does, as plain functions of the buffers' contents: the state the kernel keeps in its scratch
buffers (`St`), the blocks it is handed (`Blk`), the tables (`Tbl`), one trip of the loop over query tiles (`trip`),
all trips (`trips`), and the two phases of a grid point (`fill`, `drain`). Nothing here speaks of memory.
-/

@[expose] public section

set_option maxRecDepth 16384

noncomputable section

namespace Cert.Kernel.Swa

open Cert.Kernel Cert.Kernel.Gen
open Idealize.ShloMosaic Idealize.ShloMosaic.TcCoe

variable {F : FTy → Type} [FloatOps F]

/-- The ring slot that tile number `n` lives in. -/
def slot (n : ℕ) : Fin 17 := ⟨n % 17, Nat.mod_lt _ (by decide)⟩

/-- The rows of one slot and one head pair member of a ring of matrices. -/
def row {e : EltTy} (X : Vec F S17x2x256x256 e) (s : Fin 17) (r : Fin 2) : Vec F S1x1x256x256 e :=
  fun x => X (ix4 s r (x 2) (x 3))

/-- The same for a ring of rows. -/
def rowL {e : EltTy} (X : Vec F S17x2x1x256 e) (s : Fin 17) (r : Fin 2) : Vec F S1x1x1x256 e :=
  fun x => X (ix4 s r 0 (x 3))

/-- One slot of the ring of segment rows. -/
def rowS {e : EltTy} (X : Vec F S17x1x256 e) (s : Fin 17) : Vec F S1x1x256 e :=
  fun x => X (ix3 s 0 (x 2))

/-- One of the two accumulator matrices. -/
def row2 {e : EltTy} (X : Vec F S2x256x256 e) (r : Fin 2) : Vec F S1x256x256 e :=
  fun x => X (ix3 r (x 1) (x 2))

/-- One of the two matrices of a block of query rows. -/
def rowB {e : EltTy} (X : Vec F S1x2x256x256 e) (r : Fin 2) : Vec F S1x1x256x256 e :=
  fun x => X (ix4 0 r (x 2) (x 3))

/-- One of the two rows of a block of log-sum-exp values. -/
def rowBL {e : EltTy} (X : Vec F S1x2x1x256 e) (r : Fin 2) : Vec F S1x1x1x256 e :=
  fun x => X (ix4 0 r 0 (x 3))

/-- A ring of matrices with one slot's matrix replaced. -/
def setRow {e : EltTy} (X : Vec F S17x2x256x256 e) (s : Fin 17) (r : Fin 2) (v : Vec F S1x1x256x256 e) :
    Vec F S17x2x256x256 e :=
  fun y => if (y 0).val = s.val ∧ (y 1).val = r.val then v (ix4 0 0 (y 2) (y 3)) else X y

/-- A ring of rows with one slot's row replaced. -/
def setRowL {e : EltTy} (X : Vec F S17x2x1x256 e) (s : Fin 17) (r : Fin 2) (v : Vec F S1x1x1x256 e) :
    Vec F S17x2x1x256 e :=
  fun y => if (y 0).val = s.val ∧ (y 1).val = r.val then v (ix4 0 0 0 (y 3)) else X y

/-- A ring of segment rows with one slot replaced. -/
def setRowS {e : EltTy} (X : Vec F S17x1x256 e) (s : Fin 17) (v : Vec F S1x1x256 e) : Vec F S17x1x256 e :=
  fun y => if (y 0).val = s.val then v (ix3 0 0 (y 2)) else X y

/-- A pair of matrices with one replaced. -/
def setRow2 {e : EltTy} (X : Vec F S2x256x256 e) (r : Fin 2) (v : Vec F S1x256x256 e) : Vec F S2x256x256 e :=
  fun y => if (y 0).val = r.val then v (ix3 0 (y 1) (y 2)) else X y

/-- A block of query rows from its two matrices. -/
def pairB {e : EltTy} (v w : Vec F S1x1x256x256 e) : Vec F S1x2x256x256 e :=
  fun y => if (y 1).val = 0 then v (ix4 0 0 (y 2) (y 3)) else w (ix4 0 0 (y 2) (y 3))

/-- The scratch buffers' contents. -/
structure St (F : FTy → Type) where
  /-- the ring of query tiles -/
  q : Vec F S17x2x256x256 .fp8e4m3
  /-- the ring of output gradient tiles -/
  o : Vec F S17x2x256x256 .fp8e5m2
  /-- the ring of log-sum-exp rows -/
  lse : Vec F S17x2x1x256 .f32
  /-- the ring of row dot products -/
  dl : Vec F S17x2x1x256 .f32
  /-- the ring of query segment rows -/
  sg : Vec F S17x1x256 .i32
  /-- the ring of query gradient accumulators -/
  dq : Vec F S17x2x256x256 .f32
  /-- the transposed key tile -/
  kt : Vec F S256x256 .bf16
  /-- the key segments, one column repeated -/
  sc : Vec F S256x256 .i32
  /-- the key gradient accumulators -/
  dk : Vec F S2x256x256 .f32
  /-- the value gradient accumulators -/
  dv : Vec F S2x256x256 .f32

/-- The blocks a grid point is handed. -/
structure Blk (F : FTy → Type) where
  q : Vec F S1x2x256x256 .fp8e4m3
  o : Vec F S1x2x256x256 .fp8e5m2
  out : Vec F S1x2x256x256 .bf16
  lse : Vec F S1x2x1x256 .f32
  sgq : Vec F S1x256 .i32
  k : Vec F S1x256x256 .fp8e4m3
  v : Vec F S1x256x256 .fp8e4m3
  sgk : Vec F S1x256 .i32

/-- The tables every grid point reads. -/
structure Tbl (F : FTy → Type) where
  nhi : Vec F S256 .i32
  sf : Vec F S256 .i32
  sl : Vec F S256 .i32
  qk : Vec F S4x2 .f32
  dov : Vec F S4x2 .f32
  ks : Vec F S4 .f32
  qs : Vec F S4x2 .f32
  dos : Vec F S4x2 .f32

section Trip

variable (T : Tbl F) (B : Blk F) (g : Fin 4) (j d : ℕ) (st : St F)

/-- The table entry of tile `n` (tile numbers of interest are below 256). -/
def at256 {e : EltTy} (X : Vec F S256 e) (n : ℕ) : Elt F e := X (ix1 (⟨n % 256, Nat.mod_lt _ (by decide)⟩ : Fin 256))

/-- The scores (keys by queries) of key tile `j` and query tile `j + d`, less the log-sum-exp, in powers of two: masked when the pair
of tiles needs it. -/
def eT (r : Fin 2) : FVec F S256x256 .f32 :=
  if Masked d (at256 T.sf j) (at256 T.sl (j + d)) then
    k0_pay16 (BitVec.ofNat 32 j) (BitVec.ofNat 32 (j + d)) st.sc (rowS st.sg (slot (j + d))) B.k (row st.q (slot (j + d)) r)
      (T.qk (ix2 g r)) (rowL st.lse (slot (j + d)) r)
  else subf (k0_pay23 B.k (row st.q (slot (j + d)) r) (T.qk (ix2 g r)))
    (broadcastTo S256x256 (k0_pay24 (rowL st.lse (slot (j + d)) r)) broadcasts_S1x256_S256x256)

/-- The score gradients of the pair of tiles. -/
def dsT (r : Fin 2) : FVec F S256x256 .bf16 :=
  k0_pay18 (eT T B g j d st r) B.v (row st.o (slot (j + d)) r) (T.dov (ix2 g r)) (rowL st.dl (slot (j + d)) r)

/-- The value gradient accumulator after the pair of tiles. -/
def dvT (r : Fin 2) : FVec F S1x256x256 .f32 := k0_pay19 (eT T B g j d st r) (row2 st.dv r) (row st.o (slot (j + d)) r)

/-- The key gradient accumulator after the pair of tiles. -/
def dkT (r : Fin 2) : FVec F S1x256x256 .f32 :=
  k0_pay21 (dsT T B g j d st r) (k0_pay20 (row2 st.dk r)) (row st.q (slot (j + d)) r)

/-- The query gradient accumulator of tile `j + d` after the pair of tiles. -/
def dqT (r : Fin 2) : FVec F S1x1x256x256 .f32 := k0_pay22 (dsT T B g j d st r) (row st.dq (slot (j + d)) r) st.kt

/-- One trip of the loop: key tile `j` against query tile `j + d`. -/
def trip : St F :=
  { st with
    dv := setRow2 (setRow2 st.dv 0 (dvT T B g j d st 0)) 1 (dvT T B g j d st 1)
    dk := setRow2 (setRow2 st.dk 0 (dkT T B g j d st 0)) 1 (dkT T B g j d st 1)
    dq := setRow (setRow st.dq (slot (j + d)) 0 (dqT T B g j d st 0)) (slot (j + d)) 1 (dqT T B g j d st 1) }

end Trip

/-- The first `n` trips. -/
def trips (T : Tbl F) (B : Blk F) (g : Fin 4) (j : ℕ) (st : St F) : ℕ → St F
  | 0 => st
  | n + 1 => trip T B g j n (trips T B g j st n)

/-- The first phase of a grid point: query tile `t` enters the ring. -/
def fill (T : Tbl F) (B : Blk F) (g : Fin 4) (t : ℕ) (st : St F) : St F :=
  { st with
    sg := setRowS st.sg (slot t) (k0_pay5 B.sgq)
    q := setRow (setRow st.q (slot t) 0 (k0_pay6 (rowB B.q 0))) (slot t) 1 (k0_pay11 (rowB B.q 1))
    o := setRow (setRow st.o (slot t) 0 (k0_pay7 (rowB B.o 0))) (slot t) 1 (k0_pay12 (rowB B.o 1))
    lse := setRowL (setRowL st.lse (slot t) 0 (k0_pay8 (rowBL B.lse 0))) (slot t) 1 (k0_pay13 (rowBL B.lse 1))
    dl := setRowL (setRowL st.dl (slot t) 0 (k0_pay9 (rowB B.o 0) (T.dos (ix2 g 0)) (rowB B.out 0))) (slot t) 1
      (k0_pay1 (k0_pay14 (rowB B.o 1) (T.dos (ix2 g 1)) (rowB B.out 1)))
    dq := setRow (setRow st.dq (slot t) 0 k0_pay10) (slot t) 1 k0_pay2 }

/-- What the second phase prepares for key tile `j`: the transposed key tile, its segments, zero accumulators. -/
def enter (B : Blk F) (st : St F) : St F :=
  { st with kt := k0_pay65 B.k, sc := k0_pay66 B.sgk, dk := k0_pay67, dv := k0_pay68 }

/-- The second phase of a grid point: key tile `j` against its query tiles. -/
def drain (T : Tbl F) (B : Blk F) (g : Fin 4) (j : ℕ) (st : St F) : St F :=
  trips T B g j (enter B st) ((at256 T.nhi j : BitVec 32).toNat)

/-- The key gradient block written out. -/
def dkOut (T : Tbl F) (g : Fin 4) (st : St F) : FVec F S1x256x256 .bf16 :=
  k0_pay75 (row2 st.dk 0) (T.qs (ix2 g 0)) (row2 st.dk 1) (T.qs (ix2 g 1))

/-- The value gradient block written out. -/
def dvOut (T : Tbl F) (g : Fin 4) (st : St F) : FVec F S1x256x256 .bf16 :=
  k0_pay76 (row2 st.dv 0) (T.dos (ix2 g 0)) (row2 st.dv 1) (T.dos (ix2 g 1))

/-- The query gradient block written out. -/
def dqOut (T : Tbl F) (g : Fin 4) (j : ℕ) (st : St F) : FVec F S1x2x256x256 .bf16 :=
  pairB (F := F) (e := .bf16) (k0_pay3 (row st.dq (slot j) 0) (T.ks (ix1 g))) (k0_pay4 (row st.dq (slot j) 1) (T.ks (ix1 g)))

end Cert.Kernel.Swa
end
-- ==== Proof.Kernel.Reads.lean ====
module

public import proofs.«01_k».proof.Proof.Kernel.Steps
public import Idealize.ShloMosaic.Lib.Exec

/-!
Loads and stores of rows of the scratch buffers, as the plain functions `row`, `setRow`, … of what a view reads.
-/

@[expose] public section

set_option maxRecDepth 16384

noncomputable section

namespace Cert.Kernel.Swa

open Cert.Kernel Cert.Kernel.Gen
open Idealize.ShloMosaic Idealize.ShloMosaic.TcCoe

variable {F : FTy → Type} [FloatOps F] {κ : Kind} {sp : Space} {e : EltTy}

theorem ld_row (v : View sig κ sp S17x2x256x256 e) (f : v.ty.Contents (Elt F)) {off : Fin 4 → ℕ} (inb)
    (s : Fin 17) (r : Fin 2) (h : off = ![s.val, r.val, 0, 0]) :
    v.readAt (Elt F) (Rect.unit (s := S17x2x256x256) off S1x1x256x256.size inb).toLoadRect f = row (v.read (Elt F) f) s r := by
  subst h; funext x
  rw [View.readAt_apply]; unfold row
  congr 1; idx_vars x; idx_ext

theorem ld_rowL (v : View sig κ sp S17x2x1x256 e) (f : v.ty.Contents (Elt F)) {off : Fin 4 → ℕ} (inb)
    (s : Fin 17) (r : Fin 2) (h : off = ![s.val, r.val, 0, 0]) :
    v.readAt (Elt F) (Rect.unit (s := S17x2x1x256) off S1x1x1x256.size inb).toLoadRect f = rowL (v.read (Elt F) f) s r := by
  subst h; funext x
  rw [View.readAt_apply]; unfold rowL
  congr 1; idx_vars x; idx_ext

theorem ld_rowS (v : View sig κ sp S17x1x256 e) (f : v.ty.Contents (Elt F)) {off : Fin 3 → ℕ} (inb)
    (s : Fin 17) (h : off = ![s.val, 0, 0]) :
    v.readAt (Elt F) (Rect.unit (s := S17x1x256) off S1x1x256.size inb).toLoadRect f = rowS (v.read (Elt F) f) s := by
  subst h; funext x
  rw [View.readAt_apply]; unfold rowS
  congr 1; idx_vars x; idx_ext

theorem ld_row2 (v : View sig κ sp S2x256x256 e) (f : v.ty.Contents (Elt F)) {off : Fin 3 → ℕ} (inb)
    (r : Fin 2) (h : off = ![r.val, 0, 0]) :
    v.readAt (Elt F) (Rect.unit (s := S2x256x256) off S1x256x256.size inb).toLoadRect f = row2 (v.read (Elt F) f) r := by
  subst h; funext x
  rw [View.readAt_apply]; unfold row2
  congr 1; idx_vars x; idx_ext

theorem ld_rowB (v : View sig κ sp S1x2x256x256 e) (f : v.ty.Contents (Elt F)) {off : Fin 4 → ℕ} (inb)
    (r : Fin 2) (h : off = ![0, r.val, 0, 0]) :
    v.readAt (Elt F) (Rect.unit (s := S1x2x256x256) off S1x1x256x256.size inb).toLoadRect f = rowB (v.read (Elt F) f) r := by
  subst h; funext x
  rw [View.readAt_apply]; unfold rowB
  congr 1; idx_vars x; idx_ext

theorem ld_rowBL (v : View sig κ sp S1x2x1x256 e) (f : v.ty.Contents (Elt F)) {off : Fin 4 → ℕ} (inb)
    (r : Fin 2) (h : off = ![0, r.val, 0, 0]) :
    v.readAt (Elt F) (Rect.unit (s := S1x2x1x256) off S1x1x1x256.size inb).toLoadRect f = rowBL (v.read (Elt F) f) r := by
  subst h; funext x
  rw [View.readAt_apply]; unfold rowBL
  congr 1; idx_vars x; idx_ext

theorem st_row (v : View sig κ sp S17x2x256x256 e) (f : v.ty.Contents (Elt F)) {off : Fin 4 → ℕ} (inb)
    (w : Vec F S1x1x256x256 e) (L : List (View.Piece (Elt F) S17x2x256x256 e))
    (s : Fin 17) (r : Fin 2) (h : off = ![s.val, r.val, 0, 0]) :
    v.read (Elt F) (v.writes (Elt F) f (⟨Rect.unit (s := S17x2x256x256) off S1x1x256x256.size inb, w⟩ :: L))
      = setRow (v.read (Elt F) (v.writes (Elt F) f L)) s r w := by
  funext y
  unfold setRow
  idx_vars y
  by_cases hc : (y0 : ℕ) = s ∧ (y1 : ℕ) = r
  · refine Eq.trans ?_ (if_pos hc).symm
    refine View.read_writes_cons_unit_of_mem v f inb w L _ (ix4 0 0 y2 y3) h fun a => ?_
    fin_cases a <;> simp [ix2, ix3, ix4, hc]
  · refine Eq.trans ?_ (if_neg hc).symm
    by_cases h0 : (y0 : ℕ) = s
    · exact View.read_writes_cons_unit_of_not_mem v f inb w L _ h 1 (by
        have h1 : ¬ (y1 : ℕ) = r := fun h1 => hc ⟨h0, h1⟩
        show (y1 : ℕ) < r ∨ r + 1 ≤ (y1 : ℕ); omega)
    · exact View.read_writes_cons_unit_of_not_mem v f inb w L _ h 0 (by
        show (y0 : ℕ) < s ∨ s + 1 ≤ (y0 : ℕ); omega)

theorem st_rowL (v : View sig κ sp S17x2x1x256 e) (f : v.ty.Contents (Elt F)) {off : Fin 4 → ℕ} (inb)
    (w : Vec F S1x1x1x256 e) (L : List (View.Piece (Elt F) S17x2x1x256 e))
    (s : Fin 17) (r : Fin 2) (h : off = ![s.val, r.val, 0, 0]) :
    v.read (Elt F) (v.writes (Elt F) f (⟨Rect.unit (s := S17x2x1x256) off S1x1x1x256.size inb, w⟩ :: L))
      = setRowL (v.read (Elt F) (v.writes (Elt F) f L)) s r w := by
  funext y
  unfold setRowL
  idx_vars y
  by_cases hc : (y0 : ℕ) = s ∧ (y1 : ℕ) = r
  · refine Eq.trans ?_ (if_pos hc).symm
    refine View.read_writes_cons_unit_of_mem v f inb w L _ (ix4 0 0 0 y3) h fun a => ?_
    fin_cases a <;> simp [ix2, ix3, ix4, hc]
  · refine Eq.trans ?_ (if_neg hc).symm
    by_cases h0 : (y0 : ℕ) = s
    · exact View.read_writes_cons_unit_of_not_mem v f inb w L _ h 1 (by
        have h1 : ¬ (y1 : ℕ) = r := fun h1 => hc ⟨h0, h1⟩
        show (y1 : ℕ) < r ∨ r + 1 ≤ (y1 : ℕ); omega)
    · exact View.read_writes_cons_unit_of_not_mem v f inb w L _ h 0 (by
        show (y0 : ℕ) < s ∨ s + 1 ≤ (y0 : ℕ); omega)

theorem st_rowS (v : View sig κ sp S17x1x256 e) (f : v.ty.Contents (Elt F)) {off : Fin 3 → ℕ} (inb)
    (w : Vec F S1x1x256 e) (L : List (View.Piece (Elt F) S17x1x256 e))
    (s : Fin 17) (h : off = ![s.val, 0, 0]) :
    v.read (Elt F) (v.writes (Elt F) f (⟨Rect.unit (s := S17x1x256) off S1x1x256.size inb, w⟩ :: L))
      = setRowS (v.read (Elt F) (v.writes (Elt F) f L)) s w := by
  funext y
  unfold setRowS
  idx_vars y
  by_cases hc : (y0 : ℕ) = s
  · refine Eq.trans ?_ (if_pos hc).symm
    refine View.read_writes_cons_unit_of_mem v f inb w L _ (ix3 0 0 y2) h fun a => ?_
    fin_cases a <;> simp [ix2, ix3, ix4, hc]
  · refine Eq.trans ?_ (if_neg hc).symm
    exact View.read_writes_cons_unit_of_not_mem v f inb w L _ h 0 (by
      show (y0 : ℕ) < s ∨ s + 1 ≤ (y0 : ℕ); omega)

theorem st_row2 (v : View sig κ sp S2x256x256 e) (f : v.ty.Contents (Elt F)) {off : Fin 3 → ℕ} (inb)
    (w : Vec F S1x256x256 e) (L : List (View.Piece (Elt F) S2x256x256 e))
    (r : Fin 2) (h : off = ![r.val, 0, 0]) :
    v.read (Elt F) (v.writes (Elt F) f (⟨Rect.unit (s := S2x256x256) off S1x256x256.size inb, w⟩ :: L))
      = setRow2 (v.read (Elt F) (v.writes (Elt F) f L)) r w := by
  funext y
  unfold setRow2
  idx_vars y
  by_cases hc : (y0 : ℕ) = r
  · refine Eq.trans ?_ (if_pos hc).symm
    refine View.read_writes_cons_unit_of_mem v f inb w L _ (ix3 0 y1 y2) h fun a => ?_
    fin_cases a <;> simp [ix2, ix3, ix4, hc]
  · refine Eq.trans ?_ (if_neg hc).symm
    exact View.read_writes_cons_unit_of_not_mem v f inb w L _ h 0 (by
      show (y0 : ℕ) < r ∨ r + 1 ≤ (y0 : ℕ); omega)

/-- A load of a whole buffer reads all of it. -/
theorem ld_all {S : Shape} (v : View sig κ sp S e) (f : v.ty.Contents (Elt F)) {off : Fin S.rank → ℕ} (inb)
    (h : off = fun _ => 0) :
    v.readAt (Elt F) (Rect.unit (s := S) off S.size inb).toLoadRect f = v.read (Elt F) f := by
  subst h; funext x
  rw [View.readAt_apply]
  congr 1; funext a; apply Fin.ext
  simp

/-- A store of a whole buffer replaces all of it. -/
theorem st_all {S : Shape} (v : View sig κ sp S e) (f : v.ty.Contents (Elt F)) {off : Fin S.rank → ℕ} (inb)
    (w : Vec F S e) (L : List (View.Piece (Elt F) S e)) (h : off = fun _ => 0) :
    v.read (Elt F) (v.writes (Elt F) f (⟨Rect.unit (s := S) off S.size inb, w⟩ :: L)) = w := by
  funext y
  exact View.read_writes_cons_unit_of_mem v f inb w L y y h fun a => by simp

theorem zeros3 : (![0, 0, 0] : Fin 3 → ℕ) = fun _ => 0 := by decide
theorem zeros2 : (![0, 0] : Fin 2 → ℕ) = fun _ => 0 := by decide

/-- The second matrix of a slot after the first is replaced. -/
theorem row_setRow_one (X : Vec F S17x2x256x256 e) (s : Fin 17) (v : Vec F S1x1x256x256 e) :
    row (setRow X s 0 v) s 1 = row X s 1 := by
  funext x
  exact if_neg fun h => absurd (show (1 : ℕ) = 0 from h.2) (by decide)

/-- A one-element load of a table of pairs. -/
theorem ld_pair (v : View sig κ sp S4x2 e) (f : v.ty.Contents (Elt F)) {off : Fin 2 → ℕ} (inb) (hn)
    (g : Fin 4) (r : Fin 2) (h : off = ![g.val, r.val]) :
    v.readAt (Elt F) (Rect.unit (s := S4x2) off S1x1.size inb).toLoadRect f (Shape.Idx.first hn)
      = v.read (Elt F) f (ix2 g r) := by
  subst h
  rw [View.readAt_apply]
  congr 1; funext a; apply Fin.ext; fin_cases a <;> simp [Shape.Idx.first, ix2]

theorem ld_four (v : View sig κ sp S4 e) (f : v.ty.Contents (Elt F)) {off : Fin 1 → ℕ} (inb) (hn)
    (g : Fin 4) (h : off = ![g.val]) :
    v.readAt (Elt F) (Rect.unit (s := S4) off S1.size inb).toLoadRect f (Shape.Idx.first hn)
      = v.read (Elt F) f (ix1 g) := by
  subst h
  rw [View.readAt_apply]
  congr 1; funext a; apply Fin.ext; fin_cases a; simp [Shape.Idx.first, ix1]

theorem ld_tile (v : View sig κ sp S256 e) (f : v.ty.Contents (Elt F)) {off : Fin 1 → ℕ} (inb) (hn)
    (n : ℕ) (hlt : n < 256) (h : off = ![n]) :
    v.readAt (Elt F) (Rect.unit (s := S256) off S1.size inb).toLoadRect f (Shape.Idx.first hn)
      = at256 (v.read (Elt F) f) n := by
  subst h
  rw [View.readAt_apply]; unfold at256
  congr 1; funext a; apply Fin.ext; fin_cases a; simp [Shape.Idx.first, ix1, Nat.mod_eq_of_lt hlt]

/-- A block of query rows written in its two halves. -/
theorem st_pairB (v : View sig κ sp S1x2x256x256 e) (f : v.ty.Contents (Elt F)) (inb inb')
    (w w' : Vec F S1x1x256x256 e) (L : List (View.Piece (Elt F) S1x2x256x256 e)) :
    v.read (Elt F) (v.writes (Elt F) f (⟨Rect.unit (s := S1x2x256x256) ![0, 1, 0, 0] S1x1x256x256.size inb, w'⟩
        :: ⟨Rect.unit (s := S1x2x256x256) ![0, 0, 0, 0] S1x1x256x256.size inb', w⟩ :: L)) = pairB w w' := by
  funext y
  unfold pairB
  idx_vars y
  by_cases hc : (y1 : ℕ) = 0
  · refine Eq.trans ?_ (if_pos hc).symm
    refine (View.read_writes_cons_unit_of_not_mem v f inb w' _ _ rfl 1 (by
      show (y1 : ℕ) < 1 ∨ 1 + 1 ≤ (y1 : ℕ); omega)).trans ?_
    refine View.read_writes_cons_unit_of_mem v f inb' w L _ (ix4 0 0 y2 y3) rfl fun a => ?_
    fin_cases a <;> simp [ix4, hc]
  · refine Eq.trans ?_ (if_neg hc).symm
    refine View.read_writes_cons_unit_of_mem v f inb w' _ _ (ix4 0 0 y2 y3) rfl fun a => ?_
    fin_cases a <;> simp [ix4]
    omega

end Cert.Kernel.Swa
end
-- ==== Proof.Kernel.Own.lean ====
module

public import proofs.«01_k».proof.Proof.Kernel.Reads
public import Idealize.ShloMosaic.Lib.Exec
public import Idealize.ShloMosaic.Lib.Tactic
public import Idealize.ShloMosaic.Lib.Pipeline.Kit

/-!
Ownership of a grid point's buffers, at the contents named by the records of `Steps`.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The buffer a memref names, held at contents. -/
abbrev held (c : Dev nD) {sp : Space} {s : Shape} {e : EltTy} (a : Memref sig .tc sp s e)
    (f : Buf (Elt F) (a.view.loc (c : Thread nD τ))) : sProp 𝕄 :=
  iprop(a.view.loc (c : Thread nD τ) ↦[a.view.set]{fullShare} f)

/-- The buffer a memref names, read as `X`. -/
abbrev reads (c : Dev nD) {sp : Space} {s : Shape} {e : EltTy} (a : Memref sig .tc sp s e) (X : Vec F s e) : sProp 𝕄 :=
  owns (c : Thread nD τ) a fullShare X

theorem reads_intro (c : Dev nD) {sp : Space} {s : Shape} {e : EltTy} {a : Memref sig .tc sp s e} {X : Vec F s e}
    {f : Buf (Elt F) (a.view.loc (c : Thread nD τ))} (h : a.view.read (Elt F) f = X) :
    held (F := F) c a f ⊢ reads c a X := by
  unfold reads owns
  iintro H
  iexists f
  isplitr
  · ipureintro; exact h
  · iexact H

section
variable (c : Dev nD)
  (arg2 : Memref sig .tc .smem S256 .i32)
  (arg3 : Memref sig .tc .smem S256 .i32)
  (arg4 : Memref sig .tc .smem S256 .i32)
  (arg5 : Memref sig .tc .smem S4x2 .f32)
  (arg6 : Memref sig .tc .smem S4x2 .f32)
  (arg7 : Memref sig .tc .smem S4 .f32)
  (arg8 : Memref sig .tc .smem S4x2 .f32)
  (arg9 : Memref sig .tc .smem S4x2 .f32)
  (arg10 : Memref sig .tc .vmem S1x2x256x256 .fp8e4m3)
  (arg11 : Memref sig .tc .vmem S1x2x256x256 .fp8e5m2)
  (arg12 : Memref sig .tc .vmem S1x2x256x256 .bf16)
  (arg13 : Memref sig .tc .vmem S1x2x1x256 .f32)
  (arg14 : Memref sig .tc .vmem S1x256 .i32)
  (arg15 : Memref sig .tc .vmem S1x256x256 .fp8e4m3)
  (arg16 : Memref sig .tc .vmem S1x256x256 .fp8e4m3)
  (arg17 : Memref sig .tc .vmem S1x256 .i32)
  (arg18 : Memref sig .tc .vmem S1x2x256x256 .bf16)
  (arg19 : Memref sig .tc .vmem S1x256x256 .bf16)
  (arg20 : Memref sig .tc .vmem S1x256x256 .bf16)
  (arg21 : Memref sig .tc .vmem S17x2x256x256 .fp8e4m3)
  (arg22 : Memref sig .tc .vmem S17x2x256x256 .fp8e5m2)
  (arg23 : Memref sig .tc .vmem S17x2x1x256 .f32)
  (arg24 : Memref sig .tc .vmem S17x2x1x256 .f32)
  (arg25 : Memref sig .tc .vmem S17x1x256 .i32)
  (arg26 : Memref sig .tc .vmem S17x2x256x256 .f32)
  (arg27 : Memref sig .tc .vmem S256x256 .bf16)
  (arg28 : Memref sig .tc .vmem S256x256 .i32)
  (arg29 : Memref sig .tc .vmem S2x256x256 .f32)
  (arg30 : Memref sig .tc .vmem S2x256x256 .f32)

/-- The tables: the three prefetched ones at the half share the region hands to the body. -/
def tblOwn (T : Tbl F) : sProp 𝕄 :=
  iprop(owns (c : Thread nD τ) arg2 fullShare.right T.nhi ∗ owns (c : Thread nD τ) arg3 fullShare.right T.sf
    ∗ owns (c : Thread nD τ) arg4 fullShare.right T.sl ∗ reads c arg5 T.qk ∗ reads c arg6 T.dov
    ∗ reads c arg7 T.ks ∗ reads c arg8 T.qs ∗ reads c arg9 T.dos)

/-- The input blocks. -/
def blkOwn (B : Blk F) : sProp 𝕄 :=
  iprop(reads c arg10 B.q ∗ reads c arg11 B.o ∗ reads c arg12 B.out ∗ reads c arg13 B.lse ∗ reads c arg14 B.sgq
    ∗ reads c arg15 B.k ∗ reads c arg16 B.v ∗ reads c arg17 B.sgk)

/-- The scratch buffers. -/
def stOwn (st : St F) : sProp 𝕄 :=
  iprop(reads c arg21 st.q ∗ reads c arg22 st.o ∗ reads c arg23 st.lse ∗ reads c arg24 st.dl ∗ reads c arg25 st.sg
    ∗ reads c arg26 st.dq ∗ reads c arg27 st.kt ∗ reads c arg28 st.sc ∗ reads c arg29 st.dk ∗ reads c arg30 st.dv)
end
end Cert.Kernel.Swa
end
-- ==== Proof.Kernel.Trip.lean ====
module

public import proofs.«01_k».proof.Proof.Kernel.Own
public import proofs.«01_k».proof.Proof.Gen.Kernel.Loops
public import Idealize.ShloMosaic.Lib.Tactic.Stretches

/-!
One trip of the loop over query tiles does what `trip` says.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)
  (arg0 arg1 v6 v30 : BitVec 32)

set_option maxHeartbeats 4000000 in
theorem tripRun (k0_h2 : k0_cond2 i = 1#1) (k0_hw1 : k0_chk1 i v30) (k : Fin (k0_t1_loop v30).trips)
    (hk : tt i - 16 + k.val < 256) (hv6 : v6 = BitVec.ofNat 32 (tt i - 16)) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1 k ())
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trip T B ⟨gg i, gg_lt i⟩ (tt i - 16) k.val st)) := by
  unfold tblOwn blkOwn stOwn reads owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  subst hv6
  have h16 : 16 ≤ tt i := (cond2_iff i).1 k0_h2
  have hk256 : k.val < 256 := by omega
  have hw2 : ∀ a b, k0_chk2 i v30 k a b := fun a b => chk2 h16 k hk a b
  have hv95 : Scalar.addi (BitVec.ofNat 32 (tt i - 16)) (Scf.iv 0#32 1#32 k.val) = BitVec.ofNat 32 (tt i - 16 + k.val) := by
    rw [← sub_tt i h16]; exact sum_word i h16 k
  have ha : arg3.view.readAt (Elt F) (Rect.unit (s := S256) (k0_off9 i) S1.size (k0_off9_inb i k0_h2)).toLoadRect g3
      (Shape.Idx.first (numel1_S1.symm ▸ Nat.one_pos)) = at256 T.sf (tt i - 16) := by
    rw [← e3]; exact ld_tile _ _ _ _ _ (by have := tt_lt i; omega) (off9_eq i h16)
  have hb : arg4.view.readAt (Elt F) (Rect.unit (s := S256) (k0_off10 i v30 k) S1.size (k0_off10_inb i v30 k0_hw1 k k0_h2)).toLoadRect g4
      (Shape.Idx.first (numel1_S1.symm ▸ Nat.one_pos)) = at256 T.sl (tt i - 16 + k.val) := by
    rw [← e4]; exact ld_tile _ _ _ _ _ hk (off10_eq h16 k hk)
  by_cases hm : Masked k.val (at256 T.sf (tt i - 16)) (at256 T.sl (tt i - 16 + k.val))
  · have h3 : k0_cond3 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact (cond3_iff k hk256 _ _).2 hm
    have h4 : ¬ k0_cond4 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact fun h => (cond4_iff k hk256 _ _).1 h hm
    sl_unfold [k0_t1_body]
    sl_exec
    sl_step
    isplitl [H2 H3 H4 H5 H6 H7 H8 H9]; · sl_close
    isplitl [H10 H11 H12 H13 H14 H15 H16 H17]; · sl_close
    isplitl [H21]; · iexists g21; isplitr; · ipureintro; exact e21
                     · iexact H21
    isplitl [H22]; · iexists g22; isplitr; · ipureintro; exact e22
                     · iexact H22
    isplitl [H23]; · iexists g23; isplitr; · ipureintro; exact e23
                     · iexact H23
    isplitl [H24]; · iexists g24; isplitr; · ipureintro; exact e24
                     · iexact H24
    isplitl [H25]; · iexists g25; isplitr; · ipureintro; exact e25
                     · iexact H25
    isplitl [H26]
    · iexists _
      isplitr; rotate_left
      · iexact H26
      · ipureintro
        refine (st_row _ _ _ _ _ (slot (tt i - 16 + k.val)) 1 (off15_eq h16 k hk)).trans (congrArg₂ (setRow · (slot (tt i - 16 + k.val)) 1 ·)
          ((st_row _ _ _ _ _ (slot (tt i - 16 + k.val)) 0 (off12_eq h16 k hk)).trans (congrArg₂ (setRow · (slot (tt i - 16 + k.val)) 0 ·) e26 ?_)) ?_)
        · sl_unfold_run_names
          simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
          unfold dqT dsT eT
          rw [if_pos hm]; all_goals first | rfl | (sl_open_pay; rfl)
        · sl_unfold_run_names
          simp only [ld_row _ _ _ (slot (tt i - 16 + k.val)) 1 (off15_eq h16 k hk), st_row _ _ _ _ _ (slot (tt i - 16 + k.val)) 0 (off12_eq h16 k hk), row_setRow_one, View.writes_nil]
          simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
          unfold dqT dsT eT
          rw [if_pos hm]; all_goals first | rfl | (sl_open_pay; rfl)
    isplitl [H27]; · iexists g27; isplitr; · ipureintro; exact e27
                     · iexact H27
    isplitl [H28]; · iexists g28; isplitr; · ipureintro; exact e28
                     · iexact H28
    isplitl [H29]
    · iexists _
      isplitr; rotate_left
      · iexact H29
      · ipureintro
        refine (st_row2 _ _ _ _ _ 1 rfl).trans (congrArg₂ (setRow2 · 1 ·) ((st_row2 _ _ _ _ _ 0 rfl).trans (congrArg₂ (setRow2 · 0 ·) e29 ?_)) ?_)
        all_goals
          sl_unfold_run_names
          simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
          unfold dkT dsT eT
          rw [if_pos hm]; all_goals first | rfl | (sl_open_pay; rfl)
    iexists _
    isplitr; rotate_left
    · iexact H30
    · ipureintro
      refine (st_row2 _ _ _ _ _ 1 rfl).trans (congrArg₂ (setRow2 · 1 ·) ((st_row2 _ _ _ _ _ 0 rfl).trans (congrArg₂ (setRow2 · 0 ·) e30 ?_)) ?_)
      all_goals
        sl_unfold_run_names
        simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
        unfold dvT eT
        rw [if_pos hm]; all_goals first | rfl | (sl_open_pay; rfl)
  · have h3 : ¬ k0_cond3 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact fun h => hm ((cond3_iff k hk256 _ _).1 h)
    have h4 : k0_cond4 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact (cond4_iff k hk256 _ _).2 hm
    sl_unfold [k0_t1_body]
    sl_exec
    sl_step
    isplitl [H2 H3 H4 H5 H6 H7 H8 H9]; · sl_close
    isplitl [H10 H11 H12 H13 H14 H15 H16 H17]; · sl_close
    isplitl [H21]; · iexists g21; isplitr; · ipureintro; exact e21
                     · iexact H21
    isplitl [H22]; · iexists g22; isplitr; · ipureintro; exact e22
                     · iexact H22
    isplitl [H23]; · iexists g23; isplitr; · ipureintro; exact e23
                     · iexact H23
    isplitl [H24]; · iexists g24; isplitr; · ipureintro; exact e24
                     · iexact H24
    isplitl [H25]; · iexists g25; isplitr; · ipureintro; exact e25
                     · iexact H25
    isplitl [H26]
    · iexists _
      isplitr; rotate_left
      · iexact H26
      · ipureintro
        refine (st_row _ _ _ _ _ (slot (tt i - 16 + k.val)) 1 (off21_eq h16 k hk)).trans (congrArg₂ (setRow · (slot (tt i - 16 + k.val)) 1 ·)
          ((st_row _ _ _ _ _ (slot (tt i - 16 + k.val)) 0 (off18_eq h16 k hk)).trans (congrArg₂ (setRow · (slot (tt i - 16 + k.val)) 0 ·) e26 ?_)) ?_)
        · sl_unfold_run_names
          simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
          unfold dqT dsT eT
          rw [if_neg hm]; all_goals first | rfl | (sl_open_pay; rfl)
        · sl_unfold_run_names
          simp only [ld_row _ _ _ (slot (tt i - 16 + k.val)) 1 (off21_eq h16 k hk), st_row _ _ _ _ _ (slot (tt i - 16 + k.val)) 0 (off18_eq h16 k hk), row_setRow_one, View.writes_nil]
          simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
          unfold dqT dsT eT
          rw [if_neg hm]; all_goals first | rfl | (sl_open_pay; rfl)
    isplitl [H27]; · iexists g27; isplitr; · ipureintro; exact e27
                     · iexact H27
    isplitl [H28]; · iexists g28; isplitr; · ipureintro; exact e28
                     · iexact H28
    isplitl [H29]
    · iexists _
      isplitr; rotate_left
      · iexact H29
      · ipureintro
        refine (st_row2 _ _ _ _ _ 1 rfl).trans (congrArg₂ (setRow2 · 1 ·) ((st_row2 _ _ _ _ _ 0 rfl).trans (congrArg₂ (setRow2 · 0 ·) e29 ?_)) ?_)
        all_goals
          sl_unfold_run_names
          simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
          unfold dkT dsT eT
          rw [if_neg hm]; all_goals first | rfl | (sl_open_pay; rfl)
    iexists _
    isplitr; rotate_left
    · iexact H30
    · ipureintro
      refine (st_row2 _ _ _ _ _ 1 rfl).trans (congrArg₂ (setRow2 · 1 ·) ((st_row2 _ _ _ _ _ 0 rfl).trans (congrArg₂ (setRow2 · 0 ·) e30 ?_)) ?_)
      all_goals
        sl_unfold_run_names
        simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
        unfold dvT eT
        rw [if_neg hm]; all_goals first | rfl | (sl_open_pay; rfl)

end Cert.Kernel.Swa
end
-- ==== Proof.Kernel.Drain.lean ====
module

public import proofs.«01_k».proof.Proof.Kernel.Trip
public import proofs.«01_k».proof.Proof.Gen.Kernel.Skeleton

/-!
The second phase of a grid point: the key tile against its query tiles, as `drain` says, and the blocks written out.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)
  (arg0 arg1 : BitVec 32)

/-- The loop over query tiles. -/
theorem loopRun (v6 v30 : BitVec 32) (k0_h2 : k0_cond2 i = 1#1) (k0_hw1 : k0_chk1 i v30) (hfit : Fits i v30)
    (hv6 : v6 = BitVec.ofNat 32 (tt i - 16)) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (Scf.Loop.for (k0_t1_loop v30) (k0_t1_ok i v30 k0_hw1 k0_h2) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1))
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trips T B ⟨gg i, gg_lt i⟩ (tt i - 16) st v30.toNat)) := by
  obtain ⟨n, rfl, h1, h17, hsum⟩ := hfit
  have htr : (k0_t1_loop (BitVec.ofNat 32 n)).trips = n := Fits.trips (i := i) h17
  have hn : (BitVec.ofNat 32 n).toNat = n := by rw [BitVec.toNat_ofNat]; omega
  rw [hn]
  refine BIBase.Entails.trans ?_ (Scf.wp_for frame (wpE defs₀ Variants.none (c : Thread nD τ) none) Set.univ _ _ _ _ _ _
    (fun k _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trips T B ⟨gg i, gg_lt i⟩ (tt i - 16) st k)))
    (fun k acc => ?_))
  · iintro H
    isplitl [H]
    · iexact H
    · iintro %_ H
      have e : Scf.trips (k0_t1_loop (BitVec.ofNat 32 n)).lb (k0_t1_loop (BitVec.ofNat 32 n)).ub (k0_t1_loop (BitVec.ofNat 32 n)).st = n := htr
      rw [e]
      iexact H
  · exact tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 v6 _ k0_h2 k0_hw1 k (by have : k.val < n := Nat.lt_of_lt_of_eq k.isLt htr; omega) hv6 T B _

/-- The remainder loop, of no trips. -/
theorem loopRun2 (v6 v30 v35 : BitVec 32) (k0_h2 : k0_cond2 i = 1#1) (k0_hw1 : k0_chk1 i v30) (P : sProp 𝕄) :
    P ⊢ wp frame (wpE defs₀ Variants.none (c : Thread nD τ) none) Set.univ
        (Scf.Loop.for (k0_t2_loop v30) (k0_t2_ok i v30 k0_hw1 k0_h2) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1 v35))
        fun _ => P := by
  refine BIBase.Entails.trans ?_ (Scf.wp_for frame (wpE defs₀ Variants.none (c : Thread nD τ) none) Set.univ _ _ _ _ _ _
    (fun k _ => P) (fun k acc => (Nat.not_lt_zero _ (Nat.lt_of_lt_of_eq k.isLt (trips2_eq v30))).elim))
  iintro H
  isplitl [H]
  · iexact H
  · iintro %_ H; iexact H

/-- Both loops, and the tile number that the part returns. -/
theorem loopsRun (v6 v30 v35 : BitVec 32) (k0_h2 : k0_cond2 i = 1#1) (k0_hw1 : k0_chk1 i v30) (hfit : Fits i v30)
    (hv6 : v6 = BitVec.ofNat 32 (tt i - 16)) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (do
          Scf.Loop.for (k0_t1_loop v30) (k0_t1_ok i v30 k0_hw1 k0_h2) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1)
          Scf.Loop.for (k0_t2_loop v30) (k0_t2_ok i v30 k0_hw1 k0_h2) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1 v35)
          Pure.pure v6)
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trips T B ⟨gg i, gg_lt i⟩ (tt i - 16) st v30.toNat)) := by
  rw [wp_bind]
  refine (loopRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 v6 v30 k0_h2 k0_hw1 hfit hv6 T B st).trans (wp_mono _ _ _ fun _ => ?_)
  rw [wp_bind]
  refine (loopRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 v6 v30 v35 k0_h2 k0_hw1 _).trans (wp_mono _ _ _ fun _ => ?_)
  iintro H
  sl_step
  iexact H

set_option maxHeartbeats 4000000 in
theorem part20Run (k0_h2 : k0_cond2 i = 1#1) (T : Tbl F) (B : Blk F) (st : St F) (hfit : Fits i (at256 T.nhi (tt i - 16))) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) k0_h2)
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (drain T B ⟨gg i, gg_lt i⟩ (tt i - 16) st)) := by
  have h16 : 16 ≤ tt i := (cond2_iff i).1 k0_h2
  unfold tblOwn blkOwn stOwn reads owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  have h2 : arg2.view.readAt (Elt F) (Rect.unit (s := S256) (k0_off8 i) S1.size (k0_off8_inb i k0_h2)).toLoadRect g2
      (Shape.Idx.first (numel1_S1.symm ▸ Nat.one_pos)) = at256 T.nhi (tt i - 16) := by
    rw [← e2]; exact ld_tile _ _ _ _ _ (by have := tt_lt i; omega) (off8_eq i h16)
  have hchk : k0_chk1 i (arg2.view.readAt (Elt F) (Rect.unit (s := S256) (k0_off8 i) S1.size (k0_off8_inb i k0_h2)).toLoadRect g2
      (Shape.Idx.first (numel1_S1.symm ▸ Nat.one_pos))) := h2 ▸ chk1 hfit
  rw [k0_part20_eq_skeleton]
  sl_exec
  have hr : part20Run.sl.r (F := F) c i arg2 k0_h2 g2 = at256 T.nhi (tt i - 16) := h2
  have hv : part20Run.sl.v6 i = BitVec.ofNat 32 (tt i - 16) := sub_tt i h16
  iapply (wp_wand_r Idealize.ShloMosaic.frame (wpE defs₀ Variants.none (c : Thread nD τ) none) Set.univ)
  isplitl
  · iapply (loopsRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) _ _ _ k0_h2 _ (by rw [hr]; exact hfit) hv T B (enter B st))
    unfold tblOwn blkOwn stOwn reads owns
    isplitl [H2 H3 H4 H5 H6 H7 H8 H9]; · sl_close
    isplitl [H10 H11 H12 H13 H14 H15 H16 H17]; · sl_close
    isplitl [H21]; · iexists g21; isplitr; · ipureintro; exact e21
                     · iexact H21
    isplitl [H22]; · iexists g22; isplitr; · ipureintro; exact e22
                     · iexact H22
    isplitl [H23]; · iexists g23; isplitr; · ipureintro; exact e23
                     · iexact H23
    isplitl [H24]; · iexists g24; isplitr; · ipureintro; exact e24
                     · iexact H24
    isplitl [H25]; · iexists g25; isplitr; · ipureintro; exact e25
                     · iexact H25
    isplitl [H26]; · iexists g26; isplitr; · ipureintro; exact e26
                     · iexact H26
    isplitl [H27]
    · iexists _; isplitr; rotate_left
      · iexact H27
      · ipureintro; exact (st_all _ _ _ _ _ zeros2).trans (congrArg k0_pay65 ((ld_all _ _ _ zeros3).trans e15))
    isplitl [H28]
    · iexists _; isplitr; rotate_left
      · iexact H28
      · ipureintro; exact (st_all _ _ _ _ _ zeros2).trans (congrArg k0_pay66 ((ld_all _ _ _ zeros2).trans e17))
    isplitl [H29]
    · iexists _; isplitr; rotate_left
      · iexact H29
      · ipureintro; exact (st_all _ _ _ _ _ zeros3)
    · iexists _; isplitr; rotate_left
      · iexact H30
      · ipureintro; exact (st_all _ _ _ _ _ zeros3)
  · iintro %_ H
    rw [hr]
    iexact H

end Cert.Kernel.Swa
-- ==== Proof.Kernel.Fill.lean ====
module

public import proofs.«01_k».proof.Proof.Kernel.Own
public import proofs.«01_k».proof.Proof.Gen.Kernel.Skeleton

/-!
The first phase of a grid point: the query block that arrives is put into the rings, as `fill` says.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)
  (arg0 arg1 : BitVec 32)

/-- The program of the first phase. -/
def fillProg (k0_h1 : k0_cond1 i = 1#1) : Prog (TpuEff nD τ sig (Elt F) Λ₀ .tc) PUnit := do
  let v6 : BitVec 32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 k0_h1
  k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h1 v6
  let v94 : FVec F S1x256 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h1 v6
  Prog.lift (.store arg24 (Rect.unit (s := S17x2x1x256) (k0_off6 i) S1x1x1x256.size (k0_off6_inb i k0_h1)) (k0_pay1 v94) Finset.univ (View.stores_vmem_bits_univ h_S1x1x1x256 rfl) (.inl rfl))
  let v101 : Vec F S1x1x256x256 .f32 ← Prog.lift (.load arg26 (Rect.unit (s := S17x2x256x256) (k0_off5 i) S1x1x256x256.size (k0_off5_inb i k0_h1)).toLoadRect (View.loadsAt_vmem h_S1x1x256x256))
  Prog.lift (.store arg26 (Rect.unit (s := S17x2x256x256) (k0_off5 i) S1x1x256x256.size (k0_off5_inb i k0_h1)) (k0_pay2 (F := F)) Finset.univ (View.stores_vmem_bits_univ h_S1x1x256x256 rfl) (.inl rfl))
  pure ⟨⟩

set_option maxHeartbeats 4000000 in
theorem fillRun (k0_h1 : k0_cond1 i = 1#1) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (fillProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) k0_h1)
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (fill T B ⟨gg i, gg_lt i⟩ (tt i) st)) := by
  unfold tblOwn blkOwn stOwn reads owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  unfold fillProg
  sl_exec
  sl_step
  isplitl [H2 H3 H4 H5 H6 H7 H8 H9]; · sl_close
  isplitl [H10 H11 H12 H13 H14 H15 H16 H17]; · sl_close
  isplitl [H21]
  · iexists _
    isplitr; rotate_left
    · iexact H21
    · ipureintro
      refine (st_row _ _ _ _ _ (slot (tt i)) 1 (off5_eq i)).trans (congrArg₂ (setRow · (slot (tt i)) 1 ·)
          ((st_row _ _ _ _ _ (slot (tt i)) 0 (off2_eq i)).trans (congrArg₂ (setRow · (slot (tt i)) 0 ·) e21 ?_)) ?_)
      · exact congrArg k0_pay6 ((ld_rowB _ _ _ 0 rfl).trans (congrArg (rowB · 0) e10))
      · exact congrArg k0_pay11 ((ld_rowB _ _ _ 1 rfl).trans (congrArg (rowB · 1) e10))
  isplitl [H22]
  · iexists _
    isplitr; rotate_left
    · iexact H22
    · ipureintro
      refine (st_row _ _ _ _ _ (slot (tt i)) 1 (off5_eq i)).trans (congrArg₂ (setRow · (slot (tt i)) 1 ·)
          ((st_row _ _ _ _ _ (slot (tt i)) 0 (off2_eq i)).trans (congrArg₂ (setRow · (slot (tt i)) 0 ·) e22 ?_)) ?_)
      · exact congrArg k0_pay7 ((ld_rowB _ _ _ 0 rfl).trans (congrArg (rowB · 0) e11))
      · exact congrArg k0_pay12 ((ld_rowB _ _ _ 1 rfl).trans (congrArg (rowB · 1) e11))
  isplitl [H23]
  · iexists _
    isplitr; rotate_left
    · iexact H23
    · ipureintro
      refine (st_rowL _ _ _ _ _ (slot (tt i)) 1 (off6_eq i)).trans (congrArg₂ (setRowL · (slot (tt i)) 1 ·)
          ((st_rowL _ _ _ _ _ (slot (tt i)) 0 (off3_eq i)).trans (congrArg₂ (setRowL · (slot (tt i)) 0 ·) e23 ?_)) ?_)
      · exact congrArg k0_pay8 ((ld_rowBL _ _ _ 0 rfl).trans (congrArg (rowBL · 0) e13))
      · exact congrArg k0_pay13 ((ld_rowBL _ _ _ 1 rfl).trans (congrArg (rowBL · 1) e13))
  isplitl [H24]
  · iexists _
    isplitr; rotate_left
    · iexact H24
    · ipureintro
      refine (st_rowL _ _ _ _ _ (slot (tt i)) 1 (off6_eq i)).trans (congrArg₂ (setRowL · (slot (tt i)) 1 ·)
          ((st_rowL _ _ _ _ _ (slot (tt i)) 0 (off3_eq i)).trans (congrArg₂ (setRowL · (slot (tt i)) 0 ·) e24 ?_)) ?_)
      · have h9 : fillRun.sl.r (F := F) c i arg9 k0_h1 g9 = T.dos (ix2 ⟨gg i, gg_lt i⟩ 0) :=
          (ld_pair _ _ _ _ ⟨gg i, gg_lt i⟩ 0 (off4_eq i)).trans (congrFun e9 _)
        rw [h9]
        exact congrArg₂ (k0_pay9 · _ ·) ((ld_rowB _ _ _ 0 rfl).trans (congrArg (rowB · 0) e11))
          ((ld_rowB _ _ _ 0 rfl).trans (congrArg (rowB · 0) e12))
      · delta fillRun.sl.r_2 fillRun.sl.r_1
        have h9 : arg9.view.readAt (Elt F) (Rect.unit (s := S4x2) (k0_off7 i) S1x1.size (k0_off7_inb i k0_h1)).toLoadRect g9
            (Shape.Idx.first (numel1_S1x1.symm ▸ Nat.one_pos)) = T.dos (ix2 ⟨gg i, gg_lt i⟩ 1) :=
          (ld_pair _ _ _ _ ⟨gg i, gg_lt i⟩ 1 (off7_eq i)).trans (congrFun e9 _)
        refine congrArg k0_pay1 ?_
        refine Eq.trans ?_ (congrArg (k0_pay14 _ · _) h9)
        exact congrArg₂ (k0_pay14 · _ ·) ((ld_rowB _ _ _ 1 rfl).trans (congrArg (rowB · 1) e11))
          ((ld_rowB _ _ _ 1 rfl).trans (congrArg (rowB · 1) e12))
  isplitl [H25]
  · iexists _
    isplitr; rotate_left
    · iexact H25
    · ipureintro
      refine (st_rowS _ _ _ _ _ (slot (tt i)) (off1_eq i)).trans (congrArg₂ (setRowS · (slot (tt i)) ·) e25 ?_)
      exact congrArg k0_pay5 ((ld_all _ _ _ zeros2).trans e14)
  isplitl [H26]
  · iexists _
    isplitr; rotate_left
    · iexact H26
    · ipureintro
      exact (st_row _ _ _ _ _ (slot (tt i)) 1 (off5_eq i)).trans (congrArg (setRow · (slot (tt i)) 1 _)
          ((st_row _ _ _ _ _ (slot (tt i)) 0 (off2_eq i)).trans (congrArg (setRow · (slot (tt i)) 0 _) e26)))
  sl_close

end Cert.Kernel.Swa
-- ==== Proof.Kernel.Body.lean ====
module

public import proofs.«01_k».proof.Proof.Kernel.Drain
public import proofs.«01_k».proof.Proof.Kernel.Fill

/-!
One grid point of the kernel: both phases.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)

/-- The program of the second phase. -/
def drainProg (arg0 arg1 : BitVec 32) (k0_h2 : k0_cond2 i = 1#1) : Prog (TpuEff nD τ sig (Elt F) Λ₀ .tc) PUnit := do
  let v6 : BitVec 32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2
  let v70 : BitVec 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h2 v6
  let v72 : Vec F S1x1x256x256 .f32 ← Prog.lift (.load arg26 (Rect.unit (s := S17x2x256x256) (k0_off41 i) S1x1x256x256.size (k0_off41_inb i k0_h2)).toLoadRect (View.loadsAt_vmem h_S1x1x256x256))
  let v75 : Elt F .f32 ← smemLoad arg7 (Rect.unit (s := S4) (k0_off42 i) S1.size (k0_off42_inb i k0_h2)) numel1_S1 rfl
  let v80 : Vec F S1x1x256x256 .bf16 ← Prog.lift (.load arg18 (Rect.unit (s := S1x2x256x256) ![0, 0, 0, 0] S1x1x256x256.size inb_S1x2x256x256_S1x1x256x256_0_0_0_0).toLoadRect (View.loadsAt_vmem h_S1x1x256x256))
  Prog.lift (.store arg18 (Rect.unit (s := S1x2x256x256) ![0, 0, 0, 0] S1x1x256x256.size inb_S1x2x256x256_S1x1x256x256_0_0_0_0) (k0_pay3 v72 v75) Finset.univ (View.stores_vmem h_S1x1x256x256 (harg18.storeExact_slice rfl _ packedbf16_S1x2x256x256_S1x1x256x256_0_0_0_0) (fun _ => rfl)) (.inl rfl))
  let v84 : Vec F S1x1x256x256 .f32 ← Prog.lift (.load arg26 (Rect.unit (s := S17x2x256x256) (k0_off43 i) S1x1x256x256.size (k0_off43_inb i k0_h2)).toLoadRect (View.loadsAt_vmem h_S1x1x256x256))
  let v87 : Elt F .f32 ← smemLoad arg7 (Rect.unit (s := S4) (k0_off42 i) S1.size (k0_off42_inb i k0_h2)) numel1_S1 rfl
  let v92 : Vec F S1x1x256x256 .bf16 ← Prog.lift (.load arg18 (Rect.unit (s := S1x2x256x256) ![0, 1, 0, 0] S1x1x256x256.size inb_S1x2x256x256_S1x1x256x256_0_1_0_0).toLoadRect (View.loadsAt_vmem h_S1x1x256x256))
  Prog.lift (.store arg18 (Rect.unit (s := S1x2x256x256) ![0, 1, 0, 0] S1x1x256x256.size inb_S1x2x256x256_S1x1x256x256_0_1_0_0) (k0_pay4 v84 v87) Finset.univ (View.stores_vmem h_S1x1x256x256 (harg18.storeExact_slice rfl _ packedbf16_S1x2x256x256_S1x1x256x256_0_1_0_0) (fun _ => rfl)) (.inl rfl))
  pure ⟨⟩

set_option maxHeartbeats 4000000 in
theorem drainRun (k0_h2 : k0_cond2 i = 1#1) (T : Tbl F) (B : Blk F) (st : St F) (hfit : Fits i (at256 T.nhi (tt i - 16)))
    (X18 : Vec F S1x2x256x256 .bf16) (X19 X20 : Vec F S1x256x256 .bf16) :
    iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st) ∗ reads c arg18 X18 ∗ reads c arg19 X19 ∗ reads c arg20 X20)
      ⊢ wp frame (wpE defs₀ Variants.none (c : Thread nD τ) none) Set.univ
        (drainProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) k0_h2)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (drain T B ⟨gg i, gg_lt i⟩ (tt i - 16) st))
          ∗ reads c arg18 (dqOut T ⟨gg i, gg_lt i⟩ (tt i - 16) (drain T B ⟨gg i, gg_lt i⟩ (tt i - 16) st))
          ∗ reads c arg19 (dkOut T ⟨gg i, gg_lt i⟩ (drain T B ⟨gg i, gg_lt i⟩ (tt i - 16) st))
          ∗ reads c arg20 (dvOut T ⟨gg i, gg_lt i⟩ (drain T B ⟨gg i, gg_lt i⟩ (tt i - 16) st))) := by
  have h16 : 16 ≤ tt i := (cond2_iff i).1 k0_h2
  unfold drainProg
  rw [wp_bind]
  iintro ⟨HA, HB⟩
  iapply (wp_wand_r Idealize.ShloMosaic.frame (wpE defs₀ Variants.none (c : Thread nD τ) none) Set.univ)
  isplitl [HA]
  · iapply (part20Run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 k0_h2 T B st hfit)
    iexact HA
  generalize drain T B ⟨gg i, gg_lt i⟩ (tt i - 16) st = st'
  unfold tblOwn blkOwn stOwn reads owns
  icases HB with ⟨⟨%g18, %e18, H18⟩, ⟨%g19, %e19, H19⟩, ⟨%g20, %e20, H20⟩⟩
  iintro %v6 ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  have h7 : arg7.view.readAt (Elt F) (Rect.unit (s := S4) (k0_off42 i) S1.size (k0_off42_inb i k0_h2)).toLoadRect g7
      (Shape.Idx.first (numel1_S1.symm ▸ Nat.one_pos)) = T.ks (ix1 ⟨gg i, gg_lt i⟩) :=
    (ld_four _ _ _ _ ⟨gg i, gg_lt i⟩ (off42_eq i)).trans (congrFun e7 _)
  sl_exec
  sl_step
  isplitl [H2 H3 H4 H5 H6 H7 H8 H9 H10 H11 H12 H13 H14 H15 H16 H17 H21 H22 H23 H24 H25 H26 H27 H28 H29 H30]
  · isplitl [H2 H3 H4 H5 H6 H7 H8 H9]; · sl_close
    isplitl [H10 H11 H12 H13 H14 H15 H16 H17]; · sl_close
    sl_close
  isplitl [H18]
  · iexists _; isplitr; rotate_left
    · iexact H18
    · ipureintro
      refine (st_pairB _ _ _ _ _ _ _).trans ?_
      exact congrArg₂ pairB
        (congrArg₂ k0_pay3 ((ld_row _ _ _ (slot (tt i - 16)) 0 (off41_eq i h16)).trans (congrArg (row · _ _) e26)) h7)
        (congrArg₂ k0_pay4 ((ld_row _ _ _ (slot (tt i - 16)) 1 (off43_eq i h16)).trans (congrArg (row · _ _) e26)) h7)
  isplitl [H19]
  · iexists _; isplitr; rotate_left
    · iexact H19
    · ipureintro
      refine (st_all _ _ _ _ _ zeros3).trans ?_
      unfold dkOut
      have a : drainRun.sl.r (F := F) c i arg8 k0_h2 g8 = T.qs (ix2 ⟨gg i, gg_lt i⟩ 0) :=
        (ld_pair _ _ _ _ ⟨gg i, gg_lt i⟩ 0 (off39_eq i)).trans (congrFun e8 _)
      have b : drainRun.sl.r_2 (F := F) c i arg8 k0_h2 g8 = T.qs (ix2 ⟨gg i, gg_lt i⟩ 1) :=
        (ld_pair _ _ _ _ ⟨gg i, gg_lt i⟩ 1 (off40_eq i)).trans (congrFun e8 _)
      rw [a, b]
      exact congrArg₂ (k0_pay75 · _ · _) ((ld_row2 _ _ _ 0 rfl).trans (congrArg (row2 · 0) e29)) ((ld_row2 _ _ _ 1 rfl).trans (congrArg (row2 · 1) e29))
  · iexists _; isplitr; rotate_left
    · iexact H20
    · ipureintro
      refine (st_all _ _ _ _ _ zeros3).trans ?_
      unfold dvOut
      have a : drainRun.sl.r_1 (F := F) c i arg9 k0_h2 g9 = T.dos (ix2 ⟨gg i, gg_lt i⟩ 0) :=
        (ld_pair _ _ _ _ ⟨gg i, gg_lt i⟩ 0 (off39_eq i)).trans (congrFun e9 _)
      have b : drainRun.sl.r_3 (F := F) c i arg9 k0_h2 g9 = T.dos (ix2 ⟨gg i, gg_lt i⟩ 1) :=
        (ld_pair _ _ _ _ ⟨gg i, gg_lt i⟩ 1 (off40_eq i)).trans (congrFun e9 _)
      rw [a, b]
      exact congrArg₂ (k0_pay76 · _ · _) ((ld_row2 _ _ _ 0 rfl).trans (congrArg (row2 · 0) e30)) ((ld_row2 _ _ _ 1 rfl).trans (congrArg (row2 · 1) e30))

/-- The scratch after the first phase. -/
def fillSt (T : Tbl F) (B : Blk F) (st : St F) : St F := if tt i < 256 then fill T B ⟨gg i, gg_lt i⟩ (tt i) st else st

/-- The scratch after a grid point. -/
def stepSt (T : Tbl F) (B : Blk F) (st : St F) : St F :=
  if 16 ≤ tt i then drain T B ⟨gg i, gg_lt i⟩ (tt i - 16) (fillSt i T B st) else fillSt i T B st

/-- What a grid point leaves in the buffer of the query gradient. -/
def dqBuf (T : Tbl F) (B : Blk F) (st : St F) (X : Vec F S1x2x256x256 .bf16) : Vec F S1x2x256x256 .bf16 :=
  if 16 ≤ tt i then dqOut T ⟨gg i, gg_lt i⟩ (tt i - 16) (stepSt i T B st) else X

/-- What a grid point leaves in the buffer of the key gradient. -/
def dkBuf (T : Tbl F) (B : Blk F) (st : St F) (X : Vec F S1x256x256 .bf16) : Vec F S1x256x256 .bf16 :=
  if 16 ≤ tt i then dkOut T ⟨gg i, gg_lt i⟩ (stepSt i T B st) else X

/-- What a grid point leaves in the buffer of the value gradient. -/
def dvBuf (T : Tbl F) (B : Blk F) (st : St F) (X : Vec F S1x256x256 .bf16) : Vec F S1x256x256 .bf16 :=
  if 16 ≤ tt i then dvOut T ⟨gg i, gg_lt i⟩ (stepSt i T B st) else X

/-- One grid point: tables and blocks are kept, the scratch makes one step, the outputs are written in the second phase. -/
theorem bodyRun (T : Tbl F) (B : Blk F) (st : St F) (hfit : 16 ≤ tt i → Fits i (at256 T.nhi (tt i - 16)))
    (X18 : Vec F S1x2x256x256 .bf16) (X19 X20 : Vec F S1x256x256 .bf16) :
    iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st) ∗ reads c arg18 X18 ∗ reads c arg19 X19 ∗ reads c arg20 X20)
      ⊢ wp frame (wpE defs₀ Variants.none (c : Thread nD τ) none) Set.univ
        (cc0_swa_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (stepSt i T B st))
          ∗ reads c arg18 (dqBuf i T B st X18) ∗ reads c arg19 (dkBuf i T B st X19) ∗ reads c arg20 (dvBuf i T B st X20)) := by
  rw [cc0_swa_bwd_eq_skeleton]
  have e : cc0_swa_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 = ((
      if h1 : k0_cond1 i = 1#1 then fillProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h1 else pure ⟨⟩) >>= fun _ => (
      if h2 : k0_cond2 i = 1#1 then drainProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h2 else pure ⟨⟩) >>= fun _ =>
      pure ⟨⟩) := by
    unfold cc0_swa_bwd_skel fillProg drainProg
    by_cases h1 : k0_cond1 i = 1#1 <;> by_cases h2 : k0_cond2 i = 1#1 <;>
      simp only [h1, h2, dite_true, dite_false, bind_assoc, pure_bind]
  rw [e, wp_bind]
  have hfill : iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st) ∗ reads c arg18 X18 ∗ reads c arg19 X19 ∗ reads c arg20 X20)
      ⊢ wp frame (wpE defs₀ Variants.none (c : Thread nD τ) none) Set.univ
        (if h1 : k0_cond1 i = 1#1 then fillProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h1 else pure ⟨⟩)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (fillSt i T B st))
          ∗ reads c arg18 X18 ∗ reads c arg19 X19 ∗ reads c arg20 X20) := by
    by_cases h1 : k0_cond1 i = 1#1
    · rw [dif_pos h1]
      unfold fillSt
      rw [if_pos ((cond1_iff i).1 h1)]
      iintro ⟨HA, HB⟩
      iapply (wp_wand_r Idealize.ShloMosaic.frame (wpE defs₀ Variants.none (c : Thread nD τ) none) Set.univ)
      isplitl [HA]
      · iapply (fillRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h1 T B st)
        iexact HA
      · iintro %_ HA
        isplitl [HA]
        · iexact HA
        · iexact HB
    · rw [dif_neg h1]
      unfold fillSt
      rw [if_neg fun h => h1 ((cond1_iff i).2 h)]
      iintro H
      sl_step
      iexact H
  refine hfill.trans (wp_mono _ _ _ fun _ => ?_)
  rw [wp_bind]
  refine BIBase.Entails.trans (Q := wp frame (wpE defs₀ Variants.none (c : Thread nD τ) none) Set.univ
        (if h2 : k0_cond2 i = 1#1 then drainProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h2 else pure ⟨⟩)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (stepSt i T B st))
          ∗ reads c arg18 (dqBuf i T B st X18) ∗ reads c arg19 (dkBuf i T B st X19) ∗ reads c arg20 (dvBuf i T B st X20))) ?_
    (wp_mono _ _ _ fun _ => ?_)
  · unfold dqBuf dkBuf dvBuf stepSt
    by_cases h2 : k0_cond2 i = 1#1
    · have h16 := (cond2_iff i).1 h2
      rw [dif_pos h2, if_pos h16, if_pos h16, if_pos h16, if_pos h16]
      exact drainRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 T B (fillSt i T B st) (hfit h16) X18 X19 X20
    · have h16 : ¬ 16 ≤ tt i := fun h => h2 ((cond2_iff i).2 h)
      rw [dif_neg h2, if_neg h16, if_neg h16, if_neg h16, if_neg h16]
      iintro H
      sl_step
      iexact H
  · iintro H
    sl_step
    iexact H

end Cert.Kernel.Swa
-- ==== Proof.Kernel.Data.lean ====
module

public import proofs.«01_k».proof.Proof.Kernel.Body
public import proofs.«01_k».proof.Proof.Gen.Kernel.Launch

/-!
What the kernel finds: the memory at the region's entry, the tables, and the input blocks of each grid point; and the
pipeline's data over them, for any invariant of the scratch buffers and any named contents of the outputs.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ)

/-- Core `c`'s memory when the region is entered: after the host operations before it. -/
@[irreducible] def V₀ (c : Dev nD) : Valuation τ sig (Elt F) := StableHlo.after hostOps0 (fun b => m (c, b))

/-- The prefetched tables' contents there. -/
def adm (p : Fin 1) : (pcfgs (F := F) p).Adm := ⟨fun k => V₀ m 0 (Proc.devRef .tc (pre0.ref k)), trivial⟩

/-- The pipeline at those tables. -/
abbrev cfgm : Pipeline.Cfg sig Λ₀ := Pipeline.pin (pcfgs (F := F)) (adm m) 0

/-- Window `w`'s block at point `t`, read off its array at the region's entry. -/
def iblk (c : Dev nD) (w : Fin 16) (t : Fin (cfgm m).N) :
    (((cfgm m).win w).xblock ((cfgm m).grid.coords t)).Idx → Elt F ((cfgm m).win w).elt :=
  (((cfgm m).win w).blk t).view.read (Elt F) (V₀ m c (Proc.devRef .tc (Pipeline.arrRef spec0 w)))

/-- The tables as the body reads them at point `t`. -/
def tblAt (c : Dev nD) (t : Fin (cfgm m).N) : Tbl F where
  nhi := V₀ m c (Proc.devRef .tc main_v58)
  sf := V₀ m c (Proc.devRef .tc main_v26)
  sl := V₀ m c (Proc.devRef .tc main_v28)
  qk := iblk m c 0 t
  dov := iblk m c 1 t
  ks := iblk m c 2 t
  qs := iblk m c 3 t
  dos := iblk m c 4 t

/-- The input blocks at point `t`. -/
def blkAt (c : Dev nD) (t : Fin (cfgm m).N) : Blk F where
  q := iblk m c 5 t
  o := iblk m c 6 t
  out := iblk m c 7 t
  lse := iblk m c 8 t
  sgq := iblk m c 9 t
  k := iblk m c 10 t
  v := iblk m c 11 t
  sgk := iblk m c 12 t

/-- The scratch buffers of the call at the values of `st`. -/
def scratch (c : Dev nD) (st : St F) : sProp 𝕄 :=
  stOwn c (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9) st

/-- The prefetched tables, at the half share the body reads them at. -/
def tables3 (c : Dev nD) : sProp 𝕄 :=
  iprop(owns (c : Thread nD τ) (Memref.whole main_v58) fullShare.right (V₀ m c (Proc.devRef .tc main_v58))
    ∗ owns (c : Thread nD τ) (Memref.whole main_v26) fullShare.right (V₀ m c (Proc.devRef .tc main_v26))
    ∗ owns (c : Thread nD τ) (Memref.whole main_v28) fullShare.right (V₀ m c (Proc.devRef .tc main_v28)))

/-- The region's invariant before point `t`: the tables, the scratch buffers at values of which `Inv` holds, and the
    generator's register. -/
def Φ (Inv : ℕ → St F → Prop) (c : Dev nD) (t : ℕ) : sProp 𝕄 :=
  iprop(tables3 m c ∗ (∃ st, ⌜Inv t st⌝ ∗ scratch c st) ∗ ∃ r, prngReg c r)

variable (Inv : Dev nD → ℕ → St F → Prop)
  (dq : Dev nD → Fin (cfgm m).N → Vec F S1x2x256x256 .bf16)
  (dk : Dev nD → Fin (cfgm m).N → Vec F S1x256x256 .bf16)
  (dv : Dev nD → Fin (cfgm m).N → Vec F S1x256x256 .bf16)

/-- What the body leaves in each window's buffer: an input's at its block, an output's at the named contents. -/
def afterW (c : Dev nD) (w : Fin 16) (t : Fin (cfgm m).N) : ((cfgm m).win w).block.Idx → Elt F ((cfgm m).win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => iblk m c 11 t
  | ⟨12, _⟩ => iblk m c 12 t
  | ⟨13, _⟩ => dq c t
  | ⟨14, _⟩ => dk c t
  | ⟨15, _⟩ => dv c t
  | ⟨_ + 16, h⟩ => absurd h (Nat.not_lt.2 (Nat.le_add_left _ _))

theorem after0 (c : Dev nD) (t : Fin (cfgm m).N) : afterW m dq dk dv c 0 t = iblk m c 0 t := rfl
theorem after1 (c : Dev nD) (t : Fin (cfgm m).N) : afterW m dq dk dv c 1 t = iblk m c 1 t := rfl
theorem after2 (c : Dev nD) (t : Fin (cfgm m).N) : afterW m dq dk dv c 2 t = iblk m c 2 t := rfl
theorem after3 (c : Dev nD) (t : Fin (cfgm m).N) : afterW m dq dk dv c 3 t = iblk m c 3 t := rfl
theorem after4 (c : Dev nD) (t : Fin (cfgm m).N) : afterW m dq dk dv c 4 t = iblk m c 4 t := rfl
theorem after5 (c : Dev nD) (t : Fin (cfgm m).N) : afterW m dq dk dv c 5 t = iblk m c 5 t := rfl
theorem after6 (c : Dev nD) (t : Fin (cfgm m).N) : afterW m dq dk dv c 6 t = iblk m c 6 t := rfl
theorem after7 (c : Dev nD) (t : Fin (cfgm m).N) : afterW m dq dk dv c 7 t = iblk m c 7 t := rfl
theorem after8 (c : Dev nD) (t : Fin (cfgm m).N) : afterW m dq dk dv c 8 t = iblk m c 8 t := rfl
theorem after9 (c : Dev nD) (t : Fin (cfgm m).N) : afterW m dq dk dv c 9 t = iblk m c 9 t := rfl
theorem after10 (c : Dev nD) (t : Fin (cfgm m).N) : afterW m dq dk dv c 10 t = iblk m c 10 t := rfl
theorem after11 (c : Dev nD) (t : Fin (cfgm m).N) : afterW m dq dk dv c 11 t = iblk m c 11 t := rfl
theorem after12 (c : Dev nD) (t : Fin (cfgm m).N) : afterW m dq dk dv c 12 t = iblk m c 12 t := rfl
theorem after13 (c : Dev nD) (t : Fin (cfgm m).N) : afterW m dq dk dv c 13 t = dq c t := rfl
theorem after14 (c : Dev nD) (t : Fin (cfgm m).N) : afterW m dq dk dv c 14 t = dk c t := rfl
theorem after15 (c : Dev nD) (t : Fin (cfgm m).N) : afterW m dq dk dv c 15 t = dv c t := rfl

/-- The pipeline's data: the arrays as they are at the region's entry. -/
def dats (p : Fin 1) (c : Dev nD) : Pipeline.Dat τ (Elt F) Unit ℕ (UR sig nD τ) ℕ (Pipeline.pin (pcfgs (F := F)) (adm m) p) c where
  A w := V₀ m c (Proc.devRef .tc (Pipeline.arrRef spec0 w))
  after w t := afterW m dq dk dv c w t
  Φ t := Φ m (Inv c) c t.val
  q w := Pipeline.shareOf spec0 w
  owed _ := 0

section
variable {m} {c : Dev nD} (dat : Pipeline.Dat τ (Elt F) Unit ℕ (UR sig nD τ) ℕ (cfgm m) c)

theorem found0 (hA : dat.A 0 = V₀ m c (Proc.devRef .tc (Pipeline.arrRef spec0 0))) (h : ∀ t, dat.after 0 t = iblk m c 0 t)
    (t : Fin (cfgm m).N) (d) : dat.before 0 t d = iblk m c 0 t :=
  (dat.before_in_eq_fetched 0 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found1 (hA : dat.A 1 = V₀ m c (Proc.devRef .tc (Pipeline.arrRef spec0 1))) (h : ∀ t, dat.after 1 t = iblk m c 1 t)
    (t : Fin (cfgm m).N) (d) : dat.before 1 t d = iblk m c 1 t :=
  (dat.before_in_eq_fetched 1 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found2 (hA : dat.A 2 = V₀ m c (Proc.devRef .tc (Pipeline.arrRef spec0 2))) (h : ∀ t, dat.after 2 t = iblk m c 2 t)
    (t : Fin (cfgm m).N) (d) : dat.before 2 t d = iblk m c 2 t :=
  (dat.before_in_eq_fetched 2 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found3 (hA : dat.A 3 = V₀ m c (Proc.devRef .tc (Pipeline.arrRef spec0 3))) (h : ∀ t, dat.after 3 t = iblk m c 3 t)
    (t : Fin (cfgm m).N) (d) : dat.before 3 t d = iblk m c 3 t :=
  (dat.before_in_eq_fetched 3 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found4 (hA : dat.A 4 = V₀ m c (Proc.devRef .tc (Pipeline.arrRef spec0 4))) (h : ∀ t, dat.after 4 t = iblk m c 4 t)
    (t : Fin (cfgm m).N) (d) : dat.before 4 t d = iblk m c 4 t :=
  (dat.before_in_eq_fetched 4 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found5 (hA : dat.A 5 = V₀ m c (Proc.devRef .tc (Pipeline.arrRef spec0 5))) (h : ∀ t, dat.after 5 t = iblk m c 5 t)
    (t : Fin (cfgm m).N) (d) : dat.before 5 t d = iblk m c 5 t :=
  (dat.before_in_eq_fetched 5 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found6 (hA : dat.A 6 = V₀ m c (Proc.devRef .tc (Pipeline.arrRef spec0 6))) (h : ∀ t, dat.after 6 t = iblk m c 6 t)
    (t : Fin (cfgm m).N) (d) : dat.before 6 t d = iblk m c 6 t :=
  (dat.before_in_eq_fetched 6 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found7 (hA : dat.A 7 = V₀ m c (Proc.devRef .tc (Pipeline.arrRef spec0 7))) (h : ∀ t, dat.after 7 t = iblk m c 7 t)
    (t : Fin (cfgm m).N) (d) : dat.before 7 t d = iblk m c 7 t :=
  (dat.before_in_eq_fetched 7 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found8 (hA : dat.A 8 = V₀ m c (Proc.devRef .tc (Pipeline.arrRef spec0 8))) (h : ∀ t, dat.after 8 t = iblk m c 8 t)
    (t : Fin (cfgm m).N) (d) : dat.before 8 t d = iblk m c 8 t :=
  (dat.before_in_eq_fetched 8 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found9 (hA : dat.A 9 = V₀ m c (Proc.devRef .tc (Pipeline.arrRef spec0 9))) (h : ∀ t, dat.after 9 t = iblk m c 9 t)
    (t : Fin (cfgm m).N) (d) : dat.before 9 t d = iblk m c 9 t :=
  (dat.before_in_eq_fetched 9 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found10 (hA : dat.A 10 = V₀ m c (Proc.devRef .tc (Pipeline.arrRef spec0 10))) (h : ∀ t, dat.after 10 t = iblk m c 10 t)
    (t : Fin (cfgm m).N) (d) : dat.before 10 t d = iblk m c 10 t :=
  (dat.before_in_eq_fetched 10 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found11 (hA : dat.A 11 = V₀ m c (Proc.devRef .tc (Pipeline.arrRef spec0 11))) (h : ∀ t, dat.after 11 t = iblk m c 11 t)
    (t : Fin (cfgm m).N) (d) : dat.before 11 t d = iblk m c 11 t :=
  (dat.before_in_eq_fetched 11 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found12 (hA : dat.A 12 = V₀ m c (Proc.devRef .tc (Pipeline.arrRef spec0 12))) (h : ∀ t, dat.after 12 t = iblk m c 12 t)
    (t : Fin (cfgm m).N) (d) : dat.before 12 t d = iblk m c 12 t :=
  (dat.before_in_eq_fetched 12 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
end

section
variable (c : Dev nD) (t : Fin (cfgm m).N)

theorem before0 (d) : (dats m Inv dq dk dv 0 c).before 0 t d = iblk m c 0 t :=
  found0 (dats m Inv dq dk dv 0 c) (by dsimp only [dats]; rfl) (fun t => by dsimp only [dats]; exact after0 m dq dk dv c t) t d
theorem before1 (d) : (dats m Inv dq dk dv 0 c).before 1 t d = iblk m c 1 t :=
  found1 (dats m Inv dq dk dv 0 c) (by dsimp only [dats]; rfl) (fun t => by dsimp only [dats]; exact after1 m dq dk dv c t) t d
theorem before2 (d) : (dats m Inv dq dk dv 0 c).before 2 t d = iblk m c 2 t :=
  found2 (dats m Inv dq dk dv 0 c) (by dsimp only [dats]; rfl) (fun t => by dsimp only [dats]; exact after2 m dq dk dv c t) t d
theorem before3 (d) : (dats m Inv dq dk dv 0 c).before 3 t d = iblk m c 3 t :=
  found3 (dats m Inv dq dk dv 0 c) (by dsimp only [dats]; rfl) (fun t => by dsimp only [dats]; exact after3 m dq dk dv c t) t d
theorem before4 (d) : (dats m Inv dq dk dv 0 c).before 4 t d = iblk m c 4 t :=
  found4 (dats m Inv dq dk dv 0 c) (by dsimp only [dats]; rfl) (fun t => by dsimp only [dats]; exact after4 m dq dk dv c t) t d
theorem before5 (d) : (dats m Inv dq dk dv 0 c).before 5 t d = iblk m c 5 t :=
  found5 (dats m Inv dq dk dv 0 c) (by dsimp only [dats]; rfl) (fun t => by dsimp only [dats]; exact after5 m dq dk dv c t) t d
theorem before6 (d) : (dats m Inv dq dk dv 0 c).before 6 t d = iblk m c 6 t :=
  found6 (dats m Inv dq dk dv 0 c) (by dsimp only [dats]; rfl) (fun t => by dsimp only [dats]; exact after6 m dq dk dv c t) t d
theorem before7 (d) : (dats m Inv dq dk dv 0 c).before 7 t d = iblk m c 7 t :=
  found7 (dats m Inv dq dk dv 0 c) (by dsimp only [dats]; rfl) (fun t => by dsimp only [dats]; exact after7 m dq dk dv c t) t d
theorem before8 (d) : (dats m Inv dq dk dv 0 c).before 8 t d = iblk m c 8 t :=
  found8 (dats m Inv dq dk dv 0 c) (by dsimp only [dats]; rfl) (fun t => by dsimp only [dats]; exact after8 m dq dk dv c t) t d
theorem before9 (d) : (dats m Inv dq dk dv 0 c).before 9 t d = iblk m c 9 t :=
  found9 (dats m Inv dq dk dv 0 c) (by dsimp only [dats]; rfl) (fun t => by dsimp only [dats]; exact after9 m dq dk dv c t) t d
theorem before10 (d) : (dats m Inv dq dk dv 0 c).before 10 t d = iblk m c 10 t :=
  found10 (dats m Inv dq dk dv 0 c) (by dsimp only [dats]; rfl) (fun t => by dsimp only [dats]; exact after10 m dq dk dv c t) t d
theorem before11 (d) : (dats m Inv dq dk dv 0 c).before 11 t d = iblk m c 11 t :=
  found11 (dats m Inv dq dk dv 0 c) (by dsimp only [dats]; rfl) (fun t => by dsimp only [dats]; exact after11 m dq dk dv c t) t d
theorem before12 (d) : (dats m Inv dq dk dv 0 c).before 12 t d = iblk m c 12 t :=
  found12 (dats m Inv dq dk dv 0 c) (by dsimp only [dats]; rfl) (fun t => by dsimp only [dats]; exact after12 m dq dk dv c t) t d
end

end Cert.Kernel.Swa
end
-- ==== Proof.Kernel.Point.lean ====
module

public import proofs.«01_k».proof.Proof.Kernel.Data

/-!
The body at one grid point of the pipeline, over the buffers the pipeline hands it.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ) (Inv : Dev nD → ℕ → St F → Prop)

theorem defs_tc : (defs₀ (F := F)) .tc 0 = fun a => cc0_swa_bwd (grid0.coords a.1) (Memref.whole main_v58) (Memref.isWhole_whole _)
    (Memref.whole main_v26) (Memref.isWhole_whole _) (Memref.whole main_v28) (Memref.isWhole_whole _)
    (spec0_0.stage (a.2 0)) (hstage0_0 ((a.2 0).cast nbuf0_0)) (spec0_1.stage (a.2 1)) (hstage0_1 ((a.2 1).cast nbuf0_1)) (spec0_2.stage (a.2 2)) (hstage0_2 ((a.2 2).cast nbuf0_2)) (spec0_3.stage (a.2 3)) (hstage0_3 ((a.2 3).cast nbuf0_3)) (spec0_4.stage (a.2 4)) (hstage0_4 ((a.2 4).cast nbuf0_4)) (spec0_5.stage (a.2 5)) (hstage0_5 ((a.2 5).cast nbuf0_5)) (spec0_6.stage (a.2 6)) (hstage0_6 ((a.2 6).cast nbuf0_6)) (spec0_7.stage (a.2 7)) (hstage0_7 ((a.2 7).cast nbuf0_7)) (spec0_8.stage (a.2 8)) (hstage0_8 ((a.2 8).cast nbuf0_8)) (spec0_9.stage (a.2 9)) (hstage0_9 ((a.2 9).cast nbuf0_9)) (spec0_10.stage (a.2 10)) (hstage0_10 ((a.2 10).cast nbuf0_10)) (spec0_11.stage (a.2 11)) (hstage0_11 ((a.2 11).cast nbuf0_11)) (spec0_12.stage (a.2 12)) (hstage0_12 ((a.2 12).cast nbuf0_12)) (spec0_13.stage (a.2 13)) (hstage0_13 ((a.2 13).cast nbuf0_13)) (spec0_14.stage (a.2 14)) (hstage0_14 ((a.2 14).cast nbuf0_14)) (spec0_15.stage (a.2 15)) (hstage0_15 ((a.2 15).cast nbuf0_15))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) := rfl

/-! Each window's current buffer. -/

def stg0 (t : Fin (cfgm m).N) : Memref sig .tc .smem S4x2 .f32 := spec0_0.stage ((cfgm m).slots t 0)
theorem hstg0 (t : Fin (cfgm m).N) : (stg0 m t).IsWhole := hstage0_0 (((cfgm m).slots t 0).cast nbuf0_0)
def stg1 (t : Fin (cfgm m).N) : Memref sig .tc .smem S4x2 .f32 := spec0_1.stage ((cfgm m).slots t 1)
theorem hstg1 (t : Fin (cfgm m).N) : (stg1 m t).IsWhole := hstage0_1 (((cfgm m).slots t 1).cast nbuf0_1)
def stg2 (t : Fin (cfgm m).N) : Memref sig .tc .smem S4 .f32 := spec0_2.stage ((cfgm m).slots t 2)
theorem hstg2 (t : Fin (cfgm m).N) : (stg2 m t).IsWhole := hstage0_2 (((cfgm m).slots t 2).cast nbuf0_2)
def stg3 (t : Fin (cfgm m).N) : Memref sig .tc .smem S4x2 .f32 := spec0_3.stage ((cfgm m).slots t 3)
theorem hstg3 (t : Fin (cfgm m).N) : (stg3 m t).IsWhole := hstage0_3 (((cfgm m).slots t 3).cast nbuf0_3)
def stg4 (t : Fin (cfgm m).N) : Memref sig .tc .smem S4x2 .f32 := spec0_4.stage ((cfgm m).slots t 4)
theorem hstg4 (t : Fin (cfgm m).N) : (stg4 m t).IsWhole := hstage0_4 (((cfgm m).slots t 4).cast nbuf0_4)
def stg5 (t : Fin (cfgm m).N) : Memref sig .tc .vmem S1x2x256x256 .fp8e4m3 := spec0_5.stage ((cfgm m).slots t 5)
theorem hstg5 (t : Fin (cfgm m).N) : (stg5 m t).IsWhole := hstage0_5 (((cfgm m).slots t 5).cast nbuf0_5)
def stg6 (t : Fin (cfgm m).N) : Memref sig .tc .vmem S1x2x256x256 .fp8e5m2 := spec0_6.stage ((cfgm m).slots t 6)
theorem hstg6 (t : Fin (cfgm m).N) : (stg6 m t).IsWhole := hstage0_6 (((cfgm m).slots t 6).cast nbuf0_6)
def stg7 (t : Fin (cfgm m).N) : Memref sig .tc .vmem S1x2x256x256 .bf16 := spec0_7.stage ((cfgm m).slots t 7)
theorem hstg7 (t : Fin (cfgm m).N) : (stg7 m t).IsWhole := hstage0_7 (((cfgm m).slots t 7).cast nbuf0_7)
def stg8 (t : Fin (cfgm m).N) : Memref sig .tc .vmem S1x2x1x256 .f32 := spec0_8.stage ((cfgm m).slots t 8)
theorem hstg8 (t : Fin (cfgm m).N) : (stg8 m t).IsWhole := hstage0_8 (((cfgm m).slots t 8).cast nbuf0_8)
def stg9 (t : Fin (cfgm m).N) : Memref sig .tc .vmem S1x256 .i32 := spec0_9.stage ((cfgm m).slots t 9)
theorem hstg9 (t : Fin (cfgm m).N) : (stg9 m t).IsWhole := hstage0_9 (((cfgm m).slots t 9).cast nbuf0_9)
def stg10 (t : Fin (cfgm m).N) : Memref sig .tc .vmem S1x256x256 .fp8e4m3 := spec0_10.stage ((cfgm m).slots t 10)
theorem hstg10 (t : Fin (cfgm m).N) : (stg10 m t).IsWhole := hstage0_10 (((cfgm m).slots t 10).cast nbuf0_10)
def stg11 (t : Fin (cfgm m).N) : Memref sig .tc .vmem S1x256x256 .fp8e4m3 := spec0_11.stage ((cfgm m).slots t 11)
theorem hstg11 (t : Fin (cfgm m).N) : (stg11 m t).IsWhole := hstage0_11 (((cfgm m).slots t 11).cast nbuf0_11)
def stg12 (t : Fin (cfgm m).N) : Memref sig .tc .vmem S1x256 .i32 := spec0_12.stage ((cfgm m).slots t 12)
theorem hstg12 (t : Fin (cfgm m).N) : (stg12 m t).IsWhole := hstage0_12 (((cfgm m).slots t 12).cast nbuf0_12)
def stg13 (t : Fin (cfgm m).N) : Memref sig .tc .vmem S1x2x256x256 .bf16 := spec0_13.stage ((cfgm m).slots t 13)
theorem hstg13 (t : Fin (cfgm m).N) : (stg13 m t).IsWhole := hstage0_13 (((cfgm m).slots t 13).cast nbuf0_13)
def stg14 (t : Fin (cfgm m).N) : Memref sig .tc .vmem S1x256x256 .bf16 := spec0_14.stage ((cfgm m).slots t 14)
theorem hstg14 (t : Fin (cfgm m).N) : (stg14 m t).IsWhole := hstage0_14 (((cfgm m).slots t 14).cast nbuf0_14)
def stg15 (t : Fin (cfgm m).N) : Memref sig .tc .vmem S1x256x256 .bf16 := spec0_15.stage ((cfgm m).slots t 15)
theorem hstg15 (t : Fin (cfgm m).N) : (stg15 m t).IsWhole := hstage0_15 (((cfgm m).slots t 15).cast nbuf0_15)

abbrev inp0 (c : Dev nD) (t : Fin (cfgm m).N) : Vec F S4x2 .f32 := iblk m c 0 t
abbrev inp1 (c : Dev nD) (t : Fin (cfgm m).N) : Vec F S4x2 .f32 := iblk m c 1 t
abbrev inp2 (c : Dev nD) (t : Fin (cfgm m).N) : Vec F S4 .f32 := iblk m c 2 t
abbrev inp3 (c : Dev nD) (t : Fin (cfgm m).N) : Vec F S4x2 .f32 := iblk m c 3 t
abbrev inp4 (c : Dev nD) (t : Fin (cfgm m).N) : Vec F S4x2 .f32 := iblk m c 4 t
abbrev inp5 (c : Dev nD) (t : Fin (cfgm m).N) : Vec F S1x2x256x256 .fp8e4m3 := iblk m c 5 t
abbrev inp6 (c : Dev nD) (t : Fin (cfgm m).N) : Vec F S1x2x256x256 .fp8e5m2 := iblk m c 6 t
abbrev inp7 (c : Dev nD) (t : Fin (cfgm m).N) : Vec F S1x2x256x256 .bf16 := iblk m c 7 t
abbrev inp8 (c : Dev nD) (t : Fin (cfgm m).N) : Vec F S1x2x1x256 .f32 := iblk m c 8 t
abbrev inp9 (c : Dev nD) (t : Fin (cfgm m).N) : Vec F S1x256 .i32 := iblk m c 9 t
abbrev inp10 (c : Dev nD) (t : Fin (cfgm m).N) : Vec F S1x256x256 .fp8e4m3 := iblk m c 10 t
abbrev inp11 (c : Dev nD) (t : Fin (cfgm m).N) : Vec F S1x256x256 .fp8e4m3 := iblk m c 11 t
abbrev inp12 (c : Dev nD) (t : Fin (cfgm m).N) : Vec F S1x256 .i32 := iblk m c 12 t

/-- The body's program at point `t`. -/
theorem prog_eq (t : Fin (cfgm m).N) :
    (defs₀ (F := F)) .tc (cfgm m).body ((cfgm m).bodyArgs t ((cfgm m).slots t)) = cc0_swa_bwd (F := F) (grid0.coords t) (Memref.whole main_v58) (Memref.isWhole_whole _) (Memref.whole main_v26) (Memref.isWhole_whole _) (Memref.whole main_v28) (Memref.isWhole_whole _) (stg0 m t) (hstg0 m t) (stg1 m t) (hstg1 m t) (stg2 m t) (hstg2 m t) (stg3 m t) (hstg3 m t) (stg4 m t) (hstg4 m t) (stg5 m t) (hstg5 m t) (stg6 m t) (hstg6 m t) (stg7 m t) (hstg7 m t) (stg8 m t) (hstg8 m t) (stg9 m t) (hstg9 m t) (stg10 m t) (hstg10 m t) (stg11 m t) (hstg11 m t) (stg12 m t) (hstg12 m t) (stg13 m t) (hstg13 m t) (stg14 m t) (hstg14 m t) (stg15 m t) (hstg15 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) :=
  (congrFun defs_tc _).trans rfl

/-- The input windows' buffers at their blocks. -/
def insOwn (c : Dev nD) (t : Fin (cfgm m).N) : sProp 𝕄 :=
  iprop(owns (c : Thread nD τ) (stg0 m t) fullShare (inp0 m c t) ∗ owns (c : Thread nD τ) (stg1 m t) fullShare (inp1 m c t) ∗ owns (c : Thread nD τ) (stg2 m t) fullShare (inp2 m c t) ∗ owns (c : Thread nD τ) (stg3 m t) fullShare (inp3 m c t) ∗ owns (c : Thread nD τ) (stg4 m t) fullShare (inp4 m c t) ∗ owns (c : Thread nD τ) (stg5 m t) fullShare (inp5 m c t) ∗ owns (c : Thread nD τ) (stg6 m t) fullShare (inp6 m c t) ∗ owns (c : Thread nD τ) (stg7 m t) fullShare (inp7 m c t) ∗ owns (c : Thread nD τ) (stg8 m t) fullShare (inp8 m c t) ∗ owns (c : Thread nD τ) (stg9 m t) fullShare (inp9 m c t) ∗ owns (c : Thread nD τ) (stg10 m t) fullShare (inp10 m c t) ∗ owns (c : Thread nD τ) (stg11 m t) fullShare (inp11 m c t) ∗ owns (c : Thread nD τ) (stg12 m t) fullShare (inp12 m c t))

/-- The body at point `t`. -/
theorem pointRun (c : Dev nD) (t : Fin (cfgm m).N) (hfit : 16 ≤ tt (grid0.coords t) → Fits (grid0.coords t) (at256 (tblAt m c t).nhi (tt (grid0.coords t) - 16)))
    (X18 : Vec F S1x2x256x256 .bf16) (X19 X20 : Vec F S1x256x256 .bf16) :
    iprop(Φ m (Inv c) c t.val ∗ insOwn m c t ∗ reads c (stg13 m t) X18 ∗ reads c (stg14 m t) X19 ∗ reads c (stg15 m t) X20)
      ⊢ wp frame (wpE defs₀ Variants.none (c : Thread nD τ) none) Set.univ
          ((defs₀ (F := F)) .tc (cfgm m).body ((cfgm m).bodyArgs t ((cfgm m).slots t)))
          fun _ => iprop(∃ st, ⌜Inv c t.val st⌝ ∗ Φ m (fun _ s => s = stepSt (grid0.coords t) (tblAt m c t) (blkAt m c t) st) c (t.val + 1)
            ∗ insOwn m c t ∗ reads c (stg13 m t) (dqBuf (grid0.coords t) (tblAt m c t) (blkAt m c t) st X18)
            ∗ reads c (stg14 m t) (dkBuf (grid0.coords t) (tblAt m c t) (blkAt m c t) st X19)
            ∗ reads c (stg15 m t) (dvBuf (grid0.coords t) (tblAt m c t) (blkAt m c t) st X20)) := by
  rw [prog_eq m t]
  unfold Φ insOwn tables3 scratch
  iintro ⟨⟨⟨H2, H3, H4⟩, ⟨%st, %hst, HS⟩, Hp⟩, ⟨I0, I1, I2, I3, I4, I5, I6, I7, I8, I9, I10, I11, I12⟩, O18, O19, O20⟩
  iapply (wp_wand_r)
  isplitl [H2 H3 H4 HS I0 I1 I2 I3 I4 I5 I6 I7 I8 I9 I10 I11 I12 O18 O19 O20]
  · iapply (bodyRun c (grid0.coords t) (Memref.whole main_v58) (Memref.isWhole_whole _) (Memref.whole main_v26) (Memref.isWhole_whole _) (Memref.whole main_v28) (Memref.isWhole_whole _) (stg0 m t) (hstg0 m t) (stg1 m t) (hstg1 m t) (stg2 m t) (hstg2 m t) (stg3 m t) (hstg3 m t) (stg4 m t) (hstg4 m t) (stg5 m t) (hstg5 m t) (stg6 m t) (hstg6 m t) (stg7 m t) (hstg7 m t) (stg8 m t) (hstg8 m t) (stg9 m t) (hstg9 m t) (stg10 m t) (hstg10 m t) (stg11 m t) (hstg11 m t) (stg12 m t) (hstg12 m t) (stg13 m t) (hstg13 m t) (stg14 m t) (hstg14 m t) (stg15 m t) (hstg15 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (tblAt m c t) (blkAt m c t) st hfit X18 X19 X20)
    unfold tblOwn blkOwn
    isplitl [H2 H3 H4 HS I0 I1 I2 I3 I4 I5 I6 I7 I8 I9 I10 I11 I12]
    · isplitl [H2 H3 H4 I0 I1 I2 I3 I4]
      · isplitl [H2]
        · iexact H2
        isplitl [H3]
        · iexact H3
        isplitl [H4]
        · iexact H4
        isplitl [I0]
        · iexact I0
        isplitl [I1]
        · iexact I1
        isplitl [I2]
        · iexact I2
        isplitl [I3]
        · iexact I3
        iexact I4
      isplitl [I5 I6 I7 I8 I9 I10 I11 I12]
      · isplitl [I5]
        · iexact I5
        isplitl [I6]
        · iexact I6
        isplitl [I7]
        · iexact I7
        isplitl [I8]
        · iexact I8
        isplitl [I9]
        · iexact I9
        isplitl [I10]
        · iexact I10
        isplitl [I11]
        · iexact I11
        iexact I12
      · iexact HS
    isplitl [O18]
    · iexact O18
    isplitl [O19]
    · iexact O19
    iexact O20
  · iintro %r ⟨⟨HT, HB, HS⟩, O18, O19, O20⟩
    unfold tblOwn blkOwn
    icases HT with ⟨H2, H3, H4, I0, I1, I2, I3, I4⟩
    icases HB with ⟨I5, I6, I7, I8, I9, I10, I11, I12⟩
    iexists st
    isplitr
    · ipureintro; exact hst
    isplitl [H2 H3 H4 HS Hp]
    · isplitl [H2 H3 H4]
      · isplitl [H2]
        · iexact H2
        isplitl [H3]
        · iexact H3
        iexact H4
      isplitl [HS]
      · iexists (stepSt (grid0.coords t) (tblAt m c t) (blkAt m c t) st)
        isplitr
        · ipureintro; rfl
        · iexact HS
      iexact Hp
    isplitl [I0 I1 I2 I3 I4 I5 I6 I7 I8 I9 I10 I11 I12]
    · isplitl [I0]
      · iexact I0
      isplitl [I1]
      · iexact I1
      isplitl [I2]
      · iexact I2
      isplitl [I3]
      · iexact I3
      isplitl [I4]
      · iexact I4
      isplitl [I5]
      · iexact I5
      isplitl [I6]
      · iexact I6
      isplitl [I7]
      · iexact I7
      isplitl [I8]
      · iexact I8
      isplitl [I9]
      · iexact I9
      isplitl [I10]
      · iexact I10
      isplitl [I11]
      · iexact I11
      iexact I12
    isplitl [O18]
    · iexact O18
    isplitl [O19]
    · iexact O19
    iexact O20

end Cert.Kernel.Swa
end
-- ==== Proof.Kernel.Obl.lean ====
module

public import proofs.«01_k».proof.Proof.Kernel.Point
public import Idealize.ShloMosaic.Lib.Pipeline.FrameSuffix

/-!
The body obligation of the pipeline with its outputs left unnamed, and the run of the program that leaves its arguments
unchanged.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (m : (ℓ : Loc nD τ sig) → Buf (Elt F) ℓ)

/-- The windows whose contents are left unnamed: the outputs. -/
def fgt0 : Fin 16 → Bool := fun w => decide (13 ≤ w.val)

theorem fgt_0 : fgt0 0 = false := rfl
theorem fgt_1 : fgt0 1 = false := rfl
theorem fgt_2 : fgt0 2 = false := rfl
theorem fgt_3 : fgt0 3 = false := rfl
theorem fgt_4 : fgt0 4 = false := rfl
theorem fgt_5 : fgt0 5 = false := rfl
theorem fgt_6 : fgt0 6 = false := rfl
theorem fgt_7 : fgt0 7 = false := rfl
theorem fgt_8 : fgt0 8 = false := rfl
theorem fgt_9 : fgt0 9 = false := rfl
theorem fgt_10 : fgt0 10 = false := rfl
theorem fgt_11 : fgt0 11 = false := rfl
theorem fgt_12 : fgt0 12 = false := rfl
theorem fgt_13 : fgt0 13 = true := rfl
theorem fgt_14 : fgt0 14 = true := rfl
theorem fgt_15 : fgt0 15 = true := rfl

/-- Some contents for each output, of which nothing is claimed. -/
def anyQ (c : Dev nD) (t : Fin (cfgm m).N) : Vec F S1x2x256x256 .bf16 := constant _ .bf16 0#16
def anyK (c : Dev nD) (t : Fin (cfgm m).N) : Vec F S1x256x256 .bf16 := constant _ .bf16 0#16

/-- The pipeline's data with nothing named. -/
abbrev dats0 := dats m (fun _ _ _ => True) (anyQ m) (anyK m) (anyK m)

/-- The trip count of every point fits. -/
def FitsAll : Prop := ∀ (c : Dev nD) (t : Fin (cfgm m).N), 16 ≤ tt (grid0.coords t) →
  Fits (grid0.coords t) (at256 (tblAt m c t).nhi (tt (grid0.coords t) - 16))

set_option backward.isDefEq.respectTransparency.types false in
theorem frame_obligation (hfit : FitsAll m) (c : Dev nD) :
    Pipeline.BodyObligationLoose (dats0 m 0 c) defs₀ Variants.none () Set.univ fgt0 := fun t => by
  rw [bigSep_W0, bigSep_W0]
  simp only [fgt_0, fgt_1, fgt_2, fgt_3, fgt_4, fgt_5, fgt_6, fgt_7, fgt_8, fgt_9, fgt_10, fgt_11, fgt_12, fgt_13, fgt_14, fgt_15, before0, before1, before2, before3, before4, before5, before6, before7, before8, before9, before10, before11, before12]
  rw [show (dats0 m 0 c).Φ t.castSucc = Φ m (fun _ _ => True) c t.val from rfl,
    show (dats0 m 0 c).Φ t.succ = Φ m (fun _ _ => True) c (t.val + 1) from rfl]
  unfold Pipeline.Dat.owesAt Pipeline.owesWithin
  rw [show (dats0 m 0 c).owed t.castSucc = 0 from rfl, show (dats0 m 0 c).owed t.succ = 0 from rfl]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%X18, O18⟩, ⟨%X19, O19⟩, ⟨%X20, O20⟩⟩
  iapply (wp_wand_r)
  isplitl [HΦ I0 I1 I2 I3 I4 I5 I6 I7 I8 I9 I10 I11 I12 O18 O19 O20]
  · iapply (pointRun m (fun _ _ _ => True) c t (hfit c t) X18 X19 X20)
    isplitl [HΦ]
    · iexact HΦ
    isplitl [I0 I1 I2 I3 I4 I5 I6 I7 I8 I9 I10 I11 I12]
    · unfold insOwn
      isplitl [I0]
      · iexact I0
      isplitl [I1]
      · iexact I1
      isplitl [I2]
      · iexact I2
      isplitl [I3]
      · iexact I3
      isplitl [I4]
      · iexact I4
      isplitl [I5]
      · iexact I5
      isplitl [I6]
      · iexact I6
      isplitl [I7]
      · iexact I7
      isplitl [I8]
      · iexact I8
      isplitl [I9]
      · iexact I9
      isplitl [I10]
      · iexact I10
      isplitl [I11]
      · iexact I11
      iexact I12
    isplitl [O18]
    · iexact O18
    isplitl [O19]
    · iexact O19
    iexact O20
  · iintro %r ⟨%st, %hst, HΦ, HI, O18, O19, O20⟩
    unfold insOwn
    icases HI with ⟨I0, I1, I2, I3, I4, I5, I6, I7, I8, I9, I10, I11, I12⟩
    isplitl [HΦ]
    · unfold Φ
      icases HΦ with ⟨HT, ⟨%st', %hs, HS⟩, Hp⟩
      isplitl [HT]
      · iexact HT
      isplitl [HS]
      · iexists st'
        isplitr
        · ipureintro; trivial
        · iexact HS
      iexact Hp
    isplitl [HW]
    · iexists W
      isplitr
      · ipureintro; exact fun _ _ => Or.inl trivial
      · iexact HW
    isplitl [I0]
    · iexact I0
    isplitl [I1]
    · iexact I1
    isplitl [I2]
    · iexact I2
    isplitl [I3]
    · iexact I3
    isplitl [I4]
    · iexact I4
    isplitl [I5]
    · iexact I5
    isplitl [I6]
    · iexact I6
    isplitl [I7]
    · iexact I7
    isplitl [I8]
    · iexact I8
    isplitl [I9]
    · iexact I9
    isplitl [I10]
    · iexact I10
    isplitl [I11]
    · iexact I11
    isplitl [I12]
    · iexact I12
    isplitl [O18]
    · iexists _
      iexact O18
    isplitl [O19]
    · iexists _
      iexact O19
    iexists _
    iexact O20

end Cert.Kernel.Swa
end
-- ==== Proof.Kernel.Run.lean ====
module

public import proofs.«01_k».proof.Proof.Kernel.Obl

/-!
The run of the whole program: the host operations before and after the region, and the arguments left unchanged.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_cst, main_v18, main_v19, main_v20, main_v21, main_v22, main_v23, main_v24, main_v25, main_v26, main_v27, main_v28, main_v29, main_v30, main_v31, main_v32, main_v33, main_v34, main_v35, main_c, main_v36, main_v37, main_c_0, main_v38, main_v39, main_c_1, main_v40, main_v41, main_c_2, main_v42, main_v43, main_v44, main_v45, main_v46, main_v47, main_v48, main_v49, main_v50, main_v51, main_v52, main_c_3, main_v53, main_v54, main_v55, main_v56, main_v57, main_c_4, main_v58, main_cst_5, main_v59, main_v60, main_cst_6, main_v61, main_v62, main_v63]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ := by
  simp only [List.Forall]; repeat' constructor

/-- The reference each operation of `hostOps1` writes, in order. -/
abbrev hostOps1_W : List (Ref sig .tc) := [main_v65, main_v66, main_v67, main_v68, main_v69, main_v70]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor

variable (m : (ℓ : Loc nD τ sig) → Buf (Elt F) ℓ)

theorem V₀_arg (c : Dev nD) (r : Ref sig .tc) (h : r ∉ hostOps0_W) : V₀ m c (Proc.devRef .tc r) = m ((c : Thread nD τ).loc r) := by
  unfold V₀; exact StableHlo.after_of_writes_sub (r := r) hostOps0 _ hostOps0_writes h

theorem tables3_eq (c : Dev nD) : Pipeline.prefHeld (Ix := Unit) (Name := ℕ) (U := UR sig nD τ) (Lvl := ℕ) pre0 c (fun _ => fullShare.right) (adm m 0).1 = tables3 m c := by
  unfold Pipeline.prefHeld tables3
  rw [owns_whole, owns_whole, owns_whole, bigSep_univ_eq_bigSepL [(0 : Fin 3), 1, 2] (by decide) (by decide)]
  obtain rfl : c = 0 := Subsingleton.elim _ _
  rfl

theorem scratch_eq (c : Dev nD) (st : St F) : scratch c st = iprop((((c : Thread nD τ).loc cc0_scratch0) ↦{fullShare} st.q) ∗ (((c : Thread nD τ).loc cc0_scratch1) ↦{fullShare} st.o) ∗ (((c : Thread nD τ).loc cc0_scratch2) ↦{fullShare} st.lse) ∗ (((c : Thread nD τ).loc cc0_scratch3) ↦{fullShare} st.dl) ∗ (((c : Thread nD τ).loc cc0_scratch4) ↦{fullShare} st.sg) ∗ (((c : Thread nD τ).loc cc0_scratch5) ↦{fullShare} st.dq) ∗ (((c : Thread nD τ).loc cc0_scratch6) ↦{fullShare} st.kt) ∗ (((c : Thread nD τ).loc cc0_scratch7) ↦{fullShare} st.sc) ∗ (((c : Thread nD τ).loc cc0_scratch8) ↦{fullShare} st.dk) ∗ (((c : Thread nD τ).loc cc0_scratch9) ↦{fullShare} st.dv)) := by
  unfold scratch stOwn reads
  rw [owns_whole, owns_whole, owns_whole, owns_whole, owns_whole, owns_whole, owns_whole, owns_whole, owns_whole, owns_whole]

/-- The region's start gives the invariant, -/
theorem hin (Inv : ℕ → St F → Prop) (h0 : ∀ st, Inv 0 st) (c : Dev nD) :
    iprop(Pipeline.ΦA (Val := Elt F) (U := UR sig nD τ) spec0 c ∗ Pipeline.ΦT pre0 (adm m 0).1 c) ⊢ Φ m Inv c 0 := by
  unfold Pipeline.ΦA Pipeline.ΦT
  rw [scopedRest0_eq, tables3_eq]
  unfold Φ
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hp⟩, HT⟩
  isplitl [HT]
  · iexact HT
  isplitl [S0 S1 S2 S3 S4 S5 S6 S7 S8 S9]
  · iexists ({q := f0, o := f1, lse := f2, dl := f3, sg := f4, dq := f5, kt := f6, sc := f7, dk := f8, dv := f9} : St F)
    isplitr
    · ipureintro; exact h0 _
    rw [scratch_eq]
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    iexact S9
  iexact Hp

/-- and the invariant gives back the region's end. -/
theorem hout (Inv : ℕ → St F → Prop) (c : Dev nD) (t : ℕ) : Φ m Inv c t ⊢ Pipeline.ΦA (Val := Elt F) (U := UR sig nD τ) spec0 c := by
  unfold Pipeline.ΦA Φ
  rw [scopedRest0_eq]
  simp only [scratch_eq]
  iintro ⟨-, ⟨%st, -, HS⟩, Hp⟩
  icases HS with ⟨S0, S1, S2, S3, S4, S5, S6, S7, S8, S9⟩
  isplitl [S0 S1 S2 S3 S4 S5 S6 S7 S8 S9]
  · isplitl [S0]
    · iexists _; iexact S0
    isplitl [S1]
    · iexists _; iexact S1
    isplitl [S2]
    · iexists _; iexact S2
    isplitl [S3]
    · iexists _; iexact S3
    isplitl [S4]
    · iexists _; iexact S4
    isplitl [S5]
    · iexists _; iexact S5
    isplitl [S6]
    · iexists _; iexact S6
    isplitl [S7]
    · iexists _; iexact S7
    isplitl [S8]
    · iexists _; iexact S8
    iexists _; iexact S9
  iexact Hp

/-- The program around the region. -/
theorem hmain (𝒱₀ : Variants) : Pipeline.HMainPK (Ix := Unit) (Name := ℕ) (U := UR sig nD τ) (Lvl := ℕ) (pcfgs (F := F)) 0 defs₀ 𝒱₀ m main
    (fun c b => V₀ m c (Proc.devRef .tc b)) (fun _ => Pipeline.chain ([hostOps1].map StableHlo.seq)) := by
  have h := Pipeline.hmainP_around (Ix := Unit) (Name := ℕ) (U := UR sig nD τ) (Lvl := ℕ) (pcfgs (F := F)) 0 defs₀ 𝒱₀ m main [hostOps0] [hostOps1]
    (by simp only [List.Forall]; exact hostOps0_sub) (by simp only [List.Forall]; exact hostOps0_fresh) main_chain
  unfold V₀
  simpa only [List.flatten_cons, List.flatten_nil, List.append_nil] using h

/-! The host operations after the region. -/

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl
  all_goals intro j; fin_cases j <;> simp only [StableHlo.unary_bufs, StableHlo.reshape_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

theorem sfx_writes : ∀ ops ∈ ([hostOps1] : List (List (HloOp τ sig (Elt F)))), ∀ op ∈ ops, ∀ b : Ref sig .tc, Proc.devRef .tc b ∈ op.writes → b ∈ hostOps1_W.toFinset := by
  intro ops hops op hop
  simp only [List.mem_cons, List.mem_nil_iff, or_false] at hops
  rcases hops with rfl
  intro b hb
  obtain ⟨y, hy, he⟩ := List.mem_map.mp (List.mem_toFinset.mp ((List.forall_iff_forall_mem.mp hostOps1_writes) op hop hb))
  exact List.mem_toFinset.mpr (Proc.devRef_injective _ he ▸ hy)

variable [∀ e, Nonempty (Elt F e)]

/-- The run: it ends, the inputs unchanged, every semaphore at rest. -/
theorem run (hfit : FitsAll m) (g : Dev nD → PrngReg) :
    θ_run (defs (F := F)) (onTc (τ := τ) (main (F := F))) ⟨m, fun _ => 0, g⟩ fun r =>
      Pipeline.RDat.FramePostR (cfgm m) (fun c => (dats0 m 0 c).toRForget fgt0) hostOps1_W.toFinset (fun c b => V₀ m c (Proc.devRef .tc b)) r
        ∧ r.2.sem = fun _ => 0 := by
  have hb : ∀ c, Pipeline.BodyObligationLoose (dats0 m 0 c) defs₀ Variants.none () Set.univ fgt0 := frame_obligation m hfit
  have hm := hmain m Variants.none
  have hi : ∀ c, iprop(Pipeline.ΦA (Val := Elt F) (U := UR sig nD τ) spec0 c ∗ Pipeline.ΦT pre0 (adm m 0).1 c) ⊢ (dats0 m 0 c).Φ 0 := hin m (fun _ _ => True) (fun _ => trivial)
  have ho : ∀ c, (dats0 m 0 c).Φ (Fin.last (cfgm m).N) ⊢ Pipeline.ΦA (Val := Elt F) (U := UR sig nD τ) spec0 c := fun c => hout m (fun _ _ => True) c (Fin.last (cfgm m).N).val
  have hp : ∀ c k, V₀ m c (Proc.devRef .tc (pre0.ref k)) = (adm m 0).1 k := fun c k => by obtain rfl : c = 0 := Subsingleton.elim _ _; rfl
  have hA : ∀ c w, (dats0 m 0 c).A w = V₀ m c (Proc.devRef .tc (Pipeline.arrRef spec0 w)) := fun _ _ => rfl
  have hq : ∀ c w, (spec0 w).isOut = false → (dats0 m 0 c).q w = Pipeline.shareOf spec0 w := fun _ _ _ => rfl
  have hw : ∀ c t, (dats0 m 0 c).owed t = 0 := fun _ _ => rfl
  exact Pipeline.θ_run_frameP_around_T_track_forget_shared (pcfgs (F := F)) (adm m) (dats0 m) 0 launch₀0 defs₀ Variants.none fgt0 hostOps1_W.toFinset m g main
    hb hq hw (V₀ m) [hostOps1] sfx_sub sfx_fresh sfx_keeps sfx_writes hm hA hp hi ho _ (fun _ h => h)

/-- The arguments end unchanged. -/
theorem frame (hfit : FitsAll m) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10))
      ∧ r.2.sem = fun _ => 0 := by
  refine (θ_run defs _ _).mono (fun r hr => ⟨fun c => ?_, hr.2⟩) (run m hfit g)
  have hrest : ∀ b ∈ [main_arg0, main_arg1, main_arg2, main_arg3, main_arg4, main_arg5, main_arg6, main_arg7, main_arg8, main_arg9], b ∈ Pipeline.restRefs sig spec0 \ hostOps1_W.toFinset ∧ b ∉ hostOps0_W := by
    decide +kernel
  have key : ∀ b ∈ [main_arg0, main_arg1, main_arg2, main_arg3, main_arg4, main_arg5, main_arg6, main_arg7, main_arg8, main_arg9], r.2.mem ((c.tc : Thread nD τ).loc b) = m ((c.tc : Thread nD τ).loc b) := fun b hb =>
    ((hr.1 c).2 b (hrest b hb).1).trans (V₀_arg m c b (hrest b hb).2)
  refine ⟨key main_arg0 (by decide), key main_arg1 (by decide), key main_arg2 (by decide), key main_arg3 (by decide), key main_arg4 (by decide), key main_arg5 (by decide), key main_arg6 (by decide), key main_arg7 (by decide), key main_arg8 (by decide), key main_arg9 (by decide), ?_⟩
  exact (hr.1.arr_in c 9 rfl).trans (V₀_arg m c main_arg10 (by decide +kernel))

end Cert.Kernel.Swa
end
-- ==== Proof.Kernel.Tables.lean ====
module

public import proofs.«01_k».proof.Proof.Kernel.Data
public import Idealize.ShloMosaic.Lib.Claim
public import Idealize.ShloMosaic.Lib.ValueIdxCore
public import Idealize.ShloMosaic.Lib.Pointwise

/-!
The trip counts: tile `j` visits the tiles `j + d` within the array whose first segment is the last one of tile `j`, and
always itself.
-/

@[expose] public section

set_option maxRecDepth 16384

noncomputable section

namespace Cert.Kernel.Swa

open Cert.Kernel Cert.Kernel.Gen
open Idealize.ShloMosaic Idealize.ShloMosaic.TcCoe Idealize.ShloMosaic.Tactic
open Idealize.SL.Sem

variable {F : FTy → Type} [FloatOps F]

/-- The tile numbers `j + d`. -/
def tileNo : IVec S256x17 32 :=
  addi (broadcastInDim S256x17 ![0, 1] bcast_S256x1_S256x17_0_1 (broadcastInDim S256x1 ![0] bcast_S256_S256x1_0 (iotaInDim S256 32 0)))
    (broadcastInDim S256x17 ![0, 1] bcast_S1x17_S256x17_0_1 (broadcastInDim S1x17 ![1] bcast_S17_S1x17_1 (iotaInDim S17 32 0)))

/-- The tile numbers capped at the last tile. -/
def tileCap : IVec S256x17 32 := minsi tileNo (broadcastInDim S256x17 ![] bcast_S_S256x17 (constantI S_ 32 255#32))

/-- The same with a negative number counted from the end. -/
def tileIx : IVec S256x17 32 :=
  select (cmpi .slt tileCap (broadcastInDim S256x17 ![] bcast_S_S256x17 (constantI S_ 32 0#32)))
    (addi tileCap (broadcastInDim S256x17 ![] bcast_S_S256x17 (constantI S_ 32 256#32))) tileCap

/-- Which tiles `j + d` tile `j` visits. -/
def live (sf sl : IVec S256 32) : IVec S256x17 1 :=
  ori (andi (cmpi .slt tileNo (broadcastInDim S256x17 ![] bcast_S_S256x17 (constantI S_ 32 256#32)))
      (cmpi .eq (Host.gather gather_S256_S256x17x1_S256x17_n_0_n_n_0_2_1 sf (broadcastInDim S256x17x1 ![0, 1] bcast_S256x17_S256x17x1_0_1 tileIx))
        (broadcastInDim S256x17 ![0, 1] bcast_S256x1_S256x17_0_1 (broadcastInDim S256x1 ![0] bcast_S256_S256x1_0 sl))))
    (broadcastInDim S256x17 ![0, 1] bcast_S1x17_S256x17_0_1
      (cmpi .eq (broadcastInDim S1x17 ![1] bcast_S17_S1x17_1 (iotaInDim S17 32 0)) (broadcastInDim S1x17 ![] bcast_S_S1x17 (constantI S_ 32 0#32))))

/-- The trip counts. -/
def nhiOf (sf sl : IVec S256 32) : IVec S256 32 :=
  Host.reduce IntOp.addi (extui 32 (live sf sl) natLt_1_32) (constantI S_ 32 0#32) reducesTo_S256x17_S256_d1 h_S_

variable (m : (ℓ : Loc nD τ sig) → Buf (Elt F) ℓ)

theorem nhi_read (c : Dev nD) : V₀ m c (Proc.devRef .tc main_v58)
    = nhiOf (V₀ m c (Proc.devRef .tc main_v26)) (V₀ m c (Proc.devRef .tc main_v28)) := by
  unfold V₀
  entry_read
  rfl

theorem tileNo_at (j : Fin 256) (d : Fin 17) : tileNo (ix2 j d) = BitVec.ofNat 32 j.val + BitVec.ofNat 32 d.val := by
  pointwise [tileNo]
  rfl

theorem tileIx_at (j : Fin 256) (d : Fin 17) : (tileIx (ix2 j d)).toInt.toNat = min (j.val + d.val) 255 := by
  have e : tileIx (ix2 j d) = Scalar.select (Scalar.cmpi .slt (Scalar.minsi (BitVec.ofNat 32 j.val + BitVec.ofNat 32 d.val) 255#32) 0#32)
      (Scalar.addi (Scalar.minsi (BitVec.ofNat 32 j.val + BitVec.ofNat 32 d.val) 255#32) 256#32) (Scalar.minsi (BitVec.ofNat 32 j.val + BitVec.ofNat 32 d.val) 255#32) := by
    pointwise [tileIx, tileCap, tileNo]
    rfl
  rw [e]
  revert j d
  decide +kernel

theorem live_at (sf sl : IVec S256 32) (j : Fin 256) (d : Fin 17) :
    live sf sl (ix2 j d) = 1#1 ↔ d.val = 0 ∨ (∃ h : j.val + d.val < 256, sf (ix1 ⟨j.val + d.val, h⟩) = sl (ix1 j)) := by
  have hg : Host.gather gather_S256_S256x17x1_S256x17_n_0_n_n_0_2_1 sf (broadcastInDim S256x17x1 ![0, 1] bcast_S256x17_S256x17x1_0_1 tileIx) (ix2 j d)
      = sf (ix1 ⟨min (j.val + d.val) 255, by omega⟩) := by
    refine (ValueIdx.gather_take_apply (N := 256) (R := 256) (C := 17) (by decide) gather_S256_S256x17x1_S256x17_n_0_n_n_0_2_1_wf sf _ (ix2 j d)).trans ?_
    refine congrArg (fun k => sf (ix1 k)) (Fin.ext ?_)
    show min (tileIx (ix2 j d)).toInt.toNat 255 = min (j.val + d.val) 255
    rw [tileIx_at j d, Nat.min_assoc, Nat.min_self]
  have e : live sf sl (ix2 j d) = IntOp.ori (IntOp.andi (IntOp.cmpi .slt (tileNo (ix2 j d)) 256#32)
      (IntOp.cmpi .eq (Host.gather gather_S256_S256x17x1_S256x17_n_0_n_n_0_2_1 sf (broadcastInDim S256x17x1 ![0, 1] bcast_S256x17_S256x17x1_0_1 tileIx) (ix2 j d))
        (sl (ix1 j)))) (IntOp.cmpi .eq (BitVec.ofNat 32 d.val) 0#32) := by
    pointwise [live]
  have h1 : IntOp.cmpi .slt (BitVec.ofNat 32 j.val + BitVec.ofNat 32 d.val) 256#32 = if j.val + d.val < 256 then 1#1 else 0#1 := by
    clear e hg; revert j d; decide +kernel
  have h2 : IntOp.cmpi .eq (BitVec.ofNat 32 d.val) 0#32 = if d.val = 0 then 1#1 else 0#1 := by
    clear e hg h1; revert d; decide +kernel
  have h3 : ∀ a b : BitVec 32, IntOp.cmpi .eq a b = if a = b then 1#1 else 0#1 := by
    intro a b
    by_cases h : a = b
    · simp [IntOp.cmpi, h]
    · rw [if_neg h]; unfold IntOp.cmpi; rw [beq_eq_false_iff_ne.mpr h]; rfl
  rw [e, hg, tileNo_at, h1, h2, h3]
  by_cases hd : d.val = 0
  · simp only [hd, if_true, true_or, iff_true]
    split_ifs <;> decide
  · by_cases hj : j.val + d.val < 256
    · have hm : (⟨min (j.val + d.val) 255, by omega⟩ : Fin 256) = ⟨j.val + d.val, hj⟩ := Fin.ext (Nat.min_eq_left (by omega))
      rw [hm]
      by_cases hs : sf (ix1 ⟨j.val + d.val, hj⟩) = sl (ix1 j)
      · simp only [hs, hd, hj, if_true, if_false, false_or, exists_prop, true_and, and_true, iff_true]; decide
      · simp only [hs, hd, hj, if_true, if_false, false_or, exists_prop, and_false, exists_false, iff_false, exists_const]; decide
    · simp only [hd, hj, if_false, false_or, IsEmpty.exists_iff, iff_false]
      split_ifs <;> decide

theorem fold_addi {ι : Type} [DecidableEq ι] (S : Finset ι) (g : ι → ℕ) :
    S.fold IntOp.addi 0#32 (fun d => BitVec.ofNat 32 (g d)) = BitVec.ofNat 32 (∑ d ∈ S, g d) := by
  induction S using Finset.induction_on with
  | empty => rfl
  | insert a S ha ih => rw [Finset.fold_insert ha, ih, Finset.sum_insert ha]; exact (BitVec.ofNat_add ..).symm

/-- The trip count is the number of tiles visited. -/
theorem nhiOf_at (sf sl : IVec S256 32) (j : Fin 256) :
    nhiOf sf sl (ix1 j) = BitVec.ofNat 32 (∑ d : Fin 17, if live sf sl (ix2 j d) = 1#1 then 1 else 0) := by
  unfold nhiOf
  rw [Host.reduce_eq_fold_single IntOp.addi _ _ reducesTo_S256x17_S256_d1 (by decide) h_S_ (ix1 j), ← fold_addi]
  refine congrArg (fun f => Finset.fold IntOp.addi 0#32 f (Finset.univ : Finset (Fin 17))) (funext fun d => ?_)
  have hl : (show S256x17.Reduces [1] S256 by decide).lift (ix1 j) d = ix2 j d := by
    idx_ext
  rw [Function.comp_apply, hl]
  show (live sf sl (ix2 j d)).setWidth 32 = _
  generalize live sf sl (ix2 j d) = x
  revert x
  decide

/-- The trip count of tile `j` is between 1 and 17 and stays within the array. -/
theorem nhiOf_fits (sf sl : IVec S256 32) (j : Fin 256) :
    ∃ n, nhiOf sf sl (ix1 j) = BitVec.ofNat 32 n ∧ 1 ≤ n ∧ n ≤ 17 ∧ j.val + n ≤ 256 := by
  refine ⟨_, nhiOf_at sf sl j, ?_, ?_, ?_⟩
  · refine le_trans ?_ (Finset.single_le_sum (fun _ _ => Nat.zero_le _) (Finset.mem_univ (0 : Fin 17)))
    rw [if_pos ((live_at sf sl j 0).mpr (Or.inl rfl))]
  · refine (Finset.sum_le_card_nsmul _ _ 1 fun d _ => ?_).trans (by simp)
    split_ifs <;> omega
  · have h : (∑ d : Fin 17, if live sf sl (ix2 j d) = 1#1 then 1 else 0) ≤ ∑ d : Fin 17, if d.val < 256 - j.val then 1 else 0 := by
      refine Finset.sum_le_sum fun d _ => ?_
      by_cases hd : live sf sl (ix2 j d) = 1#1
      · have : d.val < 256 - j.val := by
          rcases (live_at sf sl j d).mp hd with h | ⟨h, -⟩ <;> omega
        rw [if_pos hd, if_pos this]
      · rw [if_neg hd]; exact Nat.zero_le _
    have h' : (∑ d : Fin 17, if d.val < 256 - j.val then 1 else 0) ≤ 256 - j.val := by
      rw [← Finset.card_filter]
      refine (Finset.card_le_card_of_injOn (t := Finset.range (256 - j.val)) (fun d : Fin 17 => d.val) ?_ ?_).trans (by simp)
      · intro d hd; simpa using hd
      · intro a _ b _ h; exact Fin.ext h
    have := j.isLt
    omega

/-- Every point's trip count fits. -/
theorem fits_all (c : Dev nD) (t : Fin (cfgm m).N) (h : 16 ≤ tt (grid0.coords t)) :
    Fits (grid0.coords t) (at256 (tblAt m c t).nhi (tt (grid0.coords t) - 16)) := by
  have ht := tt_lt (grid0.coords t)
  show Fits _ (at256 (V₀ m c (Proc.devRef .tc main_v58)) _)
  rw [nhi_read]
  obtain ⟨n, e, h1, h2, h3⟩ := nhiOf_fits (V₀ m c (Proc.devRef .tc main_v26)) (V₀ m c (Proc.devRef .tc main_v28))
    ⟨(tt (grid0.coords t) - 16) % 256, Nat.mod_lt _ (by decide)⟩
  refine ⟨n, e, h1, h2, ?_⟩
  have : (tt (grid0.coords t) - 16) % 256 = tt (grid0.coords t) - 16 := Nat.mod_eq_of_lt (by omega)
  simp only [this] at h3
  exact h3

end Cert.Kernel.Swa
end
-- ==== Proof.KernelIdeal.Chain.lean ====
/-
  The words the kernel computes with, in closed form: the two conditions of a grid point, the offsets of its ring
  slots, the trip count of the loop over query tiles, and the side conditions the loop assumes.
-/
module

public import proofs.«01_k».proof.Proof.Gen.KernelIdeal
public import Idealize.ShloMosaic.Lib.Affine
public import Idealize.ShloMosaic.Lib.WordArith

@[expose] public section

set_option maxRecDepth 16384

noncomputable section

namespace Cert.KernelIdeal.Swa

open Cert.KernelIdeal Cert.KernelIdeal.Gen
open Idealize.ShloMosaic Idealize.ShloMosaic.TcCoe

/-- The step's number along the sequence, of a grid point. -/
abbrev tt (i : grid0.Coords) : Nat := (i 1).val
/-- The key head of a grid point. -/
abbrev gg (i : grid0.Coords) : Nat := (i 0).val

theorem tt_lt (i : grid0.Coords) : tt i < 272 := (i 1).isLt
theorem gg_lt (i : grid0.Coords) : gg i < 4 := (i 0).isLt

theorem cond1_iff (i : grid0.Coords) : k0_cond1 i = 1#1 ↔ tt i < 256 := by
  have key : ∀ x : Fin 272, Scalar.cmpi .ne (Scalar.extui (Scalar.cmpi .slt (BitVec.ofNat 32 x.val) 256#32) : BitVec 32) 0#32 = 1#1
      ↔ x.val < 256 := by decide +kernel
  exact key (i 1)

theorem cond2_iff (i : grid0.Coords) : k0_cond2 i = 1#1 ↔ 16 ≤ tt i := by
  have key : ∀ x : Fin 272, Scalar.cmpi .ne (Scalar.extui (Scalar.cmpi .sge (BitVec.ofNat 32 x.val) 16#32) : BitVec 32) 0#32 = 1#1
      ↔ 16 ≤ x.val := by decide +kernel
  exact key (i 1)

/-! ## The offsets of a grid point -/

theorem rem_tt (i : grid0.Coords) : (Scalar.indexCast (Scalar.remsi (BitVec.ofNat 32 (i 1).val) 17#32) : Index).toNat = tt i % 17 := by
  have key : ∀ x : Fin 272, (Scalar.indexCast (Scalar.remsi (BitVec.ofNat 32 x.val) 17#32) : Index).toNat = x.val % 17 := by
    decide +kernel
  exact key (i 1)

theorem gg_word (i : grid0.Coords) : (Scalar.indexCast (BitVec.ofNat 32 (i 0).val) : Index).toNat = gg i := by
  have key : ∀ x : Fin 4, (Scalar.indexCast (BitVec.ofNat 32 x.val) : Index).toNat = x.val := by decide +kernel
  exact key (i 0)

theorem sub_tt (i : grid0.Coords) (h : 16 ≤ tt i) :
    Scalar.subi (BitVec.ofNat 32 (i 1).val) 16#32 = BitVec.ofNat 32 (tt i - 16) := by
  have key : ∀ x : Fin 272, 16 ≤ x.val → Scalar.subi (BitVec.ofNat 32 x.val) 16#32 = BitVec.ofNat 32 (x.val - 16) := by
    decide +kernel
  exact key (i 1) h

theorem word_small (n : Nat) (h : n < 2 ^ 32) : (BitVec.ofNat 32 n).toNat = n := by
  rw [BitVec.toNat_ofNat]; omega

theorem rem_word (n : Nat) (h : n < 256) : (Scalar.indexCast (Scalar.remsi (BitVec.ofNat 32 n) 17#32) : Index).toNat = n % 17 := by
  have key : ∀ x : Fin 256, (Scalar.indexCast (Scalar.remsi (BitVec.ofNat 32 x.val) 17#32) : Index).toNat = x.val % 17 := by
    decide +kernel
  exact key ⟨n, h⟩

theorem off1_eq (i : grid0.Coords) : k0_off1 i = ![tt i % 17, 0, 0] := by
  show (![_, 0, 0] : Fin 3 → Nat) = _; rw [rem_tt]
theorem off2_eq (i : grid0.Coords) : k0_off2 i = ![tt i % 17, 0, 0, 0] := by
  show (![_, 0, 0, 0] : Fin 4 → Nat) = _; rw [rem_tt]
theorem off3_eq (i : grid0.Coords) : k0_off3 i = ![tt i % 17, 0, 0, 0] := by
  show (![_, 0, 0, 0] : Fin 4 → Nat) = _; rw [rem_tt]
theorem off4_eq (i : grid0.Coords) : k0_off4 i = ![gg i, 0] := by
  show (![_, 0] : Fin 2 → Nat) = _; rw [gg_word]
theorem off5_eq (i : grid0.Coords) : k0_off5 i = ![tt i % 17, 1, 0, 0] := by
  show (![_, 1, 0, 0] : Fin 4 → Nat) = _; rw [rem_tt]
theorem off6_eq (i : grid0.Coords) : k0_off6 i = ![tt i % 17, 1, 0, 0] := by
  show (![_, 1, 0, 0] : Fin 4 → Nat) = _; rw [rem_tt]
theorem off7_eq (i : grid0.Coords) : k0_off7 i = ![gg i, 1] := by
  show (![_, 1] : Fin 2 → Nat) = _; rw [gg_word]
theorem off39_eq (i : grid0.Coords) : k0_off39 i = ![gg i, 0] := by
  show (![_, 0] : Fin 2 → Nat) = _; rw [gg_word]
theorem off40_eq (i : grid0.Coords) : k0_off40 i = ![gg i, 1] := by
  show (![_, 1] : Fin 2 → Nat) = _; rw [gg_word]
theorem off8_eq (i : grid0.Coords) (h : 16 ≤ tt i) : k0_off8 i = ![tt i - 16] := by
  show (![(Scalar.subi _ _).toNat] : Fin 1 → Nat) = _; rw [sub_tt i h, word_small _ (by have := tt_lt i; omega)]
theorem off9_eq (i : grid0.Coords) (h : 16 ≤ tt i) : k0_off9 i = ![tt i - 16] := by
  show (![(Scalar.subi _ _).toNat] : Fin 1 → Nat) = _; rw [sub_tt i h, word_small _ (by have := tt_lt i; omega)]
theorem off13_eq (i : grid0.Coords) : k0_off13 i = ![gg i, 0] := by
  show (![_, 0] : Fin 2 → Nat) = _; rw [gg_word]
theorem off16_eq (i : grid0.Coords) : k0_off16 i = ![gg i, 1] := by
  show (![_, 1] : Fin 2 → Nat) = _; rw [gg_word]
theorem off19_eq (i : grid0.Coords) : k0_off19 i = ![gg i, 0] := by
  show (![_, 0] : Fin 2 → Nat) = _; rw [gg_word]
theorem off22_eq (i : grid0.Coords) : k0_off22 i = ![gg i, 1] := by
  show (![_, 1] : Fin 2 → Nat) = _; rw [gg_word]
theorem off42_eq (i : grid0.Coords) : k0_off42 i = ![gg i] := by
  show (![_] : Fin 1 → Nat) = _; rw [gg_word]
theorem off41_eq (i : grid0.Coords) (h : 16 ≤ tt i) : k0_off41 i = ![(tt i - 16) % 17, 0, 0, 0] := by
  show (![(Scalar.indexCast (Scalar.remsi (Scalar.subi _ _) _) : Index).toNat, 0, 0, 0] : Fin 4 → Nat) = _
  rw [sub_tt i h, rem_word _ (by have := tt_lt i; omega)]
theorem off43_eq (i : grid0.Coords) (h : 16 ≤ tt i) : k0_off43 i = ![(tt i - 16) % 17, 1, 0, 0] := by
  show (![(Scalar.indexCast (Scalar.remsi (Scalar.subi _ _) _) : Index).toNat, 1, 0, 0] : Fin 4 → Nat) = _
  rw [sub_tt i h, rem_word _ (by have := tt_lt i; omega)]

/-! ## The loop over the query tiles -/

section Loop
open Affine
variable (v : BitVec 32)

theorem isInt_sub0 : IsInt (Scalar.subi v 0#32) v.toInt := by
  have hr := word_range v
  exact subi (e := v.toInt) (word v) (ofNat (e := 0) 0 ⟨rfl, by decide⟩) ⟨by omega, by omega, by omega⟩
theorem isInt_ub : IsInt (Scalar.addi 0#32 (Scalar.muli (Scalar.divsi (Scalar.subi v 0#32) 1#32) 1#32)) v.toInt := by
  have hr := word_range v
  have h17 : IsInt (Scalar.divsi (Scalar.subi v 0#32) 1#32) v.toInt := divsi_one (isInt_sub0 v) (ofNat (e := 1) 1 ⟨rfl, by decide⟩) ⟨rfl, rfl⟩
  have h18 : IsInt (Scalar.muli (Scalar.divsi (Scalar.subi v 0#32) 1#32) 1#32) v.toInt :=
    muli (e := v.toInt) h17 (ofNat (e := 1) 1 ⟨rfl, by decide⟩) ⟨by omega, by omega, by omega⟩
  exact addi (e := v.toInt) (ofNat (e := 0) 0 ⟨rfl, by decide⟩) h18 ⟨by omega, by omega, by omega⟩
theorem isInt_add0 : IsInt (Scalar.addi 0#32 (Scalar.subi v 0#32)) v.toInt := by
  have hr := word_range v
  exact addi (e := v.toInt) (ofNat (e := 0) 0 ⟨rfl, by decide⟩) (isInt_sub0 v) ⟨by omega, by omega, by omega⟩

theorem toInt_of_isInt {x : BitVec 32} {e : Int} (h : IsInt x e) : x.toInt = e := by
  delta Affine.IsInt at h; exact h

/-- The loop runs as often as the table's word says; -/
theorem trips1_eq : (k0_t1_loop v).trips = v.toInt.toNat := by
  show Scf.trips 0#32 (Scalar.addi 0#32 (Scalar.muli (Scalar.divsi (Scalar.subi v 0#32) 1#32) 1#32)) 1#32 = _
  unfold Scf.trips; rw [toInt_of_isInt (isInt_ub v)]; simp
/-- its remainder loop never runs. -/
theorem trips2_eq : (k0_t2_loop v).trips = 0 := by
  show Scf.trips (Scalar.addi 0#32 (Scalar.muli (Scalar.divsi (Scalar.subi v 0#32) 1#32) 1#32)) (Scalar.addi 0#32 (Scalar.subi v 0#32)) 1#32 = 0
  unfold Scf.trips; rw [toInt_of_isInt (isInt_ub v), toInt_of_isInt (isInt_add0 v)]; simp

theorem trip_word (k : Fin (k0_t1_loop v).trips) : Scf.iv 0#32 1#32 k.val = BitVec.ofNat 32 k.val := by
  simp [Scf.iv]

end Loop

/-- What the table's word satisfies at a step that processes a key tile: the loop visits at least the key tile's own
    query tile, at most the seventeen tiles of the window, and none past the end of the sequence. -/
def Fits (i : grid0.Coords) (v : BitVec 32) : Prop := ∃ n : Nat, v = BitVec.ofNat 32 n ∧ 1 ≤ n ∧ n ≤ 17 ∧ (tt i - 16) + n ≤ 256

theorem Fits.trips {i : grid0.Coords} {n : Nat} (h : n ≤ 17) :
    (k0_t1_loop (BitVec.ofNat 32 n)).trips = n := by
  rw [trips1_eq]
  have key : ∀ x : Fin 18, (BitVec.ofNat 32 x.val).toInt.toNat = x.val := by decide +kernel
  exact key ⟨n, by omega⟩

theorem Fits.sum_lt {i : grid0.Coords} {v : BitVec 32} (h : Fits i v) (k : Fin (k0_t1_loop v).trips) :
    (tt i - 16) + k.val < 256 := by
  obtain ⟨n, rfl, h1, h2, h3⟩ := h
  have := Nat.lt_of_lt_of_eq k.isLt (Fits.trips (i := i) h2); omega

theorem sum_word (i : grid0.Coords) (h2 : 16 ≤ tt i) {v : BitVec 32} (k : Fin (k0_t1_loop v).trips) :
    Scalar.addi (Scalar.subi (BitVec.ofNat 32 (i 1).val) 16#32) (Scf.iv 0#32 1#32 k.val) = BitVec.ofNat 32 (tt i - 16 + k.val) := by
  rw [sub_tt i h2, trip_word]; simp [Scalar.addi, IntOp.addi, BitVec.ofNat_add]

section Trip
variable {i : grid0.Coords} (h2 : 16 ≤ tt i) {v : BitVec 32} (k : Fin (k0_t1_loop v).trips) (hk : tt i - 16 + k.val < 256)
include h2 hk

theorem off10_eq : k0_off10 i v k = ![tt i - 16 + k.val] := by
  show (![(Scalar.addi (Scalar.subi _ _) _).toNat] : Fin 1 → Nat) = _; rw [sum_word i h2 k, word_small _ (by omega)]
theorem off11_eq : k0_off11 i v k = ![(tt i - 16 + k.val) % 17, 0, 0] := by
  show (![(Scalar.indexCast (Scalar.remsi (Scalar.addi (Scalar.subi _ _) _) _) : Index).toNat, 0, 0] : Fin 3 → Nat) = _
  rw [sum_word i h2 k, rem_word _ hk]
theorem off12_eq : k0_off12 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off14_eq : k0_off14 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off15_eq : k0_off15 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]
theorem off17_eq : k0_off17 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]
theorem off18_eq : k0_off18 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off20_eq : k0_off20 i v k = ![(tt i - 16 + k.val) % 17, 0, 0, 0] := by
  show (![(Scalar.indexCast (Scalar.remsi (Scalar.addi (Scalar.subi _ _) _) _) : Index).toNat, 0, 0, 0] : Fin 4 → Nat) = _
  rw [sum_word i h2 k, rem_word _ hk]
theorem off21_eq : k0_off21 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]
theorem off23_eq : k0_off23 i v k = ![(tt i - 16 + k.val) % 17, 1, 0, 0] := by
  show (![(Scalar.indexCast (Scalar.remsi (Scalar.addi (Scalar.subi _ _) _) _) : Index).toNat, 1, 0, 0] : Fin 4 → Nat) = _
  rw [sum_word i h2 k, rem_word _ hk]

theorem chk2 (v100 v102 : BitVec 32) : k0_chk2 i v k v100 v102 := by
  have hm := Nat.mod_lt (tt i - 16 + k.val) (show 17 > 0 by decide)
  have key4 : ∀ s : Nat, s < 17 → ∀ r : Fin 2, ∀ a, (![s, r.val, 0, 0] : Fin 4 → Nat) a + S1x1x256x256.size a ≤ S17x2x256x256.size a := by
    intro s hs r a; have := r.isLt
    fin_cases a
    · show s + 1 ≤ 17; omega
    · show r.val + 1 ≤ 2; omega
    · show 0 + 256 ≤ 256; omega
    · show 0 + 256 ≤ 256; omega
  have key1 : ∀ s : Nat, s < 17 → ∀ r : Fin 2, ∀ a, (![s, r.val, 0, 0] : Fin 4 → Nat) a + S1x1x1x256.size a ≤ S17x2x1x256.size a := by
    intro s hs r a; have := r.isLt
    fin_cases a
    · show s + 1 ≤ 17; omega
    · show r.val + 1 ≤ 2; omega
    · show 0 + 1 ≤ 1; omega
    · show 0 + 256 ≤ 256; omega
  refine ⟨fun _ _ => ?_, fun _ _ => ?_, fun _ _ => ?_, fun _ _ => ?_, fun _ _ => ?_, fun _ _ => ?_, fun _ _ => ?_, fun _ _ => ?_, fun _ _ => ?_⟩
  · rw [off11_eq h2 k hk]; intro a
    fin_cases a
    · show (tt i - 16 + k.val) % 17 + 1 ≤ 17; omega
    · show 0 + 1 ≤ 1; omega
    · show 0 + 256 ≤ 256; omega
  · rw [off12_eq h2 k hk]; exact key4 _ hm 0
  · rw [off14_eq h2 k hk]; exact key1 _ hm 0
  · rw [off15_eq h2 k hk]; exact key4 _ hm 1
  · rw [off17_eq h2 k hk]; exact key1 _ hm 1
  · rw [off18_eq h2 k hk]; exact key4 _ hm 0
  · rw [off20_eq h2 k hk]; exact key1 _ hm 0
  · rw [off21_eq h2 k hk]; exact key4 _ hm 1
  · rw [off23_eq h2 k hk]; exact key1 _ hm 1

end Trip

theorem chk1 {i : grid0.Coords} {v : BitVec 32} (h : Fits i v) : k0_chk1 i v := by
  have hf := h
  obtain ⟨n, rfl, h1, h2, h3⟩ := h
  have hn : (BitVec.ofNat 32 n).toInt = n := by
    have key : ∀ x : Fin 18, (BitVec.ofNat 32 x.val).toInt = x.val := by decide +kernel
    exact key ⟨n, by omega⟩
  refine ⟨fun hc => ?_, fun k hc => ?_, fun hc => ?_, fun k => ?_⟩
  · exact Affine.ok (Affine.ofNat (e := 0) 0 ⟨rfl, by decide⟩) (isInt_ub _) (Affine.ofNat (e := 1) 1 ⟨rfl, by decide⟩) (by omega)
  · rw [off10_eq ((cond2_iff i).1 hc) k (hf.sum_lt k)]; intro a
    have := hf.sum_lt k
    fin_cases a; show tt i - 16 + k.val + 1 ≤ 256; omega
  · exact Affine.ok (isInt_ub _) (isInt_add0 _) (Affine.ofNat (e := 1) 1 ⟨rfl, by decide⟩) (by omega)
  · exact (Nat.not_lt_zero _ (Nat.lt_of_lt_of_eq k.isLt (trips2_eq _))).elim

/-! ## The two branches of a trip -/

/-- Whether a trip masks its pairs: the first and last tiles of the window, and those a segment boundary crosses. -/
def Masked (k : Nat) (v100 v102 : BitVec 32) : Prop := k = 0 ∨ k = 16 ∨ v100 ≠ v102

instance (k : Nat) (v100 v102 : BitVec 32) : Decidable (Masked k v100 v102) := by unfold Masked; infer_instance

theorem cond3_iff {v : BitVec 32} (k : Fin (k0_t1_loop v).trips) (hk : k.val < 256) (v100 v102 : BitVec 32) :
    k0_cond3 v k v100 v102 = 1#1 ↔ Masked k.val v100 v102 := by
  have key : ∀ x : Fin 256, ∀ b : BitVec 1, Scalar.cmpi .ne (Scalar.extui (Scalar.ori (Scalar.ori (Scalar.cmpi .eq (BitVec.ofNat 32 x.val) 0#32) (Scalar.cmpi .eq (BitVec.ofNat 32 x.val) 16#32)) b) : BitVec 32) 0#32 = 1#1
      ↔ (x.val = 0 ∨ x.val = 16 ∨ b = 1#1) := by decide +kernel
  have hb : Scalar.cmpi .ne v100 v102 = 1#1 ↔ v100 ≠ v102 := by
    by_cases h : v100 = v102
    · simp [Scalar.cmpi, IntOp.cmpi, h]
    · simp [Scalar.cmpi, IntOp.cmpi, h, bne_iff_ne.mpr h]
  unfold Masked; rw [← hb, ← key ⟨k.val, hk⟩]
  show Scalar.cmpi .ne (Scalar.extui (Scalar.ori (Scalar.ori (Scalar.cmpi .eq (Scf.iv 0#32 1#32 k.val) 0#32) (Scalar.cmpi .eq (Scf.iv 0#32 1#32 k.val) 16#32)) _) : BitVec 32) 0#32 = 1#1 ↔ _
  rw [trip_word]

theorem cond4_iff {v : BitVec 32} (k : Fin (k0_t1_loop v).trips) (hk : k.val < 256) (v100 v102 : BitVec 32) :
    k0_cond4 v k v100 v102 = 1#1 ↔ ¬ Masked k.val v100 v102 := by
  have key : ∀ x : Fin 256, ∀ b : BitVec 1, Scalar.cmpi .ne (Scalar.extui (Scalar.xori (Scalar.ori (Scalar.ori (Scalar.cmpi .eq (BitVec.ofNat 32 x.val) 0#32) (Scalar.cmpi .eq (BitVec.ofNat 32 x.val) 16#32)) b) 1#1) : BitVec 32) 0#32 = 1#1
      ↔ ¬ (x.val = 0 ∨ x.val = 16 ∨ b = 1#1) := by decide +kernel
  have hb : Scalar.cmpi .ne v100 v102 = 1#1 ↔ v100 ≠ v102 := by
    by_cases h : v100 = v102
    · simp [Scalar.cmpi, IntOp.cmpi, h]
    · simp [Scalar.cmpi, IntOp.cmpi, h, bne_iff_ne.mpr h]
  unfold Masked; rw [← hb, ← key ⟨k.val, hk⟩]
  show Scalar.cmpi .ne (Scalar.extui (Scalar.xori (Scalar.ori (Scalar.ori (Scalar.cmpi .eq (Scf.iv 0#32 1#32 k.val) 0#32) (Scalar.cmpi .eq (Scf.iv 0#32 1#32 k.val) 16#32)) _) _) : BitVec 32) 0#32 = 1#1 ↔ _
  rw [trip_word]

end Cert.KernelIdeal.Swa

end
-- ==== Proof.KernelIdeal.Steps.lean ====
module

public import proofs.«01_k».proof.Proof.KernelIdeal.Chain
public import proofs.«01_k».proof.Proof.Gen.KernelIdeal.Skeleton
public import Idealize.ShloMosaic.Lib.Pointwise
public import Idealize.ShloMosaic.Lib.WritesUnit

/-!
What one grid point does, as plain functions of the buffers' contents: the state the kernel keeps in its scratch
buffers (`St`), the blocks it is handed (`Blk`), the tables (`Tbl`), one trip of the loop over query tiles (`trip`),
all trips (`trips`), and the two phases of a grid point (`fill`, `drain`). Nothing here speaks of memory.
-/

@[expose] public section

set_option maxRecDepth 16384

noncomputable section

namespace Cert.KernelIdeal.Swa

open Cert.KernelIdeal Cert.KernelIdeal.Gen
open Idealize.ShloMosaic Idealize.ShloMosaic.TcCoe

variable {F : FTy → Type} [FloatOps F] [Named F]

/-- The ring slot that tile number `n` lives in. -/
def slot (n : ℕ) : Fin 17 := ⟨n % 17, Nat.mod_lt _ (by decide)⟩

/-- The rows of one slot and one head pair member of a ring of matrices. -/
def row {e : EltTy} (X : Vec F S17x2x256x256 e) (s : Fin 17) (r : Fin 2) : Vec F S1x1x256x256 e :=
  fun x => X (ix4 s r (x 2) (x 3))

/-- The same for a ring of rows. -/
def rowL {e : EltTy} (X : Vec F S17x2x1x256 e) (s : Fin 17) (r : Fin 2) : Vec F S1x1x1x256 e :=
  fun x => X (ix4 s r 0 (x 3))

/-- One slot of the ring of segment rows. -/
def rowS {e : EltTy} (X : Vec F S17x1x256 e) (s : Fin 17) : Vec F S1x1x256 e :=
  fun x => X (ix3 s 0 (x 2))

/-- One of the two accumulator matrices. -/
def row2 {e : EltTy} (X : Vec F S2x256x256 e) (r : Fin 2) : Vec F S1x256x256 e :=
  fun x => X (ix3 r (x 1) (x 2))

/-- One of the two matrices of a block of query rows. -/
def rowB {e : EltTy} (X : Vec F S1x2x256x256 e) (r : Fin 2) : Vec F S1x1x256x256 e :=
  fun x => X (ix4 0 r (x 2) (x 3))

/-- One of the two rows of a block of log-sum-exp values. -/
def rowBL {e : EltTy} (X : Vec F S1x2x1x256 e) (r : Fin 2) : Vec F S1x1x1x256 e :=
  fun x => X (ix4 0 r 0 (x 3))

/-- A ring of matrices with one slot's matrix replaced. -/
def setRow {e : EltTy} (X : Vec F S17x2x256x256 e) (s : Fin 17) (r : Fin 2) (v : Vec F S1x1x256x256 e) :
    Vec F S17x2x256x256 e :=
  fun y => if (y 0).val = s.val ∧ (y 1).val = r.val then v (ix4 0 0 (y 2) (y 3)) else X y

/-- A ring of rows with one slot's row replaced. -/
def setRowL {e : EltTy} (X : Vec F S17x2x1x256 e) (s : Fin 17) (r : Fin 2) (v : Vec F S1x1x1x256 e) :
    Vec F S17x2x1x256 e :=
  fun y => if (y 0).val = s.val ∧ (y 1).val = r.val then v (ix4 0 0 0 (y 3)) else X y

/-- A ring of segment rows with one slot replaced. -/
def setRowS {e : EltTy} (X : Vec F S17x1x256 e) (s : Fin 17) (v : Vec F S1x1x256 e) : Vec F S17x1x256 e :=
  fun y => if (y 0).val = s.val then v (ix3 0 0 (y 2)) else X y

/-- A pair of matrices with one replaced. -/
def setRow2 {e : EltTy} (X : Vec F S2x256x256 e) (r : Fin 2) (v : Vec F S1x256x256 e) : Vec F S2x256x256 e :=
  fun y => if (y 0).val = r.val then v (ix3 0 (y 1) (y 2)) else X y

/-- A block of query rows from its two matrices. -/
def pairB {e : EltTy} (v w : Vec F S1x1x256x256 e) : Vec F S1x2x256x256 e :=
  fun y => if (y 1).val = 0 then v (ix4 0 0 (y 2) (y 3)) else w (ix4 0 0 (y 2) (y 3))

/-- The scratch buffers' contents. -/
structure St (F : FTy → Type) where
  /-- the ring of query tiles -/
  q : Vec F S17x2x256x256 .fp8e4m3
  /-- the ring of output gradient tiles -/
  o : Vec F S17x2x256x256 .fp8e5m2
  /-- the ring of log-sum-exp rows -/
  lse : Vec F S17x2x1x256 .f32
  /-- the ring of row dot products -/
  dl : Vec F S17x2x1x256 .f32
  /-- the ring of query segment rows -/
  sg : Vec F S17x1x256 .i32
  /-- the ring of query gradient accumulators -/
  dq : Vec F S17x2x256x256 .f32
  /-- the transposed key tile -/
  kt : Vec F S256x256 .bf16
  /-- the key segments, one column repeated -/
  sc : Vec F S256x256 .i32
  /-- the key gradient accumulators -/
  dk : Vec F S2x256x256 .f32
  /-- the value gradient accumulators -/
  dv : Vec F S2x256x256 .f32

/-- The blocks a grid point is handed. -/
structure Blk (F : FTy → Type) where
  q : Vec F S1x2x256x256 .fp8e4m3
  o : Vec F S1x2x256x256 .fp8e5m2
  out : Vec F S1x2x256x256 .bf16
  lse : Vec F S1x2x1x256 .f32
  sgq : Vec F S1x256 .i32
  k : Vec F S1x256x256 .fp8e4m3
  v : Vec F S1x256x256 .fp8e4m3
  sgk : Vec F S1x256 .i32

/-- The tables every grid point reads. -/
structure Tbl (F : FTy → Type) where
  nhi : Vec F S256 .i32
  sf : Vec F S256 .i32
  sl : Vec F S256 .i32
  qk : Vec F S4x2 .f32
  dov : Vec F S4x2 .f32
  ks : Vec F S4 .f32
  qs : Vec F S4x2 .f32
  dos : Vec F S4x2 .f32

section Trip

variable (T : Tbl F) (B : Blk F) (g : Fin 4) (j d : ℕ) (st : St F)

/-- The table entry of tile `n` (tile numbers of interest are below 256). -/
def at256 {e : EltTy} (X : Vec F S256 e) (n : ℕ) : Elt F e := X (ix1 (⟨n % 256, Nat.mod_lt _ (by decide)⟩ : Fin 256))

/-- The scores (keys by queries) of key tile `j` and query tile `j + d`, less the log-sum-exp, in powers of two: masked when the pair
of tiles needs it. -/
def eT (r : Fin 2) : FVec F S256x256 .f32 :=
  if Masked d (at256 T.sf j) (at256 T.sl (j + d)) then
    k0_pay16 (BitVec.ofNat 32 j) (BitVec.ofNat 32 (j + d)) st.sc (rowS st.sg (slot (j + d))) B.k (row st.q (slot (j + d)) r)
      (T.qk (ix2 g r)) (rowL st.lse (slot (j + d)) r)
  else subf (k0_pay23 B.k (row st.q (slot (j + d)) r) (T.qk (ix2 g r)))
    (broadcastTo S256x256 (k0_pay24 (rowL st.lse (slot (j + d)) r)) broadcasts_S1x256_S256x256)

/-- The score gradients of the pair of tiles. -/
def dsT (r : Fin 2) : FVec F S256x256 .bf16 :=
  k0_pay18 (eT T B g j d st r) B.v (row st.o (slot (j + d)) r) (T.dov (ix2 g r)) (rowL st.dl (slot (j + d)) r)

/-- The value gradient accumulator after the pair of tiles. -/
def dvT (r : Fin 2) : FVec F S1x256x256 .f32 := k0_pay19 (eT T B g j d st r) (row2 st.dv r) (row st.o (slot (j + d)) r)

/-- The key gradient accumulator after the pair of tiles. -/
def dkT (r : Fin 2) : FVec F S1x256x256 .f32 :=
  k0_pay21 (dsT T B g j d st r) (k0_pay20 (row2 st.dk r)) (row st.q (slot (j + d)) r)

/-- The query gradient accumulator of tile `j + d` after the pair of tiles. -/
def dqT (r : Fin 2) : FVec F S1x1x256x256 .f32 := k0_pay22 (dsT T B g j d st r) (row st.dq (slot (j + d)) r) st.kt

/-- One trip of the loop: key tile `j` against query tile `j + d`. -/
def trip : St F :=
  { st with
    dv := setRow2 (setRow2 st.dv 0 (dvT T B g j d st 0)) 1 (dvT T B g j d st 1)
    dk := setRow2 (setRow2 st.dk 0 (dkT T B g j d st 0)) 1 (dkT T B g j d st 1)
    dq := setRow (setRow st.dq (slot (j + d)) 0 (dqT T B g j d st 0)) (slot (j + d)) 1 (dqT T B g j d st 1) }

end Trip

/-- The first `n` trips. -/
def trips (T : Tbl F) (B : Blk F) (g : Fin 4) (j : ℕ) (st : St F) : ℕ → St F
  | 0 => st
  | n + 1 => trip T B g j n (trips T B g j st n)

/-- The first phase of a grid point: query tile `t` enters the ring. -/
def fill (T : Tbl F) (B : Blk F) (g : Fin 4) (t : ℕ) (st : St F) : St F :=
  { st with
    sg := setRowS st.sg (slot t) (k0_pay5 B.sgq)
    q := setRow (setRow st.q (slot t) 0 (k0_pay6 (rowB B.q 0))) (slot t) 1 (k0_pay11 (rowB B.q 1))
    o := setRow (setRow st.o (slot t) 0 (k0_pay7 (rowB B.o 0))) (slot t) 1 (k0_pay12 (rowB B.o 1))
    lse := setRowL (setRowL st.lse (slot t) 0 (k0_pay8 (rowBL B.lse 0))) (slot t) 1 (k0_pay13 (rowBL B.lse 1))
    dl := setRowL (setRowL st.dl (slot t) 0 (k0_pay9 (rowB B.o 0) (T.dos (ix2 g 0)) (rowB B.out 0))) (slot t) 1
      (k0_pay1 (k0_pay14 (rowB B.o 1) (T.dos (ix2 g 1)) (rowB B.out 1)))
    dq := setRow (setRow st.dq (slot t) 0 k0_pay10) (slot t) 1 k0_pay2 }

/-- What the second phase prepares for key tile `j`: the transposed key tile, its segments, zero accumulators. -/
def enter (B : Blk F) (st : St F) : St F :=
  { st with kt := k0_pay65 B.k, sc := k0_pay66 B.sgk, dk := k0_pay67, dv := k0_pay68 }

/-- The second phase of a grid point: key tile `j` against its query tiles. -/
def drain (T : Tbl F) (B : Blk F) (g : Fin 4) (j : ℕ) (st : St F) : St F :=
  trips T B g j (enter B st) ((at256 T.nhi j : BitVec 32).toNat)

/-- The key gradient block written out. -/
def dkOut (T : Tbl F) (g : Fin 4) (st : St F) : FVec F S1x256x256 .bf16 :=
  k0_pay75 (row2 st.dk 0) (T.qs (ix2 g 0)) (row2 st.dk 1) (T.qs (ix2 g 1))

/-- The value gradient block written out. -/
def dvOut (T : Tbl F) (g : Fin 4) (st : St F) : FVec F S1x256x256 .bf16 :=
  k0_pay76 (row2 st.dv 0) (T.dos (ix2 g 0)) (row2 st.dv 1) (T.dos (ix2 g 1))

/-- The query gradient block written out. -/
def dqOut (T : Tbl F) (g : Fin 4) (j : ℕ) (st : St F) : FVec F S1x2x256x256 .bf16 :=
  pairB (F := F) (e := .bf16) (k0_pay3 (row st.dq (slot j) 0) (T.ks (ix1 g))) (k0_pay4 (row st.dq (slot j) 1) (T.ks (ix1 g)))

end Cert.KernelIdeal.Swa
end
-- ==== Proof.KernelIdeal.Reads.lean ====
module

public import proofs.«01_k».proof.Proof.KernelIdeal.Steps
public import Idealize.ShloMosaic.Lib.Exec

/-!
Loads and stores of rows of the scratch buffers, as the plain functions `row`, `setRow`, … of what a view reads.
-/

@[expose] public section

set_option maxRecDepth 16384

noncomputable section

namespace Cert.KernelIdeal.Swa

open Cert.KernelIdeal Cert.KernelIdeal.Gen
open Idealize.ShloMosaic Idealize.ShloMosaic.TcCoe

variable {F : FTy → Type} [FloatOps F] [Named F] {κ : Kind} {sp : Space} {e : EltTy}

theorem ld_row (v : View sig κ sp S17x2x256x256 e) (f : v.ty.Contents (Elt F)) {off : Fin 4 → ℕ} (inb)
    (s : Fin 17) (r : Fin 2) (h : off = ![s.val, r.val, 0, 0]) :
    v.readAt (Elt F) (Rect.unit (s := S17x2x256x256) off S1x1x256x256.size inb).toLoadRect f = row (v.read (Elt F) f) s r := by
  subst h; funext x
  rw [View.readAt_apply]; unfold row
  congr 1; idx_vars x; idx_ext

theorem ld_rowL (v : View sig κ sp S17x2x1x256 e) (f : v.ty.Contents (Elt F)) {off : Fin 4 → ℕ} (inb)
    (s : Fin 17) (r : Fin 2) (h : off = ![s.val, r.val, 0, 0]) :
    v.readAt (Elt F) (Rect.unit (s := S17x2x1x256) off S1x1x1x256.size inb).toLoadRect f = rowL (v.read (Elt F) f) s r := by
  subst h; funext x
  rw [View.readAt_apply]; unfold rowL
  congr 1; idx_vars x; idx_ext

theorem ld_rowS (v : View sig κ sp S17x1x256 e) (f : v.ty.Contents (Elt F)) {off : Fin 3 → ℕ} (inb)
    (s : Fin 17) (h : off = ![s.val, 0, 0]) :
    v.readAt (Elt F) (Rect.unit (s := S17x1x256) off S1x1x256.size inb).toLoadRect f = rowS (v.read (Elt F) f) s := by
  subst h; funext x
  rw [View.readAt_apply]; unfold rowS
  congr 1; idx_vars x; idx_ext

theorem ld_row2 (v : View sig κ sp S2x256x256 e) (f : v.ty.Contents (Elt F)) {off : Fin 3 → ℕ} (inb)
    (r : Fin 2) (h : off = ![r.val, 0, 0]) :
    v.readAt (Elt F) (Rect.unit (s := S2x256x256) off S1x256x256.size inb).toLoadRect f = row2 (v.read (Elt F) f) r := by
  subst h; funext x
  rw [View.readAt_apply]; unfold row2
  congr 1; idx_vars x; idx_ext

theorem ld_rowB (v : View sig κ sp S1x2x256x256 e) (f : v.ty.Contents (Elt F)) {off : Fin 4 → ℕ} (inb)
    (r : Fin 2) (h : off = ![0, r.val, 0, 0]) :
    v.readAt (Elt F) (Rect.unit (s := S1x2x256x256) off S1x1x256x256.size inb).toLoadRect f = rowB (v.read (Elt F) f) r := by
  subst h; funext x
  rw [View.readAt_apply]; unfold rowB
  congr 1; idx_vars x; idx_ext

theorem ld_rowBL (v : View sig κ sp S1x2x1x256 e) (f : v.ty.Contents (Elt F)) {off : Fin 4 → ℕ} (inb)
    (r : Fin 2) (h : off = ![0, r.val, 0, 0]) :
    v.readAt (Elt F) (Rect.unit (s := S1x2x1x256) off S1x1x1x256.size inb).toLoadRect f = rowBL (v.read (Elt F) f) r := by
  subst h; funext x
  rw [View.readAt_apply]; unfold rowBL
  congr 1; idx_vars x; idx_ext

theorem st_row (v : View sig κ sp S17x2x256x256 e) (f : v.ty.Contents (Elt F)) {off : Fin 4 → ℕ} (inb)
    (w : Vec F S1x1x256x256 e) (L : List (View.Piece (Elt F) S17x2x256x256 e))
    (s : Fin 17) (r : Fin 2) (h : off = ![s.val, r.val, 0, 0]) :
    v.read (Elt F) (v.writes (Elt F) f (⟨Rect.unit (s := S17x2x256x256) off S1x1x256x256.size inb, w⟩ :: L))
      = setRow (v.read (Elt F) (v.writes (Elt F) f L)) s r w := by
  funext y
  unfold setRow
  idx_vars y
  by_cases hc : (y0 : ℕ) = s ∧ (y1 : ℕ) = r
  · refine Eq.trans ?_ (if_pos hc).symm
    refine View.read_writes_cons_unit_of_mem v f inb w L _ (ix4 0 0 y2 y3) h fun a => ?_
    fin_cases a <;> simp [ix2, ix3, ix4, hc]
  · refine Eq.trans ?_ (if_neg hc).symm
    by_cases h0 : (y0 : ℕ) = s
    · exact View.read_writes_cons_unit_of_not_mem v f inb w L _ h 1 (by
        have h1 : ¬ (y1 : ℕ) = r := fun h1 => hc ⟨h0, h1⟩
        show (y1 : ℕ) < r ∨ r + 1 ≤ (y1 : ℕ); omega)
    · exact View.read_writes_cons_unit_of_not_mem v f inb w L _ h 0 (by
        show (y0 : ℕ) < s ∨ s + 1 ≤ (y0 : ℕ); omega)

theorem st_rowL (v : View sig κ sp S17x2x1x256 e) (f : v.ty.Contents (Elt F)) {off : Fin 4 → ℕ} (inb)
    (w : Vec F S1x1x1x256 e) (L : List (View.Piece (Elt F) S17x2x1x256 e))
    (s : Fin 17) (r : Fin 2) (h : off = ![s.val, r.val, 0, 0]) :
    v.read (Elt F) (v.writes (Elt F) f (⟨Rect.unit (s := S17x2x1x256) off S1x1x1x256.size inb, w⟩ :: L))
      = setRowL (v.read (Elt F) (v.writes (Elt F) f L)) s r w := by
  funext y
  unfold setRowL
  idx_vars y
  by_cases hc : (y0 : ℕ) = s ∧ (y1 : ℕ) = r
  · refine Eq.trans ?_ (if_pos hc).symm
    refine View.read_writes_cons_unit_of_mem v f inb w L _ (ix4 0 0 0 y3) h fun a => ?_
    fin_cases a <;> simp [ix2, ix3, ix4, hc]
  · refine Eq.trans ?_ (if_neg hc).symm
    by_cases h0 : (y0 : ℕ) = s
    · exact View.read_writes_cons_unit_of_not_mem v f inb w L _ h 1 (by
        have h1 : ¬ (y1 : ℕ) = r := fun h1 => hc ⟨h0, h1⟩
        show (y1 : ℕ) < r ∨ r + 1 ≤ (y1 : ℕ); omega)
    · exact View.read_writes_cons_unit_of_not_mem v f inb w L _ h 0 (by
        show (y0 : ℕ) < s ∨ s + 1 ≤ (y0 : ℕ); omega)

theorem st_rowS (v : View sig κ sp S17x1x256 e) (f : v.ty.Contents (Elt F)) {off : Fin 3 → ℕ} (inb)
    (w : Vec F S1x1x256 e) (L : List (View.Piece (Elt F) S17x1x256 e))
    (s : Fin 17) (h : off = ![s.val, 0, 0]) :
    v.read (Elt F) (v.writes (Elt F) f (⟨Rect.unit (s := S17x1x256) off S1x1x256.size inb, w⟩ :: L))
      = setRowS (v.read (Elt F) (v.writes (Elt F) f L)) s w := by
  funext y
  unfold setRowS
  idx_vars y
  by_cases hc : (y0 : ℕ) = s
  · refine Eq.trans ?_ (if_pos hc).symm
    refine View.read_writes_cons_unit_of_mem v f inb w L _ (ix3 0 0 y2) h fun a => ?_
    fin_cases a <;> simp [ix2, ix3, ix4, hc]
  · refine Eq.trans ?_ (if_neg hc).symm
    exact View.read_writes_cons_unit_of_not_mem v f inb w L _ h 0 (by
      show (y0 : ℕ) < s ∨ s + 1 ≤ (y0 : ℕ); omega)

theorem st_row2 (v : View sig κ sp S2x256x256 e) (f : v.ty.Contents (Elt F)) {off : Fin 3 → ℕ} (inb)
    (w : Vec F S1x256x256 e) (L : List (View.Piece (Elt F) S2x256x256 e))
    (r : Fin 2) (h : off = ![r.val, 0, 0]) :
    v.read (Elt F) (v.writes (Elt F) f (⟨Rect.unit (s := S2x256x256) off S1x256x256.size inb, w⟩ :: L))
      = setRow2 (v.read (Elt F) (v.writes (Elt F) f L)) r w := by
  funext y
  unfold setRow2
  idx_vars y
  by_cases hc : (y0 : ℕ) = r
  · refine Eq.trans ?_ (if_pos hc).symm
    refine View.read_writes_cons_unit_of_mem v f inb w L _ (ix3 0 y1 y2) h fun a => ?_
    fin_cases a <;> simp [ix2, ix3, ix4, hc]
  · refine Eq.trans ?_ (if_neg hc).symm
    exact View.read_writes_cons_unit_of_not_mem v f inb w L _ h 0 (by
      show (y0 : ℕ) < r ∨ r + 1 ≤ (y0 : ℕ); omega)

/-- A load of a whole buffer reads all of it. -/
theorem ld_all {S : Shape} (v : View sig κ sp S e) (f : v.ty.Contents (Elt F)) {off : Fin S.rank → ℕ} (inb)
    (h : off = fun _ => 0) :
    v.readAt (Elt F) (Rect.unit (s := S) off S.size inb).toLoadRect f = v.read (Elt F) f := by
  subst h; funext x
  rw [View.readAt_apply]
  congr 1; funext a; apply Fin.ext
  simp

/-- A store of a whole buffer replaces all of it. -/
theorem st_all {S : Shape} (v : View sig κ sp S e) (f : v.ty.Contents (Elt F)) {off : Fin S.rank → ℕ} (inb)
    (w : Vec F S e) (L : List (View.Piece (Elt F) S e)) (h : off = fun _ => 0) :
    v.read (Elt F) (v.writes (Elt F) f (⟨Rect.unit (s := S) off S.size inb, w⟩ :: L)) = w := by
  funext y
  exact View.read_writes_cons_unit_of_mem v f inb w L y y h fun a => by simp

theorem zeros3 : (![0, 0, 0] : Fin 3 → ℕ) = fun _ => 0 := by decide
theorem zeros2 : (![0, 0] : Fin 2 → ℕ) = fun _ => 0 := by decide

/-- The second matrix of a slot after the first is replaced. -/
theorem row_setRow_one (X : Vec F S17x2x256x256 e) (s : Fin 17) (v : Vec F S1x1x256x256 e) :
    row (setRow X s 0 v) s 1 = row X s 1 := by
  funext x
  exact if_neg fun h => absurd (show (1 : ℕ) = 0 from h.2) (by decide)

/-- A one-element load of a table of pairs. -/
theorem ld_pair (v : View sig κ sp S4x2 e) (f : v.ty.Contents (Elt F)) {off : Fin 2 → ℕ} (inb) (hn)
    (g : Fin 4) (r : Fin 2) (h : off = ![g.val, r.val]) :
    v.readAt (Elt F) (Rect.unit (s := S4x2) off S1x1.size inb).toLoadRect f (Shape.Idx.first hn)
      = v.read (Elt F) f (ix2 g r) := by
  subst h
  rw [View.readAt_apply]
  congr 1; funext a; apply Fin.ext; fin_cases a <;> simp [Shape.Idx.first, ix2]

theorem ld_four (v : View sig κ sp S4 e) (f : v.ty.Contents (Elt F)) {off : Fin 1 → ℕ} (inb) (hn)
    (g : Fin 4) (h : off = ![g.val]) :
    v.readAt (Elt F) (Rect.unit (s := S4) off S1.size inb).toLoadRect f (Shape.Idx.first hn)
      = v.read (Elt F) f (ix1 g) := by
  subst h
  rw [View.readAt_apply]
  congr 1; funext a; apply Fin.ext; fin_cases a; simp [Shape.Idx.first, ix1]

theorem ld_tile (v : View sig κ sp S256 e) (f : v.ty.Contents (Elt F)) {off : Fin 1 → ℕ} (inb) (hn)
    (n : ℕ) (hlt : n < 256) (h : off = ![n]) :
    v.readAt (Elt F) (Rect.unit (s := S256) off S1.size inb).toLoadRect f (Shape.Idx.first hn)
      = at256 (v.read (Elt F) f) n := by
  subst h
  rw [View.readAt_apply]; unfold at256
  congr 1; funext a; apply Fin.ext; fin_cases a; simp [Shape.Idx.first, ix1, Nat.mod_eq_of_lt hlt]

/-- A block of query rows written in its two halves. -/
theorem st_pairB (v : View sig κ sp S1x2x256x256 e) (f : v.ty.Contents (Elt F)) (inb inb')
    (w w' : Vec F S1x1x256x256 e) (L : List (View.Piece (Elt F) S1x2x256x256 e)) :
    v.read (Elt F) (v.writes (Elt F) f (⟨Rect.unit (s := S1x2x256x256) ![0, 1, 0, 0] S1x1x256x256.size inb, w'⟩
        :: ⟨Rect.unit (s := S1x2x256x256) ![0, 0, 0, 0] S1x1x256x256.size inb', w⟩ :: L)) = pairB w w' := by
  funext y
  unfold pairB
  idx_vars y
  by_cases hc : (y1 : ℕ) = 0
  · refine Eq.trans ?_ (if_pos hc).symm
    refine (View.read_writes_cons_unit_of_not_mem v f inb w' _ _ rfl 1 (by
      show (y1 : ℕ) < 1 ∨ 1 + 1 ≤ (y1 : ℕ); omega)).trans ?_
    refine View.read_writes_cons_unit_of_mem v f inb' w L _ (ix4 0 0 y2 y3) rfl fun a => ?_
    fin_cases a <;> simp [ix4, hc]
  · refine Eq.trans ?_ (if_neg hc).symm
    refine View.read_writes_cons_unit_of_mem v f inb w' _ _ (ix4 0 0 y2 y3) rfl fun a => ?_
    fin_cases a <;> simp [ix4]
    omega

end Cert.KernelIdeal.Swa
end
-- ==== Proof.KernelIdeal.Skel.lean ====
module

public import proofs.«01_k».proof.Proof.Gen.KernelIdeal.Skeleton

/-!
The parts of the kernel that read no named constant, restated as the skeletons they equal, over the float operations alone: a run takes
these equations from the namespace of the parts.
-/

@[expose] public section

namespace Cert.KernelIdeal

open Idealize.ShloMosaic Idealize.SL.Sem
open Cert.KernelIdeal.Gen

variable {F : FTy → Type} [FloatOps F]

theorem k0_part2_eq_skeleton : k0_part2 (F := F) = k0_part2_skel (F := F) := rfl
theorem k0_part5_eq_skeleton : k0_part5 (F := F) = k0_part5_skel (F := F) := rfl
theorem k0_part7_eq_skeleton : k0_part7 (F := F) = k0_part7_skel (F := F) := rfl
theorem k0_part9_eq_skeleton : k0_part9 (F := F) = k0_part9_skel (F := F) := rfl
theorem k0_part11_eq_skeleton : k0_part11 (F := F) = k0_part11_skel (F := F) := rfl
theorem k0_part13_eq_skeleton : k0_part13 (F := F) = k0_part13_skel (F := F) := rfl
theorem k0_part15_eq_skeleton : k0_part15 (F := F) = k0_part15_skel (F := F) := rfl
theorem k0_part17_eq_skeleton : k0_part17 (F := F) = k0_part17_skel (F := F) := rfl
theorem k0_part19_eq_skeleton : k0_part19 (F := F) = k0_part19_skel (F := F) := rfl
theorem k0_part21_eq_skeleton : k0_part21 (F := F) = k0_part21_skel (F := F) := rfl

end Cert.KernelIdeal
end
-- ==== Proof.KernelIdeal.Own.lean ====
module

public import proofs.«01_k».proof.Proof.KernelIdeal.Reads
public import proofs.«01_k».proof.Proof.KernelIdeal.Skel
public import Idealize.ShloMosaic.Lib.Exec
public import Idealize.ShloMosaic.Lib.Tactic
public import Idealize.ShloMosaic.Lib.Pipeline.Kit

/-!
Ownership of a grid point's buffers, at the contents named by the records of `Steps`.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The buffer a memref names, held at contents. -/
abbrev held (c : Dev nD) {sp : Space} {s : Shape} {e : EltTy} (a : Memref sig .tc sp s e)
    (f : Buf (Elt F) (a.view.loc (c : Thread nD τ))) : sProp 𝕄 :=
  iprop(a.view.loc (c : Thread nD τ) ↦[a.view.set]{fullShare} f)

/-- The buffer a memref names, read as `X`. -/
abbrev reads (c : Dev nD) {sp : Space} {s : Shape} {e : EltTy} (a : Memref sig .tc sp s e) (X : Vec F s e) : sProp 𝕄 :=
  owns (c : Thread nD τ) a fullShare X

theorem reads_intro (c : Dev nD) {sp : Space} {s : Shape} {e : EltTy} {a : Memref sig .tc sp s e} {X : Vec F s e}
    {f : Buf (Elt F) (a.view.loc (c : Thread nD τ))} (h : a.view.read (Elt F) f = X) :
    held (F := F) c a f ⊢ reads c a X := by
  unfold reads owns
  iintro H
  iexists f
  isplitr
  · ipureintro; exact h
  · iexact H

section
variable (c : Dev nD)
  (arg2 : Memref sig .tc .smem S256 .i32)
  (arg3 : Memref sig .tc .smem S256 .i32)
  (arg4 : Memref sig .tc .smem S256 .i32)
  (arg5 : Memref sig .tc .smem S4x2 .f32)
  (arg6 : Memref sig .tc .smem S4x2 .f32)
  (arg7 : Memref sig .tc .smem S4 .f32)
  (arg8 : Memref sig .tc .smem S4x2 .f32)
  (arg9 : Memref sig .tc .smem S4x2 .f32)
  (arg10 : Memref sig .tc .vmem S1x2x256x256 .fp8e4m3)
  (arg11 : Memref sig .tc .vmem S1x2x256x256 .fp8e5m2)
  (arg12 : Memref sig .tc .vmem S1x2x256x256 .bf16)
  (arg13 : Memref sig .tc .vmem S1x2x1x256 .f32)
  (arg14 : Memref sig .tc .vmem S1x256 .i32)
  (arg15 : Memref sig .tc .vmem S1x256x256 .fp8e4m3)
  (arg16 : Memref sig .tc .vmem S1x256x256 .fp8e4m3)
  (arg17 : Memref sig .tc .vmem S1x256 .i32)
  (arg18 : Memref sig .tc .vmem S1x2x256x256 .bf16)
  (arg19 : Memref sig .tc .vmem S1x256x256 .bf16)
  (arg20 : Memref sig .tc .vmem S1x256x256 .bf16)
  (arg21 : Memref sig .tc .vmem S17x2x256x256 .fp8e4m3)
  (arg22 : Memref sig .tc .vmem S17x2x256x256 .fp8e5m2)
  (arg23 : Memref sig .tc .vmem S17x2x1x256 .f32)
  (arg24 : Memref sig .tc .vmem S17x2x1x256 .f32)
  (arg25 : Memref sig .tc .vmem S17x1x256 .i32)
  (arg26 : Memref sig .tc .vmem S17x2x256x256 .f32)
  (arg27 : Memref sig .tc .vmem S256x256 .bf16)
  (arg28 : Memref sig .tc .vmem S256x256 .i32)
  (arg29 : Memref sig .tc .vmem S2x256x256 .f32)
  (arg30 : Memref sig .tc .vmem S2x256x256 .f32)

/-- The tables: the three prefetched ones at the half share the region hands to the body. -/
def tblOwn (T : Tbl F) : sProp 𝕄 :=
  iprop(owns (c : Thread nD τ) arg2 fullShare.right T.nhi ∗ owns (c : Thread nD τ) arg3 fullShare.right T.sf
    ∗ owns (c : Thread nD τ) arg4 fullShare.right T.sl ∗ reads c arg5 T.qk ∗ reads c arg6 T.dov
    ∗ reads c arg7 T.ks ∗ reads c arg8 T.qs ∗ reads c arg9 T.dos)

/-- The input blocks. -/
def blkOwn (B : Blk F) : sProp 𝕄 :=
  iprop(reads c arg10 B.q ∗ reads c arg11 B.o ∗ reads c arg12 B.out ∗ reads c arg13 B.lse ∗ reads c arg14 B.sgq
    ∗ reads c arg15 B.k ∗ reads c arg16 B.v ∗ reads c arg17 B.sgk)

/-- The scratch buffers. -/
def stOwn (st : St F) : sProp 𝕄 :=
  iprop(reads c arg21 st.q ∗ reads c arg22 st.o ∗ reads c arg23 st.lse ∗ reads c arg24 st.dl ∗ reads c arg25 st.sg
    ∗ reads c arg26 st.dq ∗ reads c arg27 st.kt ∗ reads c arg28 st.sc ∗ reads c arg29 st.dk ∗ reads c arg30 st.dv)
end
end Cert.KernelIdeal.Swa
end
-- ==== Proof.KernelIdeal.Trip.lean ====
module

public import proofs.«01_k».proof.Proof.KernelIdeal.Own
public import proofs.«01_k».proof.Proof.Gen.KernelIdeal.Loops
public import Idealize.ShloMosaic.Lib.Tactic.Stretches

/-!
One trip of the loop over query tiles does what `trip` says.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)
  (arg0 arg1 v6 v30 : BitVec 32)

set_option maxHeartbeats 4000000 in
theorem tripRun (k0_h2 : k0_cond2 i = 1#1) (k0_hw1 : k0_chk1 i v30) (k : Fin (k0_t1_loop v30).trips)
    (hk : tt i - 16 + k.val < 256) (hv6 : v6 = BitVec.ofNat 32 (tt i - 16)) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1 k ())
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trip T B ⟨gg i, gg_lt i⟩ (tt i - 16) k.val st)) := by
  unfold tblOwn blkOwn stOwn reads owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  subst hv6
  have h16 : 16 ≤ tt i := (cond2_iff i).1 k0_h2
  have hk256 : k.val < 256 := by omega
  have hw2 : ∀ a b, k0_chk2 i v30 k a b := fun a b => chk2 h16 k hk a b
  have hv95 : Scalar.addi (BitVec.ofNat 32 (tt i - 16)) (Scf.iv 0#32 1#32 k.val) = BitVec.ofNat 32 (tt i - 16 + k.val) := by
    rw [← sub_tt i h16]; exact sum_word i h16 k
  have ha : arg3.view.readAt (Elt F) (Rect.unit (s := S256) (k0_off9 i) S1.size (k0_off9_inb i k0_h2)).toLoadRect g3
      (Shape.Idx.first (numel1_S1.symm ▸ Nat.one_pos)) = at256 T.sf (tt i - 16) := by
    rw [← e3]; exact ld_tile _ _ _ _ _ (by have := tt_lt i; omega) (off9_eq i h16)
  have hb : arg4.view.readAt (Elt F) (Rect.unit (s := S256) (k0_off10 i v30 k) S1.size (k0_off10_inb i v30 k0_hw1 k k0_h2)).toLoadRect g4
      (Shape.Idx.first (numel1_S1.symm ▸ Nat.one_pos)) = at256 T.sl (tt i - 16 + k.val) := by
    rw [← e4]; exact ld_tile _ _ _ _ _ hk (off10_eq h16 k hk)
  by_cases hm : Masked k.val (at256 T.sf (tt i - 16)) (at256 T.sl (tt i - 16 + k.val))
  · have h3 : k0_cond3 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact (cond3_iff k hk256 _ _).2 hm
    have h4 : ¬ k0_cond4 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact fun h => (cond4_iff k hk256 _ _).1 h hm
    sl_unfold [k0_t1_body]
    sl_exec
    sl_step
    isplitl [H2 H3 H4 H5 H6 H7 H8 H9]; · sl_close
    isplitl [H10 H11 H12 H13 H14 H15 H16 H17]; · sl_close
    isplitl [H21]; · iexists g21; isplitr; · ipureintro; exact e21
                     · iexact H21
    isplitl [H22]; · iexists g22; isplitr; · ipureintro; exact e22
                     · iexact H22
    isplitl [H23]; · iexists g23; isplitr; · ipureintro; exact e23
                     · iexact H23
    isplitl [H24]; · iexists g24; isplitr; · ipureintro; exact e24
                     · iexact H24
    isplitl [H25]; · iexists g25; isplitr; · ipureintro; exact e25
                     · iexact H25
    isplitl [H26]
    · iexists _
      isplitr; rotate_left
      · iexact H26
      · ipureintro
        refine (st_row _ _ _ _ _ (slot (tt i - 16 + k.val)) 1 (off15_eq h16 k hk)).trans (congrArg₂ (setRow · (slot (tt i - 16 + k.val)) 1 ·)
          ((st_row _ _ _ _ _ (slot (tt i - 16 + k.val)) 0 (off12_eq h16 k hk)).trans (congrArg₂ (setRow · (slot (tt i - 16 + k.val)) 0 ·) e26 ?_)) ?_)
        · sl_unfold_run_names
          simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
          unfold dqT dsT eT
          rw [if_pos hm]; all_goals first | rfl | (sl_open_pay; rfl)
        · sl_unfold_run_names
          simp only [ld_row _ _ _ (slot (tt i - 16 + k.val)) 1 (off15_eq h16 k hk), st_row _ _ _ _ _ (slot (tt i - 16 + k.val)) 0 (off12_eq h16 k hk), row_setRow_one, View.writes_nil]
          simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
          unfold dqT dsT eT
          rw [if_pos hm]; all_goals first | rfl | (sl_open_pay; rfl)
    isplitl [H27]; · iexists g27; isplitr; · ipureintro; exact e27
                     · iexact H27
    isplitl [H28]; · iexists g28; isplitr; · ipureintro; exact e28
                     · iexact H28
    isplitl [H29]
    · iexists _
      isplitr; rotate_left
      · iexact H29
      · ipureintro
        refine (st_row2 _ _ _ _ _ 1 rfl).trans (congrArg₂ (setRow2 · 1 ·) ((st_row2 _ _ _ _ _ 0 rfl).trans (congrArg₂ (setRow2 · 0 ·) e29 ?_)) ?_)
        all_goals
          sl_unfold_run_names
          simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
          unfold dkT dsT eT
          rw [if_pos hm]; all_goals first | rfl | (sl_open_pay; rfl)
    iexists _
    isplitr; rotate_left
    · iexact H30
    · ipureintro
      refine (st_row2 _ _ _ _ _ 1 rfl).trans (congrArg₂ (setRow2 · 1 ·) ((st_row2 _ _ _ _ _ 0 rfl).trans (congrArg₂ (setRow2 · 0 ·) e30 ?_)) ?_)
      all_goals
        sl_unfold_run_names
        simp only [ld_row _ _ _ (slot (tt i - 16 + k.val)) 0 (off12_eq h16 k hk), ld_row _ _ _ (slot (tt i - 16 + k.val)) 1 (off15_eq h16 k hk), ld_rowL _ _ _ (slot (tt i - 16 + k.val)) 0 (off14_eq h16 k hk), ld_rowL _ _ _ (slot (tt i - 16 + k.val)) 1 (off17_eq h16 k hk), ld_pair _ _ _ _ ⟨gg i, gg_lt i⟩ 0 (off13_eq i), ld_pair _ _ _ _ ⟨gg i, gg_lt i⟩ 1 (off16_eq i), ld_row2 (off := ![0, 0, 0]) _ _ _ 0 rfl, ld_row2 (off := ![1, 0, 0]) _ _ _ 1 rfl, ld_all (S := S1x256x256) _ _ _ zeros3, ld_all (S := S256x256) _ _ _ zeros2, hv95, ld_rowS _ _ _ (slot (tt i - 16 + k.val)) (off11_eq h16 k hk), e5, e6, e15, e16, e21, e22, e23, e24, e25, e26, e27, e28, e29, e30]
        unfold dvT eT
        rw [if_pos hm]; all_goals first | rfl | (sl_open_pay; rfl)
  · have h3 : ¬ k0_cond3 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact fun h => hm ((cond3_iff k hk256 _ _).1 h)
    have h4 : k0_cond4 v30 k (arg3.view.readAt (Elt F) (Rect.unit (s := S256) (k0_off9 i) S1.size (k0_off9_inb i k0_h2)).toLoadRect g3
      (Shape.Idx.first (numel1_S1.symm ▸ Nat.one_pos)))
      (arg4.view.readAt (Elt F) (Rect.unit (s := S256) (k0_off10 i v30 k) S1.size (k0_off10_inb i v30 k0_hw1 k k0_h2)).toLoadRect g4
      (Shape.Idx.first (numel1_S1.symm ▸ Nat.one_pos))) = 1#1 := by
      rw [ha, hb]; exact (cond4_iff k hk256 _ _).2 hm
    sl_unfold [k0_t1_body]
    sl_exec
    sl_step
    isplitl [H2 H3 H4 H5 H6 H7 H8 H9]; · sl_close
    isplitl [H10 H11 H12 H13 H14 H15 H16 H17]; · sl_close
    isplitl [H21]; · iexists g21; isplitr; · ipureintro; exact e21
                     · iexact H21
    isplitl [H22]; · iexists g22; isplitr; · ipureintro; exact e22
                     · iexact H22
    isplitl [H23]; · iexists g23; isplitr; · ipureintro; exact e23
                     · iexact H23
    isplitl [H24]; · iexists g24; isplitr; · ipureintro; exact e24
                     · iexact H24
    isplitl [H25]; · iexists g25; isplitr; · ipureintro; exact e25
                     · iexact H25
    isplitl [H26]
    · iexists _
      isplitr; rotate_left
      · iexact H26
      · ipureintro
        refine (st_row _ _ _ _ _ (slot (tt i - 16 + k.val)) 1 (off21_eq h16 k hk)).trans (congrArg₂ (setRow · (slot (tt i - 16 + k.val)) 1 ·)
          ((st_row _ _ _ _ _ (slot (tt i - 16 + k.val)) 0 (off18_eq h16 k hk)).trans (congrArg₂ (setRow · (slot (tt i - 16 + k.val)) 0 ·) e26 ?_)) ?_)
        · sl_unfold_run_names
          simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
          unfold dqT dsT eT
          rw [if_neg hm]; all_goals first | rfl | (sl_open_pay; rfl)
        · sl_unfold_run_names
          simp only [ld_row _ _ _ (slot (tt i - 16 + k.val)) 1 (off21_eq h16 k hk), st_row _ _ _ _ _ (slot (tt i - 16 + k.val)) 0 (off18_eq h16 k hk), row_setRow_one, View.writes_nil]
          simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
          unfold dqT dsT eT
          rw [if_neg hm]; all_goals first | rfl | (sl_open_pay; rfl)
    isplitl [H27]; · iexists g27; isplitr; · ipureintro; exact e27
                     · iexact H27
    isplitl [H28]; · iexists g28; isplitr; · ipureintro; exact e28
                     · iexact H28
    isplitl [H29]
    · iexists _
      isplitr; rotate_left
      · iexact H29
      · ipureintro
        refine (st_row2 _ _ _ _ _ 1 rfl).trans (congrArg₂ (setRow2 · 1 ·) ((st_row2 _ _ _ _ _ 0 rfl).trans (congrArg₂ (setRow2 · 0 ·) e29 ?_)) ?_)
        all_goals
          sl_unfold_run_names
          simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
          unfold dkT dsT eT
          rw [if_neg hm]; all_goals first | rfl | (sl_open_pay; rfl)
    iexists _
    isplitr; rotate_left
    · iexact H30
    · ipureintro
      refine (st_row2 _ _ _ _ _ 1 rfl).trans (congrArg₂ (setRow2 · 1 ·) ((st_row2 _ _ _ _ _ 0 rfl).trans (congrArg₂ (setRow2 · 0 ·) e30 ?_)) ?_)
      all_goals
        sl_unfold_run_names
        simp only [ld_row _ _ _ (slot (tt i - 16 + k.val)) 0 (off18_eq h16 k hk), ld_row _ _ _ (slot (tt i - 16 + k.val)) 1 (off21_eq h16 k hk), ld_rowL _ _ _ (slot (tt i - 16 + k.val)) 0 (off20_eq h16 k hk), ld_rowL _ _ _ (slot (tt i - 16 + k.val)) 1 (off23_eq h16 k hk), ld_pair _ _ _ _ ⟨gg i, gg_lt i⟩ 0 (off19_eq i), ld_pair _ _ _ _ ⟨gg i, gg_lt i⟩ 1 (off22_eq i), ld_row2 (off := ![0, 0, 0]) _ _ _ 0 rfl, ld_row2 (off := ![1, 0, 0]) _ _ _ 1 rfl, ld_all (S := S1x256x256) _ _ _ zeros3, ld_all (S := S256x256) _ _ _ zeros2, hv95, e5, e6, e15, e16, e21, e22, e23, e24, e25, e26, e27, e28, e29, e30]
        unfold dvT eT
        rw [if_neg hm]; all_goals first | rfl | (sl_open_pay; rfl)

end Cert.KernelIdeal.Swa
end
-- ==== Proof.KernelIdeal.Drain.lean ====
module

public import proofs.«01_k».proof.Proof.KernelIdeal.Trip
public import proofs.«01_k».proof.Proof.Gen.KernelIdeal.Skeleton

/-!
The second phase of a grid point: the key tile against its query tiles, as `drain` says, and the blocks written out.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)
  (arg0 arg1 : BitVec 32)

/-- The loop over query tiles. -/
theorem loopRun (v6 v30 : BitVec 32) (k0_h2 : k0_cond2 i = 1#1) (k0_hw1 : k0_chk1 i v30) (hfit : Fits i v30)
    (hv6 : v6 = BitVec.ofNat 32 (tt i - 16)) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (Scf.Loop.for (k0_t1_loop v30) (k0_t1_ok i v30 k0_hw1 k0_h2) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1))
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trips T B ⟨gg i, gg_lt i⟩ (tt i - 16) st v30.toNat)) := by
  obtain ⟨n, rfl, h1, h17, hsum⟩ := hfit
  have htr : (k0_t1_loop (BitVec.ofNat 32 n)).trips = n := Fits.trips (i := i) h17
  have hn : (BitVec.ofNat 32 n).toNat = n := by rw [BitVec.toNat_ofNat]; omega
  rw [hn]
  refine BIBase.Entails.trans ?_ (Scf.wp_for frame (wpE defs₀ Variants.none (c : Thread nD τ) none) Set.univ _ _ _ _ _ _
    (fun k _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trips T B ⟨gg i, gg_lt i⟩ (tt i - 16) st k)))
    (fun k acc => ?_))
  · iintro H
    isplitl [H]
    · iexact H
    · iintro %_ H
      have e : Scf.trips (k0_t1_loop (BitVec.ofNat 32 n)).lb (k0_t1_loop (BitVec.ofNat 32 n)).ub (k0_t1_loop (BitVec.ofNat 32 n)).st = n := htr
      rw [e]
      iexact H
  · exact tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 v6 _ k0_h2 k0_hw1 k (by have : k.val < n := Nat.lt_of_lt_of_eq k.isLt htr; omega) hv6 T B _

/-- The remainder loop, of no trips. -/
theorem loopRun2 (v6 v30 v35 : BitVec 32) (k0_h2 : k0_cond2 i = 1#1) (k0_hw1 : k0_chk1 i v30) (P : sProp 𝕄) :
    P ⊢ wp frame (wpE defs₀ Variants.none (c : Thread nD τ) none) Set.univ
        (Scf.Loop.for (k0_t2_loop v30) (k0_t2_ok i v30 k0_hw1 k0_h2) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1 v35))
        fun _ => P := by
  refine BIBase.Entails.trans ?_ (Scf.wp_for frame (wpE defs₀ Variants.none (c : Thread nD τ) none) Set.univ _ _ _ _ _ _
    (fun k _ => P) (fun k acc => (Nat.not_lt_zero _ (Nat.lt_of_lt_of_eq k.isLt (trips2_eq v30))).elim))
  iintro H
  isplitl [H]
  · iexact H
  · iintro %_ H; iexact H

/-- Both loops, and the tile number that the part returns. -/
theorem loopsRun (v6 v30 v35 : BitVec 32) (k0_h2 : k0_cond2 i = 1#1) (k0_hw1 : k0_chk1 i v30) (hfit : Fits i v30)
    (hv6 : v6 = BitVec.ofNat 32 (tt i - 16)) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (do
          Scf.Loop.for (k0_t1_loop v30) (k0_t1_ok i v30 k0_hw1 k0_h2) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1)
          Scf.Loop.for (k0_t2_loop v30) (k0_t2_ok i v30 k0_hw1 k0_h2) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2 v6 v30 k0_hw1 v35)
          Pure.pure v6)
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (trips T B ⟨gg i, gg_lt i⟩ (tt i - 16) st v30.toNat)) := by
  rw [wp_bind]
  refine (loopRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 v6 v30 k0_h2 k0_hw1 hfit hv6 T B st).trans (wp_mono _ _ _ fun _ => ?_)
  rw [wp_bind]
  refine (loopRun2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 v6 v30 v35 k0_h2 k0_hw1 _).trans (wp_mono _ _ _ fun _ => ?_)
  iintro H
  sl_step
  iexact H

set_option maxHeartbeats 4000000 in
theorem part20Run (k0_h2 : k0_cond2 i = 1#1) (T : Tbl F) (B : Blk F) (st : St F) (hfit : Fits i (at256 T.nhi (tt i - 16))) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) k0_h2)
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (drain T B ⟨gg i, gg_lt i⟩ (tt i - 16) st)) := by
  have h16 : 16 ≤ tt i := (cond2_iff i).1 k0_h2
  unfold tblOwn blkOwn stOwn reads owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  have h2 : arg2.view.readAt (Elt F) (Rect.unit (s := S256) (k0_off8 i) S1.size (k0_off8_inb i k0_h2)).toLoadRect g2
      (Shape.Idx.first (numel1_S1.symm ▸ Nat.one_pos)) = at256 T.nhi (tt i - 16) := by
    rw [← e2]; exact ld_tile _ _ _ _ _ (by have := tt_lt i; omega) (off8_eq i h16)
  have hchk : k0_chk1 i (arg2.view.readAt (Elt F) (Rect.unit (s := S256) (k0_off8 i) S1.size (k0_off8_inb i k0_h2)).toLoadRect g2
      (Shape.Idx.first (numel1_S1.symm ▸ Nat.one_pos))) := h2 ▸ chk1 hfit
  rw [k0_part20_eq_skeleton]
  sl_exec
  have hr : part20Run.sl.r (F := F) c i arg2 k0_h2 g2 = at256 T.nhi (tt i - 16) := h2
  have hv : part20Run.sl.v6 i = BitVec.ofNat 32 (tt i - 16) := sub_tt i h16
  iapply (wp_wand_r Idealize.ShloMosaic.frame (wpE defs₀ Variants.none (c : Thread nD τ) none) Set.univ)
  isplitl
  · iapply (loopsRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) _ _ _ k0_h2 _ (by rw [hr]; exact hfit) hv T B (enter B st))
    unfold tblOwn blkOwn stOwn reads owns
    isplitl [H2 H3 H4 H5 H6 H7 H8 H9]; · sl_close
    isplitl [H10 H11 H12 H13 H14 H15 H16 H17]; · sl_close
    isplitl [H21]; · iexists g21; isplitr; · ipureintro; exact e21
                     · iexact H21
    isplitl [H22]; · iexists g22; isplitr; · ipureintro; exact e22
                     · iexact H22
    isplitl [H23]; · iexists g23; isplitr; · ipureintro; exact e23
                     · iexact H23
    isplitl [H24]; · iexists g24; isplitr; · ipureintro; exact e24
                     · iexact H24
    isplitl [H25]; · iexists g25; isplitr; · ipureintro; exact e25
                     · iexact H25
    isplitl [H26]; · iexists g26; isplitr; · ipureintro; exact e26
                     · iexact H26
    isplitl [H27]
    · iexists _; isplitr; rotate_left
      · iexact H27
      · ipureintro; exact (st_all _ _ _ _ _ zeros2).trans (congrArg k0_pay65 ((ld_all _ _ _ zeros3).trans e15))
    isplitl [H28]
    · iexists _; isplitr; rotate_left
      · iexact H28
      · ipureintro; exact (st_all _ _ _ _ _ zeros2).trans (congrArg k0_pay66 ((ld_all _ _ _ zeros2).trans e17))
    isplitl [H29]
    · iexists _; isplitr; rotate_left
      · iexact H29
      · ipureintro; exact (st_all _ _ _ _ _ zeros3)
    · iexists _; isplitr; rotate_left
      · iexact H30
      · ipureintro; exact (st_all _ _ _ _ _ zeros3)
  · iintro %_ H
    rw [hr]
    iexact H

end Cert.KernelIdeal.Swa
-- ==== Proof.KernelIdeal.Fill.lean ====
module

public import proofs.«01_k».proof.Proof.KernelIdeal.Own
public import proofs.«01_k».proof.Proof.Gen.KernelIdeal.Skeleton

/-!
The first phase of a grid point: the query block that arrives is put into the rings, as `fill` says.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)
  (arg0 arg1 : BitVec 32)

/-- The program of the first phase. -/
def fillProg (k0_h1 : k0_cond1 i = 1#1) : Prog (TpuEff nD τ sig (Elt F) Λ₀ .tc) PUnit := do
  let v6 : BitVec 32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 k0_h1
  k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h1 v6
  let v94 : FVec F S1x256 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h1 v6
  Prog.lift (.store arg24 (Rect.unit (s := S17x2x1x256) (k0_off6 i) S1x1x1x256.size (k0_off6_inb i k0_h1)) (k0_pay1 v94) Finset.univ (View.stores_vmem_bits_univ h_S1x1x1x256 rfl) (.inl rfl))
  let v101 : Vec F S1x1x256x256 .f32 ← Prog.lift (.load arg26 (Rect.unit (s := S17x2x256x256) (k0_off5 i) S1x1x256x256.size (k0_off5_inb i k0_h1)).toLoadRect (View.loadsAt_vmem h_S1x1x256x256))
  Prog.lift (.store arg26 (Rect.unit (s := S17x2x256x256) (k0_off5 i) S1x1x256x256.size (k0_off5_inb i k0_h1)) (k0_pay2 (F := F)) Finset.univ (View.stores_vmem_bits_univ h_S1x1x256x256 rfl) (.inl rfl))
  pure ⟨⟩

set_option maxHeartbeats 4000000 in
theorem fillRun (k0_h1 : k0_cond1 i = 1#1) (T : Tbl F) (B : Blk F) (st : St F) :
    iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st)
      ⊢ wp frame (wpE defs₀ Variants.none (c : Thread nD τ) none) Set.univ
        (fillProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) k0_h1)
        fun _ => iprop(tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (fill T B ⟨gg i, gg_lt i⟩ (tt i) st)) := by
  unfold tblOwn blkOwn stOwn reads owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  unfold fillProg
  sl_exec
  sl_step
  isplitl [H2 H3 H4 H5 H6 H7 H8 H9]; · sl_close
  isplitl [H10 H11 H12 H13 H14 H15 H16 H17]; · sl_close
  isplitl [H21]
  · iexists _
    isplitr; rotate_left
    · iexact H21
    · ipureintro
      refine (st_row _ _ _ _ _ (slot (tt i)) 1 (off5_eq i)).trans (congrArg₂ (setRow · (slot (tt i)) 1 ·)
          ((st_row _ _ _ _ _ (slot (tt i)) 0 (off2_eq i)).trans (congrArg₂ (setRow · (slot (tt i)) 0 ·) e21 ?_)) ?_)
      · exact congrArg k0_pay6 ((ld_rowB _ _ _ 0 rfl).trans (congrArg (rowB · 0) e10))
      · exact congrArg k0_pay11 ((ld_rowB _ _ _ 1 rfl).trans (congrArg (rowB · 1) e10))
  isplitl [H22]
  · iexists _
    isplitr; rotate_left
    · iexact H22
    · ipureintro
      refine (st_row _ _ _ _ _ (slot (tt i)) 1 (off5_eq i)).trans (congrArg₂ (setRow · (slot (tt i)) 1 ·)
          ((st_row _ _ _ _ _ (slot (tt i)) 0 (off2_eq i)).trans (congrArg₂ (setRow · (slot (tt i)) 0 ·) e22 ?_)) ?_)
      · exact congrArg k0_pay7 ((ld_rowB _ _ _ 0 rfl).trans (congrArg (rowB · 0) e11))
      · exact congrArg k0_pay12 ((ld_rowB _ _ _ 1 rfl).trans (congrArg (rowB · 1) e11))
  isplitl [H23]
  · iexists _
    isplitr; rotate_left
    · iexact H23
    · ipureintro
      refine (st_rowL _ _ _ _ _ (slot (tt i)) 1 (off6_eq i)).trans (congrArg₂ (setRowL · (slot (tt i)) 1 ·)
          ((st_rowL _ _ _ _ _ (slot (tt i)) 0 (off3_eq i)).trans (congrArg₂ (setRowL · (slot (tt i)) 0 ·) e23 ?_)) ?_)
      · exact congrArg k0_pay8 ((ld_rowBL _ _ _ 0 rfl).trans (congrArg (rowBL · 0) e13))
      · exact congrArg k0_pay13 ((ld_rowBL _ _ _ 1 rfl).trans (congrArg (rowBL · 1) e13))
  isplitl [H24]
  · iexists _
    isplitr; rotate_left
    · iexact H24
    · ipureintro
      refine (st_rowL _ _ _ _ _ (slot (tt i)) 1 (off6_eq i)).trans (congrArg₂ (setRowL · (slot (tt i)) 1 ·)
          ((st_rowL _ _ _ _ _ (slot (tt i)) 0 (off3_eq i)).trans (congrArg₂ (setRowL · (slot (tt i)) 0 ·) e24 ?_)) ?_)
      · have h9 : fillRun.sl.r (F := F) c i arg9 k0_h1 g9 = T.dos (ix2 ⟨gg i, gg_lt i⟩ 0) :=
          (ld_pair _ _ _ _ ⟨gg i, gg_lt i⟩ 0 (off4_eq i)).trans (congrFun e9 _)
        rw [h9]
        exact congrArg₂ (k0_pay9 · _ ·) ((ld_rowB _ _ _ 0 rfl).trans (congrArg (rowB · 0) e11))
          ((ld_rowB _ _ _ 0 rfl).trans (congrArg (rowB · 0) e12))
      · delta fillRun.sl.r_2 fillRun.sl.r_1
        have h9 : arg9.view.readAt (Elt F) (Rect.unit (s := S4x2) (k0_off7 i) S1x1.size (k0_off7_inb i k0_h1)).toLoadRect g9
            (Shape.Idx.first (numel1_S1x1.symm ▸ Nat.one_pos)) = T.dos (ix2 ⟨gg i, gg_lt i⟩ 1) :=
          (ld_pair _ _ _ _ ⟨gg i, gg_lt i⟩ 1 (off7_eq i)).trans (congrFun e9 _)
        refine congrArg k0_pay1 ?_
        refine Eq.trans ?_ (congrArg (k0_pay14 _ · _) h9)
        exact congrArg₂ (k0_pay14 · _ ·) ((ld_rowB _ _ _ 1 rfl).trans (congrArg (rowB · 1) e11))
          ((ld_rowB _ _ _ 1 rfl).trans (congrArg (rowB · 1) e12))
  isplitl [H25]
  · iexists _
    isplitr; rotate_left
    · iexact H25
    · ipureintro
      refine (st_rowS _ _ _ _ _ (slot (tt i)) (off1_eq i)).trans (congrArg₂ (setRowS · (slot (tt i)) ·) e25 ?_)
      exact congrArg k0_pay5 ((ld_all _ _ _ zeros2).trans e14)
  isplitl [H26]
  · iexists _
    isplitr; rotate_left
    · iexact H26
    · ipureintro
      exact (st_row _ _ _ _ _ (slot (tt i)) 1 (off5_eq i)).trans (congrArg (setRow · (slot (tt i)) 1 _)
          ((st_row _ _ _ _ _ (slot (tt i)) 0 (off2_eq i)).trans (congrArg (setRow · (slot (tt i)) 0 _) e26)))
  sl_close

end Cert.KernelIdeal.Swa
-- ==== Proof.KernelIdeal.Body.lean ====
module

public import proofs.«01_k».proof.Proof.KernelIdeal.Drain
public import proofs.«01_k».proof.Proof.KernelIdeal.Fill

/-!
One grid point of the kernel: both phases.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (c : Dev nD) (i : grid0.Coords)
  (arg2 : Memref sig .tc .smem S256 .i32) (harg2 : arg2.IsWhole)
  (arg3 : Memref sig .tc .smem S256 .i32) (harg3 : arg3.IsWhole)
  (arg4 : Memref sig .tc .smem S256 .i32) (harg4 : arg4.IsWhole)
  (arg5 : Memref sig .tc .smem S4x2 .f32) (harg5 : arg5.IsWhole)
  (arg6 : Memref sig .tc .smem S4x2 .f32) (harg6 : arg6.IsWhole)
  (arg7 : Memref sig .tc .smem S4 .f32) (harg7 : arg7.IsWhole)
  (arg8 : Memref sig .tc .smem S4x2 .f32) (harg8 : arg8.IsWhole)
  (arg9 : Memref sig .tc .smem S4x2 .f32) (harg9 : arg9.IsWhole)
  (arg10 : Memref sig .tc .vmem S1x2x256x256 .fp8e4m3) (harg10 : arg10.IsWhole)
  (arg11 : Memref sig .tc .vmem S1x2x256x256 .fp8e5m2) (harg11 : arg11.IsWhole)
  (arg12 : Memref sig .tc .vmem S1x2x256x256 .bf16) (harg12 : arg12.IsWhole)
  (arg13 : Memref sig .tc .vmem S1x2x1x256 .f32) (harg13 : arg13.IsWhole)
  (arg14 : Memref sig .tc .vmem S1x256 .i32) (harg14 : arg14.IsWhole)
  (arg15 : Memref sig .tc .vmem S1x256x256 .fp8e4m3) (harg15 : arg15.IsWhole)
  (arg16 : Memref sig .tc .vmem S1x256x256 .fp8e4m3) (harg16 : arg16.IsWhole)
  (arg17 : Memref sig .tc .vmem S1x256 .i32) (harg17 : arg17.IsWhole)
  (arg18 : Memref sig .tc .vmem S1x2x256x256 .bf16) (harg18 : arg18.IsWhole)
  (arg19 : Memref sig .tc .vmem S1x256x256 .bf16) (harg19 : arg19.IsWhole)
  (arg20 : Memref sig .tc .vmem S1x256x256 .bf16) (harg20 : arg20.IsWhole)
  (arg21 : Memref sig .tc .vmem S17x2x256x256 .fp8e4m3) (harg21 : arg21.IsWhole)
  (arg22 : Memref sig .tc .vmem S17x2x256x256 .fp8e5m2) (harg22 : arg22.IsWhole)
  (arg23 : Memref sig .tc .vmem S17x2x1x256 .f32) (harg23 : arg23.IsWhole)
  (arg24 : Memref sig .tc .vmem S17x2x1x256 .f32) (harg24 : arg24.IsWhole)
  (arg25 : Memref sig .tc .vmem S17x1x256 .i32) (harg25 : arg25.IsWhole)
  (arg26 : Memref sig .tc .vmem S17x2x256x256 .f32) (harg26 : arg26.IsWhole)
  (arg27 : Memref sig .tc .vmem S256x256 .bf16) (harg27 : arg27.IsWhole)
  (arg28 : Memref sig .tc .vmem S256x256 .i32) (harg28 : arg28.IsWhole)
  (arg29 : Memref sig .tc .vmem S2x256x256 .f32) (harg29 : arg29.IsWhole)
  (arg30 : Memref sig .tc .vmem S2x256x256 .f32) (harg30 : arg30.IsWhole)

/-- The program of the second phase. -/
def drainProg (arg0 arg1 : BitVec 32) (k0_h2 : k0_cond2 i = 1#1) : Prog (TpuEff nD τ sig (Elt F) Λ₀ .tc) PUnit := do
  let v6 : BitVec 32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h2
  let v70 : BitVec 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h2 v6
  let v72 : Vec F S1x1x256x256 .f32 ← Prog.lift (.load arg26 (Rect.unit (s := S17x2x256x256) (k0_off41 i) S1x1x256x256.size (k0_off41_inb i k0_h2)).toLoadRect (View.loadsAt_vmem h_S1x1x256x256))
  let v75 : Elt F .f32 ← smemLoad arg7 (Rect.unit (s := S4) (k0_off42 i) S1.size (k0_off42_inb i k0_h2)) numel1_S1 rfl
  let v80 : Vec F S1x1x256x256 .bf16 ← Prog.lift (.load arg18 (Rect.unit (s := S1x2x256x256) ![0, 0, 0, 0] S1x1x256x256.size inb_S1x2x256x256_S1x1x256x256_0_0_0_0).toLoadRect (View.loadsAt_vmem h_S1x1x256x256))
  Prog.lift (.store arg18 (Rect.unit (s := S1x2x256x256) ![0, 0, 0, 0] S1x1x256x256.size inb_S1x2x256x256_S1x1x256x256_0_0_0_0) (k0_pay3 v72 v75) Finset.univ (View.stores_vmem h_S1x1x256x256 (harg18.storeExact_slice rfl _ packedbf16_S1x2x256x256_S1x1x256x256_0_0_0_0) (fun _ => rfl)) (.inl rfl))
  let v84 : Vec F S1x1x256x256 .f32 ← Prog.lift (.load arg26 (Rect.unit (s := S17x2x256x256) (k0_off43 i) S1x1x256x256.size (k0_off43_inb i k0_h2)).toLoadRect (View.loadsAt_vmem h_S1x1x256x256))
  let v87 : Elt F .f32 ← smemLoad arg7 (Rect.unit (s := S4) (k0_off42 i) S1.size (k0_off42_inb i k0_h2)) numel1_S1 rfl
  let v92 : Vec F S1x1x256x256 .bf16 ← Prog.lift (.load arg18 (Rect.unit (s := S1x2x256x256) ![0, 1, 0, 0] S1x1x256x256.size inb_S1x2x256x256_S1x1x256x256_0_1_0_0).toLoadRect (View.loadsAt_vmem h_S1x1x256x256))
  Prog.lift (.store arg18 (Rect.unit (s := S1x2x256x256) ![0, 1, 0, 0] S1x1x256x256.size inb_S1x2x256x256_S1x1x256x256_0_1_0_0) (k0_pay4 v84 v87) Finset.univ (View.stores_vmem h_S1x1x256x256 (harg18.storeExact_slice rfl _ packedbf16_S1x2x256x256_S1x1x256x256_0_1_0_0) (fun _ => rfl)) (.inl rfl))
  pure ⟨⟩

set_option maxHeartbeats 4000000 in
theorem drainRun (k0_h2 : k0_cond2 i = 1#1) (T : Tbl F) (B : Blk F) (st : St F) (hfit : Fits i (at256 T.nhi (tt i - 16)))
    (X18 : Vec F S1x2x256x256 .bf16) (X19 X20 : Vec F S1x256x256 .bf16) :
    iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st) ∗ reads c arg18 X18 ∗ reads c arg19 X19 ∗ reads c arg20 X20)
      ⊢ wp frame (wpE defs₀ Variants.none (c : Thread nD τ) none) Set.univ
        (drainProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) k0_h2)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (drain T B ⟨gg i, gg_lt i⟩ (tt i - 16) st))
          ∗ reads c arg18 (dqOut T ⟨gg i, gg_lt i⟩ (tt i - 16) (drain T B ⟨gg i, gg_lt i⟩ (tt i - 16) st))
          ∗ reads c arg19 (dkOut T ⟨gg i, gg_lt i⟩ (drain T B ⟨gg i, gg_lt i⟩ (tt i - 16) st))
          ∗ reads c arg20 (dvOut T ⟨gg i, gg_lt i⟩ (drain T B ⟨gg i, gg_lt i⟩ (tt i - 16) st))) := by
  have h16 : 16 ≤ tt i := (cond2_iff i).1 k0_h2
  unfold drainProg
  rw [wp_bind]
  iintro ⟨HA, HB⟩
  iapply (wp_wand_r Idealize.ShloMosaic.frame (wpE defs₀ Variants.none (c : Thread nD τ) none) Set.univ)
  isplitl [HA]
  · iapply (part20Run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 k0_h2 T B st hfit)
    iexact HA
  generalize drain T B ⟨gg i, gg_lt i⟩ (tt i - 16) st = st'
  unfold tblOwn blkOwn stOwn reads owns
  icases HB with ⟨⟨%g18, %e18, H18⟩, ⟨%g19, %e19, H19⟩, ⟨%g20, %e20, H20⟩⟩
  iintro %v6 ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩,
    ⟨⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩⟩,
    ⟨⟨%g21, %e21, H21⟩, ⟨%g22, %e22, H22⟩, ⟨%g23, %e23, H23⟩, ⟨%g24, %e24, H24⟩, ⟨%g25, %e25, H25⟩, ⟨%g26, %e26, H26⟩, ⟨%g27, %e27, H27⟩, ⟨%g28, %e28, H28⟩, ⟨%g29, %e29, H29⟩, ⟨%g30, %e30, H30⟩⟩⟩
  have h7 : arg7.view.readAt (Elt F) (Rect.unit (s := S4) (k0_off42 i) S1.size (k0_off42_inb i k0_h2)).toLoadRect g7
      (Shape.Idx.first (numel1_S1.symm ▸ Nat.one_pos)) = T.ks (ix1 ⟨gg i, gg_lt i⟩) :=
    (ld_four _ _ _ _ ⟨gg i, gg_lt i⟩ (off42_eq i)).trans (congrFun e7 _)
  sl_exec
  sl_step
  isplitl [H2 H3 H4 H5 H6 H7 H8 H9 H10 H11 H12 H13 H14 H15 H16 H17 H21 H22 H23 H24 H25 H26 H27 H28 H29 H30]
  · isplitl [H2 H3 H4 H5 H6 H7 H8 H9]; · sl_close
    isplitl [H10 H11 H12 H13 H14 H15 H16 H17]; · sl_close
    sl_close
  isplitl [H18]
  · iexists _; isplitr; rotate_left
    · iexact H18
    · ipureintro
      refine (st_pairB _ _ _ _ _ _ _).trans ?_
      exact congrArg₂ pairB
        (congrArg₂ k0_pay3 ((ld_row _ _ _ (slot (tt i - 16)) 0 (off41_eq i h16)).trans (congrArg (row · _ _) e26)) h7)
        (congrArg₂ k0_pay4 ((ld_row _ _ _ (slot (tt i - 16)) 1 (off43_eq i h16)).trans (congrArg (row · _ _) e26)) h7)
  isplitl [H19]
  · iexists _; isplitr; rotate_left
    · iexact H19
    · ipureintro
      refine (st_all _ _ _ _ _ zeros3).trans ?_
      unfold dkOut
      have a : drainRun.sl.r (F := F) c i arg8 k0_h2 g8 = T.qs (ix2 ⟨gg i, gg_lt i⟩ 0) :=
        (ld_pair _ _ _ _ ⟨gg i, gg_lt i⟩ 0 (off39_eq i)).trans (congrFun e8 _)
      have b : drainRun.sl.r_2 (F := F) c i arg8 k0_h2 g8 = T.qs (ix2 ⟨gg i, gg_lt i⟩ 1) :=
        (ld_pair _ _ _ _ ⟨gg i, gg_lt i⟩ 1 (off40_eq i)).trans (congrFun e8 _)
      rw [a, b]
      exact congrArg₂ (k0_pay75 · _ · _) ((ld_row2 _ _ _ 0 rfl).trans (congrArg (row2 · 0) e29)) ((ld_row2 _ _ _ 1 rfl).trans (congrArg (row2 · 1) e29))
  · iexists _; isplitr; rotate_left
    · iexact H20
    · ipureintro
      refine (st_all _ _ _ _ _ zeros3).trans ?_
      unfold dvOut
      have a : drainRun.sl.r_1 (F := F) c i arg9 k0_h2 g9 = T.dos (ix2 ⟨gg i, gg_lt i⟩ 0) :=
        (ld_pair _ _ _ _ ⟨gg i, gg_lt i⟩ 0 (off39_eq i)).trans (congrFun e9 _)
      have b : drainRun.sl.r_3 (F := F) c i arg9 k0_h2 g9 = T.dos (ix2 ⟨gg i, gg_lt i⟩ 1) :=
        (ld_pair _ _ _ _ ⟨gg i, gg_lt i⟩ 1 (off40_eq i)).trans (congrFun e9 _)
      rw [a, b]
      exact congrArg₂ (k0_pay76 · _ · _) ((ld_row2 _ _ _ 0 rfl).trans (congrArg (row2 · 0) e30)) ((ld_row2 _ _ _ 1 rfl).trans (congrArg (row2 · 1) e30))

/-- The scratch after the first phase. -/
def fillSt (T : Tbl F) (B : Blk F) (st : St F) : St F := if tt i < 256 then fill T B ⟨gg i, gg_lt i⟩ (tt i) st else st

/-- The scratch after a grid point. -/
def stepSt (T : Tbl F) (B : Blk F) (st : St F) : St F :=
  if 16 ≤ tt i then drain T B ⟨gg i, gg_lt i⟩ (tt i - 16) (fillSt i T B st) else fillSt i T B st

/-- What a grid point leaves in the buffer of the query gradient. -/
def dqBuf (T : Tbl F) (B : Blk F) (st : St F) (X : Vec F S1x2x256x256 .bf16) : Vec F S1x2x256x256 .bf16 :=
  if 16 ≤ tt i then dqOut T ⟨gg i, gg_lt i⟩ (tt i - 16) (stepSt i T B st) else X

/-- What a grid point leaves in the buffer of the key gradient. -/
def dkBuf (T : Tbl F) (B : Blk F) (st : St F) (X : Vec F S1x256x256 .bf16) : Vec F S1x256x256 .bf16 :=
  if 16 ≤ tt i then dkOut T ⟨gg i, gg_lt i⟩ (stepSt i T B st) else X

/-- What a grid point leaves in the buffer of the value gradient. -/
def dvBuf (T : Tbl F) (B : Blk F) (st : St F) (X : Vec F S1x256x256 .bf16) : Vec F S1x256x256 .bf16 :=
  if 16 ≤ tt i then dvOut T ⟨gg i, gg_lt i⟩ (stepSt i T B st) else X

/-- One grid point: tables and blocks are kept, the scratch makes one step, the outputs are written in the second phase. -/
theorem bodyRun (T : Tbl F) (B : Blk F) (st : St F) (hfit : 16 ≤ tt i → Fits i (at256 T.nhi (tt i - 16)))
    (X18 : Vec F S1x2x256x256 .bf16) (X19 X20 : Vec F S1x256x256 .bf16) :
    iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st) ∗ reads c arg18 X18 ∗ reads c arg19 X19 ∗ reads c arg20 X20)
      ⊢ wp frame (wpE defs₀ Variants.none (c : Thread nD τ) none) Set.univ
        (cc0_swa_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (stepSt i T B st))
          ∗ reads c arg18 (dqBuf i T B st X18) ∗ reads c arg19 (dkBuf i T B st X19) ∗ reads c arg20 (dvBuf i T B st X20)) := by
  rw [cc0_swa_bwd_eq_skeleton]
  have e : cc0_swa_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 = ((
      if h1 : k0_cond1 i = 1#1 then fillProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h1 else pure ⟨⟩) >>= fun _ => (
      if h2 : k0_cond2 i = 1#1 then drainProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h2 else pure ⟨⟩) >>= fun _ =>
      pure ⟨⟩) := by
    unfold cc0_swa_bwd_skel fillProg drainProg
    by_cases h1 : k0_cond1 i = 1#1 <;> by_cases h2 : k0_cond2 i = 1#1 <;>
      simp only [h1, h2, dite_true, dite_false, bind_assoc, pure_bind]
  rw [e, wp_bind]
  have hfill : iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 st) ∗ reads c arg18 X18 ∗ reads c arg19 X19 ∗ reads c arg20 X20)
      ⊢ wp frame (wpE defs₀ Variants.none (c : Thread nD τ) none) Set.univ
        (if h1 : k0_cond1 i = 1#1 then fillProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h1 else pure ⟨⟩)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (fillSt i T B st))
          ∗ reads c arg18 X18 ∗ reads c arg19 X19 ∗ reads c arg20 X20) := by
    by_cases h1 : k0_cond1 i = 1#1
    · rw [dif_pos h1]
      unfold fillSt
      rw [if_pos ((cond1_iff i).1 h1)]
      iintro ⟨HA, HB⟩
      iapply (wp_wand_r Idealize.ShloMosaic.frame (wpE defs₀ Variants.none (c : Thread nD τ) none) Set.univ)
      isplitl [HA]
      · iapply (fillRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h1 T B st)
        iexact HA
      · iintro %_ HA
        isplitl [HA]
        · iexact HA
        · iexact HB
    · rw [dif_neg h1]
      unfold fillSt
      rw [if_neg fun h => h1 ((cond1_iff i).2 h)]
      iintro H
      sl_step
      iexact H
  refine hfill.trans (wp_mono _ _ _ fun _ => ?_)
  rw [wp_bind]
  refine BIBase.Entails.trans (Q := wp frame (wpE defs₀ Variants.none (c : Thread nD τ) none) Set.univ
        (if h2 : k0_cond2 i = 1#1 then drainProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 (BitVec.ofNat 32 (i 0).val) (BitVec.ofNat 32 (i 1).val) h2 else pure ⟨⟩)
        fun _ => iprop((tblOwn c arg2 arg3 arg4 arg5 arg6 arg7 arg8 arg9 T ∗ blkOwn c arg10 arg11 arg12 arg13 arg14 arg15 arg16 arg17 B ∗ stOwn c arg21 arg22 arg23 arg24 arg25 arg26 arg27 arg28 arg29 arg30 (stepSt i T B st))
          ∗ reads c arg18 (dqBuf i T B st X18) ∗ reads c arg19 (dkBuf i T B st X19) ∗ reads c arg20 (dvBuf i T B st X20))) ?_
    (wp_mono _ _ _ fun _ => ?_)
  · unfold dqBuf dkBuf dvBuf stepSt
    by_cases h2 : k0_cond2 i = 1#1
    · have h16 := (cond2_iff i).1 h2
      rw [dif_pos h2, if_pos h16, if_pos h16, if_pos h16, if_pos h16]
      exact drainRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 T B (fillSt i T B st) (hfit h16) X18 X19 X20
    · have h16 : ¬ 16 ≤ tt i := fun h => h2 ((cond2_iff i).2 h)
      rw [dif_neg h2, if_neg h16, if_neg h16, if_neg h16, if_neg h16]
      iintro H
      sl_step
      iexact H
  · iintro H
    sl_step
    iexact H

end Cert.KernelIdeal.Swa
-- ==== Proof.KernelIdeal.Data.lean ====
module

public import proofs.«01_k».proof.Proof.KernelIdeal.Body
public import proofs.«01_k».proof.Proof.Gen.KernelIdeal.Launch

/-!
What the kernel finds: the memory at the region's entry, the tables, and the input blocks of each grid point; and the
pipeline's data over them, for any invariant of the scratch buffers and any named contents of the outputs.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (m : (ℓ : Loc nD τ sig) → Buf (Elt F) ℓ)

/-- Core `c`'s memory when the region is entered: after the host operations before it. -/
@[irreducible] def V₀ (c : Dev nD) : Valuation τ sig (Elt F) := StableHlo.after hostOps0 (fun b => m (c, b))

/-- The prefetched tables' contents there. -/
def adm (p : Fin 1) : (pcfgs (F := F) p).Adm := ⟨fun k => V₀ m 0 (Proc.devRef .tc (pre0.ref k)), trivial⟩

/-- The pipeline at those tables. -/
abbrev cfgm : Pipeline.Cfg sig Λ₀ := Pipeline.pin (pcfgs (F := F)) (adm m) 0

/-- Window `w`'s block at point `t`, read off its array at the region's entry. -/
def iblk (c : Dev nD) (w : Fin 16) (t : Fin (cfgm m).N) :
    (((cfgm m).win w).xblock ((cfgm m).grid.coords t)).Idx → Elt F ((cfgm m).win w).elt :=
  (((cfgm m).win w).blk t).view.read (Elt F) (V₀ m c (Proc.devRef .tc (Pipeline.arrRef spec0 w)))

/-- The tables as the body reads them at point `t`. -/
def tblAt (c : Dev nD) (t : Fin (cfgm m).N) : Tbl F where
  nhi := V₀ m c (Proc.devRef .tc main_v58)
  sf := V₀ m c (Proc.devRef .tc main_v26)
  sl := V₀ m c (Proc.devRef .tc main_v28)
  qk := iblk m c 0 t
  dov := iblk m c 1 t
  ks := iblk m c 2 t
  qs := iblk m c 3 t
  dos := iblk m c 4 t

/-- The input blocks at point `t`. -/
def blkAt (c : Dev nD) (t : Fin (cfgm m).N) : Blk F where
  q := iblk m c 5 t
  o := iblk m c 6 t
  out := iblk m c 7 t
  lse := iblk m c 8 t
  sgq := iblk m c 9 t
  k := iblk m c 10 t
  v := iblk m c 11 t
  sgk := iblk m c 12 t

/-- The scratch buffers of the call at the values of `st`. -/
def scratch (c : Dev nD) (st : St F) : sProp 𝕄 :=
  stOwn c (Memref.whole cc0_scratch0) (Memref.whole cc0_scratch1) (Memref.whole cc0_scratch2) (Memref.whole cc0_scratch3)
    (Memref.whole cc0_scratch4) (Memref.whole cc0_scratch5) (Memref.whole cc0_scratch6) (Memref.whole cc0_scratch7)
    (Memref.whole cc0_scratch8) (Memref.whole cc0_scratch9) st

/-- The prefetched tables, at the half share the body reads them at. -/
def tables3 (c : Dev nD) : sProp 𝕄 :=
  iprop(owns (c : Thread nD τ) (Memref.whole main_v58) fullShare.right (V₀ m c (Proc.devRef .tc main_v58))
    ∗ owns (c : Thread nD τ) (Memref.whole main_v26) fullShare.right (V₀ m c (Proc.devRef .tc main_v26))
    ∗ owns (c : Thread nD τ) (Memref.whole main_v28) fullShare.right (V₀ m c (Proc.devRef .tc main_v28)))

/-- The region's invariant before point `t`: the tables, the scratch buffers at values of which `Inv` holds, and the
    generator's register. -/
def Φ (Inv : ℕ → St F → Prop) (c : Dev nD) (t : ℕ) : sProp 𝕄 :=
  iprop(tables3 m c ∗ (∃ st, ⌜Inv t st⌝ ∗ scratch c st) ∗ ∃ r, prngReg c r)

variable (Inv : Dev nD → ℕ → St F → Prop)
  (dq : Dev nD → Fin (cfgm m).N → Vec F S1x2x256x256 .bf16)
  (dk : Dev nD → Fin (cfgm m).N → Vec F S1x256x256 .bf16)
  (dv : Dev nD → Fin (cfgm m).N → Vec F S1x256x256 .bf16)

/-- What the body leaves in each window's buffer: an input's at its block, an output's at the named contents. -/
def afterW (c : Dev nD) (w : Fin 16) (t : Fin (cfgm m).N) : ((cfgm m).win w).block.Idx → Elt F ((cfgm m).win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => iblk m c 11 t
  | ⟨12, _⟩ => iblk m c 12 t
  | ⟨13, _⟩ => dq c t
  | ⟨14, _⟩ => dk c t
  | ⟨15, _⟩ => dv c t
  | ⟨_ + 16, h⟩ => absurd h (Nat.not_lt.2 (Nat.le_add_left _ _))

theorem after0 (c : Dev nD) (t : Fin (cfgm m).N) : afterW m dq dk dv c 0 t = iblk m c 0 t := rfl
theorem after1 (c : Dev nD) (t : Fin (cfgm m).N) : afterW m dq dk dv c 1 t = iblk m c 1 t := rfl
theorem after2 (c : Dev nD) (t : Fin (cfgm m).N) : afterW m dq dk dv c 2 t = iblk m c 2 t := rfl
theorem after3 (c : Dev nD) (t : Fin (cfgm m).N) : afterW m dq dk dv c 3 t = iblk m c 3 t := rfl
theorem after4 (c : Dev nD) (t : Fin (cfgm m).N) : afterW m dq dk dv c 4 t = iblk m c 4 t := rfl
theorem after5 (c : Dev nD) (t : Fin (cfgm m).N) : afterW m dq dk dv c 5 t = iblk m c 5 t := rfl
theorem after6 (c : Dev nD) (t : Fin (cfgm m).N) : afterW m dq dk dv c 6 t = iblk m c 6 t := rfl
theorem after7 (c : Dev nD) (t : Fin (cfgm m).N) : afterW m dq dk dv c 7 t = iblk m c 7 t := rfl
theorem after8 (c : Dev nD) (t : Fin (cfgm m).N) : afterW m dq dk dv c 8 t = iblk m c 8 t := rfl
theorem after9 (c : Dev nD) (t : Fin (cfgm m).N) : afterW m dq dk dv c 9 t = iblk m c 9 t := rfl
theorem after10 (c : Dev nD) (t : Fin (cfgm m).N) : afterW m dq dk dv c 10 t = iblk m c 10 t := rfl
theorem after11 (c : Dev nD) (t : Fin (cfgm m).N) : afterW m dq dk dv c 11 t = iblk m c 11 t := rfl
theorem after12 (c : Dev nD) (t : Fin (cfgm m).N) : afterW m dq dk dv c 12 t = iblk m c 12 t := rfl
theorem after13 (c : Dev nD) (t : Fin (cfgm m).N) : afterW m dq dk dv c 13 t = dq c t := rfl
theorem after14 (c : Dev nD) (t : Fin (cfgm m).N) : afterW m dq dk dv c 14 t = dk c t := rfl
theorem after15 (c : Dev nD) (t : Fin (cfgm m).N) : afterW m dq dk dv c 15 t = dv c t := rfl

/-- The pipeline's data: the arrays as they are at the region's entry. -/
def dats (p : Fin 1) (c : Dev nD) : Pipeline.Dat τ (Elt F) Unit ℕ (UR sig nD τ) ℕ (Pipeline.pin (pcfgs (F := F)) (adm m) p) c where
  A w := V₀ m c (Proc.devRef .tc (Pipeline.arrRef spec0 w))
  after w t := afterW m dq dk dv c w t
  Φ t := Φ m (Inv c) c t.val
  q w := Pipeline.shareOf spec0 w
  owed _ := 0

section
variable {m} {c : Dev nD} (dat : Pipeline.Dat τ (Elt F) Unit ℕ (UR sig nD τ) ℕ (cfgm m) c)

theorem found0 (hA : dat.A 0 = V₀ m c (Proc.devRef .tc (Pipeline.arrRef spec0 0))) (h : ∀ t, dat.after 0 t = iblk m c 0 t)
    (t : Fin (cfgm m).N) (d) : dat.before 0 t d = iblk m c 0 t :=
  (dat.before_in_eq_fetched 0 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found1 (hA : dat.A 1 = V₀ m c (Proc.devRef .tc (Pipeline.arrRef spec0 1))) (h : ∀ t, dat.after 1 t = iblk m c 1 t)
    (t : Fin (cfgm m).N) (d) : dat.before 1 t d = iblk m c 1 t :=
  (dat.before_in_eq_fetched 1 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found2 (hA : dat.A 2 = V₀ m c (Proc.devRef .tc (Pipeline.arrRef spec0 2))) (h : ∀ t, dat.after 2 t = iblk m c 2 t)
    (t : Fin (cfgm m).N) (d) : dat.before 2 t d = iblk m c 2 t :=
  (dat.before_in_eq_fetched 2 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found3 (hA : dat.A 3 = V₀ m c (Proc.devRef .tc (Pipeline.arrRef spec0 3))) (h : ∀ t, dat.after 3 t = iblk m c 3 t)
    (t : Fin (cfgm m).N) (d) : dat.before 3 t d = iblk m c 3 t :=
  (dat.before_in_eq_fetched 3 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found4 (hA : dat.A 4 = V₀ m c (Proc.devRef .tc (Pipeline.arrRef spec0 4))) (h : ∀ t, dat.after 4 t = iblk m c 4 t)
    (t : Fin (cfgm m).N) (d) : dat.before 4 t d = iblk m c 4 t :=
  (dat.before_in_eq_fetched 4 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found5 (hA : dat.A 5 = V₀ m c (Proc.devRef .tc (Pipeline.arrRef spec0 5))) (h : ∀ t, dat.after 5 t = iblk m c 5 t)
    (t : Fin (cfgm m).N) (d) : dat.before 5 t d = iblk m c 5 t :=
  (dat.before_in_eq_fetched 5 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found6 (hA : dat.A 6 = V₀ m c (Proc.devRef .tc (Pipeline.arrRef spec0 6))) (h : ∀ t, dat.after 6 t = iblk m c 6 t)
    (t : Fin (cfgm m).N) (d) : dat.before 6 t d = iblk m c 6 t :=
  (dat.before_in_eq_fetched 6 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found7 (hA : dat.A 7 = V₀ m c (Proc.devRef .tc (Pipeline.arrRef spec0 7))) (h : ∀ t, dat.after 7 t = iblk m c 7 t)
    (t : Fin (cfgm m).N) (d) : dat.before 7 t d = iblk m c 7 t :=
  (dat.before_in_eq_fetched 7 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found8 (hA : dat.A 8 = V₀ m c (Proc.devRef .tc (Pipeline.arrRef spec0 8))) (h : ∀ t, dat.after 8 t = iblk m c 8 t)
    (t : Fin (cfgm m).N) (d) : dat.before 8 t d = iblk m c 8 t :=
  (dat.before_in_eq_fetched 8 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found9 (hA : dat.A 9 = V₀ m c (Proc.devRef .tc (Pipeline.arrRef spec0 9))) (h : ∀ t, dat.after 9 t = iblk m c 9 t)
    (t : Fin (cfgm m).N) (d) : dat.before 9 t d = iblk m c 9 t :=
  (dat.before_in_eq_fetched 9 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found10 (hA : dat.A 10 = V₀ m c (Proc.devRef .tc (Pipeline.arrRef spec0 10))) (h : ∀ t, dat.after 10 t = iblk m c 10 t)
    (t : Fin (cfgm m).N) (d) : dat.before 10 t d = iblk m c 10 t :=
  (dat.before_in_eq_fetched 10 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found11 (hA : dat.A 11 = V₀ m c (Proc.devRef .tc (Pipeline.arrRef spec0 11))) (h : ∀ t, dat.after 11 t = iblk m c 11 t)
    (t : Fin (cfgm m).N) (d) : dat.before 11 t d = iblk m c 11 t :=
  (dat.before_in_eq_fetched 11 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
theorem found12 (hA : dat.A 12 = V₀ m c (Proc.devRef .tc (Pipeline.arrRef spec0 12))) (h : ∀ t, dat.after 12 t = iblk m c 12 t)
    (t : Fin (cfgm m).N) (d) : dat.before 12 t d = iblk m c 12 t :=
  (dat.before_in_eq_fetched 12 rfl (fun _ => rfl) (fun _ _ _ => rfl)
    (fun t => by rw [h]; unfold Pipeline.Dat.blockOf iblk; rw [hA]; rfl) t d).trans
    (by unfold Pipeline.Dat.fetched Pipeline.Dat.blockOf iblk; rw [hA]; rfl)
end

section
variable (c : Dev nD) (t : Fin (cfgm m).N)

theorem before0 (d) : (dats m Inv dq dk dv 0 c).before 0 t d = iblk m c 0 t :=
  found0 (dats m Inv dq dk dv 0 c) (by dsimp only [dats]; rfl) (fun t => by dsimp only [dats]; exact after0 m dq dk dv c t) t d
theorem before1 (d) : (dats m Inv dq dk dv 0 c).before 1 t d = iblk m c 1 t :=
  found1 (dats m Inv dq dk dv 0 c) (by dsimp only [dats]; rfl) (fun t => by dsimp only [dats]; exact after1 m dq dk dv c t) t d
theorem before2 (d) : (dats m Inv dq dk dv 0 c).before 2 t d = iblk m c 2 t :=
  found2 (dats m Inv dq dk dv 0 c) (by dsimp only [dats]; rfl) (fun t => by dsimp only [dats]; exact after2 m dq dk dv c t) t d
theorem before3 (d) : (dats m Inv dq dk dv 0 c).before 3 t d = iblk m c 3 t :=
  found3 (dats m Inv dq dk dv 0 c) (by dsimp only [dats]; rfl) (fun t => by dsimp only [dats]; exact after3 m dq dk dv c t) t d
theorem before4 (d) : (dats m Inv dq dk dv 0 c).before 4 t d = iblk m c 4 t :=
  found4 (dats m Inv dq dk dv 0 c) (by dsimp only [dats]; rfl) (fun t => by dsimp only [dats]; exact after4 m dq dk dv c t) t d
theorem before5 (d) : (dats m Inv dq dk dv 0 c).before 5 t d = iblk m c 5 t :=
  found5 (dats m Inv dq dk dv 0 c) (by dsimp only [dats]; rfl) (fun t => by dsimp only [dats]; exact after5 m dq dk dv c t) t d
theorem before6 (d) : (dats m Inv dq dk dv 0 c).before 6 t d = iblk m c 6 t :=
  found6 (dats m Inv dq dk dv 0 c) (by dsimp only [dats]; rfl) (fun t => by dsimp only [dats]; exact after6 m dq dk dv c t) t d
theorem before7 (d) : (dats m Inv dq dk dv 0 c).before 7 t d = iblk m c 7 t :=
  found7 (dats m Inv dq dk dv 0 c) (by dsimp only [dats]; rfl) (fun t => by dsimp only [dats]; exact after7 m dq dk dv c t) t d
theorem before8 (d) : (dats m Inv dq dk dv 0 c).before 8 t d = iblk m c 8 t :=
  found8 (dats m Inv dq dk dv 0 c) (by dsimp only [dats]; rfl) (fun t => by dsimp only [dats]; exact after8 m dq dk dv c t) t d
theorem before9 (d) : (dats m Inv dq dk dv 0 c).before 9 t d = iblk m c 9 t :=
  found9 (dats m Inv dq dk dv 0 c) (by dsimp only [dats]; rfl) (fun t => by dsimp only [dats]; exact after9 m dq dk dv c t) t d
theorem before10 (d) : (dats m Inv dq dk dv 0 c).before 10 t d = iblk m c 10 t :=
  found10 (dats m Inv dq dk dv 0 c) (by dsimp only [dats]; rfl) (fun t => by dsimp only [dats]; exact after10 m dq dk dv c t) t d
theorem before11 (d) : (dats m Inv dq dk dv 0 c).before 11 t d = iblk m c 11 t :=
  found11 (dats m Inv dq dk dv 0 c) (by dsimp only [dats]; rfl) (fun t => by dsimp only [dats]; exact after11 m dq dk dv c t) t d
theorem before12 (d) : (dats m Inv dq dk dv 0 c).before 12 t d = iblk m c 12 t :=
  found12 (dats m Inv dq dk dv 0 c) (by dsimp only [dats]; rfl) (fun t => by dsimp only [dats]; exact after12 m dq dk dv c t) t d
end

end Cert.KernelIdeal.Swa
end
-- ==== Proof.KernelIdeal.Point.lean ====
module

public import proofs.«01_k».proof.Proof.KernelIdeal.Data

/-!
The body at one grid point of the pipeline, over the buffers the pipeline hands it.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (m : (ℓ : Loc nD τ sig) → Buf (Elt F) ℓ) (Inv : Dev nD → ℕ → St F → Prop)

theorem defs_tc : (defs₀ (F := F)) .tc 0 = fun a => cc0_swa_bwd (grid0.coords a.1) (Memref.whole main_v58) (Memref.isWhole_whole _)
    (Memref.whole main_v26) (Memref.isWhole_whole _) (Memref.whole main_v28) (Memref.isWhole_whole _)
    (spec0_0.stage (a.2 0)) (hstage0_0 ((a.2 0).cast nbuf0_0)) (spec0_1.stage (a.2 1)) (hstage0_1 ((a.2 1).cast nbuf0_1)) (spec0_2.stage (a.2 2)) (hstage0_2 ((a.2 2).cast nbuf0_2)) (spec0_3.stage (a.2 3)) (hstage0_3 ((a.2 3).cast nbuf0_3)) (spec0_4.stage (a.2 4)) (hstage0_4 ((a.2 4).cast nbuf0_4)) (spec0_5.stage (a.2 5)) (hstage0_5 ((a.2 5).cast nbuf0_5)) (spec0_6.stage (a.2 6)) (hstage0_6 ((a.2 6).cast nbuf0_6)) (spec0_7.stage (a.2 7)) (hstage0_7 ((a.2 7).cast nbuf0_7)) (spec0_8.stage (a.2 8)) (hstage0_8 ((a.2 8).cast nbuf0_8)) (spec0_9.stage (a.2 9)) (hstage0_9 ((a.2 9).cast nbuf0_9)) (spec0_10.stage (a.2 10)) (hstage0_10 ((a.2 10).cast nbuf0_10)) (spec0_11.stage (a.2 11)) (hstage0_11 ((a.2 11).cast nbuf0_11)) (spec0_12.stage (a.2 12)) (hstage0_12 ((a.2 12).cast nbuf0_12)) (spec0_13.stage (a.2 13)) (hstage0_13 ((a.2 13).cast nbuf0_13)) (spec0_14.stage (a.2 14)) (hstage0_14 ((a.2 14).cast nbuf0_14)) (spec0_15.stage (a.2 15)) (hstage0_15 ((a.2 15).cast nbuf0_15))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) := rfl

/-! Each window's current buffer. -/

def stg0 (t : Fin (cfgm m).N) : Memref sig .tc .smem S4x2 .f32 := spec0_0.stage ((cfgm m).slots t 0)
theorem hstg0 (t : Fin (cfgm m).N) : (stg0 m t).IsWhole := hstage0_0 (((cfgm m).slots t 0).cast nbuf0_0)
def stg1 (t : Fin (cfgm m).N) : Memref sig .tc .smem S4x2 .f32 := spec0_1.stage ((cfgm m).slots t 1)
theorem hstg1 (t : Fin (cfgm m).N) : (stg1 m t).IsWhole := hstage0_1 (((cfgm m).slots t 1).cast nbuf0_1)
def stg2 (t : Fin (cfgm m).N) : Memref sig .tc .smem S4 .f32 := spec0_2.stage ((cfgm m).slots t 2)
theorem hstg2 (t : Fin (cfgm m).N) : (stg2 m t).IsWhole := hstage0_2 (((cfgm m).slots t 2).cast nbuf0_2)
def stg3 (t : Fin (cfgm m).N) : Memref sig .tc .smem S4x2 .f32 := spec0_3.stage ((cfgm m).slots t 3)
theorem hstg3 (t : Fin (cfgm m).N) : (stg3 m t).IsWhole := hstage0_3 (((cfgm m).slots t 3).cast nbuf0_3)
def stg4 (t : Fin (cfgm m).N) : Memref sig .tc .smem S4x2 .f32 := spec0_4.stage ((cfgm m).slots t 4)
theorem hstg4 (t : Fin (cfgm m).N) : (stg4 m t).IsWhole := hstage0_4 (((cfgm m).slots t 4).cast nbuf0_4)
def stg5 (t : Fin (cfgm m).N) : Memref sig .tc .vmem S1x2x256x256 .fp8e4m3 := spec0_5.stage ((cfgm m).slots t 5)
theorem hstg5 (t : Fin (cfgm m).N) : (stg5 m t).IsWhole := hstage0_5 (((cfgm m).slots t 5).cast nbuf0_5)
def stg6 (t : Fin (cfgm m).N) : Memref sig .tc .vmem S1x2x256x256 .fp8e5m2 := spec0_6.stage ((cfgm m).slots t 6)
theorem hstg6 (t : Fin (cfgm m).N) : (stg6 m t).IsWhole := hstage0_6 (((cfgm m).slots t 6).cast nbuf0_6)
def stg7 (t : Fin (cfgm m).N) : Memref sig .tc .vmem S1x2x256x256 .bf16 := spec0_7.stage ((cfgm m).slots t 7)
theorem hstg7 (t : Fin (cfgm m).N) : (stg7 m t).IsWhole := hstage0_7 (((cfgm m).slots t 7).cast nbuf0_7)
def stg8 (t : Fin (cfgm m).N) : Memref sig .tc .vmem S1x2x1x256 .f32 := spec0_8.stage ((cfgm m).slots t 8)
theorem hstg8 (t : Fin (cfgm m).N) : (stg8 m t).IsWhole := hstage0_8 (((cfgm m).slots t 8).cast nbuf0_8)
def stg9 (t : Fin (cfgm m).N) : Memref sig .tc .vmem S1x256 .i32 := spec0_9.stage ((cfgm m).slots t 9)
theorem hstg9 (t : Fin (cfgm m).N) : (stg9 m t).IsWhole := hstage0_9 (((cfgm m).slots t 9).cast nbuf0_9)
def stg10 (t : Fin (cfgm m).N) : Memref sig .tc .vmem S1x256x256 .fp8e4m3 := spec0_10.stage ((cfgm m).slots t 10)
theorem hstg10 (t : Fin (cfgm m).N) : (stg10 m t).IsWhole := hstage0_10 (((cfgm m).slots t 10).cast nbuf0_10)
def stg11 (t : Fin (cfgm m).N) : Memref sig .tc .vmem S1x256x256 .fp8e4m3 := spec0_11.stage ((cfgm m).slots t 11)
theorem hstg11 (t : Fin (cfgm m).N) : (stg11 m t).IsWhole := hstage0_11 (((cfgm m).slots t 11).cast nbuf0_11)
def stg12 (t : Fin (cfgm m).N) : Memref sig .tc .vmem S1x256 .i32 := spec0_12.stage ((cfgm m).slots t 12)
theorem hstg12 (t : Fin (cfgm m).N) : (stg12 m t).IsWhole := hstage0_12 (((cfgm m).slots t 12).cast nbuf0_12)
def stg13 (t : Fin (cfgm m).N) : Memref sig .tc .vmem S1x2x256x256 .bf16 := spec0_13.stage ((cfgm m).slots t 13)
theorem hstg13 (t : Fin (cfgm m).N) : (stg13 m t).IsWhole := hstage0_13 (((cfgm m).slots t 13).cast nbuf0_13)
def stg14 (t : Fin (cfgm m).N) : Memref sig .tc .vmem S1x256x256 .bf16 := spec0_14.stage ((cfgm m).slots t 14)
theorem hstg14 (t : Fin (cfgm m).N) : (stg14 m t).IsWhole := hstage0_14 (((cfgm m).slots t 14).cast nbuf0_14)
def stg15 (t : Fin (cfgm m).N) : Memref sig .tc .vmem S1x256x256 .bf16 := spec0_15.stage ((cfgm m).slots t 15)
theorem hstg15 (t : Fin (cfgm m).N) : (stg15 m t).IsWhole := hstage0_15 (((cfgm m).slots t 15).cast nbuf0_15)

abbrev inp0 (c : Dev nD) (t : Fin (cfgm m).N) : Vec F S4x2 .f32 := iblk m c 0 t
abbrev inp1 (c : Dev nD) (t : Fin (cfgm m).N) : Vec F S4x2 .f32 := iblk m c 1 t
abbrev inp2 (c : Dev nD) (t : Fin (cfgm m).N) : Vec F S4 .f32 := iblk m c 2 t
abbrev inp3 (c : Dev nD) (t : Fin (cfgm m).N) : Vec F S4x2 .f32 := iblk m c 3 t
abbrev inp4 (c : Dev nD) (t : Fin (cfgm m).N) : Vec F S4x2 .f32 := iblk m c 4 t
abbrev inp5 (c : Dev nD) (t : Fin (cfgm m).N) : Vec F S1x2x256x256 .fp8e4m3 := iblk m c 5 t
abbrev inp6 (c : Dev nD) (t : Fin (cfgm m).N) : Vec F S1x2x256x256 .fp8e5m2 := iblk m c 6 t
abbrev inp7 (c : Dev nD) (t : Fin (cfgm m).N) : Vec F S1x2x256x256 .bf16 := iblk m c 7 t
abbrev inp8 (c : Dev nD) (t : Fin (cfgm m).N) : Vec F S1x2x1x256 .f32 := iblk m c 8 t
abbrev inp9 (c : Dev nD) (t : Fin (cfgm m).N) : Vec F S1x256 .i32 := iblk m c 9 t
abbrev inp10 (c : Dev nD) (t : Fin (cfgm m).N) : Vec F S1x256x256 .fp8e4m3 := iblk m c 10 t
abbrev inp11 (c : Dev nD) (t : Fin (cfgm m).N) : Vec F S1x256x256 .fp8e4m3 := iblk m c 11 t
abbrev inp12 (c : Dev nD) (t : Fin (cfgm m).N) : Vec F S1x256 .i32 := iblk m c 12 t

/-- The body's program at point `t`. -/
theorem prog_eq (t : Fin (cfgm m).N) :
    (defs₀ (F := F)) .tc (cfgm m).body ((cfgm m).bodyArgs t ((cfgm m).slots t)) = cc0_swa_bwd (F := F) (grid0.coords t) (Memref.whole main_v58) (Memref.isWhole_whole _) (Memref.whole main_v26) (Memref.isWhole_whole _) (Memref.whole main_v28) (Memref.isWhole_whole _) (stg0 m t) (hstg0 m t) (stg1 m t) (hstg1 m t) (stg2 m t) (hstg2 m t) (stg3 m t) (hstg3 m t) (stg4 m t) (hstg4 m t) (stg5 m t) (hstg5 m t) (stg6 m t) (hstg6 m t) (stg7 m t) (hstg7 m t) (stg8 m t) (hstg8 m t) (stg9 m t) (hstg9 m t) (stg10 m t) (hstg10 m t) (stg11 m t) (hstg11 m t) (stg12 m t) (hstg12 m t) (stg13 m t) (hstg13 m t) (stg14 m t) (hstg14 m t) (stg15 m t) (hstg15 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) :=
  (congrFun defs_tc _).trans rfl

/-- The input windows' buffers at their blocks. -/
def insOwn (c : Dev nD) (t : Fin (cfgm m).N) : sProp 𝕄 :=
  iprop(owns (c : Thread nD τ) (stg0 m t) fullShare (inp0 m c t) ∗ owns (c : Thread nD τ) (stg1 m t) fullShare (inp1 m c t) ∗ owns (c : Thread nD τ) (stg2 m t) fullShare (inp2 m c t) ∗ owns (c : Thread nD τ) (stg3 m t) fullShare (inp3 m c t) ∗ owns (c : Thread nD τ) (stg4 m t) fullShare (inp4 m c t) ∗ owns (c : Thread nD τ) (stg5 m t) fullShare (inp5 m c t) ∗ owns (c : Thread nD τ) (stg6 m t) fullShare (inp6 m c t) ∗ owns (c : Thread nD τ) (stg7 m t) fullShare (inp7 m c t) ∗ owns (c : Thread nD τ) (stg8 m t) fullShare (inp8 m c t) ∗ owns (c : Thread nD τ) (stg9 m t) fullShare (inp9 m c t) ∗ owns (c : Thread nD τ) (stg10 m t) fullShare (inp10 m c t) ∗ owns (c : Thread nD τ) (stg11 m t) fullShare (inp11 m c t) ∗ owns (c : Thread nD τ) (stg12 m t) fullShare (inp12 m c t))

/-- The body at point `t`. -/
theorem pointRun (c : Dev nD) (t : Fin (cfgm m).N) (hfit : 16 ≤ tt (grid0.coords t) → Fits (grid0.coords t) (at256 (tblAt m c t).nhi (tt (grid0.coords t) - 16)))
    (X18 : Vec F S1x2x256x256 .bf16) (X19 X20 : Vec F S1x256x256 .bf16) :
    iprop(Φ m (Inv c) c t.val ∗ insOwn m c t ∗ reads c (stg13 m t) X18 ∗ reads c (stg14 m t) X19 ∗ reads c (stg15 m t) X20)
      ⊢ wp frame (wpE defs₀ Variants.none (c : Thread nD τ) none) Set.univ
          ((defs₀ (F := F)) .tc (cfgm m).body ((cfgm m).bodyArgs t ((cfgm m).slots t)))
          fun _ => iprop(∃ st, ⌜Inv c t.val st⌝ ∗ Φ m (fun _ s => s = stepSt (grid0.coords t) (tblAt m c t) (blkAt m c t) st) c (t.val + 1)
            ∗ insOwn m c t ∗ reads c (stg13 m t) (dqBuf (grid0.coords t) (tblAt m c t) (blkAt m c t) st X18)
            ∗ reads c (stg14 m t) (dkBuf (grid0.coords t) (tblAt m c t) (blkAt m c t) st X19)
            ∗ reads c (stg15 m t) (dvBuf (grid0.coords t) (tblAt m c t) (blkAt m c t) st X20)) := by
  rw [prog_eq m t]
  unfold Φ insOwn tables3 scratch
  iintro ⟨⟨⟨H2, H3, H4⟩, ⟨%st, %hst, HS⟩, Hp⟩, ⟨I0, I1, I2, I3, I4, I5, I6, I7, I8, I9, I10, I11, I12⟩, O18, O19, O20⟩
  iapply (wp_wand_r)
  isplitl [H2 H3 H4 HS I0 I1 I2 I3 I4 I5 I6 I7 I8 I9 I10 I11 I12 O18 O19 O20]
  · iapply (bodyRun c (grid0.coords t) (Memref.whole main_v58) (Memref.isWhole_whole _) (Memref.whole main_v26) (Memref.isWhole_whole _) (Memref.whole main_v28) (Memref.isWhole_whole _) (stg0 m t) (hstg0 m t) (stg1 m t) (hstg1 m t) (stg2 m t) (hstg2 m t) (stg3 m t) (hstg3 m t) (stg4 m t) (hstg4 m t) (stg5 m t) (hstg5 m t) (stg6 m t) (hstg6 m t) (stg7 m t) (hstg7 m t) (stg8 m t) (hstg8 m t) (stg9 m t) (hstg9 m t) (stg10 m t) (hstg10 m t) (stg11 m t) (hstg11 m t) (stg12 m t) (hstg12 m t) (stg13 m t) (hstg13 m t) (stg14 m t) (hstg14 m t) (stg15 m t) (hstg15 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (tblAt m c t) (blkAt m c t) st hfit X18 X19 X20)
    unfold tblOwn blkOwn
    isplitl [H2 H3 H4 HS I0 I1 I2 I3 I4 I5 I6 I7 I8 I9 I10 I11 I12]
    · isplitl [H2 H3 H4 I0 I1 I2 I3 I4]
      · isplitl [H2]
        · iexact H2
        isplitl [H3]
        · iexact H3
        isplitl [H4]
        · iexact H4
        isplitl [I0]
        · iexact I0
        isplitl [I1]
        · iexact I1
        isplitl [I2]
        · iexact I2
        isplitl [I3]
        · iexact I3
        iexact I4
      isplitl [I5 I6 I7 I8 I9 I10 I11 I12]
      · isplitl [I5]
        · iexact I5
        isplitl [I6]
        · iexact I6
        isplitl [I7]
        · iexact I7
        isplitl [I8]
        · iexact I8
        isplitl [I9]
        · iexact I9
        isplitl [I10]
        · iexact I10
        isplitl [I11]
        · iexact I11
        iexact I12
      · iexact HS
    isplitl [O18]
    · iexact O18
    isplitl [O19]
    · iexact O19
    iexact O20
  · iintro %r ⟨⟨HT, HB, HS⟩, O18, O19, O20⟩
    unfold tblOwn blkOwn
    icases HT with ⟨H2, H3, H4, I0, I1, I2, I3, I4⟩
    icases HB with ⟨I5, I6, I7, I8, I9, I10, I11, I12⟩
    iexists st
    isplitr
    · ipureintro; exact hst
    isplitl [H2 H3 H4 HS Hp]
    · isplitl [H2 H3 H4]
      · isplitl [H2]
        · iexact H2
        isplitl [H3]
        · iexact H3
        iexact H4
      isplitl [HS]
      · iexists (stepSt (grid0.coords t) (tblAt m c t) (blkAt m c t) st)
        isplitr
        · ipureintro; rfl
        · iexact HS
      iexact Hp
    isplitl [I0 I1 I2 I3 I4 I5 I6 I7 I8 I9 I10 I11 I12]
    · isplitl [I0]
      · iexact I0
      isplitl [I1]
      · iexact I1
      isplitl [I2]
      · iexact I2
      isplitl [I3]
      · iexact I3
      isplitl [I4]
      · iexact I4
      isplitl [I5]
      · iexact I5
      isplitl [I6]
      · iexact I6
      isplitl [I7]
      · iexact I7
      isplitl [I8]
      · iexact I8
      isplitl [I9]
      · iexact I9
      isplitl [I10]
      · iexact I10
      isplitl [I11]
      · iexact I11
      iexact I12
    isplitl [O18]
    · iexact O18
    isplitl [O19]
    · iexact O19
    iexact O20

end Cert.KernelIdeal.Swa
end
-- ==== Proof.KernelIdeal.Obl.lean ====
module

public import proofs.«01_k».proof.Proof.KernelIdeal.Point
public import Idealize.ShloMosaic.Lib.Pipeline.FrameSuffix

/-!
The body obligation of the pipeline with its outputs left unnamed, and the run of the program that leaves its arguments
unchanged.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

variable (m : (ℓ : Loc nD τ sig) → Buf (Elt F) ℓ)

/-- The windows whose contents are left unnamed: the outputs. -/
def fgt0 : Fin 16 → Bool := fun w => decide (13 ≤ w.val)

theorem fgt_0 : fgt0 0 = false := rfl
theorem fgt_1 : fgt0 1 = false := rfl
theorem fgt_2 : fgt0 2 = false := rfl
theorem fgt_3 : fgt0 3 = false := rfl
theorem fgt_4 : fgt0 4 = false := rfl
theorem fgt_5 : fgt0 5 = false := rfl
theorem fgt_6 : fgt0 6 = false := rfl
theorem fgt_7 : fgt0 7 = false := rfl
theorem fgt_8 : fgt0 8 = false := rfl
theorem fgt_9 : fgt0 9 = false := rfl
theorem fgt_10 : fgt0 10 = false := rfl
theorem fgt_11 : fgt0 11 = false := rfl
theorem fgt_12 : fgt0 12 = false := rfl
theorem fgt_13 : fgt0 13 = true := rfl
theorem fgt_14 : fgt0 14 = true := rfl
theorem fgt_15 : fgt0 15 = true := rfl

/-- Some contents for each output, of which nothing is claimed. -/
def anyQ (c : Dev nD) (t : Fin (cfgm m).N) : Vec F S1x2x256x256 .bf16 := constant _ .bf16 0#16
def anyK (c : Dev nD) (t : Fin (cfgm m).N) : Vec F S1x256x256 .bf16 := constant _ .bf16 0#16

/-- The pipeline's data with nothing named. -/
abbrev dats0 := dats m (fun _ _ _ => True) (anyQ m) (anyK m) (anyK m)

/-- The trip count of every point fits. -/
def FitsAll : Prop := ∀ (c : Dev nD) (t : Fin (cfgm m).N), 16 ≤ tt (grid0.coords t) →
  Fits (grid0.coords t) (at256 (tblAt m c t).nhi (tt (grid0.coords t) - 16))

set_option backward.isDefEq.respectTransparency.types false in
theorem frame_obligation (hfit : FitsAll m) (c : Dev nD) :
    Pipeline.BodyObligationLoose (dats0 m 0 c) defs₀ Variants.none () Set.univ fgt0 := fun t => by
  rw [bigSep_W0, bigSep_W0]
  simp only [fgt_0, fgt_1, fgt_2, fgt_3, fgt_4, fgt_5, fgt_6, fgt_7, fgt_8, fgt_9, fgt_10, fgt_11, fgt_12, fgt_13, fgt_14, fgt_15, before0, before1, before2, before3, before4, before5, before6, before7, before8, before9, before10, before11, before12]
  rw [show (dats0 m 0 c).Φ t.castSucc = Φ m (fun _ _ => True) c t.val from rfl,
    show (dats0 m 0 c).Φ t.succ = Φ m (fun _ _ => True) c (t.val + 1) from rfl]
  unfold Pipeline.Dat.owesAt Pipeline.owesWithin
  rw [show (dats0 m 0 c).owed t.castSucc = 0 from rfl, show (dats0 m 0 c).owed t.succ = 0 from rfl]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%X18, O18⟩, ⟨%X19, O19⟩, ⟨%X20, O20⟩⟩
  iapply (wp_wand_r)
  isplitl [HΦ I0 I1 I2 I3 I4 I5 I6 I7 I8 I9 I10 I11 I12 O18 O19 O20]
  · iapply (pointRun m (fun _ _ _ => True) c t (hfit c t) X18 X19 X20)
    isplitl [HΦ]
    · iexact HΦ
    isplitl [I0 I1 I2 I3 I4 I5 I6 I7 I8 I9 I10 I11 I12]
    · unfold insOwn
      isplitl [I0]
      · iexact I0
      isplitl [I1]
      · iexact I1
      isplitl [I2]
      · iexact I2
      isplitl [I3]
      · iexact I3
      isplitl [I4]
      · iexact I4
      isplitl [I5]
      · iexact I5
      isplitl [I6]
      · iexact I6
      isplitl [I7]
      · iexact I7
      isplitl [I8]
      · iexact I8
      isplitl [I9]
      · iexact I9
      isplitl [I10]
      · iexact I10
      isplitl [I11]
      · iexact I11
      iexact I12
    isplitl [O18]
    · iexact O18
    isplitl [O19]
    · iexact O19
    iexact O20
  · iintro %r ⟨%st, %hst, HΦ, HI, O18, O19, O20⟩
    unfold insOwn
    icases HI with ⟨I0, I1, I2, I3, I4, I5, I6, I7, I8, I9, I10, I11, I12⟩
    isplitl [HΦ]
    · unfold Φ
      icases HΦ with ⟨HT, ⟨%st', %hs, HS⟩, Hp⟩
      isplitl [HT]
      · iexact HT
      isplitl [HS]
      · iexists st'
        isplitr
        · ipureintro; trivial
        · iexact HS
      iexact Hp
    isplitl [HW]
    · iexists W
      isplitr
      · ipureintro; exact fun _ _ => Or.inl trivial
      · iexact HW
    isplitl [I0]
    · iexact I0
    isplitl [I1]
    · iexact I1
    isplitl [I2]
    · iexact I2
    isplitl [I3]
    · iexact I3
    isplitl [I4]
    · iexact I4
    isplitl [I5]
    · iexact I5
    isplitl [I6]
    · iexact I6
    isplitl [I7]
    · iexact I7
    isplitl [I8]
    · iexact I8
    isplitl [I9]
    · iexact I9
    isplitl [I10]
    · iexact I10
    isplitl [I11]
    · iexact I11
    isplitl [I12]
    · iexact I12
    isplitl [O18]
    · iexists _
      iexact O18
    isplitl [O19]
    · iexists _
      iexact O19
    iexists _
    iexact O20

end Cert.KernelIdeal.Swa
end
-- ==== Proof.KernelIdeal.Run.lean ====
module

public import proofs.«01_k».proof.Proof.KernelIdeal.Obl

/-!
The run of the whole program: the host operations before and after the region, and the arguments left unchanged.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_cst, main_v18, main_v19, main_v20, main_v21, main_v22, main_v23, main_v24, main_v25, main_v26, main_v27, main_v28, main_v29, main_v30, main_v31, main_v32, main_v33, main_v34, main_v35, main_c, main_v36, main_v37, main_c_0, main_v38, main_v39, main_c_1, main_v40, main_v41, main_c_2, main_v42, main_v43, main_v44, main_v45, main_v46, main_v47, main_v48, main_v49, main_v50, main_v51, main_v52, main_c_3, main_v53, main_v54, main_v55, main_v56, main_v57, main_c_4, main_v58, main_cst_5, main_v59, main_v60, main_cst_6, main_v61, main_v62, main_v63]
theorem hostOps0_writes : (hostOps0 : List (HloOp τ sig (Elt F))).Forall fun op => op.writes ⊆ (hostOps0_W.map (Proc.devRef (τ := τ) .tc)).toFinset :=
  StableHlo.forall_writes_sub_of_map rfl
theorem hostOps0_fresh : (hostOps0 : List (HloOp τ sig (Elt F))).Forall fun op => op.fresh = ∅ := by
  simp only [List.Forall]; repeat' constructor

/-- The reference each operation of `hostOps1` writes, in order. -/
abbrev hostOps1_W : List (Ref sig .tc) := [main_v65, main_v66, main_v67, main_v68, main_v69, main_v70]
theorem hostOps1_writes : (hostOps1 : List (HloOp τ sig (Elt F))).Forall fun op => op.writes ⊆ (hostOps1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor

variable (m : (ℓ : Loc nD τ sig) → Buf (Elt F) ℓ)

theorem V₀_arg (c : Dev nD) (r : Ref sig .tc) (h : r ∉ hostOps0_W) : V₀ m c (Proc.devRef .tc r) = m ((c : Thread nD τ).loc r) := by
  unfold V₀; exact StableHlo.after_of_writes_sub (r := r) hostOps0 _ hostOps0_writes h

theorem tables3_eq (c : Dev nD) : Pipeline.prefHeld (Ix := Unit) (Name := ℕ) (U := UR sig nD τ) (Lvl := ℕ) pre0 c (fun _ => fullShare.right) (adm m 0).1 = tables3 m c := by
  unfold Pipeline.prefHeld tables3
  rw [owns_whole, owns_whole, owns_whole, bigSep_univ_eq_bigSepL [(0 : Fin 3), 1, 2] (by decide) (by decide)]
  obtain rfl : c = 0 := Subsingleton.elim _ _
  rfl

theorem scratch_eq (c : Dev nD) (st : St F) : scratch c st = iprop((((c : Thread nD τ).loc cc0_scratch0) ↦{fullShare} st.q) ∗ (((c : Thread nD τ).loc cc0_scratch1) ↦{fullShare} st.o) ∗ (((c : Thread nD τ).loc cc0_scratch2) ↦{fullShare} st.lse) ∗ (((c : Thread nD τ).loc cc0_scratch3) ↦{fullShare} st.dl) ∗ (((c : Thread nD τ).loc cc0_scratch4) ↦{fullShare} st.sg) ∗ (((c : Thread nD τ).loc cc0_scratch5) ↦{fullShare} st.dq) ∗ (((c : Thread nD τ).loc cc0_scratch6) ↦{fullShare} st.kt) ∗ (((c : Thread nD τ).loc cc0_scratch7) ↦{fullShare} st.sc) ∗ (((c : Thread nD τ).loc cc0_scratch8) ↦{fullShare} st.dk) ∗ (((c : Thread nD τ).loc cc0_scratch9) ↦{fullShare} st.dv)) := by
  unfold scratch stOwn reads
  rw [owns_whole, owns_whole, owns_whole, owns_whole, owns_whole, owns_whole, owns_whole, owns_whole, owns_whole, owns_whole]

/-- The region's start gives the invariant, -/
theorem hin (Inv : ℕ → St F → Prop) (h0 : ∀ st, Inv 0 st) (c : Dev nD) :
    iprop(Pipeline.ΦA (Val := Elt F) (U := UR sig nD τ) spec0 c ∗ Pipeline.ΦT pre0 (adm m 0).1 c) ⊢ Φ m Inv c 0 := by
  unfold Pipeline.ΦA Pipeline.ΦT
  rw [scopedRest0_eq, tables3_eq]
  unfold Φ
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, Hp⟩, HT⟩
  isplitl [HT]
  · iexact HT
  isplitl [S0 S1 S2 S3 S4 S5 S6 S7 S8 S9]
  · iexists ({q := f0, o := f1, lse := f2, dl := f3, sg := f4, dq := f5, kt := f6, sc := f7, dk := f8, dv := f9} : St F)
    isplitr
    · ipureintro; exact h0 _
    rw [scratch_eq]
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    iexact S9
  iexact Hp

/-- and the invariant gives back the region's end. -/
theorem hout (Inv : ℕ → St F → Prop) (c : Dev nD) (t : ℕ) : Φ m Inv c t ⊢ Pipeline.ΦA (Val := Elt F) (U := UR sig nD τ) spec0 c := by
  unfold Pipeline.ΦA Φ
  rw [scopedRest0_eq]
  simp only [scratch_eq]
  iintro ⟨-, ⟨%st, -, HS⟩, Hp⟩
  icases HS with ⟨S0, S1, S2, S3, S4, S5, S6, S7, S8, S9⟩
  isplitl [S0 S1 S2 S3 S4 S5 S6 S7 S8 S9]
  · isplitl [S0]
    · iexists _; iexact S0
    isplitl [S1]
    · iexists _; iexact S1
    isplitl [S2]
    · iexists _; iexact S2
    isplitl [S3]
    · iexists _; iexact S3
    isplitl [S4]
    · iexists _; iexact S4
    isplitl [S5]
    · iexists _; iexact S5
    isplitl [S6]
    · iexists _; iexact S6
    isplitl [S7]
    · iexists _; iexact S7
    isplitl [S8]
    · iexists _; iexact S8
    iexists _; iexact S9
  iexact Hp

/-- The program around the region. -/
theorem hmain (𝒱₀ : Variants) : Pipeline.HMainPK (Ix := Unit) (Name := ℕ) (U := UR sig nD τ) (Lvl := ℕ) (pcfgs (F := F)) 0 defs₀ 𝒱₀ m main
    (fun c b => V₀ m c (Proc.devRef .tc b)) (fun _ => Pipeline.chain ([hostOps1].map StableHlo.seq)) := by
  have h := Pipeline.hmainP_around (Ix := Unit) (Name := ℕ) (U := UR sig nD τ) (Lvl := ℕ) (pcfgs (F := F)) 0 defs₀ 𝒱₀ m main [hostOps0] [hostOps1]
    (by simp only [List.Forall]; exact hostOps0_sub) (by simp only [List.Forall]; exact hostOps0_fresh) main_chain
  unfold V₀
  simpa only [List.flatten_cons, List.flatten_nil, List.append_nil] using h

/-! The host operations after the region. -/

theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl
  all_goals intro j; fin_cases j <;> simp only [StableHlo.unary_bufs, StableHlo.reshape_bufs, Finset.mem_insert, Finset.mem_singleton, not_or] <;> and_intros <;> exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops, ∀ w, Proc.devRef .tc (Pipeline.arrRef spec0 w) ∉ op.writes := by
  intro ops hops op hop
  simp only [List.mem_cons, List.mem_nil_iff, or_false] at hops
  rcases hops with rfl
  intro w hb
  obtain ⟨y, hy, he⟩ := List.mem_map.mp (List.mem_toFinset.mp ((List.forall_iff_forall_mem.mp hostOps1_writes) op hop hb))
  exact (by decide +kernel : ∀ w, Pipeline.arrRef spec0 w ∉ hostOps1_W) w (Proc.devRef_injective _ he ▸ hy)

theorem sfx_writes : ∀ ops ∈ ([hostOps1] : List (List (HloOp τ sig (Elt F)))), ∀ op ∈ ops, ∀ b : Ref sig .tc, Proc.devRef .tc b ∈ op.writes → b ∈ hostOps1_W.toFinset := by
  intro ops hops op hop
  simp only [List.mem_cons, List.mem_nil_iff, or_false] at hops
  rcases hops with rfl
  intro b hb
  obtain ⟨y, hy, he⟩ := List.mem_map.mp (List.mem_toFinset.mp ((List.forall_iff_forall_mem.mp hostOps1_writes) op hop hb))
  exact List.mem_toFinset.mpr (Proc.devRef_injective _ he ▸ hy)

variable [∀ e, Nonempty (Elt F e)]

/-- The run: it ends, the inputs unchanged, every semaphore at rest. -/
theorem run (hfit : FitsAll m) (g : Dev nD → PrngReg) :
    θ_run (defs (F := F)) (onTc (τ := τ) (main (F := F))) ⟨m, fun _ => 0, g⟩ fun r =>
      Pipeline.RDat.FramePostR (cfgm m) (fun c => (dats0 m 0 c).toRForget fgt0) hostOps1_W.toFinset (fun c b => V₀ m c (Proc.devRef .tc b)) r
        ∧ r.2.sem = fun _ => 0 := by
  have hb : ∀ c, Pipeline.BodyObligationLoose (dats0 m 0 c) defs₀ Variants.none () Set.univ fgt0 := frame_obligation m hfit
  have hm := hmain m Variants.none
  have hi : ∀ c, iprop(Pipeline.ΦA (Val := Elt F) (U := UR sig nD τ) spec0 c ∗ Pipeline.ΦT pre0 (adm m 0).1 c) ⊢ (dats0 m 0 c).Φ 0 := hin m (fun _ _ => True) (fun _ => trivial)
  have ho : ∀ c, (dats0 m 0 c).Φ (Fin.last (cfgm m).N) ⊢ Pipeline.ΦA (Val := Elt F) (U := UR sig nD τ) spec0 c := fun c => hout m (fun _ _ => True) c (Fin.last (cfgm m).N).val
  have hp : ∀ c k, V₀ m c (Proc.devRef .tc (pre0.ref k)) = (adm m 0).1 k := fun c k => by obtain rfl : c = 0 := Subsingleton.elim _ _; rfl
  have hA : ∀ c w, (dats0 m 0 c).A w = V₀ m c (Proc.devRef .tc (Pipeline.arrRef spec0 w)) := fun _ _ => rfl
  have hq : ∀ c w, (spec0 w).isOut = false → (dats0 m 0 c).q w = Pipeline.shareOf spec0 w := fun _ _ _ => rfl
  have hw : ∀ c t, (dats0 m 0 c).owed t = 0 := fun _ _ => rfl
  exact Pipeline.θ_run_frameP_around_T_track_forget_shared (pcfgs (F := F)) (adm m) (dats0 m) 0 launch₀0 defs₀ Variants.none fgt0 hostOps1_W.toFinset m g main
    hb hq hw (V₀ m) [hostOps1] sfx_sub sfx_fresh sfx_keeps sfx_writes hm hA hp hi ho _ (fun _ h => h)

/-- The arguments end unchanged. -/
theorem frame (hfit : FitsAll m) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10))
      ∧ r.2.sem = fun _ => 0 := by
  refine (θ_run defs _ _).mono (fun r hr => ⟨fun c => ?_, hr.2⟩) (run m hfit g)
  have hrest : ∀ b ∈ [main_arg0, main_arg1, main_arg2, main_arg3, main_arg4, main_arg5, main_arg6, main_arg7, main_arg8, main_arg9], b ∈ Pipeline.restRefs sig spec0 \ hostOps1_W.toFinset ∧ b ∉ hostOps0_W := by
    decide +kernel
  have key : ∀ b ∈ [main_arg0, main_arg1, main_arg2, main_arg3, main_arg4, main_arg5, main_arg6, main_arg7, main_arg8, main_arg9], r.2.mem ((c.tc : Thread nD τ).loc b) = m ((c.tc : Thread nD τ).loc b) := fun b hb =>
    ((hr.1 c).2 b (hrest b hb).1).trans (V₀_arg m c b (hrest b hb).2)
  refine ⟨key main_arg0 (by decide), key main_arg1 (by decide), key main_arg2 (by decide), key main_arg3 (by decide), key main_arg4 (by decide), key main_arg5 (by decide), key main_arg6 (by decide), key main_arg7 (by decide), key main_arg8 (by decide), key main_arg9 (by decide), ?_⟩
  exact (hr.1.arr_in c 9 rfl).trans (V₀_arg m c main_arg10 (by decide +kernel))

end Cert.KernelIdeal.Swa
end
-- ==== Proof.KernelIdeal.Tables.lean ====
module

public import proofs.«01_k».proof.Proof.KernelIdeal.Data
public import Idealize.ShloMosaic.Lib.Claim
public import Idealize.ShloMosaic.Lib.ValueIdxCore
public import Idealize.ShloMosaic.Lib.Pointwise

/-!
The trip counts: tile `j` visits the tiles `j + d` within the array whose first segment is the last one of tile `j`, and
always itself.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL.Sem

variable {F : FTy → Type} [FloatOps F] [Named F]

/-- The tile numbers `j + d`. -/
def tileNo : IVec S256x17 32 :=
  addi (broadcastInDim S256x17 ![0, 1] bcast_S256x1_S256x17_0_1 (broadcastInDim S256x1 ![0] bcast_S256_S256x1_0 (iotaInDim S256 32 0)))
    (broadcastInDim S256x17 ![0, 1] bcast_S1x17_S256x17_0_1 (broadcastInDim S1x17 ![1] bcast_S17_S1x17_1 (iotaInDim S17 32 0)))

/-- The tile numbers capped at the last tile. -/
def tileCap : IVec S256x17 32 := minsi tileNo (broadcastInDim S256x17 ![] bcast_S_S256x17 (constantI S_ 32 255#32))

/-- The same with a negative number counted from the end. -/
def tileIx : IVec S256x17 32 :=
  select (cmpi .slt tileCap (broadcastInDim S256x17 ![] bcast_S_S256x17 (constantI S_ 32 0#32)))
    (addi tileCap (broadcastInDim S256x17 ![] bcast_S_S256x17 (constantI S_ 32 256#32))) tileCap

/-- Which tiles `j + d` tile `j` visits. -/
def live (sf sl : IVec S256 32) : IVec S256x17 1 :=
  ori (andi (cmpi .slt tileNo (broadcastInDim S256x17 ![] bcast_S_S256x17 (constantI S_ 32 256#32)))
      (cmpi .eq (Host.gather gather_S256_S256x17x1_S256x17_n_0_n_n_0_2_1 sf (broadcastInDim S256x17x1 ![0, 1] bcast_S256x17_S256x17x1_0_1 tileIx))
        (broadcastInDim S256x17 ![0, 1] bcast_S256x1_S256x17_0_1 (broadcastInDim S256x1 ![0] bcast_S256_S256x1_0 sl))))
    (broadcastInDim S256x17 ![0, 1] bcast_S1x17_S256x17_0_1
      (cmpi .eq (broadcastInDim S1x17 ![1] bcast_S17_S1x17_1 (iotaInDim S17 32 0)) (broadcastInDim S1x17 ![] bcast_S_S1x17 (constantI S_ 32 0#32))))

/-- The trip counts. -/
def nhiOf (sf sl : IVec S256 32) : IVec S256 32 :=
  Host.reduce IntOp.addi (extui 32 (live sf sl) natLt_1_32) (constantI S_ 32 0#32) reducesTo_S256x17_S256_d1 h_S_

variable (m : (ℓ : Loc nD τ sig) → Buf (Elt F) ℓ)

theorem nhi_read (c : Dev nD) : V₀ m c (Proc.devRef .tc main_v58)
    = nhiOf (V₀ m c (Proc.devRef .tc main_v26)) (V₀ m c (Proc.devRef .tc main_v28)) := by
  unfold V₀
  entry_read
  rfl

theorem tileNo_at (j : Fin 256) (d : Fin 17) : tileNo (ix2 j d) = BitVec.ofNat 32 j.val + BitVec.ofNat 32 d.val := by
  pointwise [tileNo]
  rfl

theorem tileIx_at (j : Fin 256) (d : Fin 17) : (tileIx (ix2 j d)).toInt.toNat = min (j.val + d.val) 255 := by
  have e : tileIx (ix2 j d) = Scalar.select (Scalar.cmpi .slt (Scalar.minsi (BitVec.ofNat 32 j.val + BitVec.ofNat 32 d.val) 255#32) 0#32)
      (Scalar.addi (Scalar.minsi (BitVec.ofNat 32 j.val + BitVec.ofNat 32 d.val) 255#32) 256#32) (Scalar.minsi (BitVec.ofNat 32 j.val + BitVec.ofNat 32 d.val) 255#32) := by
    pointwise [tileIx, tileCap, tileNo]
    rfl
  rw [e]
  revert j d
  decide +kernel

theorem live_at (sf sl : IVec S256 32) (j : Fin 256) (d : Fin 17) :
    live sf sl (ix2 j d) = 1#1 ↔ d.val = 0 ∨ (∃ h : j.val + d.val < 256, sf (ix1 ⟨j.val + d.val, h⟩) = sl (ix1 j)) := by
  have hg : Host.gather gather_S256_S256x17x1_S256x17_n_0_n_n_0_2_1 sf (broadcastInDim S256x17x1 ![0, 1] bcast_S256x17_S256x17x1_0_1 tileIx) (ix2 j d)
      = sf (ix1 ⟨min (j.val + d.val) 255, by omega⟩) := by
    refine (ValueIdx.gather_take_apply (N := 256) (R := 256) (C := 17) (by decide) gather_S256_S256x17x1_S256x17_n_0_n_n_0_2_1_wf sf _ (ix2 j d)).trans ?_
    refine congrArg (fun k => sf (ix1 k)) (Fin.ext ?_)
    show min (tileIx (ix2 j d)).toInt.toNat 255 = min (j.val + d.val) 255
    rw [tileIx_at j d, Nat.min_assoc, Nat.min_self]
  have e : live sf sl (ix2 j d) = IntOp.ori (IntOp.andi (IntOp.cmpi .slt (tileNo (ix2 j d)) 256#32)
      (IntOp.cmpi .eq (Host.gather gather_S256_S256x17x1_S256x17_n_0_n_n_0_2_1 sf (broadcastInDim S256x17x1 ![0, 1] bcast_S256x17_S256x17x1_0_1 tileIx) (ix2 j d))
        (sl (ix1 j)))) (IntOp.cmpi .eq (BitVec.ofNat 32 d.val) 0#32) := by
    pointwise [live]
  have h1 : IntOp.cmpi .slt (BitVec.ofNat 32 j.val + BitVec.ofNat 32 d.val) 256#32 = if j.val + d.val < 256 then 1#1 else 0#1 := by
    clear e hg; revert j d; decide +kernel
  have h2 : IntOp.cmpi .eq (BitVec.ofNat 32 d.val) 0#32 = if d.val = 0 then 1#1 else 0#1 := by
    clear e hg h1; revert d; decide +kernel
  have h3 : ∀ a b : BitVec 32, IntOp.cmpi .eq a b = if a = b then 1#1 else 0#1 := by
    intro a b
    by_cases h : a = b
    · simp [IntOp.cmpi, h]
    · rw [if_neg h]; unfold IntOp.cmpi; rw [beq_eq_false_iff_ne.mpr h]; rfl
  rw [e, hg, tileNo_at, h1, h2, h3]
  by_cases hd : d.val = 0
  · simp only [hd, if_true, true_or, iff_true]
    split_ifs <;> decide
  · by_cases hj : j.val + d.val < 256
    · have hm : (⟨min (j.val + d.val) 255, by omega⟩ : Fin 256) = ⟨j.val + d.val, hj⟩ := Fin.ext (Nat.min_eq_left (by omega))
      rw [hm]
      by_cases hs : sf (ix1 ⟨j.val + d.val, hj⟩) = sl (ix1 j)
      · simp only [hs, hd, hj, if_true, if_false, false_or, exists_prop, true_and, and_true, iff_true]; decide
      · simp only [hs, hd, hj, if_true, if_false, false_or, exists_prop, and_false, exists_false, iff_false, exists_const]; decide
    · simp only [hd, hj, if_false, false_or, IsEmpty.exists_iff, iff_false]
      split_ifs <;> decide

theorem fold_addi {ι : Type} [DecidableEq ι] (S : Finset ι) (g : ι → ℕ) :
    S.fold IntOp.addi 0#32 (fun d => BitVec.ofNat 32 (g d)) = BitVec.ofNat 32 (∑ d ∈ S, g d) := by
  induction S using Finset.induction_on with
  | empty => rfl
  | insert a S ha ih => rw [Finset.fold_insert ha, ih, Finset.sum_insert ha]; exact (BitVec.ofNat_add ..).symm

/-- The trip count is the number of tiles visited. -/
theorem nhiOf_at (sf sl : IVec S256 32) (j : Fin 256) :
    nhiOf sf sl (ix1 j) = BitVec.ofNat 32 (∑ d : Fin 17, if live sf sl (ix2 j d) = 1#1 then 1 else 0) := by
  unfold nhiOf
  rw [Host.reduce_eq_fold_single IntOp.addi _ _ reducesTo_S256x17_S256_d1 (by decide) h_S_ (ix1 j), ← fold_addi]
  refine congrArg (fun f => Finset.fold IntOp.addi 0#32 f (Finset.univ : Finset (Fin 17))) (funext fun d => ?_)
  have hl : (show S256x17.Reduces [1] S256 by decide).lift (ix1 j) d = ix2 j d := by
    idx_ext
  rw [Function.comp_apply, hl]
  show (live sf sl (ix2 j d)).setWidth 32 = _
  generalize live sf sl (ix2 j d) = x
  revert x
  decide

/-- The trip count of tile `j` is between 1 and 17 and stays within the array. -/
theorem nhiOf_fits (sf sl : IVec S256 32) (j : Fin 256) :
    ∃ n, nhiOf sf sl (ix1 j) = BitVec.ofNat 32 n ∧ 1 ≤ n ∧ n ≤ 17 ∧ j.val + n ≤ 256 := by
  refine ⟨_, nhiOf_at sf sl j, ?_, ?_, ?_⟩
  · refine le_trans ?_ (Finset.single_le_sum (fun _ _ => Nat.zero_le _) (Finset.mem_univ (0 : Fin 17)))
    rw [if_pos ((live_at sf sl j 0).mpr (Or.inl rfl))]
  · refine (Finset.sum_le_card_nsmul _ _ 1 fun d _ => ?_).trans (by simp)
    split_ifs <;> omega
  · have h : (∑ d : Fin 17, if live sf sl (ix2 j d) = 1#1 then 1 else 0) ≤ ∑ d : Fin 17, if d.val < 256 - j.val then 1 else 0 := by
      refine Finset.sum_le_sum fun d _ => ?_
      by_cases hd : live sf sl (ix2 j d) = 1#1
      · have : d.val < 256 - j.val := by
          rcases (live_at sf sl j d).mp hd with h | ⟨h, -⟩ <;> omega
        rw [if_pos hd, if_pos this]
      · rw [if_neg hd]; exact Nat.zero_le _
    have h' : (∑ d : Fin 17, if d.val < 256 - j.val then 1 else 0) ≤ 256 - j.val := by
      rw [← Finset.card_filter]
      refine (Finset.card_le_card_of_injOn (t := Finset.range (256 - j.val)) (fun d : Fin 17 => d.val) ?_ ?_).trans (by simp)
      · intro d hd; simpa using hd
      · intro a _ b _ h; exact Fin.ext h
    have := j.isLt
    omega

/-- Every point's trip count fits. -/
theorem fits_all (c : Dev nD) (t : Fin (cfgm m).N) (h : 16 ≤ tt (grid0.coords t)) :
    Fits (grid0.coords t) (at256 (tblAt m c t).nhi (tt (grid0.coords t) - 16)) := by
  have ht := tt_lt (grid0.coords t)
  show Fits _ (at256 (V₀ m c (Proc.devRef .tc main_v58)) _)
  rw [nhi_read]
  obtain ⟨n, e, h1, h2, h3⟩ := nhiOf_fits (V₀ m c (Proc.devRef .tc main_v26)) (V₀ m c (Proc.devRef .tc main_v28))
    ⟨(tt (grid0.coords t) - 16) % 256, Nat.mod_lt _ (by decide)⟩
  refine ⟨n, e, h1, h2, ?_⟩
  have : (tt (grid0.coords t) - 16) % 256 = tt (grid0.coords t) - 16 := Nat.mod_eq_of_lt (by omega)
  simp only [this] at h3
  exact h3

end Cert.KernelIdeal.Swa
end
-- ==== Proof.Value.Pay.lean ====
module

public import proofs.«01_k».proof.Proof.KernelIdeal.Steps
public import Idealize.ShloMosaic.Lib.Tactic.Stretches

/-!
What the kernel's payloads hold at an index, over the extended reals.
-/

@[expose] public section

set_option maxRecDepth 16384

noncomputable section

namespace Cert.KernelIdeal.Swa

open Cert.KernelIdeal Cert.KernelIdeal.Gen
open Idealize.ShloMosaic Idealize.ShloMosaic.TcCoe

/-- The factor the kernel converts exponents with: log2 e, the real number. -/
abbrev lg : EReal := (Named.named (F := Ideal) κ "log2_e" 0x3FB8AA3B#32 : Ideal .f32)

/-- The word of minus infinity. -/
theorem bot_word : Ideal.ofBits .f32 0xFF800000#32 = (⊥ : EReal) := by
  simp [Ideal.ofBits, Ideal.ieee, -EReal.coe_mul]

theorem pay5_at (x : Vec Ideal S1x256 .i32) (a : Fin 256) : k0_pay5 (F := Ideal) x (ix3 0 0 a) = x (ix2 0 a) := by
  pointwise [k0_pay5]
theorem pay6_at (x : Vec Ideal S1x1x256x256 .fp8e4m3) (a d : Fin 256) : k0_pay6 x (ix4 0 0 a d) = x (ix4 0 0 a d) := by
  pointwise [k0_pay6]
theorem pay11_at (x : Vec Ideal S1x1x256x256 .fp8e4m3) (a d : Fin 256) : k0_pay11 x (ix4 0 0 a d) = x (ix4 0 0 a d) := by
  pointwise [k0_pay11]
theorem pay7_at (x : Vec Ideal S1x1x256x256 .fp8e5m2) (a d : Fin 256) : k0_pay7 x (ix4 0 0 a d) = x (ix4 0 0 a d) := by
  pointwise [k0_pay7]
theorem pay12_at (x : Vec Ideal S1x1x256x256 .fp8e5m2) (a d : Fin 256) : k0_pay12 x (ix4 0 0 a d) = x (ix4 0 0 a d) := by
  pointwise [k0_pay12]
theorem pay8_at (x : Vec Ideal S1x1x1x256 .f32) (a : Fin 256) : k0_pay8 (F := Ideal) x (ix4 0 0 0 a) = (x (ix4 0 0 0 a) * lg : EReal) := by
  pointwise [k0_pay8]
theorem pay13_at (x : Vec Ideal S1x1x1x256 .f32) (a : Fin 256) : k0_pay13 (F := Ideal) x (ix4 0 0 0 a) = (x (ix4 0 0 0 a) * lg : EReal) := by
  pointwise [k0_pay13]
theorem pay9_at (o : Vec Ideal S1x1x256x256 .fp8e5m2) (s : EReal) (w : Vec Ideal S1x1x256x256 .bf16) (a : Fin 256) :
    k0_pay9 (F := Ideal) o s w (ix4 0 0 0 a) = (∑ d : Fin 256, o (ix4 0 0 a d) * s * w (ix4 0 0 a d) : EReal) := by
  pointwise [k0_pay9]
  refine Eq.trans ?_ (Fin.sum_univ_two_halves 128 128 rfl (fun d : Fin 256 => (o (ix4 0 0 a d) * s * w (ix4 0 0 a d) : EReal))).symm
  rw [← Finset.sum_add_distrib]
theorem pay14_at (o : Vec Ideal S1x1x256x256 .fp8e5m2) (s : EReal) (w : Vec Ideal S1x1x256x256 .bf16) (a : Fin 256) :
    k0_pay1 (k0_pay14 (F := Ideal) o s w) (ix4 0 0 0 a) = (∑ d : Fin 256, o (ix4 0 0 a d) * s * w (ix4 0 0 a d) : EReal) := by
  pointwise [k0_pay1, k0_pay14]
  refine Eq.trans ?_ (Fin.sum_univ_two_halves 128 128 rfl (fun d : Fin 256 => (o (ix4 0 0 a d) * s * w (ix4 0 0 a d) : EReal))).symm
  rw [← Finset.sum_add_distrib]
theorem pay10_at (a d : Fin 256) : k0_pay10 (F := Ideal) (ix4 0 0 a d) = (0 : EReal) := by
  pointwise [k0_pay10]
theorem pay2_at (a d : Fin 256) : k0_pay2 (F := Ideal) (ix4 0 0 a d) = (0 : EReal) := by
  pointwise [k0_pay2]
theorem pay67_at (r : Fin 2) (a d : Fin 256) : k0_pay67 (F := Ideal) (ix3 r a d) = (0 : EReal) := by
  pointwise [k0_pay67]
theorem pay68_at (r : Fin 2) (a d : Fin 256) : k0_pay68 (F := Ideal) (ix3 r a d) = (0 : EReal) := by
  pointwise [k0_pay68]
theorem pay65_at (x : Vec Ideal S1x256x256 .fp8e4m3) (d b : Fin 256) : k0_pay65 x (ix2 d b) = (x (ix3 0 b d) : EReal) := by
  pointwise [k0_pay65]
theorem pay66_at (x : Vec Ideal S1x256 .i32) (b a : Fin 256) : k0_pay66 (F := Ideal) x (ix2 b a) = x (ix2 0 b) := by
  pointwise [k0_pay66]
theorem pay23_at (k : Vec Ideal S1x256x256 .fp8e4m3) (q : Vec Ideal S1x1x256x256 .fp8e4m3) (s : EReal) (b a : Fin 256) :
    k0_pay23 (F := Ideal) k q s (ix2 b a) = ((∑ d : Fin 256, k (ix3 0 b d) * q (ix4 0 0 a d)) * (s * lg) : EReal) := by
  pointwise [k0_pay23]
theorem unmasked_at (k : Vec Ideal S1x256x256 .fp8e4m3) (q : Vec Ideal S1x1x256x256 .fp8e4m3) (s : EReal) (l : Vec Ideal S1x1x1x256 .f32) (b a : Fin 256) :
    subf (F := Ideal) (k0_pay23 k q s) (broadcastTo S256x256 (k0_pay24 l) broadcasts_S1x256_S256x256) (ix2 b a)
      = ((∑ d : Fin 256, k (ix3 0 b d) * q (ix4 0 0 a d)) * (s * lg) - l (ix4 0 0 0 a) : EReal) := by
  pointwise [k0_pay23, k0_pay24]
theorem pay16_at (x y : BitVec 32) (sc : Vec Ideal S256x256 .i32) (sg : Vec Ideal S1x1x256 .i32) (k : Vec Ideal S1x256x256 .fp8e4m3) (q : Vec Ideal S1x1x256x256 .fp8e4m3)
    (s : EReal) (l : Vec Ideal S1x1x1x256 .f32) (b a : Fin 256) :
    k0_pay16 (F := Ideal) x y sc sg k q s l (ix2 b a)
      = Scalar.select (k0_pay15 (F := Ideal) x y sc sg (ix2 b a)) ((∑ d : Fin 256, k (ix3 0 b d) * q (ix4 0 0 a d)) * (s * lg) - l (ix4 0 0 0 a) : EReal) (⊥ : EReal) := by
  pointwise [k0_pay16]
  rw [bot_word]
theorem pay15_at (x y : BitVec 32) (sc : Vec Ideal S256x256 .i32) (sg : Vec Ideal S1x1x256 .i32) (b a : Fin 256) :
    k0_pay15 (F := Ideal) x y sc sg (ix2 b a)
      = Scalar.andi (Scalar.andi (Scalar.cmpi .sle (x * 256#32 + BitVec.ofNat 32 b.val) (y * 256#32 + BitVec.ofNat 32 a.val))
          (Scalar.cmpi .sgt (x * 256#32 + BitVec.ofNat 32 b.val) (y * 256#32 + BitVec.ofNat 32 a.val - 4096#32)))
        (Scalar.cmpi .eq (sc (ix2 b a)) (sg (ix3 0 0 a))) := by
  pointwise [k0_pay15]
  rfl
theorem pay18_at (e : FVec Ideal S256x256 .f32) (v : Vec Ideal S1x256x256 .fp8e4m3) (o : Vec Ideal S1x1x256x256 .fp8e5m2) (s : EReal) (l : Vec Ideal S1x1x1x256 .f32) (b a : Fin 256) :
    k0_pay18 (F := Ideal) e v o s l (ix2 b a) = (Ideal.exp2 (e (ix2 b a)) * ((∑ d : Fin 256, v (ix3 0 b d) * o (ix4 0 0 a d)) * s - l (ix4 0 0 0 a)) : EReal) := by
  pointwise [k0_pay18, k0_pay17]
  rfl
theorem pay19_at (e : FVec Ideal S256x256 .f32) (x : Vec Ideal S1x256x256 .f32) (o : Vec Ideal S1x1x256x256 .fp8e5m2) (b d : Fin 256) :
    k0_pay19 (F := Ideal) e x o (ix3 0 b d) = (x (ix3 0 b d) + ∑ a : Fin 256, Ideal.exp2 (e (ix2 b a)) * o (ix4 0 0 a d) : EReal) := by
  pointwise [k0_pay19, k0_pay17]
  rfl
theorem pay21_at (e : FVec Ideal S256x256 .bf16) (x : Vec Ideal S1x256x256 .f32) (q : Vec Ideal S1x1x256x256 .fp8e4m3) (b d : Fin 256) :
    k0_pay21 (F := Ideal) e (k0_pay20 x) q (ix3 0 b d) = (x (ix3 0 b d) + ∑ a : Fin 256, e (ix2 b a) * q (ix4 0 0 a d) : EReal) := by
  pointwise [k0_pay21, k0_pay20]
theorem pay22_at (e : FVec Ideal S256x256 .bf16) (x : Vec Ideal S1x1x256x256 .f32) (kt : Vec Ideal S256x256 .bf16) (d a : Fin 256) :
    k0_pay22 (F := Ideal) e x kt (ix4 0 0 d a) = (x (ix4 0 0 d a) + ∑ b : Fin 256, kt (ix2 d b) * e (ix2 b a) : EReal) := by
  pointwise [k0_pay22]
theorem pay75_at (x : Vec Ideal S1x256x256 .f32) (s : EReal) (y : Vec Ideal S1x256x256 .f32) (t : EReal) (b d : Fin 256) :
    k0_pay75 (F := Ideal) x s y t (ix3 0 b d) = (x (ix3 0 b d) * s + y (ix3 0 b d) * t : EReal) := by
  pointwise [k0_pay75]
theorem pay76_at (x : Vec Ideal S1x256x256 .f32) (s : EReal) (y : Vec Ideal S1x256x256 .f32) (t : EReal) (b d : Fin 256) :
    k0_pay76 (F := Ideal) x s y t (ix3 0 b d) = (x (ix3 0 b d) * s + y (ix3 0 b d) * t : EReal) := by
  pointwise [k0_pay76]
theorem pay3_at (x : Vec Ideal S1x1x256x256 .f32) (s : EReal) (a d : Fin 256) : k0_pay3 (F := Ideal) x s (ix4 0 0 a d) = (x (ix4 0 0 d a) * s : EReal) := by
  pointwise [k0_pay3]
theorem pay4_at (x : Vec Ideal S1x1x256x256 .f32) (s : EReal) (a d : Fin 256) : k0_pay4 (F := Ideal) x s (ix4 0 0 a d) = (x (ix4 0 0 d a) * s : EReal) := by
  pointwise [k0_pay4]

end Cert.KernelIdeal.Swa
end
-- ==== Proof.Value.Spec.lean ====
module

public import proofs.«01_k».proof.Proof.Value.Pay

/-!
What the kernel computes for one key head, as plain sums: the arrays by tile and row, the score weights, their
gradients, and the contributions of one pair of tiles to the three results. A pair of tiles outside the window, or whose
segments differ throughout, contributes zero.
-/

@[expose] public section

noncomputable section

namespace Cert.KernelIdeal.Swa

open Idealize.ShloMosaic

/-- One key head's data, by query member, tile and row. -/
structure Arr where
  q : Fin 2 → ℕ → Fin 256 → Fin 256 → EReal
  o : Fin 2 → ℕ → Fin 256 → Fin 256 → EReal
  out : Fin 2 → ℕ → Fin 256 → Fin 256 → EReal
  lse : Fin 2 → ℕ → Fin 256 → EReal
  k : ℕ → Fin 256 → Fin 256 → EReal
  v : ℕ → Fin 256 → Fin 256 → EReal
  seg : ℕ → Fin 256 → BitVec 32
  qk : Fin 2 → EReal
  dov : Fin 2 → EReal
  qs : Fin 2 → EReal
  dos : Fin 2 → EReal
  ks : EReal

variable (A : Arr)

/-- Query row `a` of tile `i` sees key row `b` of tile `j`. -/
def Vis (j i : ℕ) (b a : Fin 256) : Prop :=
  256 * j + b.val ≤ 256 * i + a.val ∧ 256 * i + a.val < 256 * j + b.val + 4096 ∧ A.seg j b = A.seg i a

open Classical in
/-- The weight of a pair of rows. -/
def wt (r : Fin 2) (j i : ℕ) (b a : Fin 256) : EReal :=
  if Vis A j i b a then Ideal.exp2 ((∑ d : Fin 256, A.k j b d * A.q r i a d) * (A.qk r * lg) - A.lse r i a * lg) else 0

/-- The dot product of a row's output and its gradient. -/
def dlt (r : Fin 2) (i : ℕ) (a : Fin 256) : EReal := ∑ d : Fin 256, A.o r i a d * A.dos r * A.out r i a d

/-- The gradient of a pair's score. -/
def dsc (r : Fin 2) (j i : ℕ) (b a : Fin 256) : EReal :=
  wt A r j i b a * ((∑ d : Fin 256, A.v j b d * A.o r i a d) * A.dov r - dlt A r i a)

/-- The pair of tiles' share of the value gradient. -/
def cV (r : Fin 2) (j i : ℕ) (b d : Fin 256) : EReal := ∑ a : Fin 256, wt A r j i b a * A.o r i a d
/-- The pair of tiles' share of the key gradient. -/
def cK (r : Fin 2) (j i : ℕ) (b d : Fin 256) : EReal := ∑ a : Fin 256, dsc A r j i b a * A.q r i a d
/-- The pair of tiles' share of the query gradient. -/
def cQ (r : Fin 2) (j i : ℕ) (d a : Fin 256) : EReal := ∑ b : Fin 256, A.k j b d * dsc A r j i b a

/-- No row of query tile `i` sees a row of key tile `j`. -/
def Dead (j i : ℕ) : Prop := ∀ b a, ¬ Vis A j i b a

theorem dead_below {j i : ℕ} (h : i < j) : Dead A j i := fun b a hv => by
  have := hv.1
  omega

theorem dead_above {j i : ℕ} (h : j + 16 < i) : Dead A j i := fun b a hv => by
  have := hv.2.1
  omega

variable {A}

theorem wt_dead {j i : ℕ} (h : Dead A j i) (r : Fin 2) (b a : Fin 256) : wt A r j i b a = 0 := if_neg (h b a)

theorem dsc_dead {j i : ℕ} (h : Dead A j i) (r : Fin 2) (b a : Fin 256) : dsc A r j i b a = 0 := by
  rw [dsc, wt_dead h, zero_mul]

theorem cV_dead {j i : ℕ} (h : Dead A j i) (r : Fin 2) (b d : Fin 256) : cV A r j i b d = 0 := by
  rw [cV]
  exact Finset.sum_eq_zero fun a _ => by rw [wt_dead h, zero_mul]

theorem cK_dead {j i : ℕ} (h : Dead A j i) (r : Fin 2) (b d : Fin 256) : cK A r j i b d = 0 := by
  rw [cK]
  exact Finset.sum_eq_zero fun a _ => by rw [dsc_dead h, zero_mul]

theorem cQ_dead {j i : ℕ} (h : Dead A j i) (r : Fin 2) (d a : Fin 256) : cQ A r j i d a = 0 := by
  rw [cQ]
  exact Finset.sum_eq_zero fun b _ => by rw [dsc_dead h, mul_zero]

/-- A sum over the query tiles from `j` on that the loop visits is the sum over all of them. -/
theorem sum_visited {f : ℕ → EReal} {j n N : ℕ} (hn : j + n ≤ N) (h0 : ∀ i < N, i < j ∨ j + n ≤ i → f i = 0) :
    ∑ d ∈ Finset.range n, f (j + d) = ∑ i ∈ Finset.range N, f i := by
  rw [← Finset.sum_range_add_sum_Ico f hn, Finset.sum_eq_zero (s := Finset.Ico (j + n) N), add_zero, Finset.sum_range_add,
    Finset.sum_eq_zero (s := Finset.range j), zero_add]
  · exact fun i hi => h0 i (by have := Finset.mem_range.1 hi; omega) (Or.inl (Finset.mem_range.1 hi))
  · exact fun i hi => h0 i (Finset.mem_Ico.1 hi).2 (Or.inr (Finset.mem_Ico.1 hi).1)

end Cert.KernelIdeal.Swa
end
-- ==== Proof.Value.Step.lean ====
module

public import proofs.«01_k».proof.Proof.Value.Spec
public import proofs.«01_k».proof.Proof.KernelIdeal.Body
public import Idealize.ShloMosaic.Lib.WordCmp

/-!
The loop's invariant: each live slot of the ring holds its query tile and the query gradient of the key tiles done so
far. One trip adds one pair of tiles' share, and a whole grid point adds one key tile's.
-/

@[expose] public section

set_option maxRecDepth 16384

noncomputable section

namespace Cert.KernelIdeal.Swa

open Cert.KernelIdeal Cert.KernelIdeal.Gen
open Idealize.ShloMosaic Idealize.ShloMosaic.TcCoe

/-! ## The mask -/

theorem toInt_tok (n : ℕ) (hn : n < 256) (a : Fin 256) :
    (BitVec.ofNat 32 n * 256#32 + BitVec.ofNat 32 a.val : BitVec 32).toInt = 256 * n + a.val := by
  have e : (BitVec.ofNat 32 n * 256#32 + BitVec.ofNat 32 a.val : BitVec 32) = BitVec.ofNat 32 (256 * n + a.val) := by
    rw [BitVec.ofNat_add, BitVec.ofNat_mul, mul_comm]
  have := a.isLt
  rw [e, BitVec.toInt_eq_toNat_cond, BitVec.toNat_ofNat, Nat.mod_eq_of_lt (by omega), if_pos (by omega)]
  push_cast
  rfl

theorem toInt_tok_sub (n : ℕ) (hn : n < 256) (a : Fin 256) :
    (BitVec.ofNat 32 n * 256#32 + BitVec.ofNat 32 a.val - 4096#32 : BitVec 32).toInt = 256 * n + a.val - 4096 := by
  have := a.isLt
  rw [BitVec.toInt_sub, toInt_tok n hn]
  rw [show (4096#32 : BitVec 32).toInt = 4096 from rfl]
  rw [Int.bmod_eq_of_le] <;> omega

theorem and3_iff (p q r : Bool) : Scalar.andi (Scalar.andi (BitVec.ofBool p) (BitVec.ofBool q)) (BitVec.ofBool r) = 1#1 ↔ p ∧ q ∧ r := by
  revert p q r
  decide

theorem mask_iff (A : Arr) (j i : ℕ) (hj : j < 256) (hi : i < 256) (sc : Vec Ideal S256x256 .i32) (sg : Vec Ideal S1x1x256 .i32) (b a : Fin 256)
    (hsc : sc (ix2 b a) = A.seg j b) (hsg : sg (ix3 0 0 a) = A.seg i a) :
    k0_pay15 (F := Ideal) (BitVec.ofNat 32 j) (BitVec.ofNat 32 i) sc sg (ix2 b a) = 1#1 ↔ Vis A j i b a := by
  rw [pay15_at, hsc, hsg]
  have e := and3_iff (decide ((BitVec.ofNat 32 j * 256#32 + BitVec.ofNat 32 b.val : BitVec 32).toInt ≤ (BitVec.ofNat 32 i * 256#32 + BitVec.ofNat 32 a.val : BitVec 32).toInt))
    (decide ((BitVec.ofNat 32 i * 256#32 + BitVec.ofNat 32 a.val - 4096#32 : BitVec 32).toInt < (BitVec.ofNat 32 j * 256#32 + BitVec.ofNat 32 b.val : BitVec 32).toInt))
    (decide (A.seg j b = A.seg i a))
  have e2 : Scalar.cmpi .eq (A.seg j b) (A.seg i a) = BitVec.ofBool (decide (A.seg j b = A.seg i a)) := WordCmp.cmpi_eq_eq _ _
  rw [e2]
  refine e.trans ?_
  rw [decide_eq_true_iff, decide_eq_true_iff, decide_eq_true_iff, toInt_tok j hj, toInt_tok i hi, toInt_tok_sub i hi, Vis]
  constructor
  · rintro ⟨h1, h2, h3⟩
    exact ⟨by omega, by omega, h3⟩
  · rintro ⟨h1, h2, h3⟩
    exact ⟨by omega, by omega, h3⟩

/-! ## The data in the buffers -/

/-- The tables hold the head's scales, and mark which pairs of tiles need no visit and which no mask. -/
structure TblOk (A : Arr) (T : Tbl Ideal) (g : Fin 4) : Prop where
  qk : ∀ r, (T.qk (ix2 g r) : EReal) = A.qk r
  dov : ∀ r, (T.dov (ix2 g r) : EReal) = A.dov r
  dos : ∀ r, (T.dos (ix2 g r) : EReal) = A.dos r
  qs : ∀ r, (T.qs (ix2 g r) : EReal) = A.qs r
  ks : (T.ks (ix1 g) : EReal) = A.ks
  fit : ∀ j < 256, (at256 T.nhi j : BitVec 32).toNat ≤ 17 ∧ j + (at256 T.nhi j : BitVec 32).toNat ≤ 256
  dead : ∀ j < 256, ∀ i < 256, j + (at256 T.nhi j : BitVec 32).toNat ≤ i → Dead A j i
  one : ∀ j d, 0 < d → d < 16 → j + d < 256 → (at256 T.sf j : BitVec 32) = at256 T.sl (j + d) → ∀ a b, A.seg j b = A.seg (j + d) a

/-- The query side's blocks are tile `n`. -/
structure QOk (A : Arr) (B : Blk Ideal) (n : ℕ) : Prop where
  q : ∀ r a d, (B.q (ix4 0 r a d) : EReal) = A.q r n a d
  o : ∀ r a d, (B.o (ix4 0 r a d) : EReal) = A.o r n a d
  out : ∀ r a d, (B.out (ix4 0 r a d) : EReal) = A.out r n a d
  lse : ∀ r a, (B.lse (ix4 0 r 0 a) : EReal) = A.lse r n a
  sg : ∀ a, B.sgq (ix2 0 a) = A.seg n a

/-- The key side's blocks are tile `n`. -/
structure KOk (A : Arr) (B : Blk Ideal) (n : ℕ) : Prop where
  k : ∀ b d, (B.k (ix3 0 b d) : EReal) = A.k n b d
  v : ∀ b d, (B.v (ix3 0 b d) : EReal) = A.v n b d
  sg : ∀ b, B.sgk (ix2 0 b) = A.seg n b

/-- Slot `i % 17` of the ring holds query tile `i`, its query gradient at `S`. -/
structure Holds (A : Arr) (st : St Ideal) (i : ℕ) (S : Fin 2 → Fin 256 → Fin 256 → EReal) : Prop where
  q : ∀ r a d, (st.q (ix4 (slot i) r a d) : EReal) = A.q r i a d
  o : ∀ r a d, (st.o (ix4 (slot i) r a d) : EReal) = A.o r i a d
  lse : ∀ r a, (st.lse (ix4 (slot i) r 0 a) : EReal) = A.lse r i a * lg
  dl : ∀ r a, (st.dl (ix4 (slot i) r 0 a) : EReal) = dlt A r i a
  sg : ∀ a, st.sg (ix3 (slot i) 0 a) = A.seg i a
  dq : ∀ r d a, (st.dq (ix4 (slot i) r d a) : EReal) = S r d a

/-- What the drain prepared for key tile `j`, and the accumulators at `K` and `V`. -/
structure Acc (A : Arr) (st : St Ideal) (j : ℕ) (K V : Fin 2 → Fin 256 → Fin 256 → EReal) : Prop where
  kt : ∀ d b, (st.kt (ix2 d b) : EReal) = A.k j b d
  sc : ∀ b a, st.sc (ix2 b a) = A.seg j b
  dk : ∀ r b d, (st.dk (ix3 r b d) : EReal) = K r b d
  dv : ∀ r b d, (st.dv (ix3 r b d) : EReal) = V r b d

theorem slot_ne {i t : ℕ} (h : i < t) (h' : t ≤ i + 16) : (slot i).val ≠ (slot t).val := by
  show i % 17 ≠ t % 17
  omega

theorem fin2_cases (P : Fin 2 → Prop) (h0 : P 0) (h1 : P 1) (r : Fin 2) : P r := by
  match r with
  | 0 => exact h0
  | 1 => exact h1

/-! ## The first phase -/

theorem fill_new {A : Arr} {T : Tbl Ideal} {g : Fin 4} (hT : TblOk A T g) {B : Blk Ideal} {t : ℕ} (hB : QOk A B t) (st : St Ideal) :
    Holds A (fill T B g t st) t fun _ _ _ => 0 where
  q r a d := by
    revert r
    refine fin2_cases _ ?_ ?_
    · exact (show _ = _ from by simp [fill, setRow]).trans ((pay6_at (rowB B.q 0) a d).trans (hB.q 0 a d))
    · exact (show _ = _ from by simp [fill, setRow]).trans ((pay11_at (rowB B.q 1) a d).trans (hB.q 1 a d))
  o r a d := by
    revert r
    refine fin2_cases _ ?_ ?_
    · exact (show _ = _ from by simp [fill, setRow]).trans ((pay7_at (rowB B.o 0) a d).trans (hB.o 0 a d))
    · exact (show _ = _ from by simp [fill, setRow]).trans ((pay12_at (rowB B.o 1) a d).trans (hB.o 1 a d))
  lse r a := by
    revert r
    refine fin2_cases _ ?_ ?_
    · exact (show _ = _ from by simp [fill, setRowL]).trans ((pay8_at (rowBL B.lse 0) a).trans (congrArg (· * lg) (hB.lse 0 a)))
    · exact (show _ = _ from by simp [fill, setRowL]).trans ((pay13_at (rowBL B.lse 1) a).trans (congrArg (· * lg) (hB.lse 1 a)))
  dl r a := by
    revert r
    refine fin2_cases _ ?_ ?_
    · exact (show _ = _ from by simp [fill, setRowL]).trans ((pay9_at (rowB B.o 0) (T.dos (ix2 g 0)) (rowB B.out 0) a).trans
        (Finset.sum_congr rfl fun d _ => congrArg₂ (· * ·) (congrArg₂ (· * ·) (hB.o 0 a d) (hT.dos 0)) (hB.out 0 a d)))
    · exact (show _ = _ from by simp [fill, setRowL]).trans ((pay14_at (rowB B.o 1) (T.dos (ix2 g 1)) (rowB B.out 1) a).trans
        (Finset.sum_congr rfl fun d _ => congrArg₂ (· * ·) (congrArg₂ (· * ·) (hB.o 1 a d) (hT.dos 1)) (hB.out 1 a d)))
  sg a := (show _ = _ from by simp [fill, setRowS]).trans ((pay5_at B.sgq a).trans (hB.sg a))
  dq r d a := by
    revert r
    refine fin2_cases _ ?_ ?_
    · exact (show _ = _ from by simp [fill, setRow]).trans (pay10_at d a)
    · exact (show _ = _ from by simp [fill, setRow]).trans (pay2_at d a)

theorem fill_old {A : Arr} {T : Tbl Ideal} {g : Fin 4} {B : Blk Ideal} {t i : ℕ} {st : St Ideal} {S : Fin 2 → Fin 256 → Fin 256 → EReal}
    (h : i < t) (h' : t ≤ i + 16) (H : Holds A st i S) : Holds A (fill T B g t st) i S := by
  have hne := slot_ne h h'
  constructor
  · exact fun r a d => (show _ = _ from by simp [fill, setRow, hne]).trans (H.q r a d)
  · exact fun r a d => (show _ = _ from by simp [fill, setRow, hne]).trans (H.o r a d)
  · exact fun r a => (show _ = _ from by simp [fill, setRowL, hne]).trans (H.lse r a)
  · exact fun r a => (show _ = _ from by simp [fill, setRowL, hne]).trans (H.dl r a)
  · exact fun a => (show _ = _ from by simp [fill, setRowS, hne]).trans (H.sg a)
  · exact fun r d a => (show _ = _ from by simp [fill, setRow, hne]).trans (H.dq r d a)

/-! ## One trip -/

section Trip

variable {A : Arr} {T : Tbl Ideal} {g : Fin 4} {B : Blk Ideal} {j d : ℕ} {st : St Ideal}
  {S : Fin 2 → Fin 256 → Fin 256 → EReal} {K V : Fin 2 → Fin 256 → Fin 256 → EReal}

theorem exp2_bot : Ideal.exp2 (⊥ : EReal) = 0 := rfl

theorem eT_at (hT : TblOk A T g) (hB : KOk A B j) (hj : j + d < 256) (hd : d ≤ 16) (H : Holds A st (j + d) S) (C : Acc A st j K V)
    (r : Fin 2) (b a : Fin 256) : Ideal.exp2 (eT T B g j d st r (ix2 b a) : EReal) = wt A r j (j + d) b a := by
  have hE : ((∑ e : Fin 256, (B.k (ix3 0 b e) : EReal) * (row st.q (slot (j + d)) r (ix4 0 0 a e) : EReal)) * ((T.qk (ix2 g r) : EReal) * lg)
        - (rowL st.lse (slot (j + d)) r (ix4 0 0 0 a) : EReal) : EReal)
      = (∑ e : Fin 256, A.k j b e * A.q r (j + d) a e) * (A.qk r * lg) - A.lse r (j + d) a * lg := by
    rw [hT.qk r]
    refine congrArg₂ (· - ·) (congrArg (· * _) (Finset.sum_congr rfl fun e _ => congrArg₂ (· * ·) (hB.k b e) (H.q r a e))) (H.lse r a)
  unfold eT wt
  by_cases hM : Masked d (at256 T.sf j) (at256 T.sl (j + d))
  · rw [if_pos hM, pay16_at, Scalar.select]
    have hmask := mask_iff A j (j + d) (by omega) hj st.sc (rowS st.sg (slot (j + d))) b a (C.sc b a) (H.sg a)
    by_cases hv : Vis A j (j + d) b a
    · rw [if_pos hv, if_pos (show _ = (1 : BitVec 1) from hmask.2 hv)]
      exact congrArg Ideal.exp2 hE
    · rw [if_neg hv, if_neg (show ¬ _ = (1 : BitVec 1) from fun h => hv (hmask.1 h))]
      exact exp2_bot
  · rw [if_neg hM]
    unfold Masked at hM
    push Not at hM
    have hv : Vis A j (j + d) b a :=
      ⟨by omega, by omega, hT.one j d (by omega) (by omega) hj hM.2.2 a b⟩
    rw [if_pos hv, unmasked_at]
    exact congrArg Ideal.exp2 hE

theorem dsT_at (hT : TblOk A T g) (hB : KOk A B j) (hj : j + d < 256) (hd : d ≤ 16) (H : Holds A st (j + d) S) (C : Acc A st j K V)
    (r : Fin 2) (b a : Fin 256) : (dsT T B g j d st r (ix2 b a) : EReal) = dsc A r j (j + d) b a := by
  unfold dsT dsc
  rw [pay18_at, eT_at hT hB hj hd H C, hT.dov r]
  exact congrArg (_ * ·) (congrArg₂ (· - ·)
    (congrArg (· * _) (Finset.sum_congr rfl fun e _ => congrArg₂ (· * ·) (hB.v b e) (H.o r a e))) (H.dl r a))

theorem dvT_at (hT : TblOk A T g) (hB : KOk A B j) (hj : j + d < 256) (hd : d ≤ 16) (H : Holds A st (j + d) S) (C : Acc A st j K V)
    (r : Fin 2) (b e : Fin 256) : (dvT T B g j d st r (ix3 0 b e) : EReal) = V r b e + cV A r j (j + d) b e := by
  unfold dvT cV
  rw [pay19_at]
  exact congrArg₂ (· + ·) (C.dv r b e) (Finset.sum_congr rfl fun a _ => congrArg₂ (· * ·) (eT_at hT hB hj hd H C r b a) (H.o r a e))

theorem dkT_at (hT : TblOk A T g) (hB : KOk A B j) (hj : j + d < 256) (hd : d ≤ 16) (H : Holds A st (j + d) S) (C : Acc A st j K V)
    (r : Fin 2) (b e : Fin 256) : (dkT T B g j d st r (ix3 0 b e) : EReal) = K r b e + cK A r j (j + d) b e := by
  unfold dkT cK
  rw [pay21_at]
  exact congrArg₂ (· + ·) (C.dk r b e) (Finset.sum_congr rfl fun a _ => congrArg₂ (· * ·) (dsT_at hT hB hj hd H C r b a) (H.q r a e))

theorem dqT_at (hT : TblOk A T g) (hB : KOk A B j) (hj : j + d < 256) (hd : d ≤ 16) (H : Holds A st (j + d) S) (C : Acc A st j K V)
    (r : Fin 2) (e a : Fin 256) : (dqT T B g j d st r (ix4 0 0 e a) : EReal) = S r e a + cQ A r j (j + d) e a := by
  unfold dqT cQ
  rw [pay22_at]
  exact congrArg₂ (· + ·) (H.dq r e a) (Finset.sum_congr rfl fun b _ => congrArg₂ (· * ·) (C.kt e b) (dsT_at hT hB hj hd H C r b a))

theorem trip_this (hT : TblOk A T g) (hB : KOk A B j) (hj : j + d < 256) (hd : d ≤ 16) (H : Holds A st (j + d) S) (C : Acc A st j K V) :
    Holds A (trip T B g j d st) (j + d) fun r e a => S r e a + cQ A r j (j + d) e a where
  q := H.q
  o := H.o
  lse := H.lse
  dl := H.dl
  sg := H.sg
  dq r e a := by
    revert r
    refine fin2_cases _ ?_ ?_
    · exact (show _ = _ from by simp [trip, setRow]).trans (dqT_at hT hB hj hd H C 0 e a)
    · exact (show _ = _ from by simp [trip, setRow]).trans (dqT_at hT hB hj hd H C 1 e a)

theorem trip_other {i : ℕ} (hne : (slot i).val ≠ (slot (j + d)).val) (H : Holds A st i S) : Holds A (trip T B g j d st) i S where
  q := H.q
  o := H.o
  lse := H.lse
  dl := H.dl
  sg := H.sg
  dq r e a := (show _ = _ from by simp [trip, setRow, hne]).trans (H.dq r e a)

theorem trip_acc (hT : TblOk A T g) (hB : KOk A B j) (hj : j + d < 256) (hd : d ≤ 16) (H : Holds A st (j + d) S) (C : Acc A st j K V) :
    Acc A (trip T B g j d st) j (fun r b e => K r b e + cK A r j (j + d) b e) (fun r b e => V r b e + cV A r j (j + d) b e) where
  kt := C.kt
  sc := C.sc
  dk r b e := by
    revert r
    refine fin2_cases _ ?_ ?_
    · exact (show _ = _ from by simp [trip, setRow2]).trans (dkT_at hT hB hj hd H C 0 b e)
    · exact (show _ = _ from by simp [trip, setRow2]).trans (dkT_at hT hB hj hd H C 1 b e)
  dv r b e := by
    revert r
    refine fin2_cases _ ?_ ?_
    · exact (show _ = _ from by simp [trip, setRow2]).trans (dvT_at hT hB hj hd H C 0 b e)
    · exact (show _ = _ from by simp [trip, setRow2]).trans (dvT_at hT hB hj hd H C 1 b e)

end Trip

/-! ## All trips of a grid point -/

/-- The query gradient of tile `i` from the first `j` key tiles. -/
def sumQ (A : Arr) (j i : ℕ) (r : Fin 2) (e a : Fin 256) : EReal := ∑ j' ∈ Finset.range j, cQ A r j' i e a

theorem trips_holds {A : Arr} {T : Tbl Ideal} {g : Fin 4} {B : Blk Ideal} {j : ℕ} {st : St Ideal}
    (hT : TblOk A T g) (hB : KOk A B j) (H : ∀ i, j ≤ i → i ≤ j + 16 → i < 256 → Holds A st i (sumQ A j i))
    (C : Acc A st j (fun _ _ _ => 0) (fun _ _ _ => 0)) (n : ℕ) (hn : n ≤ 17) (hn' : j + n ≤ 256) :
    (∀ i, j ≤ i → i ≤ j + 16 → i < 256 → Holds A (trips T B g j st n) i (if i < j + n then sumQ A (j + 1) i else sumQ A j i))
      ∧ Acc A (trips T B g j st n) j (fun r b e => ∑ d ∈ Finset.range n, cK A r j (j + d) b e)
        (fun r b e => ∑ d ∈ Finset.range n, cV A r j (j + d) b e) := by
  induction n with
  | zero =>
    refine ⟨fun i h1 h2 h3 => ?_, ?_⟩
    · rw [if_neg (by omega)]
      exact H i h1 h2 h3
    · exact ⟨C.kt, C.sc, fun r b e => (C.dk r b e).trans (Finset.sum_range_zero _).symm, fun r b e => (C.dv r b e).trans (Finset.sum_range_zero _).symm⟩
  | succ n ih =>
    obtain ⟨ihH, ihC⟩ := ih (by omega) (by omega)
    have hthis := ihH (j + n) (by omega) (by omega) (by omega)
    rw [if_neg (by omega)] at hthis
    refine ⟨fun i h1 h2 h3 => ?_, ?_⟩
    · by_cases hi : i = j + n
      · subst hi
        rw [if_pos (by omega)]
        have := trip_this hT hB (by omega) (by omega) hthis ihC
        refine (show (fun r e a => sumQ A j (j + n) r e a + cQ A r j (j + n) e a) = sumQ A (j + 1) (j + n) from ?_) ▸ this
        funext r e a
        exact (Finset.sum_range_succ _ _).symm
      · have hs : (slot i).val ≠ (slot (j + n)).val := by
          show i % 17 ≠ (j + n) % 17
          omega
        have := trip_other (T := T) (B := B) (g := g) hs (ihH i h1 h2 h3)
        by_cases hlt : i < j + n
        · rw [if_pos hlt] at this
          rw [if_pos (by omega)]
          exact this
        · rw [if_neg hlt] at this
          rw [if_neg (by omega)]
          exact this
    · have := trip_acc hT hB (by omega) (by omega) hthis ihC
      refine ⟨this.kt, this.sc, fun r b e => (this.dk r b e).trans ?_, fun r b e => (this.dv r b e).trans ?_⟩
      · exact (Finset.sum_range_succ _ _).symm
      · exact (Finset.sum_range_succ _ _).symm

theorem enter_holds {A : Arr} {B : Blk Ideal} {i : ℕ} {st : St Ideal} {S : Fin 2 → Fin 256 → Fin 256 → EReal}
    (H : Holds A st i S) : Holds A (enter B st) i S := ⟨H.q, H.o, H.lse, H.dl, H.sg, H.dq⟩

theorem enter_acc {A : Arr} {B : Blk Ideal} {j : ℕ} {st : St Ideal} (hB : KOk A B j) :
    Acc A (enter B st) j (fun _ _ _ => 0) (fun _ _ _ => 0) where
  kt d b := (pay65_at B.k d b).trans (hB.k b d)
  sc b a := (pay66_at B.sgk b a).trans (hB.sg b)
  dk r b d := by
    unfold enter
    exact pay67_at r b d
  dv r b d := by
    unfold enter
    exact pay68_at r b d

/-- After the second phase: the slots hold one key tile more, and the accumulators the whole sums over query tiles. -/
theorem drain_holds {A : Arr} {T : Tbl Ideal} {g : Fin 4} {B : Blk Ideal} {j : ℕ} {st : St Ideal} (hj : j < 256)
    (hT : TblOk A T g) (hB : KOk A B j) (H : ∀ i, j ≤ i → i ≤ j + 16 → i < 256 → Holds A st i (sumQ A j i)) :
    (∀ i, j ≤ i → i ≤ j + 16 → i < 256 → Holds A (drain T B g j st) i (sumQ A (j + 1) i))
      ∧ Acc A (drain T B g j st) j (fun r b e => ∑ i ∈ Finset.range 256, cK A r j i b e)
        (fun r b e => ∑ i ∈ Finset.range 256, cV A r j i b e) := by
  obtain ⟨hf, hf'⟩ := hT.fit j hj
  obtain ⟨h1, h2⟩ := trips_holds hT hB (fun i a b c => enter_holds (B := B) (H i a b c)) (enter_acc hB) _ hf hf'
  have hdead : ∀ i < 256, i < j ∨ j + (at256 T.nhi j : BitVec 32).toNat ≤ i → Dead A j i := fun i hi h =>
    h.elim (dead_below A) fun h => hT.dead j hj i hi h
  refine ⟨fun i a b c => ?_, ?_⟩
  · have := h1 i a b c
    by_cases hlt : i < j + (at256 T.nhi j : BitVec 32).toNat
    · rw [if_pos hlt] at this
      exact this
    · rw [if_neg hlt] at this
      refine (show sumQ A j i = sumQ A (j + 1) i from ?_) ▸ this
      funext r e a
      unfold sumQ
      rw [Finset.sum_range_succ, cQ_dead (hdead i c (Or.inr (by omega))), add_zero]
  · refine ⟨h2.kt, h2.sc, fun r b e => (h2.dk r b e).trans ?_, fun r b e => (h2.dv r b e).trans ?_⟩
    · exact sum_visited hf' fun i hi h => cK_dead (hdead i hi h) r b e
    · exact sum_visited hf' fun i hi h => cV_dead (hdead i hi h) r b e

/-! ## A grid point -/

/-- The invariant before grid point `t` of a head. -/
def InvT (A : Arr) (t : ℕ) (st : St Ideal) : Prop :=
  ∀ i, i < 256 → i < t → t ≤ i + 16 → Holds A st i (sumQ A (t - 16) i)

theorem sumQ_zero {A : Arr} {i j : ℕ} (h : j ≤ i - 16) : (fun _ _ _ => (0 : EReal)) = sumQ A j i := by
  funext r e a
  refine (Finset.sum_eq_zero fun j' hj' => cQ_dead (dead_above A ?_) r e a).symm
  have := Finset.mem_range.1 hj'
  omega

section Point

variable {A : Arr} {T : Tbl Ideal} {B : Blk Ideal} {st : St Ideal} (i : grid0.Coords)
  (hT : TblOk A T ⟨gg i, gg_lt i⟩) (hQ : tt i < 256 → QOk A B (tt i)) (hK : 16 ≤ tt i → KOk A B (tt i - 16)) (H : InvT A (tt i) st)

include hT hQ H

theorem fillSt_holds (n : ℕ) (hn : n < 256) (h1 : n ≤ tt i) (h2 : tt i ≤ n + 16) :
    Holds A (fillSt i T B st) n (sumQ A (tt i - 16) n) := by
  unfold fillSt
  by_cases hn' : n = tt i
  · subst hn'
    rw [if_pos hn, ← sumQ_zero (le_refl _)]
    exact fill_new hT (hQ hn) st
  · have := H n hn (by omega) h2
    by_cases ht : tt i < 256
    · rw [if_pos ht]
      exact fill_old (by omega) h2 this
    · rw [if_neg ht]
      exact this

include hK

theorem stepSt_drain (h : 16 ≤ tt i) :
    (∀ n, tt i - 16 ≤ n → n ≤ tt i - 16 + 16 → n < 256 → Holds A (stepSt i T B st) n (sumQ A (tt i - 16 + 1) n))
      ∧ Acc A (stepSt i T B st) (tt i - 16) (fun r b e => ∑ n ∈ Finset.range 256, cK A r (tt i - 16) n b e)
        (fun r b e => ∑ n ∈ Finset.range 256, cV A r (tt i - 16) n b e) := by
  unfold stepSt
  rw [if_pos h]
  have := tt_lt i
  exact drain_holds (by omega) hT (hK h) fun n h1 h2 h3 => fillSt_holds i hT hQ H n h3 (by omega) (by omega)

theorem stepSt_inv : InvT A (tt i + 1) (stepSt i T B st) := by
  intro n hn h1 h2
  by_cases h : 16 ≤ tt i
  · rw [show tt i + 1 - 16 = tt i - 16 + 1 by omega]
    exact (stepSt_drain i hT hQ hK H h).1 n (by omega) (by omega) hn
  · unfold stepSt
    rw [if_neg h]
    have := fillSt_holds i hT hQ H n hn (by omega) (by omega)
    rwa [show tt i - 16 = tt i + 1 - 16 by omega] at this

theorem dkBuf_at (h : 16 ≤ tt i) (X : Vec Ideal S1x256x256 .bf16) (b e : Fin 256) :
    (dkBuf i T B st X (ix3 0 b e) : EReal)
      = (∑ n ∈ Finset.range 256, cK A 0 (tt i - 16) n b e) * A.qs 0 + (∑ n ∈ Finset.range 256, cK A 1 (tt i - 16) n b e) * A.qs 1 := by
  unfold dkBuf
  rw [if_pos h]
  obtain ⟨-, C⟩ := stepSt_drain i hT hQ hK H h
  exact (pay75_at _ _ _ _ b e).trans (congrArg₂ (· + ·) (congrArg₂ (· * ·) (C.dk 0 b e) (hT.qs 0)) (congrArg₂ (· * ·) (C.dk 1 b e) (hT.qs 1)))

theorem dvBuf_at (h : 16 ≤ tt i) (X : Vec Ideal S1x256x256 .bf16) (b e : Fin 256) :
    (dvBuf i T B st X (ix3 0 b e) : EReal)
      = (∑ n ∈ Finset.range 256, cV A 0 (tt i - 16) n b e) * A.dos 0 + (∑ n ∈ Finset.range 256, cV A 1 (tt i - 16) n b e) * A.dos 1 := by
  unfold dvBuf
  rw [if_pos h]
  obtain ⟨-, C⟩ := stepSt_drain i hT hQ hK H h
  exact (pay76_at _ _ _ _ b e).trans (congrArg₂ (· + ·) (congrArg₂ (· * ·) (C.dv 0 b e) (hT.dos 0)) (congrArg₂ (· * ·) (C.dv 1 b e) (hT.dos 1)))

theorem dqBuf_at (h : 16 ≤ tt i) (X : Vec Ideal S1x2x256x256 .bf16) (r : Fin 2) (a e : Fin 256) :
    (dqBuf i T B st X (ix4 0 r a e) : EReal) = (∑ j ∈ Finset.range 256, cQ A r j (tt i - 16) e a) * A.ks := by
  unfold dqBuf
  rw [if_pos h]
  have := tt_lt i
  have hh := (stepSt_drain i hT hQ hK H h).1 (tt i - 16) (le_refl _) (by omega) (by omega)
  have hs : ∀ r, sumQ A (tt i - 16 + 1) (tt i - 16) r e a = ∑ j ∈ Finset.range 256, cQ A r j (tt i - 16) e a := fun r => by
    unfold sumQ
    rw [← Finset.sum_range_add_sum_Ico _ (show tt i - 16 + 1 ≤ 256 by omega), Finset.sum_eq_zero (s := Finset.Ico _ _), add_zero]
    exact fun j hj => cQ_dead (dead_below A (by have := (Finset.mem_Ico.1 hj).1; omega)) r e a
  revert r
  refine fin2_cases _ ?_ ?_
  · exact (show _ = _ from by simp [dqOut, pairB]).trans ((pay3_at (row (stepSt i T B st).dq (slot (tt i - 16)) 0) _ a e).trans (congrArg₂ (· * ·) ((hh.dq 0 e a).trans (hs 0)) hT.ks))
  · exact (show _ = _ from by simp [dqOut, pairB]).trans ((pay4_at (row (stepSt i T B st).dq (slot (tt i - 16)) 1) _ a e).trans (congrArg₂ (· * ·) ((hh.dq 1 e a).trans (hs 1)) hT.ks))

end Point

end Cert.KernelIdeal.Swa
end
-- ==== Proof.Value.Blocks.lean ====
module

public import proofs.«01_k».proof.Proof.Value.Step
public import proofs.«01_k».proof.Proof.KernelIdeal.Tables
public import Idealize.ShloMosaic.Lib.Pipeline.ValueKit

/-!
The blocks a grid point is handed, as tiles of the arrays the region finds.
-/

@[expose] public section

set_option maxRecDepth 16384

noncomputable section

namespace Cert.KernelIdeal.Swa

open Cert.KernelIdeal Cert.KernelIdeal.Gen
open Idealize.ShloMosaic Idealize.ShloMosaic.TcCoe

variable (m : (ℓ : Loc nD τ sig) → Buf (Elt Ideal) ℓ)

/-- Row `a` of tile `n`, among all rows. -/
def tok (n : ℕ) (a : Fin 256) : Fin 65536 := ⟨256 * (n % 256) + a.val, by have := a.isLt; omega⟩

/-- Key head `g`'s arrays, as the region finds them. -/
def arrOf (c : Dev nD) (g : Fin 4) : Arr where
  q r n a d := (V₀ m c (Proc.devRef .tc main_v2) : Vec Ideal S4x2x65536x256 .fp8e4m3) (ix4 g r (tok n a) d)
  o r n a d := (V₀ m c (Proc.devRef .tc main_v5) : Vec Ideal S4x2x65536x256 .fp8e5m2) (ix4 g r (tok n a) d)
  out r n a d := (V₀ m c (Proc.devRef .tc main_v8) : Vec Ideal S4x2x65536x256 .bf16) (ix4 g r (tok n a) d)
  lse r n a := (V₀ m c (Proc.devRef .tc main_v13) : Vec Ideal S4x2x1x65536 .f32) (ix4 g r 0 (tok n a))
  k n b d := (V₀ m c (Proc.devRef .tc main_v10) : Vec Ideal S4x65536x256 .fp8e4m3) (ix3 g (tok n b) d)
  v n b d := (V₀ m c (Proc.devRef .tc main_v12) : Vec Ideal S4x65536x256 .fp8e4m3) (ix3 g (tok n b) d)
  seg n a := (V₀ m c (Proc.devRef .tc main_arg10) : Vec Ideal S1x65536 .i32) (ix2 0 (tok n a))
  qk r := (V₀ m c (Proc.devRef .tc main_v19) : Vec Ideal S4x2 .f32) (ix2 g r)
  dov r := (V₀ m c (Proc.devRef .tc main_v23) : Vec Ideal S4x2 .f32) (ix2 g r)
  qs r := (V₀ m c (Proc.devRef .tc main_v62) : Vec Ideal S4x2 .f32) (ix2 g r)
  dos r := (V₀ m c (Proc.devRef .tc main_v63) : Vec Ideal S4x2 .f32) (ix2 g r)
  ks := (V₀ m c (Proc.devRef .tc main_v60) : Vec Ideal S4 .f32) (ix1 g)

/-! ## The windows' index maps -/

theorem min_word (n : Fin 272) : (Scalar.minsi (BitVec.ofNat 32 n.val) 255#32 : BitVec 32).toNat = min n.val 255 := by
  revert n; decide +kernel
theorem max_word (n : Fin 272) : (Scalar.maxsi (Scalar.subi (BitVec.ofNat 32 n.val) 16#32) 0#32 : BitVec 32).toNat = n.val - 16 := by
  revert n; decide +kernel
theorem head_word (g : Fin 4) : (BitVec.ofNat 32 g.val : BitVec 32).toNat = g.val := by
  revert g; decide +kernel

theorem tr5 (i : grid0.Coords) : cc0_transform_5 i = ![gg i, 0, min (tt i) 255, 0] := by
  unfold cc0_transform_5; exact congrArg₂ (fun a b => (![a, 0, b, 0] : Fin 4 → ℕ)) (head_word (i 0)) (min_word (i 1))
theorem tr6 (i : grid0.Coords) : cc0_transform_6 i = ![gg i, 0, min (tt i) 255, 0] := by
  unfold cc0_transform_6; exact congrArg₂ (fun a b => (![a, 0, b, 0] : Fin 4 → ℕ)) (head_word (i 0)) (min_word (i 1))
theorem tr7 (i : grid0.Coords) : cc0_transform_7 i = ![gg i, 0, min (tt i) 255, 0] := by
  unfold cc0_transform_7; exact congrArg₂ (fun a b => (![a, 0, b, 0] : Fin 4 → ℕ)) (head_word (i 0)) (min_word (i 1))
theorem tr8 (i : grid0.Coords) : cc0_transform_8 i = ![gg i, 0, 0, min (tt i) 255] := by
  unfold cc0_transform_8; exact congrArg₂ (fun a b => (![a, 0, 0, b] : Fin 4 → ℕ)) (head_word (i 0)) (min_word (i 1))
theorem tr9 (i : grid0.Coords) : cc0_transform_9 i = ![0, min (tt i) 255] := by
  unfold cc0_transform_9; exact congrArg (fun b => (![0, b] : Fin 2 → ℕ)) (min_word (i 1))
theorem tr10 (i : grid0.Coords) : cc0_transform_10 i = ![gg i, tt i - 16, 0] := by
  unfold cc0_transform_10; exact congrArg₂ (fun a b => (![a, b, 0] : Fin 3 → ℕ)) (head_word (i 0)) (max_word (i 1))
theorem tr11 (i : grid0.Coords) : cc0_transform_11 i = ![gg i, tt i - 16, 0] := by
  unfold cc0_transform_11; exact congrArg₂ (fun a b => (![a, b, 0] : Fin 3 → ℕ)) (head_word (i 0)) (max_word (i 1))
theorem tr12 (i : grid0.Coords) : cc0_transform_12 i = ![0, tt i - 16] := by
  unfold cc0_transform_12; exact congrArg (fun b => (![0, b] : Fin 2 → ℕ)) (max_word (i 1))
theorem tr13 (i : grid0.Coords) : cc0_transform_13 i = ![gg i, 0, tt i - 16, 0] := by
  unfold cc0_transform_13; exact congrArg₂ (fun a b => (![a, 0, b, 0] : Fin 4 → ℕ)) (head_word (i 0)) (max_word (i 1))
theorem tr14 (i : grid0.Coords) : cc0_transform_14 i = ![gg i, tt i - 16, 0] := by
  unfold cc0_transform_14; exact congrArg₂ (fun a b => (![a, b, 0] : Fin 3 → ℕ)) (head_word (i 0)) (max_word (i 1))
theorem tr15 (i : grid0.Coords) : cc0_transform_15 i = ![gg i, tt i - 16, 0] := by
  unfold cc0_transform_15; exact congrArg₂ (fun a b => (![a, b, 0] : Fin 3 → ℕ)) (head_word (i 0)) (max_word (i 1))

variable (c : Dev nD) (t : Fin (cfgm m).N)

theorem ix_5 : ((cfgm m).win 5).index t = ![gg (grid0.coords t), 0, min (tt (grid0.coords t)) 255, 0] := tr5 _
theorem ix_6 : ((cfgm m).win 6).index t = ![gg (grid0.coords t), 0, min (tt (grid0.coords t)) 255, 0] := tr6 _
theorem ix_7 : ((cfgm m).win 7).index t = ![gg (grid0.coords t), 0, min (tt (grid0.coords t)) 255, 0] := tr7 _
theorem ix_8 : ((cfgm m).win 8).index t = ![gg (grid0.coords t), 0, 0, min (tt (grid0.coords t)) 255] := tr8 _
theorem ix_9 : ((cfgm m).win 9).index t = ![0, min (tt (grid0.coords t)) 255] := tr9 _
theorem ix_10 : ((cfgm m).win 10).index t = ![gg (grid0.coords t), tt (grid0.coords t) - 16, 0] := tr10 _
theorem ix_11 : ((cfgm m).win 11).index t = ![gg (grid0.coords t), tt (grid0.coords t) - 16, 0] := tr11 _
theorem ix_12 : ((cfgm m).win 12).index t = ![0, tt (grid0.coords t) - 16] := tr12 _
theorem ix_13 : ((cfgm m).win 13).index t = ![gg (grid0.coords t), 0, tt (grid0.coords t) - 16, 0] := tr13 _
theorem ix_14 : ((cfgm m).win 14).index t = ![gg (grid0.coords t), tt (grid0.coords t) - 16, 0] := tr14 _
theorem ix_15 : ((cfgm m).win 15).index t = ![gg (grid0.coords t), tt (grid0.coords t) - 16, 0] := tr15 _
theorem ix_0 : ((cfgm m).win 0).index t = ![0, 0] := rfl
theorem ix_1 : ((cfgm m).win 1).index t = ![0, 0] := rfl
theorem ix_2 : ((cfgm m).win 2).index t = ![0] := rfl
theorem ix_3 : ((cfgm m).win 3).index t = ![0, 0] := rfl
theorem ix_4 : ((cfgm m).win 4).index t = ![0, 0] := rfl

/-! ## The blocks -/

theorem blk5 (h : tt (grid0.coords t) < 256) (r : Fin 2) (a d : Fin 256) :
    iblk m c 5 t (ix4 0 r a d) = V₀ m c (Proc.devRef .tc main_v2) (ix4 ⟨gg (grid0.coords t), gg_lt _⟩ r (tok (tt (grid0.coords t)) a) d) := by
  refine congrArg (V₀ m c (Proc.devRef .tc main_v2)) ?_
  funext x
  refine Fin.ext ((((cfgm m).win 5).rect_emb_val t (ix4 0 r a d) x rfl).trans ?_)
  rw [ix_5 m t]
  fin_cases x
  · show gg (grid0.coords t) * 1 + 0 = gg (grid0.coords t); omega
  · show 0 * 2 + r.val = r.val; omega
  · show min (tt (grid0.coords t)) 255 * 256 + a.val = 256 * (tt (grid0.coords t) % 256) + a.val; omega
  · show 0 * 256 + d.val = d.val; omega

theorem blk6 (h : tt (grid0.coords t) < 256) (r : Fin 2) (a d : Fin 256) :
    iblk m c 6 t (ix4 0 r a d) = V₀ m c (Proc.devRef .tc main_v5) (ix4 ⟨gg (grid0.coords t), gg_lt _⟩ r (tok (tt (grid0.coords t)) a) d) := by
  refine congrArg (V₀ m c (Proc.devRef .tc main_v5)) ?_
  funext x
  refine Fin.ext ((((cfgm m).win 6).rect_emb_val t (ix4 0 r a d) x rfl).trans ?_)
  rw [ix_6 m t]
  fin_cases x
  · show gg (grid0.coords t) * 1 + 0 = gg (grid0.coords t); omega
  · show 0 * 2 + r.val = r.val; omega
  · show min (tt (grid0.coords t)) 255 * 256 + a.val = 256 * (tt (grid0.coords t) % 256) + a.val; omega
  · show 0 * 256 + d.val = d.val; omega

theorem blk7 (h : tt (grid0.coords t) < 256) (r : Fin 2) (a d : Fin 256) :
    iblk m c 7 t (ix4 0 r a d) = V₀ m c (Proc.devRef .tc main_v8) (ix4 ⟨gg (grid0.coords t), gg_lt _⟩ r (tok (tt (grid0.coords t)) a) d) := by
  refine congrArg (V₀ m c (Proc.devRef .tc main_v8)) ?_
  funext x
  refine Fin.ext ((((cfgm m).win 7).rect_emb_val t (ix4 0 r a d) x rfl).trans ?_)
  rw [ix_7 m t]
  fin_cases x
  · show gg (grid0.coords t) * 1 + 0 = gg (grid0.coords t); omega
  · show 0 * 2 + r.val = r.val; omega
  · show min (tt (grid0.coords t)) 255 * 256 + a.val = 256 * (tt (grid0.coords t) % 256) + a.val; omega
  · show 0 * 256 + d.val = d.val; omega

theorem blk8 (h : tt (grid0.coords t) < 256) (r : Fin 2) (a : Fin 256) :
    iblk m c 8 t (ix4 0 r 0 a) = V₀ m c (Proc.devRef .tc main_v13) (ix4 ⟨gg (grid0.coords t), gg_lt _⟩ r 0 (tok (tt (grid0.coords t)) a)) := by
  refine congrArg (V₀ m c (Proc.devRef .tc main_v13)) ?_
  funext x
  refine Fin.ext ((((cfgm m).win 8).rect_emb_val t (ix4 0 r 0 a) x rfl).trans ?_)
  rw [ix_8 m t]
  fin_cases x
  · show gg (grid0.coords t) * 1 + 0 = gg (grid0.coords t); omega
  · show 0 * 2 + r.val = r.val; omega
  · show 0 * 1 + 0 = 0; omega
  · show min (tt (grid0.coords t)) 255 * 256 + a.val = 256 * (tt (grid0.coords t) % 256) + a.val; omega

theorem blk9 (h : tt (grid0.coords t) < 256) (a : Fin 256) :
    iblk m c 9 t (ix2 0 a) = V₀ m c (Proc.devRef .tc main_arg10) (ix2 0 (tok (tt (grid0.coords t)) a)) := by
  refine congrArg (V₀ m c (Proc.devRef .tc main_arg10)) ?_
  funext x
  refine Fin.ext ((((cfgm m).win 9).rect_emb_val t (ix2 0 a) x rfl).trans ?_)
  rw [ix_9 m t]
  fin_cases x
  · show 0 * 1 + 0 = 0; omega
  · show min (tt (grid0.coords t)) 255 * 256 + a.val = 256 * (tt (grid0.coords t) % 256) + a.val; omega

theorem blk10 (a d : Fin 256) :
    iblk m c 10 t (ix3 0 a d) = V₀ m c (Proc.devRef .tc main_v10) (ix3 ⟨gg (grid0.coords t), gg_lt _⟩ (tok (tt (grid0.coords t) - 16) a) d) := by
  refine congrArg (V₀ m c (Proc.devRef .tc main_v10)) ?_
  funext x
  refine Fin.ext ((((cfgm m).win 10).rect_emb_val t (ix3 0 a d) x rfl).trans ?_)
  rw [ix_10 m t]
  have h2 := tt_lt (grid0.coords t)
  fin_cases x
  · show gg (grid0.coords t) * 1 + 0 = gg (grid0.coords t); omega
  · show ((tt (grid0.coords t)) - 16) * 256 + a.val = 256 * (((tt (grid0.coords t)) - 16) % 256) + a.val; omega
  · show 0 * 256 + d.val = d.val; omega

theorem blk11 (a d : Fin 256) :
    iblk m c 11 t (ix3 0 a d) = V₀ m c (Proc.devRef .tc main_v12) (ix3 ⟨gg (grid0.coords t), gg_lt _⟩ (tok (tt (grid0.coords t) - 16) a) d) := by
  refine congrArg (V₀ m c (Proc.devRef .tc main_v12)) ?_
  funext x
  refine Fin.ext ((((cfgm m).win 11).rect_emb_val t (ix3 0 a d) x rfl).trans ?_)
  rw [ix_11 m t]
  have h2 := tt_lt (grid0.coords t)
  fin_cases x
  · show gg (grid0.coords t) * 1 + 0 = gg (grid0.coords t); omega
  · show ((tt (grid0.coords t)) - 16) * 256 + a.val = 256 * (((tt (grid0.coords t)) - 16) % 256) + a.val; omega
  · show 0 * 256 + d.val = d.val; omega

theorem blk12 (a : Fin 256) :
    iblk m c 12 t (ix2 0 a) = V₀ m c (Proc.devRef .tc main_arg10) (ix2 0 (tok (tt (grid0.coords t) - 16) a)) := by
  refine congrArg (V₀ m c (Proc.devRef .tc main_arg10)) ?_
  funext x
  refine Fin.ext ((((cfgm m).win 12).rect_emb_val t (ix2 0 a) x rfl).trans ?_)
  rw [ix_12 m t]
  have h2 := tt_lt (grid0.coords t)
  fin_cases x
  · show 0 * 1 + 0 = 0; omega
  · show ((tt (grid0.coords t)) - 16) * 256 + a.val = 256 * (((tt (grid0.coords t)) - 16) % 256) + a.val; omega

theorem blk0 (g : Fin 4) (r : Fin 2) :
    iblk m c 0 t (ix2 g r) = V₀ m c (Proc.devRef .tc main_v19) (ix2 g r) := by
  refine congrArg (V₀ m c (Proc.devRef .tc main_v19)) ?_
  funext x
  refine Fin.ext ((((cfgm m).win 0).rect_emb_val t (ix2 g r) x rfl).trans ?_)
  rw [ix_0 m t]
  fin_cases x
  · show 0 * 4 + g.val = g.val; omega
  · show 0 * 2 + r.val = r.val; omega

theorem blk1 (g : Fin 4) (r : Fin 2) :
    iblk m c 1 t (ix2 g r) = V₀ m c (Proc.devRef .tc main_v23) (ix2 g r) := by
  refine congrArg (V₀ m c (Proc.devRef .tc main_v23)) ?_
  funext x
  refine Fin.ext ((((cfgm m).win 1).rect_emb_val t (ix2 g r) x rfl).trans ?_)
  rw [ix_1 m t]
  fin_cases x
  · show 0 * 4 + g.val = g.val; omega
  · show 0 * 2 + r.val = r.val; omega

theorem blk3 (g : Fin 4) (r : Fin 2) :
    iblk m c 3 t (ix2 g r) = V₀ m c (Proc.devRef .tc main_v62) (ix2 g r) := by
  refine congrArg (V₀ m c (Proc.devRef .tc main_v62)) ?_
  funext x
  refine Fin.ext ((((cfgm m).win 3).rect_emb_val t (ix2 g r) x rfl).trans ?_)
  rw [ix_3 m t]
  fin_cases x
  · show 0 * 4 + g.val = g.val; omega
  · show 0 * 2 + r.val = r.val; omega

theorem blk4 (g : Fin 4) (r : Fin 2) :
    iblk m c 4 t (ix2 g r) = V₀ m c (Proc.devRef .tc main_v63) (ix2 g r) := by
  refine congrArg (V₀ m c (Proc.devRef .tc main_v63)) ?_
  funext x
  refine Fin.ext ((((cfgm m).win 4).rect_emb_val t (ix2 g r) x rfl).trans ?_)
  rw [ix_4 m t]
  fin_cases x
  · show 0 * 4 + g.val = g.val; omega
  · show 0 * 2 + r.val = r.val; omega

theorem blk2 (g : Fin 4) :
    iblk m c 2 t (ix1 g) = V₀ m c (Proc.devRef .tc main_v60) (ix1 g) := by
  refine congrArg (V₀ m c (Proc.devRef .tc main_v60)) ?_
  funext x
  refine Fin.ext ((((cfgm m).win 2).rect_emb_val t (ix1 g) x rfl).trans ?_)
  rw [ix_2 m t]
  fin_cases x
  show 0 * 4 + g.val = g.val; omega

theorem qOk (h : tt (grid0.coords t) < 256) : QOk (arrOf m c ⟨gg (grid0.coords t), gg_lt _⟩) (blkAt m c t) (tt (grid0.coords t)) where
  q r a d := blk5 m c t h r a d
  o r a d := blk6 m c t h r a d
  out r a d := blk7 m c t h r a d
  lse r a := blk8 m c t h r a
  sg a := blk9 m c t h a

theorem kOk : KOk (arrOf m c ⟨gg (grid0.coords t), gg_lt _⟩) (blkAt m c t) (tt (grid0.coords t) - 16) where
  k b d := blk10 m c t b d
  v b d := blk11 m c t b d
  sg b := blk12 m c t b

end Cert.KernelIdeal.Swa
end
-- ==== Proof.Value.Obl.lean ====
module

public import proofs.«01_k».proof.Proof.Value.Blocks
public import proofs.«01_k».proof.Proof.KernelIdeal.Run

/-!
The body obligation of the pipeline with its three outputs named, from the invariant's step.
-/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The three gradients in closed form: of query tile `i` under query head `r`, and of key tile `j`. -/
def dqF (A : Arr) (r : Fin 2) (i : ℕ) (a e : Fin 256) : EReal := (∑ j ∈ Finset.range 256, cQ A r j i e a) * A.ks
def dkF (A : Arr) (j : ℕ) (b e : Fin 256) : EReal :=
  (∑ n ∈ Finset.range 256, cK A 0 j n b e) * A.qs 0 + (∑ n ∈ Finset.range 256, cK A 1 j n b e) * A.qs 1
def dvF (A : Arr) (j : ℕ) (b e : Fin 256) : EReal :=
  (∑ n ∈ Finset.range 256, cV A 0 j n b e) * A.dos 0 + (∑ n ∈ Finset.range 256, cV A 1 j n b e) * A.dos 1

variable (m : (ℓ : Loc nD τ sig) → Buf (Elt Ideal) ℓ)

/-- What the body leaves in the outputs' buffers in the second phase. -/
def dqC (c : Dev nD) (t : Fin (cfgm m).N) : Vec Ideal S1x2x256x256 .bf16 :=
  fun x => dqF (arrOf m c ⟨gg (grid0.coords t), gg_lt _⟩) (x 1) (tt (grid0.coords t) - 16) (x 2) (x 3)
def dkC (c : Dev nD) (t : Fin (cfgm m).N) : Vec Ideal S1x256x256 .bf16 :=
  fun x => dkF (arrOf m c ⟨gg (grid0.coords t), gg_lt _⟩) (tt (grid0.coords t) - 16) (x 1) (x 2)
def dvC (c : Dev nD) (t : Fin (cfgm m).N) : Vec Ideal S1x256x256 .bf16 :=
  fun x => dvF (arrOf m c ⟨gg (grid0.coords t), gg_lt _⟩) (tt (grid0.coords t) - 16) (x 1) (x 2)

/-- What the scratch holds before point `t`. -/
def invV (c : Dev nD) (t : ℕ) (st : St Ideal) : Prop := InvT (arrOf m c ⟨t / 272 % 4, Nat.mod_lt _ (by decide)⟩) (t % 272) st

abbrev datsV := dats m (invV m) (dqC m) (dkC m) (dvC m)

/-- The tables fit the arrays at every point. -/
def TblsOk : Prop := ∀ (c : Dev nD) (t : Fin (cfgm m).N),
  TblOk (arrOf m c ⟨gg (grid0.coords t), gg_lt _⟩) (tblAt m c t) ⟨gg (grid0.coords t), gg_lt _⟩

theorem coords_eq (t : Fin grid0.N) : gg (grid0.coords t) = t.val / 272 ∧ tt (grid0.coords t) = t.val % 272 := by
  revert t; decide +kernel

variable (hT : TblsOk m) (c : Dev nD) (t : Fin (cfgm m).N)

theorem head_eq : (⟨t.val / 272 % 4, Nat.mod_lt _ (by decide)⟩ : Fin 4) = ⟨gg (grid0.coords t), gg_lt _⟩ := by
  have h := (coords_eq t).1
  have h4 := gg_lt (grid0.coords t)
  refine Fin.ext ?_
  show t.val / 272 % 4 = gg (grid0.coords t)
  omega

theorem invV_at (st : St Ideal) (h : invV m c t.val st) :
    InvT (arrOf m c ⟨gg (grid0.coords t), gg_lt _⟩) (tt (grid0.coords t)) st := by
  unfold invV at h
  rwa [head_eq, ← (coords_eq t).2] at h

include hT in
theorem invV_step (st : St Ideal) (h : invV m c t.val st) :
    invV m c (t.val + 1) (stepSt (grid0.coords t) (tblAt m c t) (blkAt m c t) st) := by
  have H := stepSt_inv (grid0.coords t) (hT c t) (fun h => qOk m c t h) (fun _ => kOk m c t) (invV_at m c t st h)
  obtain ⟨e1, e2⟩ := coords_eq t
  unfold invV
  by_cases h0 : (t.val + 1) % 272 = 0
  · rw [h0]; intro i _ hi _; omega
  · rw [show (t.val + 1) % 272 = tt (grid0.coords t) + 1 by omega,
      show (⟨(t.val + 1) / 272 % 4, Nat.mod_lt _ (by decide)⟩ : Fin 4) = ⟨gg (grid0.coords t), gg_lt _⟩ from Fin.ext (by
        show (t.val + 1) / 272 % 4 = gg (grid0.coords t)
        have h4 := gg_lt (grid0.coords t)
        omega)]
    exact H

/-! The first phase writes nothing back. -/

theorem noflush (w : Fin (cfgm m).W) (ho : ((cfgm m).win w).isOut = true) (h : ¬ 16 ≤ tt (grid0.coords t))
    (he : ∀ h', ((cfgm m).win w).index ⟨t.val + 1, h'⟩ = ((cfgm m).win w).index t) : ((cfgm m).win w).flush t = false := by
  rw [Bool.eq_false_iff]
  intro hf
  rcases (((cfgm m).win w).flush_out ho t).1 hf with h1 | ⟨h', h1⟩
  · have h2 : t.val + 1 = 1088 := h1
    have := (coords_eq t).2
    omega
  · exact h1 (he h')

theorem next_eq (h : ¬ 16 ≤ tt (grid0.coords t)) (h') :
    gg (grid0.coords (⟨t.val + 1, h'⟩ : Fin grid0.N)) = gg (grid0.coords t)
      ∧ tt (grid0.coords (⟨t.val + 1, h'⟩ : Fin grid0.N)) - 16 = tt (grid0.coords t) - 16 := by
  obtain ⟨e1, e2⟩ := coords_eq t
  obtain ⟨e3, e4⟩ := coords_eq ⟨t.val + 1, h'⟩
  constructor
  · rw [e1, e3]; show (t.val + 1) / 272 = _; omega
  · rw [e4]; show (t.val + 1) % 272 - 16 = _; omega

theorem noflush13 (h : ¬ 16 ≤ tt (grid0.coords t)) : ((cfgm m).win 13).flush t = false :=
  noflush m t 13 rfl h fun h' => by rw [ix_13, ix_13, (next_eq m t h h').1, (next_eq m t h h').2]
theorem noflush14 (h : ¬ 16 ≤ tt (grid0.coords t)) : ((cfgm m).win 14).flush t = false :=
  noflush m t 14 rfl h fun h' => by rw [ix_14, ix_14, (next_eq m t h h').1, (next_eq m t h h').2]
theorem noflush15 (h : ¬ 16 ≤ tt (grid0.coords t)) : ((cfgm m).win 15).flush t = false :=
  noflush m t 15 rfl h fun h' => by rw [ix_15, ix_15, (next_eq m t h h').1, (next_eq m t h h').2]

include hT

/-- The query gradient's buffer after the body. -/
theorem post13 (st : St Ideal) (hst : invV m c t.val st) (d) :
    reads c (stg13 m t) (dqBuf (grid0.coords t) (tblAt m c t) (blkAt m c t) st ((datsV m 0 c).before 13 t d)) ⊢ (datsV m 0 c).leaves 13 t := by
  by_cases h : 16 ≤ tt (grid0.coords t)
  · have e : dqBuf (grid0.coords t) (tblAt m c t) (blkAt m c t) st ((datsV m 0 c).before 13 t d) = dqC m c t := by
      funext x
      have hx : x = ix4 0 (x 1) (x 2) (x 3) := by
        funext k; fin_cases k
        · exact Subsingleton.elim (α := Fin 1) _ _
        all_goals rfl
      rw [hx]
      exact dqBuf_at (grid0.coords t) (hT c t) (fun h => qOk m c t h) (fun _ => kOk m c t) (invV_at m c t st hst) h _ (x 1) (x 2) (x 3)
    have hi : (cfgm m).idle 13 ((cfgm m).grid.coords t) = false := by
      show (!(k0_cond2 (grid0.coords t) == 1#1)) = false
      rw [(cond2_iff _).2 h]; rfl
    rw [e]
    unfold Pipeline.Dat.leaves
    rw [hi]
    exact .rfl
  · have hi : (cfgm m).idle 13 ((cfgm m).grid.coords t) = true := by
      show (!(k0_cond2 (grid0.coords t) == 1#1)) = true
      rw [show (k0_cond2 (grid0.coords t) == 1#1) = false from beq_eq_false_iff_ne.2 (fun e => h ((cond2_iff _).1 e))]; rfl
    rw [Pipeline.Dat.leaves_idle _ _ _ hi (noflush13 m t h)]
    have e : dqBuf (grid0.coords t) (tblAt m c t) (blkAt m c t) st ((datsV m 0 c).before 13 t d) = (datsV m 0 c).before 13 t d := if_neg h
    rw [e]
    iintro H
    iexists d
    iexact H

/-- The key gradient's buffer after the body. -/
theorem post14 (st : St Ideal) (hst : invV m c t.val st) (d) :
    reads c (stg14 m t) (dkBuf (grid0.coords t) (tblAt m c t) (blkAt m c t) st ((datsV m 0 c).before 14 t d)) ⊢ (datsV m 0 c).leaves 14 t := by
  by_cases h : 16 ≤ tt (grid0.coords t)
  · have e : dkBuf (grid0.coords t) (tblAt m c t) (blkAt m c t) st ((datsV m 0 c).before 14 t d) = dkC m c t := by
      funext x
      have hx : x = ix3 0 (x 1) (x 2) := by
        funext k; fin_cases k
        · exact Subsingleton.elim (α := Fin 1) _ _
        all_goals rfl
      rw [hx]
      exact dkBuf_at (grid0.coords t) (hT c t) (fun h => qOk m c t h) (fun _ => kOk m c t) (invV_at m c t st hst) h _ (x 1) (x 2)
    have hi : (cfgm m).idle 14 ((cfgm m).grid.coords t) = false := by
      show (!(k0_cond2 (grid0.coords t) == 1#1)) = false
      rw [(cond2_iff _).2 h]; rfl
    rw [e]
    unfold Pipeline.Dat.leaves
    rw [hi]
    exact .rfl
  · have hi : (cfgm m).idle 14 ((cfgm m).grid.coords t) = true := by
      show (!(k0_cond2 (grid0.coords t) == 1#1)) = true
      rw [show (k0_cond2 (grid0.coords t) == 1#1) = false from beq_eq_false_iff_ne.2 (fun e => h ((cond2_iff _).1 e))]; rfl
    rw [Pipeline.Dat.leaves_idle _ _ _ hi (noflush14 m t h)]
    have e : dkBuf (grid0.coords t) (tblAt m c t) (blkAt m c t) st ((datsV m 0 c).before 14 t d) = (datsV m 0 c).before 14 t d := if_neg h
    rw [e]
    iintro H
    iexists d
    iexact H

/-- The value gradient's buffer after the body. -/
theorem post15 (st : St Ideal) (hst : invV m c t.val st) (d) :
    reads c (stg15 m t) (dvBuf (grid0.coords t) (tblAt m c t) (blkAt m c t) st ((datsV m 0 c).before 15 t d)) ⊢ (datsV m 0 c).leaves 15 t := by
  by_cases h : 16 ≤ tt (grid0.coords t)
  · have e : dvBuf (grid0.coords t) (tblAt m c t) (blkAt m c t) st ((datsV m 0 c).before 15 t d) = dvC m c t := by
      funext x
      have hx : x = ix3 0 (x 1) (x 2) := by
        funext k; fin_cases k
        · exact Subsingleton.elim (α := Fin 1) _ _
        all_goals rfl
      rw [hx]
      exact dvBuf_at (grid0.coords t) (hT c t) (fun h => qOk m c t h) (fun _ => kOk m c t) (invV_at m c t st hst) h _ (x 1) (x 2)
    have hi : (cfgm m).idle 15 ((cfgm m).grid.coords t) = false := by
      show (!(k0_cond2 (grid0.coords t) == 1#1)) = false
      rw [(cond2_iff _).2 h]; rfl
    rw [e]
    unfold Pipeline.Dat.leaves
    rw [hi]
    exact .rfl
  · have hi : (cfgm m).idle 15 ((cfgm m).grid.coords t) = true := by
      show (!(k0_cond2 (grid0.coords t) == 1#1)) = true
      rw [show (k0_cond2 (grid0.coords t) == 1#1) = false from beq_eq_false_iff_ne.2 (fun e => h ((cond2_iff _).1 e))]; rfl
    rw [Pipeline.Dat.leaves_idle _ _ _ hi (noflush15 m t h)]
    have e : dvBuf (grid0.coords t) (tblAt m c t) (blkAt m c t) st ((datsV m 0 c).before 15 t d) = (datsV m 0 c).before 15 t d := if_neg h
    rw [e]
    iintro H
    iexists d
    iexact H

omit hT

section
variable (Inv : Dev nD → ℕ → St Ideal → Prop) (dq : Dev nD → Fin (cfgm m).N → Vec Ideal S1x2x256x256 .bf16)
  (dk dv : Dev nD → Fin (cfgm m).N → Vec Ideal S1x256x256 .bf16)
theorem phi_cast : (dats m Inv dq dk dv 0 c).Φ t.castSucc = Φ m (Inv c) c t.val := by
  dsimp only [dats, Fin.val_castSucc]
theorem phi_succ : (dats m Inv dq dk dv 0 c).Φ t.succ = Φ m (Inv c) c (t.val + 1) := rfl
theorem owed_zero (t') : (dats m Inv dq dk dv 0 c).owed t' = 0 := rfl
end

set_option backward.isDefEq.respectTransparency.types false in
/-- A point's run to any posts that its buffers' contents give. -/
theorem value_point (hT : TblsOk m) (c : Dev nD) (t : Fin (cfgm m).N) (L : Fin 16 → sProp 𝕄)
    (hL : insOwn m c t ⊢ iprop(L 0 ∗ L 1 ∗ L 2 ∗ L 3 ∗ L 4 ∗ L 5 ∗ L 6 ∗ L 7 ∗ L 8 ∗ L 9 ∗ L 10 ∗ L 11 ∗ L 12))
    (h13 : ∀ st, invV m c t.val st → ∀ d, reads c (stg13 m t) (dqBuf (grid0.coords t) (tblAt m c t) (blkAt m c t) st ((datsV m 0 c).before 13 t d)) ⊢ L 13)
    (h14 : ∀ st, invV m c t.val st → ∀ d, reads c (stg14 m t) (dkBuf (grid0.coords t) (tblAt m c t) (blkAt m c t) st ((datsV m 0 c).before 14 t d)) ⊢ L 14)
    (h15 : ∀ st, invV m c t.val st → ∀ d, reads c (stg15 m t) (dvBuf (grid0.coords t) (tblAt m c t) (blkAt m c t) st ((datsV m 0 c).before 15 t d)) ⊢ L 15) :
    iprop((datsV m 0 c).Φ t.castSucc ∗ (datsV m 0 c).owesAt () t.castSucc
        ∗ bigSep Finset.univ fun w : Fin (cfgm m).W => iprop(∃ d, owns (c : Thread nD τ) (((cfgm m).win w).stage ((cfgm m).slots t w)) fullShare ((datsV m 0 c).before w t d)))
      ⊢ wp Idealize.ShloMosaic.frame (wpE defs₀ Variants.none (c : Thread nD τ) none) Set.univ (defs₀ .tc (cfgm m).body ((cfgm m).bodyArgs t ((cfgm m).slots t))) fun _ =>
          iprop((datsV m 0 c).Φ t.succ ∗ (datsV m 0 c).owesAt () t.succ ∗ bigSep Finset.univ fun w : Fin 16 => L w) := by
  rw [bigSep_W0, bigSep_W0]
  simp only [before0, before1, before2, before3, before4, before5, before6, before7, before8, before9, before10, before11, before12]
  rw [phi_cast, phi_succ]
  unfold Pipeline.Dat.owesAt Pipeline.owesWithin
  rw [owed_zero, owed_zero]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%d18, O18⟩, ⟨%d19, O19⟩, ⟨%d20, O20⟩⟩
  iapply (wp_wand_r)
  isplitl [HΦ I0 I1 I2 I3 I4 I5 I6 I7 I8 I9 I10 I11 I12 O18 O19 O20]
  · iapply (pointRun m (invV m) c t (fits_all m c t) ((datsV m 0 c).before 13 t d18) ((datsV m 0 c).before 14 t d19) ((datsV m 0 c).before 15 t d20))
    isplitl [HΦ]
    · iexact HΦ
    isplitl [I0 I1 I2 I3 I4 I5 I6 I7 I8 I9 I10 I11 I12]
    · unfold insOwn
      isplitl [I0]
      · iexact I0
      isplitl [I1]
      · iexact I1
      isplitl [I2]
      · iexact I2
      isplitl [I3]
      · iexact I3
      isplitl [I4]
      · iexact I4
      isplitl [I5]
      · iexact I5
      isplitl [I6]
      · iexact I6
      isplitl [I7]
      · iexact I7
      isplitl [I8]
      · iexact I8
      isplitl [I9]
      · iexact I9
      isplitl [I10]
      · iexact I10
      isplitl [I11]
      · iexact I11
      iexact I12
    isplitl [O18]
    · iexact O18
    isplitl [O19]
    · iexact O19
    iexact O20
  · iintro %r ⟨%st, %hst, HΦ, HI, O18, O19, O20⟩
    ihave HI := hL $$ HI
    icases HI with ⟨I0, I1, I2, I3, I4, I5, I6, I7, I8, I9, I10, I11, I12⟩
    isplitl [HΦ]
    · unfold Φ
      icases HΦ with ⟨HT, ⟨%st', %hs, HS⟩, Hp⟩
      isplitl [HT]
      · iexact HT
      isplitl [HS]
      · iexists st'
        isplitr
        · ipureintro; exact hs ▸ invV_step m hT c t st hst
        · iexact HS
      iexact Hp
    isplitl [HW]
    · iexists W
      isplitr
      · ipureintro; exact fun _ _ => Or.inl trivial
      · iexact HW
    isplitl [I0]
    · iexact I0
    isplitl [I1]
    · iexact I1
    isplitl [I2]
    · iexact I2
    isplitl [I3]
    · iexact I3
    isplitl [I4]
    · iexact I4
    isplitl [I5]
    · iexact I5
    isplitl [I6]
    · iexact I6
    isplitl [I7]
    · iexact I7
    isplitl [I8]
    · iexact I8
    isplitl [I9]
    · iexact I9
    isplitl [I10]
    · iexact I10
    isplitl [I11]
    · iexact I11
    isplitl [I12]
    · iexact I12
    isplitl [O18]
    · iapply (h13 st hst d18)
      iexact O18
    isplitl [O19]
    · iapply (h14 st hst d19)
      iexact O19
    iapply (h15 st hst d20)
    iexact O20

/-- The inputs' buffers after the body. -/
theorem postIn : insOwn m c t ⊢ iprop((datsV m 0 c).leaves 0 t ∗ (datsV m 0 c).leaves 1 t ∗ (datsV m 0 c).leaves 2 t ∗ (datsV m 0 c).leaves 3 t ∗ (datsV m 0 c).leaves 4 t ∗ (datsV m 0 c).leaves 5 t ∗ (datsV m 0 c).leaves 6 t ∗ (datsV m 0 c).leaves 7 t ∗ (datsV m 0 c).leaves 8 t ∗ (datsV m 0 c).leaves 9 t ∗ (datsV m 0 c).leaves 10 t ∗ (datsV m 0 c).leaves 11 t ∗ (datsV m 0 c).leaves 12 t) := by
  unfold insOwn
  exact .rfl

theorem value_obligation (hT : TblsOk m) (c : Dev nD) :
    Pipeline.BodyObligationLoose (datsV m 0 c) defs₀ Variants.none () Set.univ := fun t =>
  value_point m hT c t (fun w => (datsV m 0 c).leaves w t) (postIn m c t) (fun st hst d => post13 m hT c t st hst d)
    (fun st hst d => post14 m hT c t st hst d) (fun st hst d => post15 m hT c t st hst d)

end Cert.KernelIdeal.Swa
end
-- ==== Proof.Value.Host.lean ====
module

public import proofs.«01_k».proof.Proof.Value.Blocks
public import proofs.«01_k».proof.Proof.KernelIdeal.Run
public import Idealize.ShloMosaic.Lib.StableHlo.ReadAt

/-!
The arrays the region finds, as entries of the program's arguments.
-/

@[expose] public section

set_option maxRecDepth 16384

noncomputable section

namespace Cert.KernelIdeal.Swa

open Cert.KernelIdeal Cert.KernelIdeal.Gen
open Idealize.ShloMosaic Idealize.ShloMosaic.TcCoe

variable (m : (ℓ : Loc nD τ sig) → Buf (Elt Ideal) ℓ) (c : Dev nD)

/-- The head of the pair (key head, query head of it). -/
def hd (g : Fin 4) (r : Fin 2) : Fin 8 := ⟨2 * g.val + r.val, by omega⟩

/-- The 1/16 of the scores. -/
def sm : EReal := Ideal.ofBits FTy.f32 0x3D800000#32

/-- The program's arguments. -/
abbrev aq : Vec Ideal S1x65536x8x256 .fp8e4m3 := m ((c : Thread nD τ).loc main_arg0)
abbrev aqs : Vec Ideal S8 .f32 := m ((c : Thread nD τ).loc main_arg1)
abbrev ak : Vec Ideal S1x65536x4x256 .fp8e4m3 := m ((c : Thread nD τ).loc main_arg2)
abbrev aks : Vec Ideal S4 .f32 := m ((c : Thread nD τ).loc main_arg3)
abbrev av : Vec Ideal S1x65536x4x256 .fp8e4m3 := m ((c : Thread nD τ).loc main_arg4)
abbrev avs : Vec Ideal S4 .f32 := m ((c : Thread nD τ).loc main_arg5)
abbrev ao : Vec Ideal S1x65536x8x256 .fp8e5m2 := m ((c : Thread nD τ).loc main_arg6)
abbrev aos : Vec Ideal S8 .f32 := m ((c : Thread nD τ).loc main_arg7)
abbrev aout : Vec Ideal S1x65536x8x256 .bf16 := m ((c : Thread nD τ).loc main_arg8)
abbrev alse : Vec Ideal S1x8x65536 .f32 := m ((c : Thread nD τ).loc main_arg9)
abbrev aseg : Vec Ideal S1x65536 .i32 := m ((c : Thread nD τ).loc main_arg10)

theorem hd_eq (g : Fin 4) (r : Fin 2) (h) : (⟨g.val * 2 + r.val, h⟩ : Fin 8) = hd g r := Fin.ext (by show g.val * 2 + r.val = 2 * g.val + r.val; omega)

theorem q_read (g : Fin 4) (r : Fin 2) (n : Fin 65536) (d : Fin 256) :
    (V₀ m c (Proc.devRef .tc main_v2) : Vec Ideal S4x2x65536x256 .fp8e4m3) (ix4 g r n d) = aq m c (ix4 0 n (hd g r) d) := by
  unfold V₀
  entry_read
  pointwise
  rw [hd_eq]

theorem o_read (g : Fin 4) (r : Fin 2) (n : Fin 65536) (d : Fin 256) :
    (V₀ m c (Proc.devRef .tc main_v5) : Vec Ideal S4x2x65536x256 .fp8e5m2) (ix4 g r n d) = ao m c (ix4 0 n (hd g r) d) := by
  unfold V₀
  entry_read
  pointwise
  rw [hd_eq]

theorem out_read (g : Fin 4) (r : Fin 2) (n : Fin 65536) (d : Fin 256) :
    (V₀ m c (Proc.devRef .tc main_v8) : Vec Ideal S4x2x65536x256 .bf16) (ix4 g r n d) = aout m c (ix4 0 n (hd g r) d) := by
  unfold V₀
  entry_read
  pointwise
  rw [hd_eq]

theorem lse_read (g : Fin 4) (r : Fin 2) (n : Fin 65536) :
    (V₀ m c (Proc.devRef .tc main_v13) : Vec Ideal S4x2x1x65536 .f32) (ix4 g r 0 n) = alse m c (ix3 0 (hd g r) n) := by
  unfold V₀
  entry_read
  pointwise
  rw [hd_eq]

theorem k_read (g : Fin 4) (n : Fin 65536) (d : Fin 256) :
    (V₀ m c (Proc.devRef .tc main_v10) : Vec Ideal S4x65536x256 .fp8e4m3) (ix3 g n d) = ak m c (ix4 0 n g d) := by
  unfold V₀
  entry_read
  pointwise
  try rfl

theorem v_read (g : Fin 4) (n : Fin 65536) (d : Fin 256) :
    (V₀ m c (Proc.devRef .tc main_v12) : Vec Ideal S4x65536x256 .fp8e4m3) (ix3 g n d) = av m c (ix4 0 n g d) := by
  unfold V₀
  entry_read
  pointwise
  try rfl

theorem qk_read (g : Fin 4) (r : Fin 2) :
    (V₀ m c (Proc.devRef .tc main_v19) : Vec Ideal S4x2 .f32) (ix2 g r) = ((aqs m c (ix1 (hd g r)) : EReal) * aks m c (ix1 g) * sm : EReal) := by
  unfold V₀
  entry_read
  pointwise
  rw [hd_eq]; rfl

theorem dov_read (g : Fin 4) (r : Fin 2) :
    (V₀ m c (Proc.devRef .tc main_v23) : Vec Ideal S4x2 .f32) (ix2 g r) = ((aos m c (ix1 (hd g r)) : EReal) * avs m c (ix1 g) : EReal) := by
  unfold V₀
  entry_read
  pointwise
  rw [hd_eq]

theorem qs_read (g : Fin 4) (r : Fin 2) :
    (V₀ m c (Proc.devRef .tc main_v62) : Vec Ideal S4x2 .f32) (ix2 g r) = ((aqs m c (ix1 (hd g r)) : EReal) * sm : EReal) := by
  unfold V₀
  entry_read
  pointwise
  rw [hd_eq]; rfl

theorem dos_read (g : Fin 4) (r : Fin 2) :
    (V₀ m c (Proc.devRef .tc main_v63) : Vec Ideal S4x2 .f32) (ix2 g r) = (aos m c (ix1 (hd g r)) : EReal) := by
  unfold V₀
  entry_read
  pointwise
  rw [hd_eq]

theorem ks_read (g : Fin 4) :
    (V₀ m c (Proc.devRef .tc main_v60) : Vec Ideal S4 .f32) (ix1 g) = ((aks m c (ix1 g) : EReal) * sm : EReal) := by
  unfold V₀
  entry_read
  pointwise
  try rfl

theorem seg_read (n : Fin 65536) : (V₀ m c (Proc.devRef .tc main_arg10) : Vec Ideal S1x65536 .i32) (ix2 0 n) = aseg m c (ix2 0 n) :=
  congrFun (V₀_arg m c main_arg10 (by decide +kernel)) _

theorem tok_eq (j : Fin 256) (a : Fin 256) (h) : (⟨j.val * 256 + a.val, h⟩ : Fin 65536) = tok j.val a :=
  Fin.ext (by show j.val * 256 + a.val = 256 * (j.val % 256) + a.val; have := j.isLt; omega)

theorem sf_read (j : Fin 256) :
    (V₀ m c (Proc.devRef .tc main_v26) : Vec Ideal S256 .i32) (ix1 j) = aseg m c (ix2 0 (tok j.val 0)) := by
  unfold V₀
  entry_read
  pointwise
  exact congrArg (fun n => aseg m c (ix2 0 n)) (Fin.ext (by show j.val * 256 = 256 * (j.val % 256) + 0; have := j.isLt; omega))

theorem sl_read (j : Fin 256) :
    (V₀ m c (Proc.devRef .tc main_v28) : Vec Ideal S256 .i32) (ix1 j) = aseg m c (ix2 0 (tok j.val 255)) := by
  unfold V₀
  entry_read
  pointwise
  exact congrArg (fun n => aseg m c (ix2 0 n)) (Fin.ext (by show j.val * 256 + 255 = 256 * (j.val % 256) + 255; have := j.isLt; omega))

end Cert.KernelIdeal.Swa
end
-- ==== Proof.Value.Out.lean ====
module

public import proofs.«01_k».proof.Proof.Value.Obl
public import proofs.«01_k».proof.Proof.Value.Host
public import Idealize.ShloMosaic.Lib.Pipeline.ValueKit.Geometry

/-!
The three arrays the pipeline writes, in closed form.
-/

@[expose] public section

set_option maxRecDepth 16384

noncomputable section

namespace Cert.KernelIdeal.Swa

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The row of its tile that a token is. -/
def rowOf (n : Fin 65536) : Fin 256 := ⟨n.val % 256, Nat.mod_lt _ (by decide)⟩

def dqArr : Vec Ideal S4x2x65536x256 .bf16 := fun x => dqF (arrOf m c (x 0)) (x 1) ((x 2 : Fin 65536).val / 256) (rowOf (x 2)) (x 3)
def dkArr : Vec Ideal S4x65536x256 .bf16 := fun x => dkF (arrOf m c (x 0)) ((x 1 : Fin 65536).val / 256) (rowOf (x 1)) (x 2)
def dvArr : Vec Ideal S4x65536x256 .bf16 := fun x => dvF (arrOf m c (x 0)) ((x 1 : Fin 65536).val / 256) (rowOf (x 1)) (x 2)

/-- The point at which head `g`'s tile `j` is complete. -/
def doneAt (g : Fin 4) (j : Fin 256) : Fin grid0.N := ⟨g.val * 272 + j.val + 16, by show _ < 1088; omega⟩

theorem doneAt_coords (g : Fin 4) (j : Fin 256) : gg (grid0.coords (doneAt g j)) = g.val ∧ tt (grid0.coords (doneAt g j)) = j.val + 16 := by
  obtain ⟨e1, e2⟩ := coords_eq (doneAt g j)
  have hv : (doneAt g j).val = g.val * 272 + j.val + 16 := rfl
  rw [hv] at e1 e2
  omega

/-- After the point that completes a tile the block moves on. -/
theorem moved (g : Fin 4) (j : Fin 256) (h') :
    gg (grid0.coords (⟨(doneAt g j).val + 1, h'⟩ : Fin grid0.N)) ≠ g.val
      ∨ tt (grid0.coords (⟨(doneAt g j).val + 1, h'⟩ : Fin grid0.N)) - 16 ≠ j.val := by
  obtain ⟨e1, e2⟩ := coords_eq ⟨(doneAt g j).val + 1, h'⟩
  have hv : (doneAt g j).val = g.val * 272 + j.val + 16 := rfl
  rw [e1, e2]
  show (((doneAt g j).val + 1) / 272 ≠ _ ∨ ((doneAt g j).val + 1) % 272 - 16 ≠ _)
  rw [hv]
  omega

theorem flush13 (g : Fin 4) (j : Fin 256) : ((cfgm m).win 13).flush (doneAt g j) = true := by
  refine (((cfgm m).win 13).flush_out rfl _).2 ?_
  by_cases h' : (doneAt g j).val + 1 < grid0.N
  · refine Or.inr ⟨h', fun e => ?_⟩
    rw [ix_13, ix_13, (doneAt_coords g j).1, (doneAt_coords g j).2] at e
    rcases moved g j h' with h | h
    · exact h (congrFun e 0)
    · exact h (congrFun e 2)
  · exact Or.inl (by have := (doneAt g j).isLt; show _ = grid0.N; omega)

theorem flush14 (g : Fin 4) (j : Fin 256) : ((cfgm m).win 14).flush (doneAt g j) = true := by
  refine (((cfgm m).win 14).flush_out rfl _).2 ?_
  by_cases h' : (doneAt g j).val + 1 < grid0.N
  · refine Or.inr ⟨h', fun e => ?_⟩
    rw [ix_14, ix_14, (doneAt_coords g j).1, (doneAt_coords g j).2] at e
    rcases moved g j h' with h | h
    · exact h (congrFun e 0)
    · exact h (congrFun e 1)
  · exact Or.inl (by have := (doneAt g j).isLt; show _ = grid0.N; omega)

theorem flush15 (g : Fin 4) (j : Fin 256) : ((cfgm m).win 15).flush (doneAt g j) = true := by
  refine (((cfgm m).win 15).flush_out rfl _).2 ?_
  by_cases h' : (doneAt g j).val + 1 < grid0.N
  · refine Or.inr ⟨h', fun e => ?_⟩
    rw [ix_15, ix_15, (doneAt_coords g j).1, (doneAt_coords g j).2] at e
    rcases moved g j h' with h | h
    · exact h (congrFun e 0)
    · exact h (congrFun e 1)
  · exact Or.inl (by have := (doneAt g j).isLt; show _ = grid0.N; omega)

theorem covers13 : ((cfgm m).win 13).Covers := by
  refine ⟨fun a => by fin_cases a <;> exact Nat.zero_lt_succ _, fun β => ?_⟩
  have h0 : (β (0 : Fin 4)).val < 4 := lt_of_lt_of_eq (β (0 : Fin 4)).isLt (show (4 + 1 - 1) / 1 = 4 from rfl)
  have h1 : (β (1 : Fin 4)).val < 1 := lt_of_lt_of_eq (β (1 : Fin 4)).isLt (show (2 + 2 - 1) / 2 = 1 from rfl)
  have h2 : (β (2 : Fin 4)).val < 256 := lt_of_lt_of_eq (β (2 : Fin 4)).isLt (show (65536 + 256 - 1) / 256 = 256 from rfl)
  have h3 : (β (3 : Fin 4)).val < 1 := lt_of_lt_of_eq (β (3 : Fin 4)).isLt (show (256 + 256 - 1) / 256 = 1 from rfl)
  refine ⟨doneAt ⟨_, h0⟩ ⟨_, h2⟩, flush13 m _ _, fun a => ⟨?_, Or.inl (by fin_cases a <;> rfl)⟩⟩
  rw [ix_13, (doneAt_coords _ _).1, (doneAt_coords _ _).2]
  fin_cases a
  · rfl
  · show 0 = (β (1 : Fin 4)).val; omega
  · show (β (2 : Fin 4)).val + 16 - 16 = (β (2 : Fin 4)).val; omega
  · show 0 = (β (3 : Fin 4)).val; omega

theorem covers14 : ((cfgm m).win 14).Covers := by
  refine ⟨fun a => by fin_cases a <;> exact Nat.zero_lt_succ _, fun β => ?_⟩
  have h0 : (β (0 : Fin 3)).val < 4 := lt_of_lt_of_eq (β (0 : Fin 3)).isLt (show (4 + 1 - 1) / 1 = 4 from rfl)
  have h1 : (β (1 : Fin 3)).val < 256 := lt_of_lt_of_eq (β (1 : Fin 3)).isLt (show (65536 + 256 - 1) / 256 = 256 from rfl)
  have h2 : (β (2 : Fin 3)).val < 1 := lt_of_lt_of_eq (β (2 : Fin 3)).isLt (show (256 + 256 - 1) / 256 = 1 from rfl)
  refine ⟨doneAt ⟨_, h0⟩ ⟨_, h1⟩, flush14 m _ _, fun a => ⟨?_, Or.inl (by fin_cases a <;> rfl)⟩⟩
  rw [ix_14, (doneAt_coords _ _).1, (doneAt_coords _ _).2]
  fin_cases a
  · rfl
  · show (β (1 : Fin 3)).val + 16 - 16 = (β (1 : Fin 3)).val; omega
  · show 0 = (β (2 : Fin 3)).val; omega

theorem covers15 : ((cfgm m).win 15).Covers := by
  refine ⟨fun a => by fin_cases a <;> exact Nat.zero_lt_succ _, fun β => ?_⟩
  have h0 : (β (0 : Fin 3)).val < 4 := lt_of_lt_of_eq (β (0 : Fin 3)).isLt (show (4 + 1 - 1) / 1 = 4 from rfl)
  have h1 : (β (1 : Fin 3)).val < 256 := lt_of_lt_of_eq (β (1 : Fin 3)).isLt (show (65536 + 256 - 1) / 256 = 256 from rfl)
  have h2 : (β (2 : Fin 3)).val < 1 := lt_of_lt_of_eq (β (2 : Fin 3)).isLt (show (256 + 256 - 1) / 256 = 1 from rfl)
  refine ⟨doneAt ⟨_, h0⟩ ⟨_, h1⟩, flush15 m _ _, fun a => ⟨?_, Or.inl (by fin_cases a <;> rfl)⟩⟩
  rw [ix_15, (doneAt_coords _ _).1, (doneAt_coords _ _).2]
  fin_cases a
  · rfl
  · show (β (1 : Fin 3)).val + 16 - 16 = (β (1 : Fin 3)).val; omega
  · show 0 = (β (2 : Fin 3)).val; omega

/-- A token of tile `j` sits at its tile and row. -/
theorem tile_of (n : Fin 65536) (j : ℕ) (a : Fin 256) (h : n.val = j * 256 + a.val) : n.val / 256 = j ∧ rowOf n = a := by
  have ha := a.isLt
  exact ⟨by omega, Fin.ext (by show n.val % 256 = a.val; omega)⟩

theorem dqArr_of (x : S4x2x65536x256.Idx) (g : Fin 4) (r : Fin 2) (j : ℕ) (a e : Fin 256)
    (h0 : (x 0).val = g.val) (h1 : (x 1).val = r.val) (h2 : (x 2).val = j * 256 + a.val) (h3 : (x 3).val = e.val) :
    dqArr m c x = dqF (arrOf m c g) r j a e := by
  obtain ⟨e1, e2⟩ := tile_of (x 2) j a h2
  show dqF (arrOf m c (x 0)) (x 1) ((x 2 : Fin 65536).val / 256) (rowOf (x 2)) (x 3) = _
  rw [e1, e2, show x 0 = g from Fin.ext h0, show x 1 = r from Fin.ext h1, show x 3 = e from Fin.ext h3]

theorem dkArr_of (x : S4x65536x256.Idx) (g : Fin 4) (j : ℕ) (a e : Fin 256)
    (h0 : (x 0).val = g.val) (h1 : (x 1).val = j * 256 + a.val) (h2 : (x 2).val = e.val) :
    dkArr m c x = dkF (arrOf m c g) j a e := by
  obtain ⟨e1, e2⟩ := tile_of (x 1) j a h1
  show dkF (arrOf m c (x 0)) ((x 1 : Fin 65536).val / 256) (rowOf (x 1)) (x 2) = _
  rw [e1, e2, show x 0 = g from Fin.ext h0, show x 2 = e from Fin.ext h2]

theorem dvArr_of (x : S4x65536x256.Idx) (g : Fin 4) (j : ℕ) (a e : Fin 256)
    (h0 : (x 0).val = g.val) (h1 : (x 1).val = j * 256 + a.val) (h2 : (x 2).val = e.val) :
    dvArr m c x = dvF (arrOf m c g) j a e := by
  obtain ⟨e1, e2⟩ := tile_of (x 1) j a h1
  show dvF (arrOf m c (x 0)) ((x 1 : Fin 65536).val / 256) (rowOf (x 1)) (x 2) = _
  rw [e1, e2, show x 0 = g from Fin.ext h0, show x 2 = e from Fin.ext h2]

/-- Where the blocks of the three outputs lie. -/
theorem place13 (t : Fin (cfgm m).N) (y : S1x2x256x256.Idx) :
    dqC m c t y = dqArr m c (((cfgm m).win 13).blk t |>.view.emb y) := by
  have hy : (y 0).val < 1 := (y 0).isLt
  refine Eq.symm (dqArr_of m c _ ⟨gg (grid0.coords t), gg_lt _⟩ (y 1) (tt (grid0.coords t) - 16) (y 2) (y 3) ?_ ?_ ?_ ?_)
  · refine (((cfgm m).win 13).rect_emb_val t y (0 : Fin 4) rfl).trans ?_
    rw [ix_13 m t]
    show gg (grid0.coords t) * 1 + (y 0).val = gg (grid0.coords t); omega
  · refine (((cfgm m).win 13).rect_emb_val t y (1 : Fin 4) rfl).trans ?_
    rw [ix_13 m t]
    show 0 * 2 + (y 1).val = (y 1).val; omega
  · refine (((cfgm m).win 13).rect_emb_val t y (2 : Fin 4) rfl).trans ?_
    rw [ix_13 m t]
    rfl
  · refine (((cfgm m).win 13).rect_emb_val t y (3 : Fin 4) rfl).trans ?_
    rw [ix_13 m t]
    show 0 * 256 + (y 3).val = (y 3).val; omega

theorem place14 (t : Fin (cfgm m).N) (y : S1x256x256.Idx) :
    dkC m c t y = dkArr m c (((cfgm m).win 14).blk t |>.view.emb y) := by
  have hy : (y 0).val < 1 := (y 0).isLt
  refine Eq.symm (dkArr_of m c _ ⟨gg (grid0.coords t), gg_lt _⟩ (tt (grid0.coords t) - 16) (y 1) (y 2) ?_ ?_ ?_)
  · refine (((cfgm m).win 14).rect_emb_val t y (0 : Fin 3) rfl).trans ?_
    rw [ix_14 m t]
    show gg (grid0.coords t) * 1 + (y 0).val = gg (grid0.coords t); omega
  · refine (((cfgm m).win 14).rect_emb_val t y (1 : Fin 3) rfl).trans ?_
    rw [ix_14 m t]
    rfl
  · refine (((cfgm m).win 14).rect_emb_val t y (2 : Fin 3) rfl).trans ?_
    rw [ix_14 m t]
    show 0 * 256 + (y 2).val = (y 2).val; omega

theorem place15 (t : Fin (cfgm m).N) (y : S1x256x256.Idx) :
    dvC m c t y = dvArr m c (((cfgm m).win 15).blk t |>.view.emb y) := by
  have hy : (y 0).val < 1 := (y 0).isLt
  refine Eq.symm (dvArr_of m c _ ⟨gg (grid0.coords t), gg_lt _⟩ (tt (grid0.coords t) - 16) (y 1) (y 2) ?_ ?_ ?_)
  · refine (((cfgm m).win 15).rect_emb_val t y (0 : Fin 3) rfl).trans ?_
    rw [ix_15 m t]
    show gg (grid0.coords t) * 1 + (y 0).val = gg (grid0.coords t); omega
  · refine (((cfgm m).win 15).rect_emb_val t y (1 : Fin 3) rfl).trans ?_
    rw [ix_15 m t]
    rfl
  · refine (((cfgm m).win 15).rect_emb_val t y (2 : Fin 3) rfl).trans ?_
    rw [ix_15 m t]
    show 0 * 256 + (y 2).val = (y 2).val; omega

theorem arr13 : (datsV m 0 c).arrAt 13 (cfgm m).N = dqArr m c :=
  (datsV m 0 c).arrAt_eq_of_covers 13 _ (covers13 m) (fun t _ y => place13 m c t y) (Memref.isWhole_whole _)

theorem arr14 : (datsV m 0 c).arrAt 14 (cfgm m).N = dkArr m c :=
  (datsV m 0 c).arrAt_eq_of_covers 14 _ (covers14 m) (fun t _ y => place14 m c t y) (Memref.isWhole_whole _)

theorem arr15 : (datsV m 0 c).arrAt 15 (cfgm m).N = dvArr m c :=
  (datsV m 0 c).arrAt_eq_of_covers 15 _ (covers15 m) (fun t _ y => place15 m c t y) (Memref.isWhole_whole _)

end Cert.KernelIdeal.Swa
end
-- ==== Proof.Value.Tables.lean ====
module

public import proofs.«01_k».proof.Proof.Value.Host
public import proofs.«01_k».proof.Proof.Value.Obl
public import Idealize.ShloMosaic.Lib.WordCmp
public import proofs.«01_k».proof.Pre_segments_in_order

/-!
The tables of the segment boundaries, for segments in order: a pair of tiles past a key tile's trip count shares no segment,
and a pair whose ends agree is one segment throughout.
-/

@[expose] public section

set_option maxRecDepth 16384

noncomputable section

namespace Cert.KernelIdeal.Swa

open Cert.KernelIdeal Cert.KernelIdeal.Gen
open Idealize.ShloMosaic Idealize.ShloMosaic.TcCoe

variable (m : (ℓ : Loc nD τ sig) → Buf (Elt Ideal) ℓ) (c : Dev nD)

/-- The segments are in order. -/
def Sorted : Prop := ∀ a b : Fin 65536, a.val ≤ b.val → (aseg m c (ix2 0 a) : BitVec 32).toInt ≤ (aseg m c (ix2 0 b) : BitVec 32).toInt

theorem sorted_of_succ (h : ∀ n, (h' : n + 1 < 65536) → (aseg m c (ix2 0 ⟨n, Nat.lt_of_succ_lt h'⟩) : BitVec 32).toInt ≤ (aseg m c (ix2 0 ⟨n + 1, h'⟩) : BitVec 32).toInt) :
    Sorted m c := by
  intro a b hab
  obtain ⟨b, hb⟩ := b
  induction b with
  | zero => obtain rfl : a = ⟨0, hb⟩ := Fin.ext (Nat.le_zero.1 hab); exact le_refl _
  | succ n ih =>
    rcases Nat.lt_or_ge a.val (n + 1) with h1 | h1
    · exact (ih (Nat.lt_of_succ_lt hb) (by show a.val ≤ n; omega)).trans (h n hb)
    · obtain rfl : a = ⟨n + 1, hb⟩ := Fin.ext (by have : a.val ≤ n + 1 := hab; show a.val = n + 1; omega)
      exact le_refl _

/-- The precondition, read. -/
theorem sorted_of_pre [Cert.Pre_segments_in_order.Facts]
    (h : Cert.Pre_segments_in_order.fn (F := Ideal) (aq m c) (aqs m c) (ak m c) (aks m c) (av m c) (avs m c) (ao m c) (aos m c) (aout m c) (alse m c) (aseg m c) = constantI _ 1 1#1) :
    Sorted m c := by
  refine sorted_of_succ m c fun n h' => ?_
  have e := congrFun h (ix2 0 ⟨n, by omega⟩)
  have e' : Cert.Pre_segments_in_order.fn (F := Ideal) (aq m c) (aqs m c) (ak m c) (aks m c) (av m c) (avs m c) (ao m c) (aos m c) (aout m c) (alse m c) (aseg m c) (ix2 0 ⟨n, by omega⟩)
      = Scalar.cmpi .sle (aseg m c (ix2 0 ⟨n, Nat.lt_of_succ_lt h'⟩)) (aseg m c (ix2 0 ⟨n + 1, h'⟩)) := by
    unfold Cert.Pre_segments_in_order.fn
    pointwise
    exact congrArg (fun k => IntOp.cmpi .sle (aseg m c (ix2 0 ⟨n, Nat.lt_of_succ_lt h'⟩)) (aseg m c (ix2 0 k))) (Fin.ext (Nat.add_comm 1 n))
  rw [e'] at e
  have e2 : BitVec.ofBool (decide ((aseg m c (ix2 0 ⟨n, Nat.lt_of_succ_lt h'⟩) : BitVec 32).toInt ≤ (aseg m c (ix2 0 ⟨n + 1, h'⟩) : BitVec 32).toInt)) = 1#1 := e
  by_contra hc
  rw [decide_eq_false hc] at e2
  exact absurd e2 (by decide)

variable {m c}

theorem seg_le (hs : Sorted m c) (g : Fin 4) {i j : ℕ} (a b : Fin 256) (hi : i < 256) (hj : j < 256) (h : 256 * i + a.val ≤ 256 * j + b.val) :
    ((arrOf m c g).seg i a : BitVec 32).toInt ≤ ((arrOf m c g).seg j b : BitVec 32).toInt := by
  show (V₀ m c (Proc.devRef .tc main_arg10) (ix2 0 (tok i a)) : BitVec 32).toInt ≤ (V₀ m c (Proc.devRef .tc main_arg10) (ix2 0 (tok j b)) : BitVec 32).toInt
  rw [seg_read, seg_read]
  refine hs _ _ ?_
  show 256 * (i % 256) + a.val ≤ 256 * (j % 256) + b.val
  rw [Nat.mod_eq_of_lt hi, Nat.mod_eq_of_lt hj]
  exact h

theorem sf_at (g : Fin 4) (j : Fin 256) : (V₀ m c (Proc.devRef .tc main_v26) : Vec Ideal S256 .i32) (ix1 j) = (arrOf m c g).seg j.val 0 :=
  (sf_read m c j).trans (seg_read m c _).symm
theorem sl_at (g : Fin 4) (j : Fin 256) : (V₀ m c (Proc.devRef .tc main_v28) : Vec Ideal S256 .i32) (ix1 j) = (arrOf m c g).seg j.val 255 :=
  (sl_read m c j).trans (seg_read m c _).symm

/-- A pair of tiles with the later tile's first segment not the earlier tile's last shares none. -/
theorem dead_of_ne (hs : Sorted m c) (g : Fin 4) {j i : ℕ} (hji : j < i) (hi : i < 256)
    (h : (arrOf m c g).seg i 0 ≠ (arrOf m c g).seg j 255) : Dead (arrOf m c g) j i := by
  intro b a hv
  have e := hv.2.2
  have h1 := seg_le hs g b 255 (i := j) (j := j) (by omega) (by omega) (by have := b.isLt; show _ ≤ 256 * j + 255; omega)
  have h2 := seg_le hs g (255 : Fin 256) 0 (i := j) (j := i) (by omega) hi (by show 256 * j + 255 ≤ 256 * i + 0; omega)
  have h3 := seg_le hs g (0 : Fin 256) a (i := i) (j := i) hi hi (by show 256 * i + 0 ≤ _; omega)
  rw [e] at h1
  exact h (BitVec.eq_of_toInt_eq (by omega))

/-- A count of a set of distances closed downwards: what is at or past the count is not in it. -/
theorem count_le (P : Fin 17 → Prop) [DecidablePred P] (hP : ∀ a b : Fin 17, a.val ≤ b.val → P b → P a) (d : Fin 17)
    (h : (∑ x : Fin 17, if P x then 1 else 0) ≤ d.val) : ¬ P d := by
  intro hd
  have h1 : (∑ x : Fin 17, if x.val ≤ d.val then 1 else 0) ≤ ∑ x : Fin 17, if P x then 1 else 0 :=
    Finset.sum_le_sum fun x _ => by
      by_cases hx : x.val ≤ d.val
      · rw [if_pos hx, if_pos (hP x d hx hd)]
      · rw [if_neg hx]; exact Nat.zero_le _
  have h2 : (∑ x : Fin 17, if x.val ≤ d.val then 1 else 0) = d.val + 1 := (by decide : ∀ d : Fin 17, (∑ x : Fin 17, if x.val ≤ d.val then 1 else 0) = d.val + 1) d
  omega

theorem nhi_fit (j : ℕ) (hj : j < 256) (c' : Dev nD) : (at256 (V₀ m c' (Proc.devRef .tc main_v58)) j : BitVec 32).toNat
    = ∑ d : Fin 17, if live (V₀ m c' (Proc.devRef .tc main_v26)) (V₀ m c' (Proc.devRef .tc main_v28)) (ix2 ⟨j % 256, Nat.mod_lt _ (by decide)⟩ d) = 1#1 then 1 else 0 := by
  unfold at256
  rw [nhi_read, nhiOf_at, BitVec.toNat_ofNat]
  refine Nat.mod_eq_of_lt (lt_of_le_of_lt (Finset.sum_le_card_nsmul _ _ 1 fun d _ => ?_) (by simp))
  split <;> omega

theorem dead_past (hs : Sorted m c) (g : Fin 4) (j : ℕ) (hj : j < 256) (i : ℕ) (hi : i < 256)
    (h : j + (at256 (V₀ m c (Proc.devRef .tc main_v58)) j : BitVec 32).toNat ≤ i) : Dead (arrOf m c g) j i := by
  rw [nhi_fit j hj c] at h
  by_cases h16 : j + 16 < i
  · exact dead_above _ h16
  have hj0 : (⟨j % 256, Nat.mod_lt _ (by decide)⟩ : Fin 256) = ⟨j, hj⟩ := Fin.ext (Nat.mod_eq_of_lt hj)
  rw [hj0] at h
  have hn := count_le (fun d => live (V₀ m c (Proc.devRef .tc main_v26)) (V₀ m c (Proc.devRef .tc main_v28)) (ix2 ⟨j, hj⟩ d) = 1#1) (fun a b hab hb => by
      rw [live_at] at hb ⊢
      rcases hb with hb | ⟨h1, h2⟩
      · left; omega
      · rcases Nat.eq_zero_or_pos a.val with ha | ha
        · left; exact ha
        right
        refine ⟨by show j + a.val < 256; have : j + b.val < 256 := h1; omega, ?_⟩
        rw [sf_at g, sl_at g] at h2 ⊢
        have hb' : j + b.val < 256 := h1
        have k1 := seg_le hs g (255 : Fin 256) 0 (i := j) (j := j + a.val) hj (by omega) (by show 256 * j + 255 ≤ 256 * (j + a.val) + 0; omega)
        have k2 := seg_le hs g (0 : Fin 256) 0 (i := j + a.val) (j := j + b.val) (by omega) hb' (by omega)
        rw [show (arrOf m c g).seg (j + b.val) 0 = (arrOf m c g).seg j 255 from h2] at k2
        exact BitVec.eq_of_toInt_eq (le_antisymm k2 k1)) ⟨i - j, by omega⟩ (by show _ ≤ i - j; omega)
  rw [live_at] at hn
  push Not at hn
  obtain ⟨hn1, hn2⟩ := hn
  have hlt : j < i := by have : ¬ (i - j = 0) := hn1; omega
  have e := hn2 (by show j + (i - j) < 256; omega)
  rw [sf_at g, sl_at g] at e
  refine dead_of_ne hs g hlt hi ?_
  rwa [show (⟨j + (i - j), by omega⟩ : Fin 256).val = i from by show j + (i - j) = i; omega] at e

theorem one_seg (hs : Sorted m c) (g : Fin 4) (j d : ℕ) (hd : 0 < d) (hjd : j + d < 256)
    (h : (at256 (V₀ m c (Proc.devRef .tc main_v26)) j : BitVec 32) = at256 (V₀ m c (Proc.devRef .tc main_v28)) (j + d)) (a b : Fin 256) :
    (arrOf m c g).seg j b = (arrOf m c g).seg (j + d) a := by
  unfold at256 at h
  rw [sf_at g, sl_at g] at h
  have h' : (arrOf m c g).seg j 0 = (arrOf m c g).seg (j + d) 255 := by
    have e1 : j % 256 = j := Nat.mod_eq_of_lt (by omega)
    have e2 : (j + d) % 256 = j + d := Nat.mod_eq_of_lt hjd
    rwa [show (⟨j % 256, Nat.mod_lt _ (by decide)⟩ : Fin 256).val = j from e1, show (⟨(j + d) % 256, Nat.mod_lt _ (by decide)⟩ : Fin 256).val = j + d from e2] at h
  have hj : j < 256 := by omega
  have k1 := seg_le hs g (0 : Fin 256) b (i := j) (j := j) hj hj (by show 256 * j + 0 ≤ _; omega)
  have k2 := seg_le hs g b a (i := j) (j := j + d) hj hjd (by have := b.isLt; omega)
  have k3 := seg_le hs g a 255 (i := j + d) (j := j + d) hjd hjd (by have := a.isLt; show _ ≤ 256 * (j + d) + 255; omega)
  rw [h'] at k1
  exact BitVec.eq_of_toInt_eq (by omega)

theorem tbls_ok (hs : ∀ c, Sorted m c) : TblsOk m := fun c t => {
  qk := fun r => blk0 m c t _ r
  dov := fun r => blk1 m c t _ r
  dos := fun r => blk4 m c t _ r
  qs := fun r => blk3 m c t _ r
  ks := blk2 m c t _
  fit := fun j hj => by
    show (at256 (V₀ m c (Proc.devRef .tc main_v58)) j : BitVec 32).toNat ≤ 17 ∧ j + (at256 (V₀ m c (Proc.devRef .tc main_v58)) j : BitVec 32).toNat ≤ 256
    obtain ⟨n, e, h1, h2, h3⟩ := nhiOf_fits (V₀ m c (Proc.devRef .tc main_v26)) (V₀ m c (Proc.devRef .tc main_v28)) ⟨j % 256, Nat.mod_lt _ (by decide)⟩
    have h4 : j % 256 + n ≤ 256 := h3
    rw [Nat.mod_eq_of_lt hj] at h4
    have e' : (at256 (V₀ m c (Proc.devRef .tc main_v58)) j : BitVec 32).toNat = n := by
      unfold at256
      rw [nhi_read, e, BitVec.toNat_ofNat]
      exact Nat.mod_eq_of_lt (by omega)
    rw [e']
    exact ⟨h2, h4⟩
  dead := fun j hj i hi h => dead_past (hs c) _ j hj i hi h
  one := fun j d hd _ hjd h a b => one_seg (hs c) _ j d hd hjd h a b }

end Cert.KernelIdeal.Swa
end
-- ==== Proof.Value.Tail.lean ====
module

public import proofs.«01_k».proof.Proof.Value.Out
public import proofs.«01_k».proof.Proof.Value.Tables

/-!
The run with its three results in closed form: the launch, and the host lines after it.
-/

@[expose] public section

set_option maxRecDepth 16384

noncomputable section

namespace Cert.KernelIdeal.Swa

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

variable (m : (ℓ : Loc nD τ sig) → Buf (Elt Ideal) ℓ) (c : Dev nD)

/-- The run from any memory whose tables fit. -/
theorem runV (hT : TblsOk m) (g : Dev nD → PrngReg) :
    θ_run (defs (F := Ideal)) (onTc (τ := τ) (main (F := Ideal))) ⟨m, fun _ => 0, g⟩ fun r =>
      Pipeline.FramePost (Pipeline.pin (pcfgs (F := Ideal)) (adm m)) (datsV m) 0
        (Pipeline.afterTail (pcfgs (F := Ideal)) (adm m) (datsV m) 0 (V₀ m) [hostOps1]) r := by
  have hb : ∀ c, Pipeline.BodyObligationLoose (datsV m 0 c) defs₀ Variants.none () Set.univ := value_obligation m hT
  have hm := hmain m Variants.none
  have hi : ∀ c, iprop(Pipeline.ΦA (Val := Elt Ideal) (U := UR sig nD τ) spec0 c ∗ Pipeline.ΦT pre0 (adm m 0).1 c) ⊢ (datsV m 0 c).Φ 0 :=
    fun c => hin m (invV m c) (fun _ i _ hi _ => absurd hi (Nat.not_lt_zero i)) c
  have ho : ∀ c, (datsV m 0 c).Φ (Fin.last (cfgm m).N) ⊢ Pipeline.ΦA (Val := Elt Ideal) (U := UR sig nD τ) spec0 c := fun c => hout m (invV m c) c (Fin.last (cfgm m).N).val
  have hp : ∀ c k, V₀ m c (Proc.devRef .tc (pre0.ref k)) = (adm m 0).1 k := fun c k => by obtain rfl : c = 0 := Subsingleton.elim _ _; rfl
  have hA : ∀ c w, (datsV m 0 c).A w = V₀ m c (Proc.devRef .tc (Pipeline.arrRef spec0 w)) := fun _ _ => rfl
  have hq : ∀ c w, (spec0 w).isOut = false → (datsV m 0 c).q w = Pipeline.shareOf spec0 w := fun _ _ _ => rfl
  have hw : ∀ c t, (datsV m 0 c).owed t = 0 := fun _ _ => rfl
  exact Pipeline.θ_run_frameP_around_track_shared (pcfgs (F := Ideal)) (adm m) (datsV m) 0 launch₀0 defs₀ Variants.none m g main
    hb hq hw (V₀ m) [hostOps1] sfx_sub sfx_fresh sfx_keeps hm hA hp hi ho _ (fun _ h => h.1)

/-- What the later host lines run from. -/
def exitV : Valuation τ sig (Elt Ideal) :=
  Pipeline.withArrays spec0 c (V₀ m c) fun w => (datsV m 0 c).arrAt w (cfgm m).N

theorem exit13 : exitV m c (Proc.devRef .tc main_v64_0) = dqArr m c :=
  ((datsV m 0 c).withArrays_arrAt (launch₀0 (F := Ideal)).sharedIn (V₀ m c) (fun _ => rfl) 13).trans (arr13 m c)
theorem exit14 : exitV m c (Proc.devRef .tc main_v64_1) = dkArr m c :=
  ((datsV m 0 c).withArrays_arrAt (launch₀0 (F := Ideal)).sharedIn (V₀ m c) (fun _ => rfl) 14).trans (arr14 m c)
theorem exit15 : exitV m c (Proc.devRef .tc main_v64_2) = dvArr m c :=
  ((datsV m 0 c).withArrays_arrAt (launch₀0 (F := Ideal)).sharedIn (V₀ m c) (fun _ => rfl) 15).trans (arr15 m c)

/-- The results after the host lines. -/
def outV (b : Ref sig .tc) : Buf (Elt Ideal) ((c.tc : Thread nD τ).loc b) := StableHlo.after hostOps1 (exitV m c) (Proc.devRef .tc b)

theorem out66 (n : Fin 65536) (g : Fin 4) (r : Fin 2) (e : Fin 256) :
    (outV m c main_v66 : Vec Ideal S1x65536x8x256 .bf16) (ix4 0 n (hd g r) e) = dqF (arrOf m c g) r (n.val / 256) (rowOf n) e := by
  rw [show dqF (arrOf m c g) r (n.val / 256) (rowOf n) e = dqArr m c (ix4 g r n e) from rfl, ← exit13]
  unfold outV
  generalize exitV m c = V
  entry_read
  pointwise
  rw [show (⟨(hd g r).val / 2, _⟩ : Fin 4) = g from Fin.ext (show (2 * g.val + r.val) / 2 = g.val by omega),
    show (⟨(hd g r).val % 2, _⟩ : Fin 2) = r from Fin.ext (show (2 * g.val + r.val) % 2 = r.val by omega)]

theorem out68 (n : Fin 65536) (g : Fin 4) (e : Fin 256) :
    (outV m c main_v68 : Vec Ideal S1x65536x4x256 .bf16) (ix4 0 n g e) = dkF (arrOf m c g) (n.val / 256) (rowOf n) e := by
  rw [show dkF (arrOf m c g) (n.val / 256) (rowOf n) e = dkArr m c (ix3 g n e) from rfl, ← exit14]
  unfold outV
  generalize exitV m c = V
  entry_read
  pointwise

theorem out70 (n : Fin 65536) (g : Fin 4) (e : Fin 256) :
    (outV m c main_v70 : Vec Ideal S1x65536x4x256 .bf16) (ix4 0 n g e) = dvF (arrOf m c g) (n.val / 256) (rowOf n) e := by
  rw [show dvF (arrOf m c g) (n.val / 256) (rowOf n) e = dvArr m c (ix3 g n e) from rfl, ← exit15]
  unfold outV
  generalize exitV m c = V
  entry_read
  pointwise

end Cert.KernelIdeal.Swa
end
-- ==== Proof.ReferenceIdeal.Values.lean ====
module

public import proofs.«01_k».proof.Proof.Gen.ReferenceIdeal.Run
public import proofs.«01_k».proof.Proof.Gen.ReferenceIdeal.Read
public import Idealize.ShloMosaic.Lib.StableHlo.ReadAt
public import Idealize.ShloMosaic.Lib.WordCmp

/-!
The reference's three results, read at an index.
-/

@[expose] public section

set_option maxRecDepth 16384

noncomputable section

namespace Cert.ReferenceIdeal.Values

open Idealize.ShloMosaic Idealize.SL.Sem
open Cert.ReferenceIdeal Cert.ReferenceIdeal.Gen Cert.ReferenceIdeal.Read

/-- The head of the pair (key head, query head of it). -/
def hd (g : Fin 4) (r : Fin 2) : Fin 8 := ⟨2 * g.val + r.val, by omega⟩

theorem hd_eq (g : Fin 4) (r : Fin 2) (h) : (⟨g.val * 2 + r.val, h⟩ : Fin 8) = hd g r := Fin.ext (by show g.val * 2 + r.val = 2 * g.val + r.val; omega)

theorem zero_f32 : Ideal.ofBits FTy.f32 0x00000000#32 = (0 : EReal) := by
  simp [Ideal.ofBits, Ideal.ieee, -EReal.coe_mul]
theorem neg_f32 : Ideal.ofBits FTy.f32 0xFF800000#32 = (⊥ : EReal) := by
  simp [Ideal.ofBits, Ideal.ieee, -EReal.coe_mul]

/-- The 1/16 of the scores. -/
def sm : EReal := Ideal.ofBits FTy.f32 0x3D800000#32

variable (x1 : Vec Ideal S8 .f32) (x3 x5 : Vec Ideal S4 .f32) (x7 : Vec Ideal S8 .f32)
  (x8 : Vec Ideal S1x65536x8x256 .bf16) (x9 : Vec Ideal S1x8x65536 .f32) (x10 : Vec Ideal S1x65536 .i32)
  (r0 : Vec Ideal S1x65536x8x256 .bf16) (r1 r2 : Vec Ideal S1x65536x4x256 .bf16) (r3 : Vec Ideal S1x65536x8x256 .bf16)

theorem q_at (n : Fin 65536) (g : Fin 4) (r : Fin 2) (d : Fin 256) : val_main_v8 (F := Ideal) r0 (ix4 n g r d) = r0 (ix4 0 n (hd g r) d) := by
  unfold val_main_v8
  pointwise
  rw [hd_eq]
theorem o_at (n : Fin 65536) (g : Fin 4) (r : Fin 2) (d : Fin 256) : val_main_v9 (F := Ideal) r3 (ix4 n g r d) = r3 (ix4 0 n (hd g r) d) := by
  unfold val_main_v9
  pointwise
  rw [hd_eq]
theorem k_at (n : Fin 65536) (g : Fin 4) (d : Fin 256) : val_main_v10 (F := Ideal) r1 (ix3 n g d) = r1 (ix4 0 n g d) := by
  unfold val_main_v10
  pointwise
theorem v_at (n : Fin 65536) (g : Fin 4) (d : Fin 256) : val_main_v11 (F := Ideal) r2 (ix3 n g d) = r2 (ix4 0 n g d) := by
  unfold val_main_v11
  pointwise

theorem dot_at (g : Fin 4) (r : Fin 2) (n k : Fin 65536) :
    val_main_v42 (F := Ideal) r0 r1 (ix4 g k n r) = ∑ d : Fin 256, r1 (ix4 0 k g d) * r0 (ix4 0 n (hd g r) d) := by
  rw [val_main_v42_apply]
  refine Finset.sum_congr rfl fun d _ => ?_
  rw [← k_at r1, ← q_at r0]
  exact congrArg₂ (· * ·) (congrArg (val_main_v10 (F := Ideal) r1) (by funext a; fin_cases a <;> rfl))
    (congrArg (val_main_v8 (F := Ideal) r0) (by funext a; fin_cases a <;> rfl))

theorem dotv_at (g : Fin 4) (r : Fin 2) (n k : Fin 65536) :
    val_main_v55 (F := Ideal) r2 r3 (ix4 g k n r) = ∑ d : Fin 256, r2 (ix4 0 k g d) * r3 (ix4 0 n (hd g r) d) := by
  rw [val_main_v55_apply]
  refine Finset.sum_congr rfl fun d _ => ?_
  rw [← v_at r2, ← o_at r3]
  exact congrArg₂ (· * ·) (congrArg (val_main_v11 (F := Ideal) r2) (by funext a; fin_cases a <;> rfl))
    (congrArg (val_main_v9 (F := Ideal) r3) (by funext a; fin_cases a <;> rfl))

/-- A score before the mask, less the row's log-sum-exp. -/
theorem s_at (g : Fin 4) (r : Fin 2) (n k : Fin 65536) :
    val_main_v52 (F := Ideal) x1 x3 x9 r0 r1 (ix4 g r n k)
      = (∑ d : Fin 256, r1 (ix4 0 k g d) * r0 (ix4 0 n (hd g r) d)) * (x1 (ix1 (hd g r)) * x3 (ix1 g) * sm) - x9 (ix3 0 (hd g r) n) := by
  unfold val_main_v52 val_main_v46 val_main_v51 val_main_v50 val_main_v47 val_main_v43 val_main_v45 val_main_v44 val_main_v18 val_main_v16
    val_main_v17 val_main_v12 val_main_v15 val_main_v14 val_main_cst_0
  pointwise
  rw [hd_eq, dot_at]
  rfl

theorem toInt_small (a : ℕ) (h : a < 65536) : (BitVec.ofNat 32 a).toInt = a := by
  rw [WordCmp.toInt_eq_toNat_of_lt_half] <;> rw [BitVec.toNat_ofNat, Nat.mod_eq_of_lt (by omega)]
  omega
theorem and_one (a b : BitVec 1) : IntOp.andi a b = 1#1 ↔ a = 1#1 ∧ b = 1#1 := by revert a b; decide
theorem one_iff (p : Prop) [Decidable p] : BitVec.ofBool (decide p) = 1#1 ↔ p := by by_cases h : p <;> simp [h]

/-- The mask: the key is not after the query, within the window, in the same segment. -/
theorem mask_at (n k : Fin 65536) :
    val_main_v41 (F := Ideal) x10 (ix2 n k) = 1#1 ↔ k.val ≤ n.val ∧ n.val < k.val + 4096 ∧ x10 (ix2 0 k) = x10 (ix2 0 n) := by
  have e1 : val_main_v26 (F := Ideal) (ix2 0 k) = BitVec.ofNat 32 k.val := by
    unfold val_main_v26 val_main_v25
    pointwise
  have e2 : val_main_v24 (F := Ideal) (ix2 n 0) = BitVec.ofNat 32 n.val := by
    unfold val_main_v24 val_main_v23
    pointwise
  have hn := n.isLt
  have hk := k.isLt
  have tn : (BitVec.ofNat 32 n.val).toInt = n.val := toInt_small _ (by omega)
  have tk : (BitVec.ofNat 32 k.val).toInt = k.val := toInt_small _ (by omega)
  have ts : (BitVec.ofNat 32 n.val - 4096#32).toInt = (n.val : ℤ) - 4096 := by
    rw [BitVec.toInt_sub, tn, show (4096#32).toInt = 4096 from by decide]
    apply Int.bmod_eq_of_le <;> omega
  unfold val_main_v41 val_main_v35 val_main_v40 val_main_v38 val_main_v39 val_main_v36 val_main_v37 val_main_v22 val_main_v29 val_main_v34
    val_main_v27 val_main_v28 val_main_v32 val_main_v33 val_main_v31 val_main_v30 val_main_c
  pointwise
  rw [e1, e2, and_one, and_one, WordCmp.cmpi_sle_eq, WordCmp.cmpi_sgt_eq, WordCmp.cmpi_eq_eq, one_iff, one_iff, one_iff, tk, tn,
    show (IntOp.subi (BitVec.ofNat 32 n.val) 4096#32).toInt = (n.val : ℤ) - 4096 from ts]
  constructor
  · rintro ⟨⟨h1, h2⟩, h3⟩
    exact ⟨by omega, by omega, h3.symm⟩
  · rintro ⟨h1, h2, h3⟩
    exact ⟨⟨by omega, by omega⟩, h3.symm⟩

/-- A query row's output against its gradient. -/
theorem delta_at (n : Fin 65536) (g : Fin 4) (r : Fin 2) :
    val_main_v49 (F := Ideal) x7 x8 r3 (ix3 g r n)
      = ∑ d : Fin 256, r3 (ix4 0 n (hd g r) d) * x7 (ix1 (hd g r)) * x8 (ix4 0 n (hd g r) d) := by
  unfold val_main_v49 val_main_v48
  pointwise
  rw [hd_eq, val_main_v7_apply, show val_main_cst (F := Ideal) (Shape.Idx.first h_S_) = (0 : EReal) from zero_f32, zero_add]
  refine Finset.sum_congr rfl fun d _ => ?_
  rw [show idx_main_v7 (ix3 0 n (hd g r)) d = ix4 0 n (hd g r) d from by funext a; fin_cases a <;> rfl]
  unfold val_main_v6 val_main_v4 val_main_v3 val_main_v2 val_main_v1 val_main_v5
  pointwise
  rfl

theorem dp_at (g : Fin 4) (r : Fin 2) (n k : Fin 65536) :
    val_main_v62 (F := Ideal) x5 x7 x8 r2 r3 (ix4 g r n k)
      = (∑ d : Fin 256, r2 (ix4 0 k g d) * r3 (ix4 0 n (hd g r) d)) * (x7 (ix1 (hd g r)) * x5 (ix1 g))
        - ∑ d : Fin 256, r3 (ix4 0 n (hd g r) d) * x7 (ix1 (hd g r)) * x8 (ix4 0 n (hd g r) d) := by
  unfold val_main_v62 val_main_v59 val_main_v61 val_main_v60 val_main_v56 val_main_v58 val_main_v57 val_main_v21 val_main_v13 val_main_v20 val_main_v19
  pointwise
  rw [hd_eq, dotv_at, delta_at]
  rfl

/-- Query `n` sees key `k`. -/
def Sees (n k : Fin 65536) : Prop := k.val ≤ n.val ∧ n.val < k.val + 4096 ∧ x10 (ix2 0 k) = x10 (ix2 0 n)

open Classical in
/-- The weight of a pair. -/
def wR (g : Fin 4) (r : Fin 2) (n k : Fin 65536) : EReal :=
  if Sees x10 n k then Ideal.exp ((∑ d : Fin 256, r1 (ix4 0 k g d) * r0 (ix4 0 n (hd g r) d)) * (x1 (ix1 (hd g r)) * x3 (ix1 g) * sm) - x9 (ix3 0 (hd g r) n)) else 0

/-- The gradient of a pair's score. -/
def dsR (g : Fin 4) (r : Fin 2) (n k : Fin 65536) : EReal :=
  wR x1 x3 x9 x10 r0 r1 g r n k * ((∑ d : Fin 256, r2 (ix4 0 k g d) * r3 (ix4 0 n (hd g r) d)) * (x7 (ix1 (hd g r)) * x5 (ix1 g))
    - ∑ d : Fin 256, r3 (ix4 0 n (hd g r) d) * x7 (ix1 (hd g r)) * x8 (ix4 0 n (hd g r) d))

theorem w_at (g : Fin 4) (r : Fin 2) (n k : Fin 65536) :
    val_main_v54 (F := Ideal) x1 x3 x9 x10 r0 r1 (ix4 g r n k) = wR x1 x3 x9 x10 r0 r1 g r n k := by
  rw [val_main_v54_apply, val_main_v53_apply, s_at, val_main_call0_v1_apply,
    show idx_main_call0_v1 (ix4 g r n k) = ix2 n k from by funext a; fin_cases a <;> rfl]
  unfold wR
  by_cases h : Sees x10 n k
  · rw [if_pos h, WordCmp.select_of_eq_one ((mask_at x10 n k).2 h)]
    rfl
  · rw [if_neg h, WordCmp.select_of_eq_zero ((BitVec.eq_zero_or_eq_one _).resolve_right fun e => h ((mask_at x10 n k).1 e)),
      val_main_call0_v2_apply, val_main_call0_v0_apply, val_main_cst_1_apply]
    show Ideal.exp (Ideal.ofBits FTy.f32 0xFF800000#32) = 0
    rw [neg_f32]
    rfl

theorem ds_at (g : Fin 4) (r : Fin 2) (n k : Fin 65536) :
    val_main_v64 (F := Ideal) x1 x3 x5 x7 x8 x9 x10 r0 r1 r2 r3 (ix4 g r n k) = dsR x1 x3 x5 x7 x8 x9 x10 r0 r1 r2 r3 g r n k := by
  rw [val_main_v64_apply, val_main_v63_apply, w_at, dp_at]
  rfl

/-- The query gradient. -/
theorem dq_at (n : Fin 65536) (g : Fin 4) (r : Fin 2) (e : Fin 256) :
    val_main_v88 (F := Ideal) x1 x3 x5 x7 x8 x9 x10 r0 r1 r2 r3 (ix4 0 n (hd g r) e)
      = (∑ k : Fin 65536, r1 (ix4 0 k g e) * dsR x1 x3 x5 x7 x8 x9 x10 r0 r1 r2 r3 g r n k) * (x3 (ix1 g) * sm) := by
  rw [val_main_v88_apply, val_main_v87_apply,
    show idx_main_v87 (ix4 0 n (hd g r) e) = ix4 n g r e from by
      funext a
      refine Fin.ext ?_
      have h1 := n.isLt
      have h2 := g.isLt
      have h3 := r.isLt
      have h4 := e.isLt
      fin_cases a
      · show (((0 * 65536 + n.val) * 8 + (2 * g.val + r.val)) * 256 + e.val) / 2048 = n.val; omega
      · show (((0 * 65536 + n.val) * 8 + (2 * g.val + r.val)) * 256 + e.val) / 512 % 4 = g.val; omega
      · show (((0 * 65536 + n.val) * 8 + (2 * g.val + r.val)) * 256 + e.val) / 256 % 2 = r.val; omega
      · show (((0 * 65536 + n.val) * 8 + (2 * g.val + r.val)) * 256 + e.val) % 256 = e.val; omega,
    val_main_v72_apply, val_main_v67_apply, val_main_v66_apply]
  refine congrArg₂ (fun a b : EReal => a * b) (Finset.sum_congr rfl fun k _ => ?_) ?_
  · rw [← ds_at, ← k_at r1]
    exact congrArg₂ (fun a b : EReal => a * b) (congrArg (val_main_v10 (F := Ideal) r1) (by funext a; fin_cases a <;> rfl))
      (congrArg (val_main_v64 (F := Ideal) x1 x3 x5 x7 x8 x9 x10 r0 r1 r2 r3) (by funext a; fin_cases a <;> rfl))
  · unfold val_main_v71 val_main_v70 val_main_v69 val_main_v68 val_main_cst_2
    pointwise
    rfl

/-- The key gradient. -/
theorem dk_at (k : Fin 65536) (g : Fin 4) (e : Fin 256) :
    val_main_v90 (F := Ideal) x1 x3 x5 x7 x8 x9 x10 r0 r1 r2 r3 (ix4 0 k g e)
      = ∑ r : Fin 2, (∑ n : Fin 65536, r0 (ix4 0 n (hd g r) e) * dsR x1 x3 x5 x7 x8 x9 x10 r0 r1 r2 r3 g r n k) * (x1 (ix1 (hd g r)) * sm) := by
  rw [val_main_v90_apply, val_main_v89_apply,
    show idx_main_v89 (ix4 0 k g e) = ix3 k g e from by
      funext a
      refine Fin.ext ?_
      have h1 := k.isLt
      have h2 := g.isLt
      have h4 := e.isLt
      fin_cases a
      · show (((0 * 65536 + k.val) * 4 + g.val) * 256 + e.val) / 1024 = k.val; omega
      · show (((0 * 65536 + k.val) * 4 + g.val) * 256 + e.val) / 256 % 4 = g.val; omega
      · show (((0 * 65536 + k.val) * 4 + g.val) * 256 + e.val) % 256 = e.val; omega,
    val_main_v80_apply, show val_main_cst_4 (F := Ideal) (Shape.Idx.first h_S_) = (0 : EReal) from zero_f32, zero_add]
  refine Finset.sum_congr rfl fun r _ => ?_
  rw [show idx_main_v80 (ix3 k g e) r = ix4 k g r e from by funext a; fin_cases a <;> rfl, val_main_v79_apply, val_main_v74_apply, val_main_v73_apply]
  refine congrArg₂ (fun a b : EReal => a * b) (Finset.sum_congr rfl fun n _ => ?_) ?_
  · rw [← ds_at, ← q_at r0]
    exact congrArg₂ (fun a b : EReal => a * b) (congrArg (val_main_v8 (F := Ideal) r0) (by funext a; fin_cases a <;> rfl))
      (congrArg (val_main_v64 (F := Ideal) x1 x3 x5 x7 x8 x9 x10 r0 r1 r2 r3) (by funext a; fin_cases a <;> rfl))
  · unfold val_main_v78 val_main_v77 val_main_v76 val_main_v75 val_main_v12 val_main_cst_3
    pointwise
    rw [hd_eq]
    rfl

/-- The value gradient. -/
theorem dv_at (k : Fin 65536) (g : Fin 4) (e : Fin 256) :
    val_main_v92 (F := Ideal) x1 x3 x7 x9 x10 r0 r1 r3 (ix4 0 k g e)
      = ∑ r : Fin 2, (∑ n : Fin 65536, r3 (ix4 0 n (hd g r) e) * wR x1 x3 x9 x10 r0 r1 g r n k) * x7 (ix1 (hd g r)) := by
  rw [val_main_v92_apply, val_main_v91_apply,
    show idx_main_v91 (ix4 0 k g e) = ix3 k g e from by
      funext a
      refine Fin.ext ?_
      have h1 := k.isLt
      have h2 := g.isLt
      have h4 := e.isLt
      fin_cases a
      · show (((0 * 65536 + k.val) * 4 + g.val) * 256 + e.val) / 1024 = k.val; omega
      · show (((0 * 65536 + k.val) * 4 + g.val) * 256 + e.val) / 256 % 4 = g.val; omega
      · show (((0 * 65536 + k.val) * 4 + g.val) * 256 + e.val) % 256 = e.val; omega,
    val_main_v86_apply, show val_main_cst_5 (F := Ideal) (Shape.Idx.first h_S_) = (0 : EReal) from zero_f32, zero_add]
  refine Finset.sum_congr rfl fun r _ => ?_
  rw [show idx_main_v86 (ix3 k g e) r = ix4 k g r e from by funext a; fin_cases a <;> rfl, val_main_v85_apply, val_main_v82_apply, val_main_v81_apply]
  refine congrArg₂ (fun a b : EReal => a * b) (Finset.sum_congr rfl fun n _ => ?_) ?_
  · rw [← w_at, ← o_at r3]
    exact congrArg₂ (fun a b : EReal => a * b) (congrArg (val_main_v9 (F := Ideal) r3) (by funext a; fin_cases a <;> rfl))
      (congrArg (val_main_v54 (F := Ideal) x1 x3 x9 x10 r0 r1) (by funext a; fin_cases a <;> rfl))
  · unfold val_main_v84 val_main_v83 val_main_v13
    pointwise
    rw [hd_eq]

end Cert.ReferenceIdeal.Values
end
-- ==== Proof.Value.Equal.lean ====
module

public import proofs.«01_k».proof.Proof.Value.Tail
public import proofs.«01_k».proof.Proof.ReferenceIdeal.Values

/-!
The two programs' results are the same sums. The kernel keeps its scores times `1 / log 2` and raises two to them, the
reference raises `e` to the scores; the kernel sums tile by tile, the reference over all the tokens at once.
-/

@[expose] public section

set_option maxRecDepth 16384

noncomputable section

namespace Cert.KernelIdeal.Swa

open Cert.KernelIdeal Cert.KernelIdeal.Gen
open Idealize.ShloMosaic Idealize.ShloMosaic.TcCoe

theorem lg_eq : lg = (((Real.log 2)⁻¹ : ℝ) : EReal) := rfl

theorem lg_pos : (0 : ℝ) < (Real.log 2)⁻¹ := inv_pos.mpr (Real.log_pos one_lt_two)

/-- Two to the power of `x / log 2` is `e` to the power of `x`. -/
theorem exp2_lg (x : EReal) : Ideal.exp2 (x * lg) = Ideal.exp x := by
  rw [lg_eq]
  induction x using EReal.rec with
  | bot => rw [EReal.bot_mul_coe_of_pos lg_pos]; rfl
  | top => rw [EReal.top_mul_coe_of_pos lg_pos]; rfl
  | coe x =>
    rw [← EReal.coe_mul]
    show ((Real.rpow 2 (x * (Real.log 2)⁻¹) : ℝ) : EReal) = ((Real.exp x : ℝ) : EReal)
    have h : Real.rpow 2 (x * (Real.log 2)⁻¹) = Real.exp (Real.log 2 * (x * (Real.log 2)⁻¹)) := Real.rpow_def_of_pos two_pos _
    rw [h, mul_left_comm, mul_inv_cancel₀ (Real.log_pos one_lt_two).ne', mul_one]

/-- A difference times `1 / log 2`. -/
theorem sub_lg (x y : EReal) : x * lg - y * lg = (x - y) * lg := by
  rw [lg_eq]
  generalize (Real.log 2)⁻¹ = l, lg_pos = hl
  induction x using EReal.rec with
  | bot => rw [EReal.bot_mul_coe_of_pos hl, EReal.bot_sub, EReal.bot_sub, EReal.bot_mul_coe_of_pos hl]
  | top =>
    induction y using EReal.rec with
    | bot => rw [EReal.bot_mul_coe_of_pos hl, EReal.top_mul_coe_of_pos hl, EReal.top_sub_bot, EReal.top_mul_coe_of_pos hl]
    | top => rw [EReal.top_mul_coe_of_pos hl, EReal.sub_top, EReal.bot_mul_coe_of_pos hl]
    | coe y => rw [EReal.top_mul_coe_of_pos hl, ← EReal.coe_mul, EReal.top_sub_coe, EReal.top_sub_coe, EReal.top_mul_coe_of_pos hl]
  | coe x =>
    induction y using EReal.rec with
    | bot => rw [EReal.bot_mul_coe_of_pos hl, ← EReal.coe_mul, EReal.coe_sub_bot, EReal.coe_sub_bot, EReal.top_mul_coe_of_pos hl]
    | top => rw [EReal.top_mul_coe_of_pos hl, EReal.sub_top, EReal.sub_top, EReal.bot_mul_coe_of_pos hl]
    | coe y => rw [← EReal.coe_mul, ← EReal.coe_mul, ← EReal.coe_sub, ← EReal.coe_sub, ← EReal.coe_mul, sub_mul]

/-! ## Tokens by tile and row -/

theorem tok_of (n : Fin 65536) : tok (n.val / 256) (rowOf n) = n :=
  Fin.ext (by show 256 * (n.val / 256 % 256) + n.val % 256 = n.val; have := n.isLt; omega)

theorem tok_div (j : ℕ) (hj : j < 256) (b : Fin 256) : (tok j b).val / 256 = j := by
  show (256 * (j % 256) + b.val) / 256 = j
  have := b.isLt
  omega

theorem tok_row (j : ℕ) (b : Fin 256) : rowOf (tok j b) = b :=
  Fin.ext (by show (256 * (j % 256) + b.val) % 256 = b.val; have := b.isLt; omega)

/-- A sum over the tokens, tile by tile. -/
theorem sum_tok (f : Fin 65536 → EReal) : ∑ n, f n = ∑ j ∈ Finset.range 256, ∑ b : Fin 256, f (tok j b) := by
  rw [Fin.sum_univ_tiles 256 256 rfl f, Finset.sum_range]
  exact Finset.sum_congr rfl fun j _ => Finset.sum_congr rfl fun b _ => congrArg f (tok_eq j b _)

/-! ## The weights and their gradients -/

variable (m : (ℓ : Loc nD τ sig) → Buf (Elt Ideal) ℓ) (c : Dev nD)

theorem vis_iff (g : Fin 4) (n k : Fin 65536) :
    Vis (arrOf m c g) (k.val / 256) (n.val / 256) (rowOf k) (rowOf n) ↔ Cert.ReferenceIdeal.Values.Sees (aseg m c) n k := by
  have hk : 256 * (k.val / 256) + (rowOf k).val = k.val := Nat.div_add_mod _ _
  have hn : 256 * (n.val / 256) + (rowOf n).val = n.val := Nat.div_add_mod _ _
  have hs : ∀ x : Fin 65536, (arrOf m c g).seg (x.val / 256) (rowOf x) = aseg m c (ix2 0 x) := fun x => by
    show (V₀ m c (Proc.devRef .tc main_arg10) : Vec Ideal S1x65536 .i32) (ix2 0 (tok (x.val / 256) (rowOf x))) = _
    rw [seg_read, tok_of]
  unfold Vis Cert.ReferenceIdeal.Values.Sees
  rw [hk, hn, hs, hs]

theorem q_eq (g : Fin 4) (r : Fin 2) (n : Fin 65536) (d : Fin 256) :
    (arrOf m c g).q r (n.val / 256) (rowOf n) d = aq m c (ix4 0 n (hd g r) d) := by
  show (V₀ m c (Proc.devRef .tc main_v2) : Vec Ideal S4x2x65536x256 .fp8e4m3) (ix4 g r (tok (n.val / 256) (rowOf n)) d) = _
  rw [q_read, tok_of]
theorem o_eq (g : Fin 4) (r : Fin 2) (n : Fin 65536) (d : Fin 256) :
    (arrOf m c g).o r (n.val / 256) (rowOf n) d = ao m c (ix4 0 n (hd g r) d) := by
  show (V₀ m c (Proc.devRef .tc main_v5) : Vec Ideal S4x2x65536x256 .fp8e5m2) (ix4 g r (tok (n.val / 256) (rowOf n)) d) = _
  rw [o_read, tok_of]
theorem out_eq (g : Fin 4) (r : Fin 2) (n : Fin 65536) (d : Fin 256) :
    (arrOf m c g).out r (n.val / 256) (rowOf n) d = aout m c (ix4 0 n (hd g r) d) := by
  show (V₀ m c (Proc.devRef .tc main_v8) : Vec Ideal S4x2x65536x256 .bf16) (ix4 g r (tok (n.val / 256) (rowOf n)) d) = _
  rw [out_read, tok_of]
theorem lse_eq (g : Fin 4) (r : Fin 2) (n : Fin 65536) :
    (arrOf m c g).lse r (n.val / 256) (rowOf n) = alse m c (ix3 0 (hd g r) n) := by
  show (V₀ m c (Proc.devRef .tc main_v13) : Vec Ideal S4x2x1x65536 .f32) (ix4 g r 0 (tok (n.val / 256) (rowOf n))) = _
  rw [lse_read, tok_of]
theorem k_eq (g : Fin 4) (n : Fin 65536) (d : Fin 256) :
    (arrOf m c g).k (n.val / 256) (rowOf n) d = ak m c (ix4 0 n g d) := by
  show (V₀ m c (Proc.devRef .tc main_v10) : Vec Ideal S4x65536x256 .fp8e4m3) (ix3 g (tok (n.val / 256) (rowOf n)) d) = _
  rw [k_read, tok_of]
theorem v_eq (g : Fin 4) (n : Fin 65536) (d : Fin 256) :
    (arrOf m c g).v (n.val / 256) (rowOf n) d = av m c (ix4 0 n g d) := by
  show (V₀ m c (Proc.devRef .tc main_v12) : Vec Ideal S4x65536x256 .fp8e4m3) (ix3 g (tok (n.val / 256) (rowOf n)) d) = _
  rw [v_read, tok_of]

theorem wt_eq (g : Fin 4) (r : Fin 2) (n k : Fin 65536) :
    wt (arrOf m c g) r (k.val / 256) (n.val / 256) (rowOf k) (rowOf n)
      = Cert.ReferenceIdeal.Values.wR (aqs m c) (aks m c) (alse m c) (aseg m c) (aq m c) (ak m c) g r n k := by
  have hqk : (arrOf m c g).qk r = ((aqs m c (ix1 (hd g r)) : EReal) * aks m c (ix1 g) * sm : EReal) := qk_read m c g r
  unfold wt Cert.ReferenceIdeal.Values.wR
  simp only [k_eq, q_eq, lse_eq, hqk, ← mul_assoc (G := EReal) _ _ lg]
  rw [sub_lg, exp2_lg]
  by_cases h : Cert.ReferenceIdeal.Values.Sees (aseg m c) n k
  · rw [if_pos h, if_pos ((vis_iff m c g n k).mpr h)]
    rfl
  · rw [if_neg h, if_neg fun h' => h ((vis_iff m c g n k).mp h')]

theorem dsc_eq (g : Fin 4) (r : Fin 2) (n k : Fin 65536) :
    dsc (arrOf m c g) r (k.val / 256) (n.val / 256) (rowOf k) (rowOf n)
      = Cert.ReferenceIdeal.Values.dsR (aqs m c) (aks m c) (avs m c) (aos m c) (aout m c) (alse m c) (aseg m c) (aq m c) (ak m c) (av m c) (ao m c) g r n k := by
  have hov : (arrOf m c g).dov r = ((aos m c (ix1 (hd g r)) : EReal) * avs m c (ix1 g) : EReal) := dov_read m c g r
  have hos : (arrOf m c g).dos r = (aos m c (ix1 (hd g r)) : EReal) := dos_read m c g r
  unfold dsc dlt Cert.ReferenceIdeal.Values.dsR
  rw [wt_eq]
  simp only [v_eq, o_eq, out_eq, hov, hos]
  rfl

/-! ## The results -/

theorem dqF_eq (g : Fin 4) (r : Fin 2) (n : Fin 65536) (e : Fin 256) :
    dqF (arrOf m c g) r (n.val / 256) (rowOf n) e
      = (∑ k : Fin 65536, (ak m c (ix4 0 k g e) : EReal) * Cert.ReferenceIdeal.Values.dsR (aqs m c) (aks m c) (avs m c) (aos m c) (aout m c) (alse m c) (aseg m c) (aq m c) (ak m c) (av m c) (ao m c) g r n k) * (aks m c (ix1 g) * sm) := by
  have hks : (arrOf m c g).ks = ((aks m c (ix1 g) : EReal) * sm : EReal) := ks_read m c g
  unfold dqF
  rw [hks, sum_tok]
  refine congrArg (· * _) (Finset.sum_congr rfl fun j hj => Finset.sum_congr rfl fun b _ => ?_)
  rw [← dsc_eq, ← k_eq, tok_div j (Finset.mem_range.mp hj), tok_row]

/-- One head's share of the key gradient. -/
theorem cK_sum (g : Fin 4) (r : Fin 2) (k : Fin 65536) (e : Fin 256) :
    ∑ n ∈ Finset.range 256, cK (arrOf m c g) r (k.val / 256) n (rowOf k) e
      = ∑ n : Fin 65536, (aq m c (ix4 0 n (hd g r) e) : EReal) * Cert.ReferenceIdeal.Values.dsR (aqs m c) (aks m c) (avs m c) (aos m c) (aout m c) (alse m c) (aseg m c) (aq m c) (ak m c) (av m c) (ao m c) g r n k := by
  rw [sum_tok]
  refine Finset.sum_congr rfl fun j hj => Finset.sum_congr rfl fun b _ => ?_
  rw [← dsc_eq, ← q_eq, tok_div j (Finset.mem_range.mp hj), tok_row, mul_comm]

/-- One head's share of the value gradient. -/
theorem cV_sum (g : Fin 4) (r : Fin 2) (k : Fin 65536) (e : Fin 256) :
    ∑ n ∈ Finset.range 256, cV (arrOf m c g) r (k.val / 256) n (rowOf k) e
      = ∑ n : Fin 65536, (ao m c (ix4 0 n (hd g r) e) : EReal) * Cert.ReferenceIdeal.Values.wR (aqs m c) (aks m c) (alse m c) (aseg m c) (aq m c) (ak m c) g r n k := by
  rw [sum_tok]
  refine Finset.sum_congr rfl fun j hj => Finset.sum_congr rfl fun b _ => ?_
  rw [← wt_eq, ← o_eq, tok_div j (Finset.mem_range.mp hj), tok_row, mul_comm]

theorem dkF_eq (g : Fin 4) (k : Fin 65536) (e : Fin 256) :
    dkF (arrOf m c g) (k.val / 256) (rowOf k) e
      = ∑ r : Fin 2, (∑ n : Fin 65536, (aq m c (ix4 0 n (hd g r) e) : EReal) * Cert.ReferenceIdeal.Values.dsR (aqs m c) (aks m c) (avs m c) (aos m c) (aout m c) (alse m c) (aseg m c) (aq m c) (ak m c) (av m c) (ao m c) g r n k) * (aqs m c (ix1 (hd g r)) * sm) := by
  have hq : ∀ r, (arrOf m c g).qs r = ((aqs m c (ix1 (hd g r)) : EReal) * sm : EReal) := qs_read m c g
  unfold dkF
  rw [Fin.sum_univ_two, cK_sum, cK_sum, hq, hq]

theorem dvF_eq (g : Fin 4) (k : Fin 65536) (e : Fin 256) :
    dvF (arrOf m c g) (k.val / 256) (rowOf k) e
      = ∑ r : Fin 2, (∑ n : Fin 65536, (ao m c (ix4 0 n (hd g r) e) : EReal) * Cert.ReferenceIdeal.Values.wR (aqs m c) (aks m c) (alse m c) (aseg m c) (aq m c) (ak m c) g r n k) * aos m c (ix1 (hd g r)) := by
  have hq : ∀ r, (arrOf m c g).dos r = (aos m c (ix1 (hd g r)) : EReal) := dos_read m c g
  unfold dvF
  rw [Fin.sum_univ_two, cV_sum, cV_sum, hq, hq]

end Cert.KernelIdeal.Swa
-- ==== Proof.Value.Results.lean ====
module

public import proofs.«01_k».proof.Proof.Value.Tail

/-!
The kernel's run from segments in order: its results, and its arguments unchanged.
-/

@[expose] public section

set_option maxRecDepth 16384

noncomputable section

namespace Cert.KernelIdeal.Swa

open Cert.KernelIdeal Cert.KernelIdeal.Gen
open Idealize.ShloMosaic Idealize.ShloMosaic.TcCoe Idealize.SL.Sem

variable (m : (ℓ : Loc nD τ sig) → Buf (Elt Ideal) ℓ)

/-- What the later host lines leave in a buffer. -/
theorem tail_eq (c : Dev nD) (b : Ref sig .tc) :
    Pipeline.afterTail (pcfgs (F := Ideal)) (adm m) (datsV m) 0 (V₀ m) [hostOps1] c b = outV m c b := by
  unfold Pipeline.afterTail outV exitV
  rw [List.flatten_cons, List.flatten_nil, List.append_nil]

/-- A buffer no line writes and no window covers is as launched. -/
theorem out_arg (c : Dev nD) (b : Ref sig .tc) (h0 : b ∉ hostOps0_W) (h1 : b ∉ hostOps1_W) (hw : ∀ w, Pipeline.arrRef spec0 w ≠ b) :
    outV m c b = m ((c.tc : Thread nD τ).loc b) := by
  unfold outV exitV
  rw [StableHlo.after_of_writes_sub (r := b) hostOps1 _ hostOps1_writes h1, Pipeline.withArrays_of_ne spec0 c (V₀ m c) _ b hw]
  exact V₀_arg m c b h0

theorem run_results (hs : ∀ c, Sorted m c) (g : Dev nD → PrngReg) :
    θ_run (defs (F := Ideal)) (onTc (τ := τ) (main (F := Ideal))) ⟨m, fun _ => 0, g⟩ fun r => ∀ c : Dev nD,
      r.2.mem ((c.tc : Thread nD τ).loc main_v66) = outV m c main_v66
      ∧ r.2.mem ((c.tc : Thread nD τ).loc main_v68) = outV m c main_v68
      ∧ r.2.mem ((c.tc : Thread nD τ).loc main_v70) = outV m c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r hr c => ?_) (runV m (tbls_ok hs) g)
  have hout : ∀ b ∈ Pipeline.restRefs sig spec0, r.2.mem ((c.tc : Thread nD τ).loc b) = outV m c b := fun b hb =>
    ((hr c).2 b hb).trans (tail_eq m c b)
  have hrest : ∀ b ∈ [main_arg0, main_arg1, main_arg2, main_arg3, main_arg4, main_arg5, main_arg6, main_arg7, main_arg8, main_arg9],
      b ∈ Pipeline.restRefs sig spec0 ∧ b ∉ hostOps0_W ∧ b ∉ hostOps1_W ∧ ∀ w, Pipeline.arrRef spec0 w ≠ b := by
    decide +kernel
  have key : ∀ b ∈ [main_arg0, main_arg1, main_arg2, main_arg3, main_arg4, main_arg5, main_arg6, main_arg7, main_arg8, main_arg9],
      r.2.mem ((c.tc : Thread nD τ).loc b) = m ((c.tc : Thread nD τ).loc b) := fun b hb =>
    (hout b (hrest b hb).1).trans (out_arg m c b (hrest b hb).2.1 (hrest b hb).2.2.1 (hrest b hb).2.2.2)
  refine ⟨hout main_v66 (by decide +kernel), hout main_v68 (by decide +kernel), hout main_v70 (by decide +kernel),
    key main_arg0 (by decide), key main_arg1 (by decide), key main_arg2 (by decide), key main_arg3 (by decide), key main_arg4 (by decide),
    key main_arg5 (by decide), key main_arg6 (by decide), key main_arg7 (by decide), key main_arg8 (by decide), key main_arg9 (by decide), ?_⟩
  exact ((hr c).1 9).trans (((datsV m 0 c).arrAt_in 9 rfl _).trans (V₀_arg m c main_arg10 (by decide +kernel)))

end Cert.KernelIdeal.Swa
-- ==== Proof.ReferenceIdeal.Widen.lean ====
module

public import proofs.«01_k».proof.Proof.Gen.ReferenceIdeal.Run
public import Idealize.ShloMosaic.Lib.Pipeline.ValueKit
public import Idealize.ShloMosaic.Lib.StableHlo.ReadAt
public import proofs.«01_k».proof.Proof.Gen.ReferenceIdeal.Read

/-!
The reference's conversion call: over the reals it leaves the four arrays as they are.
-/

@[expose] public section

set_option maxRecDepth 16384

noncomputable section

namespace Cert.ReferenceIdeal.Values

open Idealize.ShloMosaic Idealize.ShloMosaic.TcCoe Idealize.ShloMosaic.Tactic Idealize.SL.Sem
open Cert.ReferenceIdeal Cert.ReferenceIdeal.Gen Cert.ReferenceIdeal.Value

variable (m : (ℓ : Loc nD τ sig) → Buf (Elt Ideal) ℓ) (c : Dev nD)

theorem reg_q : (reg_main_v0_0 m c : Vec Ideal S1x65536x8x256 .bf16) = (m ((c.tc : Thread nD τ).loc main_arg0) : Vec Ideal S1x65536x8x256 .fp8e4m3) := by
  refine (Gen.dats m 0 c).arrAt_eq_of_covers 4 _ (by decide +kernel) fun t hf y => ?_
  rw [after0_4]
  unfold out0_4
  blk_simp
  frame_out
  exact congrArg (m ((c.tc : Thread nD τ).loc main_arg0) : Vec Ideal S1x65536x8x256 .fp8e4m3)
    (funext fun a => Fin.ext ((win0_0.rect_emb_val t y a rfl).trans (win0_4.rect_emb_val t y a rfl).symm))

theorem reg_k : (reg_main_v0_1 m c : Vec Ideal S1x65536x4x256 .bf16) = (m ((c.tc : Thread nD τ).loc main_arg2) : Vec Ideal S1x65536x4x256 .fp8e4m3) := by
  refine (Gen.dats m 0 c).arrAt_eq_of_covers 5 _ (by decide +kernel) fun t hf y => ?_
  rw [after0_5]
  unfold out0_5
  blk_simp
  frame_out
  exact congrArg (m ((c.tc : Thread nD τ).loc main_arg2) : Vec Ideal S1x65536x4x256 .fp8e4m3)
    (funext fun a => Fin.ext ((win0_1.rect_emb_val t y a rfl).trans (win0_5.rect_emb_val t y a rfl).symm))

theorem reg_v : (reg_main_v0_2 m c : Vec Ideal S1x65536x4x256 .bf16) = (m ((c.tc : Thread nD τ).loc main_arg4) : Vec Ideal S1x65536x4x256 .fp8e4m3) := by
  refine (Gen.dats m 0 c).arrAt_eq_of_covers 6 _ (by decide +kernel) fun t hf y => ?_
  rw [after0_6]
  unfold out0_6
  blk_simp
  frame_out
  exact congrArg (m ((c.tc : Thread nD τ).loc main_arg4) : Vec Ideal S1x65536x4x256 .fp8e4m3)
    (funext fun a => Fin.ext ((win0_2.rect_emb_val t y a rfl).trans (win0_6.rect_emb_val t y a rfl).symm))

theorem reg_o : (reg_main_v0_3 m c : Vec Ideal S1x65536x8x256 .bf16) = (m ((c.tc : Thread nD τ).loc main_arg6) : Vec Ideal S1x65536x8x256 .fp8e5m2) := by
  refine (Gen.dats m 0 c).arrAt_eq_of_covers 7 _ (by decide +kernel) fun t hf y => ?_
  rw [after0_7]
  unfold out0_7
  blk_simp
  frame_out
  exact congrArg (m ((c.tc : Thread nD τ).loc main_arg6) : Vec Ideal S1x65536x8x256 .fp8e5m2)
    (funext fun a => Fin.ext ((win0_3.rect_emb_val t y a rfl).trans (win0_7.rect_emb_val t y a rfl).symm))

end Cert.ReferenceIdeal.Values
end
-- ==== Proof.ReferenceIdeal.Results.lean ====
module

public import proofs.«01_k».proof.Proof.ReferenceIdeal.Values
public import proofs.«01_k».proof.Proof.ReferenceIdeal.Widen

/-!
The reference's run: its results as functions of its arguments, which it leaves unchanged.
-/

@[expose] public section

set_option maxRecDepth 16384

noncomputable section

namespace Cert.ReferenceIdeal.Values

open Idealize.ShloMosaic Idealize.ShloMosaic.TcCoe Idealize.SL.Sem
open Cert.ReferenceIdeal Cert.ReferenceIdeal.Gen Cert.ReferenceIdeal.Value Cert.ReferenceIdeal.Read

variable (m : (ℓ : Loc nD τ sig) → Buf (Elt Ideal) ℓ) (c : Dev nD)

/-- What the reference leaves for the query gradient. -/
def dqVal : Vec Ideal S1x65536x8x256 .bf16 :=
  val_main_v88 (F := Ideal) (m ((c.tc : Thread nD τ).loc main_arg1)) (m ((c.tc : Thread nD τ).loc main_arg3)) (m ((c.tc : Thread nD τ).loc main_arg5))
    (m ((c.tc : Thread nD τ).loc main_arg7)) (m ((c.tc : Thread nD τ).loc main_arg8)) (m ((c.tc : Thread nD τ).loc main_arg9)) (m ((c.tc : Thread nD τ).loc main_arg10))
    (reg_main_v0_0 m c) (reg_main_v0_1 m c) (reg_main_v0_2 m c) (reg_main_v0_3 m c)

/-- What the reference leaves for the key gradient. -/
def dkVal : Vec Ideal S1x65536x4x256 .bf16 :=
  val_main_v90 (F := Ideal) (m ((c.tc : Thread nD τ).loc main_arg1)) (m ((c.tc : Thread nD τ).loc main_arg3)) (m ((c.tc : Thread nD τ).loc main_arg5))
    (m ((c.tc : Thread nD τ).loc main_arg7)) (m ((c.tc : Thread nD τ).loc main_arg8)) (m ((c.tc : Thread nD τ).loc main_arg9)) (m ((c.tc : Thread nD τ).loc main_arg10))
    (reg_main_v0_0 m c) (reg_main_v0_1 m c) (reg_main_v0_2 m c) (reg_main_v0_3 m c)

/-- What the reference leaves for the value gradient. -/
def dvVal : Vec Ideal S1x65536x4x256 .bf16 :=
  val_main_v92 (F := Ideal) (m ((c.tc : Thread nD τ).loc main_arg1)) (m ((c.tc : Thread nD τ).loc main_arg3))
    (m ((c.tc : Thread nD τ).loc main_arg7)) (m ((c.tc : Thread nD τ).loc main_arg9)) (m ((c.tc : Thread nD τ).loc main_arg10))
    (reg_main_v0_0 m c) (reg_main_v0_1 m c) (reg_main_v0_3 m c)

theorem run_results (ρ : Dev nD → PrngReg) :
    θ_run (defs (F := Ideal)) (onTc (τ := τ) (main (F := Ideal))) ⟨m, fun _ => 0, ρ⟩ fun r => ∀ c : Dev nD,
      r.2.mem ((c.tc : Thread nD τ).loc main_v88) = dqVal m c
      ∧ r.2.mem ((c.tc : Thread nD τ).loc main_v90) = dkVal m c
      ∧ r.2.mem ((c.tc : Thread nD τ).loc main_v92) = dvVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    obtain ⟨h0, h1, h2, ha⟩ := h c
    refine ⟨(h0.trans (val_main_v88_eq (exitV m c))).trans ?_, (h1.trans (val_main_v90_eq (exitV m c))).trans ?_,
      (h2.trans (val_main_v92_eq (exitV m c))).trans ?_, ha⟩
    · rw [exit_main_arg1, exit_main_arg3, exit_main_arg5, exit_main_arg7, exit_main_arg8, exit_main_arg9, exit_main_arg10,
        exit_main_v0_0, exit_main_v0_1, exit_main_v0_2, exit_main_v0_3]
      rfl
    · rw [exit_main_arg1, exit_main_arg3, exit_main_arg5, exit_main_arg7, exit_main_arg8, exit_main_arg9, exit_main_arg10,
        exit_main_v0_0, exit_main_v0_1, exit_main_v0_2, exit_main_v0_3]
      rfl
    · rw [exit_main_arg1, exit_main_arg3, exit_main_arg7, exit_main_arg9, exit_main_arg10,
        exit_main_v0_0, exit_main_v0_1, exit_main_v0_3]
      rfl) (Value.run m ρ)

end Cert.ReferenceIdeal.Values
-- ==== Proof.Value.Agree.lean ====
module

public import proofs.«01_k».proof.Proof.Value.Equal
public import proofs.«01_k».proof.Proof.Value.Results
public import proofs.«01_k».proof.Proof.ReferenceIdeal.Results

/-!
From memories that agree on the arguments, the two programs' results agree at every index.
-/

@[expose] public section

set_option maxRecDepth 16384

noncomputable section

namespace Cert.KernelIdeal.Swa

open Cert.KernelIdeal Cert.KernelIdeal.Gen
open Idealize.ShloMosaic Idealize.ShloMosaic.TcCoe

/-- An index of a result by query head: its token, key head, member and column. -/
theorem heads_of (x : S1x65536x8x256.Idx) : ∃ (n : Fin 65536) (g : Fin 4) (r : Fin 2) (e : Fin 256), x = ix4 0 n (hd g r) e := by
  have h8 : (x 2).val < 8 := (x 2).isLt
  refine ⟨x 1, ⟨(x 2).val / 2, by omega⟩, ⟨(x 2).val % 2, by omega⟩, x 3, funext fun a => ?_⟩
  fin_cases a
  · exact Subsingleton.elim (α := Fin 1) _ _
  · rfl
  · exact Fin.ext (Nat.div_add_mod _ _).symm
  · rfl

/-- An index of a result by key head. -/
theorem keys_of (x : S1x65536x4x256.Idx) : ∃ (n : Fin 65536) (g : Fin 4) (e : Fin 256), x = ix4 0 n g e := by
  refine ⟨x 1, x 2, x 3, funext fun a => ?_⟩
  fin_cases a
  · exact Subsingleton.elim (α := Fin 1) _ _
  · rfl
  · rfl
  · rfl

variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)

/-- The reference's memory holds the kernel's arguments. -/
structure Same : Prop where
  q : m' ((c.tc : Thread Cert.ReferenceIdeal.nD Cert.ReferenceIdeal.τ).loc Cert.ReferenceIdeal.main_arg0) = aq m c
  qs : m' ((c.tc : Thread Cert.ReferenceIdeal.nD Cert.ReferenceIdeal.τ).loc Cert.ReferenceIdeal.main_arg1) = aqs m c
  k : m' ((c.tc : Thread Cert.ReferenceIdeal.nD Cert.ReferenceIdeal.τ).loc Cert.ReferenceIdeal.main_arg2) = ak m c
  ks : m' ((c.tc : Thread Cert.ReferenceIdeal.nD Cert.ReferenceIdeal.τ).loc Cert.ReferenceIdeal.main_arg3) = aks m c
  v : m' ((c.tc : Thread Cert.ReferenceIdeal.nD Cert.ReferenceIdeal.τ).loc Cert.ReferenceIdeal.main_arg4) = av m c
  vs : m' ((c.tc : Thread Cert.ReferenceIdeal.nD Cert.ReferenceIdeal.τ).loc Cert.ReferenceIdeal.main_arg5) = avs m c
  o : m' ((c.tc : Thread Cert.ReferenceIdeal.nD Cert.ReferenceIdeal.τ).loc Cert.ReferenceIdeal.main_arg6) = ao m c
  os : m' ((c.tc : Thread Cert.ReferenceIdeal.nD Cert.ReferenceIdeal.τ).loc Cert.ReferenceIdeal.main_arg7) = aos m c
  out : m' ((c.tc : Thread Cert.ReferenceIdeal.nD Cert.ReferenceIdeal.τ).loc Cert.ReferenceIdeal.main_arg8) = aout m c
  lse : m' ((c.tc : Thread Cert.ReferenceIdeal.nD Cert.ReferenceIdeal.τ).loc Cert.ReferenceIdeal.main_arg9) = alse m c
  seg : m' ((c.tc : Thread Cert.ReferenceIdeal.nD Cert.ReferenceIdeal.τ).loc Cert.ReferenceIdeal.main_arg10) = aseg m c

variable {m c m'}

theorem dq_agree (h : Same m c m') : Cert.ReferenceIdeal.Values.dqVal m' c = outV m c main_v66 := by
  funext x
  obtain ⟨n, g, r, e, rfl⟩ := heads_of x
  refine Eq.trans ?_ (out66 m c n g r e).symm
  rw [dqF_eq]
  unfold Cert.ReferenceIdeal.Values.dqVal
  rw [Cert.ReferenceIdeal.Values.reg_q, Cert.ReferenceIdeal.Values.reg_k, Cert.ReferenceIdeal.Values.reg_v, Cert.ReferenceIdeal.Values.reg_o,
    h.q, h.qs, h.k, h.ks, h.v, h.vs, h.o, h.os, h.out, h.lse, h.seg]
  exact Cert.ReferenceIdeal.Values.dq_at (aqs m c) (aks m c) (avs m c) (aos m c) (aout m c) (alse m c) (aseg m c) (aq m c) (ak m c) (av m c) (ao m c) n g r e

theorem dk_agree (h : Same m c m') : Cert.ReferenceIdeal.Values.dkVal m' c = outV m c main_v68 := by
  funext x
  obtain ⟨n, g, e, rfl⟩ := keys_of x
  refine Eq.trans ?_ (out68 m c n g e).symm
  rw [dkF_eq]
  unfold Cert.ReferenceIdeal.Values.dkVal
  rw [Cert.ReferenceIdeal.Values.reg_q, Cert.ReferenceIdeal.Values.reg_k, Cert.ReferenceIdeal.Values.reg_v, Cert.ReferenceIdeal.Values.reg_o,
    h.q, h.qs, h.k, h.ks, h.v, h.vs, h.o, h.os, h.out, h.lse, h.seg]
  exact Cert.ReferenceIdeal.Values.dk_at (aqs m c) (aks m c) (avs m c) (aos m c) (aout m c) (alse m c) (aseg m c) (aq m c) (ak m c) (av m c) (ao m c) n g e

theorem dv_agree (h : Same m c m') : Cert.ReferenceIdeal.Values.dvVal m' c = outV m c main_v70 := by
  funext x
  obtain ⟨n, g, e, rfl⟩ := keys_of x
  refine Eq.trans ?_ (out70 m c n g e).symm
  rw [dvF_eq]
  unfold Cert.ReferenceIdeal.Values.dvVal
  rw [Cert.ReferenceIdeal.Values.reg_q, Cert.ReferenceIdeal.Values.reg_k, Cert.ReferenceIdeal.Values.reg_o,
    h.q, h.qs, h.k, h.ks, h.o, h.os, h.lse, h.seg]
  exact Cert.ReferenceIdeal.Values.dv_at (aqs m c) (aks m c) (aos m c) (alse m c) (aseg m c) (aq m c) (ak m c) (ao m c) n g e

end Cert.KernelIdeal.Swa
-- ==== Proof.lean ====
module

public import proofs.«01_k».proof.Defs
public import proofs.«01_k».proof.Proof.Kernel.Run
public import proofs.«01_k».proof.Proof.Kernel.Tables
public import proofs.«01_k».proof.Proof.KernelIdeal.Run
public import proofs.«01_k».proof.Proof.KernelIdeal.Tables
public import proofs.«01_k».proof.Proof.Value.Agree
public import proofs.«01_k».proof.Proof.ReferenceIdeal.Results
public import proofs.«01_k».proof.Proof.Gen.ReferenceIdeal
public import proofs.«01_k».proof.Proof.Gen.Kernel
public import proofs.«01_k».proof.Proof.Gen.KernelIdeal
public import Idealize.ShloMosaic.Adequacy
public import Idealize.ShloMosaic.Init

@[expose] public section

noncomputable section

namespace Cert.Proof

open Idealize.ShloMosaic Idealize.SL.Sem

/-- The two slices of the precondition lie inside the segment ids. -/
instance pre_facts : Cert.Pre_segments_in_order.Facts where
  slices_S1x65536_S1x65535_0_0 := by decide
  slices_S1x65536_S1x65535_0_1 := by decide

theorem frame_kernel : Cert.quiescent_Kernel := fun m g _ =>
  Cert.Kernel.Swa.frame m (Cert.Kernel.Swa.fits_all m) g

theorem frame_ideal : Cert.quiescent_KernelIdeal := fun m g _ =>
  Cert.KernelIdeal.Swa.frame m (Cert.KernelIdeal.Swa.fits_all m) g

theorem frame_ideal_pre : Cert.quiescent_KernelIdeal_pre_segments_in_order := fun m g _ =>
  Cert.KernelIdeal.Swa.frame m (Cert.KernelIdeal.Swa.fits_all m) g

theorem frame_reference : Cert.quiescent_ReferenceIdeal := fun m g _ => Cert.ReferenceIdeal.Gen.frame m g

theorem frame_reference_pre : Cert.quiescent_ReferenceIdeal_pre_segments_in_order := fun m g _ => Cert.ReferenceIdeal.Gen.frame m g

theorem preserves : Cert.preserves_Kernel_KernelIdeal :=
  IdealRules.named_const.statement Cert.KernelIdeal.κ "log2_e" .f32 0x3FB8AA3B#32 _ rfl

theorem algebraic : Cert.algebraic_KernelIdeal_ReferenceIdeal_pre_segments_in_order := fun m g m' g' hpre hargs => by
  have same : ∀ c, Cert.KernelIdeal.Swa.Same m c m' := fun c => by
    obtain ⟨h0, h1, h2, h3, h4, h5, h6, h7, h8, h9, h10⟩ := hargs c
    exact ⟨h0, h1, h2, h3, h4, h5, h6, h7, h8, h9, h10⟩
  refine ⟨fun c => Cert.KernelIdeal.Swa.outV m c Cert.KernelIdeal.main_v66, fun c => Cert.KernelIdeal.Swa.outV m c Cert.KernelIdeal.main_v68,
    fun c => Cert.KernelIdeal.Swa.outV m c Cert.KernelIdeal.main_v70,
    Cert.KernelIdeal.Swa.run_results m (fun c => Cert.KernelIdeal.Swa.sorted_of_pre m c (hpre c)) g, ?_⟩
  refine (θ_run Cert.ReferenceIdeal.defs _ _).mono (fun r hr c => ?_) (Cert.ReferenceIdeal.Values.run_results m' g')
  obtain ⟨h0, h1, h2, ha⟩ := hr c
  exact ⟨h0.trans (Cert.KernelIdeal.Swa.dq_agree (same c)), h1.trans (Cert.KernelIdeal.Swa.dk_agree (same c)),
    h2.trans (Cert.KernelIdeal.Swa.dv_agree (same c)), ha⟩

theorem claim : Cert.Claim :=
  ⟨Cert.Kernel.Gen.facts, Cert.KernelIdeal.Gen.facts, Cert.ReferenceIdeal.Gen.facts, pre_facts,
    frame_kernel, frame_ideal, frame_ideal_pre, frame_reference, frame_reference_pre, preserves, algebraic⟩

end Cert.Proof

end
